-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "c3_5" .f32 0x3F19999A#32 ((3 / 5 : ℝ) : EReal)
  ∧ IdealRules.named_const.Statement Cert.KernelIdeal.κ "c25_36" .f32 0x3F31C71C#32 ((25 / 36 : ℝ) : EReal)
  ∧ IdealRules.named_const.Statement Cert.KernelIdeal.κ "c3_10" .f32 0x3E99999A#32 ((3 / 10 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v6_1)) (v3 : (c : Dev Cert.KernelIdeal.nD) → Buf (Elt Ideal) ((c.tc : Thread Cert.KernelIdeal.nD Cert.KernelIdeal.τ).loc Cert.KernelIdeal.main_v6_2)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v9)) (v6 : (c : Dev Cert.KernelIdeal.nD) → Buf (Elt Ideal) ((c.tc : Thread Cert.KernelIdeal.nD Cert.KernelIdeal.τ).loc Cert.KernelIdeal.main_v10)) (v7 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_v6_2) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v9) = v5 c
          ∧ r.2.mem ((c.tc : Thread Cert.KernelIdeal.nD Cert.KernelIdeal.τ).loc Cert.KernelIdeal.main_v10) = v6 c
          ∧ r.2.mem ((c.tc : Thread Cert.KernelIdeal.nD Cert.KernelIdeal.τ).loc Cert.KernelIdeal.main_v11) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v5) = v4 c
          ∧ r.2.mem ((c.tc : Thread Cert.ReferenceIdeal.nD Cert.ReferenceIdeal.τ).loc Cert.ReferenceIdeal.main_v6) = v5 c
          ∧ r.2.mem ((c.tc : Thread Cert.ReferenceIdeal.nD Cert.ReferenceIdeal.τ).loc Cert.ReferenceIdeal.main_v7) = v6 c
          ∧ r.2.mem ((c.tc : Thread Cert.ReferenceIdeal.nD Cert.ReferenceIdeal.τ).loc Cert.ReferenceIdeal.main_v8) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x2048 : Shape := ⟨3, ![1, 256, 2048]⟩
abbrev S2048x8192 : Shape := ⟨2, ![2048, 8192]⟩
abbrev S32x8192 : Shape := ⟨2, ![32, 8192]⟩
abbrev S8192x2048 : Shape := ⟨2, ![8192, 2048]⟩
abbrev S128x2048 : Shape := ⟨2, ![128, 2048]⟩
abbrev S256x2048 : Shape := ⟨2, ![256, 2048]⟩
abbrev S256x8192 : Shape := ⟨2, ![256, 8192]⟩
abbrev S256x1 : Shape := ⟨2, ![256, 1]⟩
abbrev S2048x256 : Shape := ⟨2, ![2048, 256]⟩
abbrev S32x256 : Shape := ⟨2, ![32, 256]⟩
abbrev S256x256 : Shape := ⟨2, ![256, 256]⟩
abbrev S256 : Shape := ⟨1, ![256]⟩
abbrev S32x64x256 : Shape := ⟨3, ![32, 64, 256]⟩
abbrev S32x1x256 : Shape := ⟨3, ![32, 1, 256]⟩
abbrev S4x256x2048 : Shape := ⟨3, ![4, 256, 2048]⟩
abbrev S32x4x2048 : Shape := ⟨3, ![32, 4, 2048]⟩
abbrev S1x4x2048 : Shape := ⟨3, ![1, 4, 2048]⟩
abbrev S4x2048 : Shape := ⟨2, ![4, 2048]⟩
abbrev S4x64x2048 : Shape := ⟨3, ![4, 64, 2048]⟩
abbrev S4x1x2048 : Shape := ⟨3, ![4, 1, 2048]⟩
abbrev S1x256 : Shape := ⟨2, ![1, 256]⟩
abbrev S1x256x8192 : Shape := ⟨3, ![1, 256, 8192]⟩

abbrev nBuf : Space → Nat
  | .hbm => 34
  | .vmem => 81
  | .smem => 0
  | _ => 0

abbrev bufTy : (tb : Table) → Fin (tcTables nBuf tb) → BufTy
  | .hbm, ⟨0, _⟩ => ⟨S1x256x2048, .bf16⟩
  | .hbm, ⟨1, _⟩ => ⟨S1x256x2048, .bf16⟩
  | .hbm, ⟨2, _⟩ => ⟨S1x256x2048, .bf16⟩
  | .hbm, ⟨3, _⟩ => ⟨S2048x8192, .i8⟩
  | .hbm, ⟨4, _⟩ => ⟨S32x8192, .f32⟩
  | .hbm, ⟨5, _⟩ => ⟨S2048x8192, .f32⟩
  | .hbm, ⟨6, _⟩ => ⟨S2048x8192, .i8⟩
  | .hbm, ⟨7, _⟩ => ⟨S32x8192, .f32⟩
  | .hbm, ⟨8, _⟩ => ⟨S2048x8192, .f32⟩
  | .hbm, ⟨9, _⟩ => ⟨S8192x2048, .i8⟩
  | .hbm, ⟨10, _⟩ => ⟨S128x2048, .f32⟩
  | .hbm, ⟨11, _⟩ => ⟨S8192x2048, .f32⟩
  | .hbm, ⟨12, _⟩ => ⟨S256x2048, .bf16⟩
  | .hbm, ⟨13, _⟩ => ⟨S256x8192, .f32⟩
  | .hbm, ⟨14, _⟩ => ⟨S256x8192, .f32⟩
  | .hbm, ⟨15, _⟩ => ⟨S256x2048, .i8⟩
  | .hbm, ⟨16, _⟩ => ⟨S256x1, .f32⟩
  | .hbm, ⟨17, _⟩ => ⟨S256x1, .f32⟩
  | .hbm, ⟨18, _⟩ => ⟨S256x2048, .bf16⟩
  | .hbm, ⟨19, _⟩ => ⟨S256x2048, .bf16⟩
  | .hbm, ⟨20, _⟩ => ⟨S256x8192, .i8⟩
  | .hbm, ⟨21, _⟩ => ⟨S256x1, .f32⟩
  | .hbm, ⟨22, _⟩ => ⟨S256x1, .f32⟩
  | .hbm, ⟨23, _⟩ => ⟨S256x2048, .bf16⟩
  | .hbm, ⟨24, _⟩ => ⟨S256x2048, .bf16⟩
  | .hbm, ⟨25, _⟩ => ⟨S32x4x2048, .f32⟩
  | .hbm, ⟨26, _⟩ => ⟨S2048x8192, .f32⟩
  | .hbm, ⟨27, _⟩ => ⟨S2048x8192, .f32⟩
  | .hbm, ⟨28, _⟩ => ⟨S8192x2048, .f32⟩
  | .hbm, ⟨29, _⟩ => ⟨S1x256, .f32⟩
  | .hbm, ⟨30, _⟩ => ⟨S1x256x2048, .i8⟩
  | .hbm, ⟨31, _⟩ => ⟨S1x256, .f32⟩
  | .hbm, ⟨32, _⟩ => ⟨S1x256x8192, .i8⟩
  | .hbm, ⟨33, _⟩ => ⟨S1x256, .f32⟩
  | .local _ .vmem, ⟨0, _⟩ => ⟨S256x2048, .bf16⟩
  | .local _ .vmem, ⟨1, _⟩ => ⟨S2048x256, .i8⟩
  | .local _ .vmem, ⟨2, _⟩ => ⟨S2048x256, .i8⟩
  | .local _ .vmem, ⟨3, _⟩ => ⟨S32x256, .f32⟩
  | .local _ .vmem, ⟨4, _⟩ => ⟨S32x256, .f32⟩
  | .local _ .vmem, ⟨5, _⟩ => ⟨S2048x256, .f32⟩
  | .local _ .vmem, ⟨6, _⟩ => ⟨S2048x256, .f32⟩
  | .local _ .vmem, ⟨7, _⟩ => ⟨S2048x256, .i8⟩
  | .local _ .vmem, ⟨8, _⟩ => ⟨S2048x256, .i8⟩
  | .local _ .vmem, ⟨9, _⟩ => ⟨S32x256, .f32⟩
  | .local _ .vmem, ⟨10, _⟩ => ⟨S32x256, .f32⟩
  | .local _ .vmem, ⟨11, _⟩ => ⟨S2048x256, .f32⟩
  | .local _ .vmem, ⟨12, _⟩ => ⟨S2048x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x2048, .i8⟩
  | .local _ .vmem, ⟨18, _⟩ => ⟨S256x1, .f32⟩
  | .local _ .vmem, ⟨19, _⟩ => ⟨S256x1, .f32⟩
  | .local _ .vmem, ⟨20, _⟩ => ⟨S256x2048, .bf16⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x1, .f32⟩
  | .local _ .vmem, ⟨26, _⟩ => ⟨S256x256, .bf16⟩
  | .local _ .vmem, ⟨27, _⟩ => ⟨S256x256, .bf16⟩
  | .local _ .vmem, ⟨28, _⟩ => ⟨S256x256, .bf16⟩
  | .local _ .vmem, ⟨29, _⟩ => ⟨S256x256, .bf16⟩
  | .local _ .vmem, ⟨30, _⟩ => ⟨S2048x256, .i8⟩
  | .local _ .vmem, ⟨31, _⟩ => ⟨S2048x256, .i8⟩
  | .local _ .vmem, ⟨32, _⟩ => ⟨S32x256, .f32⟩
  | .local _ .vmem, ⟨33, _⟩ => ⟨S32x256, .f32⟩
  | .local _ .vmem, ⟨34, _⟩ => ⟨S2048x256, .f32⟩
  | .local _ .vmem, ⟨35, _⟩ => ⟨S2048x256, .f32⟩
  | .local _ .vmem, ⟨36, _⟩ => ⟨S256x2048, .i8⟩
  | .local _ .vmem, ⟨37, _⟩ => ⟨S256x2048, .i8⟩
  | .local _ .vmem, ⟨38, _⟩ => ⟨S256x1, .f32⟩
  | .local _ .vmem, ⟨39, _⟩ => ⟨S256x1, .f32⟩
  | .local _ .vmem, ⟨40, _⟩ => ⟨S256x256, .bf16⟩
  | .local _ .vmem, ⟨41, _⟩ => ⟨S256x256, .bf16⟩
  | .local _ .vmem, ⟨42, _⟩ => ⟨S256x256, .bf16⟩
  | .local _ .vmem, ⟨43, _⟩ => ⟨S256x256, .bf16⟩
  | .local _ .vmem, ⟨44, _⟩ => ⟨S4x256x2048, .bf16⟩
  | .local _ .vmem, ⟨45, _⟩ => ⟨S256x256, .f32⟩
  | .local _ .vmem, ⟨46, _⟩ => ⟨S256x2048, .i8⟩
  | .local _ .vmem, ⟨47, _⟩ => ⟨S256x1, .f32⟩
  | .local _ .vmem, ⟨48, _⟩ => ⟨S256x256, .f32⟩
  | .local _ .vmem, ⟨49, _⟩ => ⟨S256x256, .f32⟩
  | .local _ .vmem, ⟨50, _⟩ => ⟨S256x256, .f32⟩
  | .local _ .vmem, ⟨51, _⟩ => ⟨S256x256, .f32⟩
  | .local _ .vmem, ⟨52, _⟩ => ⟨S256x256, .i8⟩
  | .local _ .vmem, ⟨53, _⟩ => ⟨S256x256, .i8⟩
  | .local _ .vmem, ⟨54, _⟩ => ⟨S256x2048, .bf16⟩
  | .local _ .vmem, ⟨55, _⟩ => ⟨S256x2048, .bf16⟩
  | .local _ .vmem, ⟨56, _⟩ => ⟨S2048x256, .i8⟩
  | .local _ .vmem, ⟨57, _⟩ => ⟨S2048x256, .i8⟩
  | .local _ .vmem, ⟨58, _⟩ => ⟨S32x256, .f32⟩
  | .local _ .vmem, ⟨59, _⟩ => ⟨S32x256, .f32⟩
  | .local _ .vmem, ⟨60, _⟩ => ⟨S2048x256, .f32⟩
  | .local _ .vmem, ⟨61, _⟩ => ⟨S2048x256, .f32⟩
  | .local _ .vmem, ⟨62, _⟩ => ⟨S2048x256, .i8⟩
  | .local _ .vmem, ⟨63, _⟩ => ⟨S2048x256, .i8⟩
  | .local _ .vmem, ⟨64, _⟩ => ⟨S32x256, .f32⟩
  | .local _ .vmem, ⟨65, _⟩ => ⟨S32x256, .f32⟩
  | .local _ .vmem, ⟨66, _⟩ => ⟨S2048x256, .f32⟩
  | .local _ .vmem, ⟨67, _⟩ => ⟨S2048x256, .f32⟩
  | .local _ .vmem, ⟨68, _⟩ => ⟨S256x2048, .i8⟩
  | .local _ .vmem, ⟨69, _⟩ => ⟨S256x2048, .i8⟩
  | .local _ .vmem, ⟨70, _⟩ => ⟨S1x4x2048, .f32⟩
  | .local _ .vmem, ⟨71, _⟩ => ⟨S1x4x2048, .f32⟩
  | .local _ .vmem, ⟨72, _⟩ => ⟨S256x2048, .f32⟩
  | .local _ .vmem, ⟨73, _⟩ => ⟨S256x2048, .f32⟩
  | .local _ .vmem, ⟨74, _⟩ => ⟨S2048x256, .f32⟩
  | .local _ .vmem, ⟨75, _⟩ => ⟨S2048x256, .f32⟩
  | .local _ .vmem, ⟨76, _⟩ => ⟨S2048x256, .f32⟩
  | .local _ .vmem, ⟨77, _⟩ => ⟨S2048x256, .f32⟩
  | .local _ .vmem, ⟨78, _⟩ => ⟨S256x2048, .f32⟩
  | .local _ .vmem, ⟨79, _⟩ => ⟨S256x2048, .f32⟩
  | .local _ .vmem, ⟨80, _⟩ => ⟨S2048x256, .bf16⟩
  | _, _ => ⟨S1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v1_4 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v4_3 : Ref sig .tc := ⟨.hbm, 23, rfl⟩
abbrev main_v4_4 : Ref sig .tc := ⟨.hbm, 24, rfl⟩
abbrev main_v5 : Ref sig .tc := ⟨.hbm, 25, rfl⟩
abbrev main_v6_0 : Ref sig .tc := ⟨.hbm, 26, rfl⟩
abbrev main_v6_1 : Ref sig .tc := ⟨.hbm, 27, rfl⟩
abbrev main_v6_2 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg10_0 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_scratch0 : Ref sig .tc := ⟨.vmem, 44, rfl⟩
abbrev cc1_scratch1 : Ref sig .tc := ⟨.vmem, 45, rfl⟩
abbrev cc2_stg0_0 : Ref sig .tc := ⟨.vmem, 46, rfl⟩
abbrev cc2_stg1_0 : Ref sig .tc := ⟨.vmem, 47, rfl⟩
abbrev cc2_stg2_0 : Ref sig .tc := ⟨.vmem, 48, rfl⟩
abbrev cc2_stg2_1 : Ref sig .tc := ⟨.vmem, 49, rfl⟩
abbrev cc2_stg3_0 : Ref sig .tc := ⟨.vmem, 50, rfl⟩
abbrev cc2_stg3_1 : Ref sig .tc := ⟨.vmem, 51, rfl⟩
abbrev cc2_stg4_0 : Ref sig .tc := ⟨.vmem, 52, rfl⟩
abbrev cc2_stg4_1 : Ref sig .tc := ⟨.vmem, 53, rfl⟩
abbrev cc2_stg5_0 : Ref sig .tc := ⟨.vmem, 54, rfl⟩
abbrev cc2_stg6_0 : Ref sig .tc := ⟨.vmem, 55, rfl⟩
abbrev cc2_stg7_0 : Ref sig .tc := ⟨.vmem, 56, rfl⟩
abbrev cc2_stg7_1 : Ref sig .tc := ⟨.vmem, 57, rfl⟩
abbrev cc2_stg8_0 : Ref sig .tc := ⟨.vmem, 58, rfl⟩
abbrev cc2_stg8_1 : Ref sig .tc := ⟨.vmem, 59, rfl⟩
abbrev cc2_stg9_0 : Ref sig .tc := ⟨.vmem, 60, rfl⟩
abbrev cc2_stg9_1 : Ref sig .tc := ⟨.vmem, 61, rfl⟩
abbrev cc2_stg10_0 : Ref sig .tc := ⟨.vmem, 62, rfl⟩
abbrev cc2_stg10_1 : Ref sig .tc := ⟨.vmem, 63, rfl⟩
abbrev cc2_stg11_0 : Ref sig .tc := ⟨.vmem, 64, rfl⟩
abbrev cc2_stg11_1 : Ref sig .tc := ⟨.vmem, 65, rfl⟩
abbrev cc2_stg12_0 : Ref sig .tc := ⟨.vmem, 66, rfl⟩
abbrev cc2_stg12_1 : Ref sig .tc := ⟨.vmem, 67, rfl⟩
abbrev cc2_stg13_0 : Ref sig .tc := ⟨.vmem, 68, rfl⟩
abbrev cc2_stg13_1 : Ref sig .tc := ⟨.vmem, 69, rfl⟩
abbrev cc2_stg14_0 : Ref sig .tc := ⟨.vmem, 70, rfl⟩
abbrev cc2_stg14_1 : Ref sig .tc := ⟨.vmem, 71, rfl⟩
abbrev cc2_stg15_0 : Ref sig .tc := ⟨.vmem, 72, rfl⟩
abbrev cc2_stg15_1 : Ref sig .tc := ⟨.vmem, 73, rfl⟩
abbrev cc2_stg16_0 : Ref sig .tc := ⟨.vmem, 74, rfl⟩
abbrev cc2_stg16_1 : Ref sig .tc := ⟨.vmem, 75, rfl⟩
abbrev cc2_stg17_0 : Ref sig .tc := ⟨.vmem, 76, rfl⟩
abbrev cc2_stg17_1 : Ref sig .tc := ⟨.vmem, 77, rfl⟩
abbrev cc2_stg18_0 : Ref sig .tc := ⟨.vmem, 78, rfl⟩
abbrev cc2_stg18_1 : Ref sig .tc := ⟨.vmem, 79, rfl⟩
abbrev cc2_scratch0 : Ref sig .tc := ⟨.vmem, 80, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem7_1 : DmaSem sig := 34
abbrev cc1_sem8_0 : DmaSem sig := 35
abbrev cc1_sem8_1 : DmaSem sig := 36
abbrev cc1_sem9_0 : DmaSem sig := 37
abbrev cc1_sem10_0 : DmaSem sig := 38
abbrev cc1_sem11_0 : DmaSem sig := 39
abbrev cc1_sem11_1 : DmaSem sig := 40
abbrev cc1_sem12_0 : DmaSem sig := 41
abbrev cc1_sem12_1 : DmaSem sig := 42
abbrev cc2_sem0_0 : DmaSem sig := 43
abbrev cc2_sem1_0 : DmaSem sig := 44
abbrev cc2_sem2_0 : DmaSem sig := 45
abbrev cc2_sem2_1 : DmaSem sig := 46
abbrev cc2_sem3_0 : DmaSem sig := 47
abbrev cc2_sem3_1 : DmaSem sig := 48
abbrev cc2_sem4_0 : DmaSem sig := 49
abbrev cc2_sem4_1 : DmaSem sig := 50
abbrev cc2_sem5_0 : DmaSem sig := 51
abbrev cc2_sem6_0 : DmaSem sig := 52
abbrev cc2_sem7_0 : DmaSem sig := 53
abbrev cc2_sem7_1 : DmaSem sig := 54
abbrev cc2_sem8_0 : DmaSem sig := 55
abbrev cc2_sem8_1 : DmaSem sig := 56
abbrev cc2_sem9_0 : DmaSem sig := 57
abbrev cc2_sem9_1 : DmaSem sig := 58
abbrev cc2_sem10_0 : DmaSem sig := 59
abbrev cc2_sem10_1 : DmaSem sig := 60
abbrev cc2_sem11_0 : DmaSem sig := 61
abbrev cc2_sem11_1 : DmaSem sig := 62
abbrev cc2_sem12_0 : DmaSem sig := 63
abbrev cc2_sem12_1 : DmaSem sig := 64
abbrev cc2_sem13_0 : DmaSem sig := 65
abbrev cc2_sem13_1 : DmaSem sig := 66
abbrev cc2_sem14_0 : DmaSem sig := 67
abbrev cc2_sem14_1 : DmaSem sig := 68
abbrev cc2_sem15_0 : DmaSem sig := 69
abbrev cc2_sem15_1 : DmaSem sig := 70
abbrev cc2_sem16_0 : DmaSem sig := 71
abbrev cc2_sem16_1 : DmaSem sig := 72
abbrev cc2_sem17_0 : DmaSem sig := 73
abbrev cc2_sem17_1 : DmaSem sig := 74
abbrev cc2_sem18_0 : DmaSem sig := 75
abbrev cc2_sem18_1 : DmaSem sig := 76

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x2048 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨2, ![8, 4], ![false, false]⟩

def k1_cond2 (i : grid1.Coords) : BitVec 1 :=
  let arg0 : BitVec 32 := BitVec.ofNat 32 (i 0).val
  let c0_i32_5 : BitVec 32 := 0#32
  let v13 : BitVec 1 := Scalar.cmpi .eq arg0 c0_i32_5
  let v14 : BitVec 32 := Scalar.extui v13
  let c0_i32_6 : BitVec 32 := 0#32
  let v15 : BitVec 1 := Scalar.cmpi .ne v14 c0_i32_6
  v15

def k1_off1 (i : grid1.Coords) : Fin 3 → Nat :=
  let arg1 : BitVec 32 := BitVec.ofNat 32 (i 1).val
  let v77 : Index := Scalar.indexCast arg1
  let c0_38 : Index := 0#32
  let c0_39 : Index := 0#32
  ![v77.toNat, 0, 0]
def k1_off2 (i : grid1.Coords) : Fin 3 → Nat :=
  let arg1 : BitVec 32 := BitVec.ofNat 32 (i 1).val
  let v20 : Index := Scalar.indexCast arg1
  let c0_11 : Index := 0#32
  let c0_12 : Index := 0#32
  ![v20.toNat, 0, 0]
def k1_cond1 (i : grid1.Coords) : BitVec 1 :=
  let arg0 : BitVec 32 := BitVec.ofNat 32 (i 0).val
  let c0_i32 : BitVec 32 := 0#32
  let v8 : BitVec 1 := Scalar.cmpi .eq arg0 c0_i32
  let arg1 : BitVec 32 := BitVec.ofNat 32 (i 1).val
  let c0_i32_3 : BitVec 32 := 0#32
  let v9 : BitVec 1 := Scalar.cmpi .eq arg1 c0_i32_3
  let v10 : BitVec 1 := Scalar.andi v8 v9
  let v11 : BitVec 32 := Scalar.extui v10
  let c0_i32_4 : BitVec 32 := 0#32
  let v12 : BitVec 1 := Scalar.cmpi .ne v11 c0_i32_4
  v12

def k1_cond4 (i : grid1.Coords) : BitVec 1 :=
  let arg1 : BitVec 32 := BitVec.ofNat 32 (i 1).val
  let c3_i32 : BitVec 32 := 3#32
  let v57 : BitVec 1 := Scalar.cmpi .eq arg1 c3_i32
  let v58 : BitVec 32 := Scalar.extui v57
  let c0_i32_29 : BitVec 32 := 0#32
  let v59 : BitVec 1 := Scalar.cmpi .ne v58 c0_i32_29
  v59

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x256 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S32x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x2048 .i8 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 1 → Memref sig .tc .vmem S256x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S256x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S256x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S256x256 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_17 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S256x2048 .i8 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x256 .i8 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x2048 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2048x256 .i8 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S32x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S2048x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2048x256 .i8 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S32x256 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S2048x256 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S256x2048 .i8 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S1x4x2048 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S256x2048 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S2048x256 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S2048x256 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S256x2048 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]
-- ==== KernelIdeal.lean ====
variable {F : FTy → Type} [FloatOps F] [Named F]
def κ : String → Option EReal := fun
  | "c25_36" => some ((25 / 36 : ℝ) : EReal)
  | "c3_10" => some ((3 / 10 : ℝ) : EReal)
  | "c3_5" => some ((3 / 5 : ℝ) : EReal)
  | _ => none
-- ==== ReferenceIdeal.lean ====
abbrev S1x256x2048 : Shape := ⟨3, ![1, 256, 2048]⟩
abbrev S2048x8192 : Shape := ⟨2, ![2048, 8192]⟩
abbrev S32x8192 : Shape := ⟨2, ![32, 8192]⟩
abbrev S8192x2048 : Shape := ⟨2, ![8192, 2048]⟩
abbrev S128x2048 : Shape := ⟨2, ![128, 2048]⟩
abbrev S256x2048 : Shape := ⟨2, ![256, 2048]⟩
abbrev S256x1 : Shape := ⟨2, ![256, 1]⟩
abbrev S256x8192 : Shape := ⟨2, ![256, 8192]⟩
abbrev S32x64x8192 : Shape := ⟨3, ![32, 64, 8192]⟩
abbrev S32x1x8192 : Shape := ⟨3, ![32, 1, 8192]⟩
abbrev S128x64x2048 : Shape := ⟨3, ![128, 64, 2048]⟩
abbrev S128x1x2048 : Shape := ⟨3, ![128, 1, 2048]⟩
abbrev S256 : Shape := ⟨1, ![256]⟩
abbrev S1x256 : Shape := ⟨2, ![1, 256]⟩
abbrev S1x256x8192 : Shape := ⟨3, ![1, 256, 8192]⟩

abbrev nBuf : Space → Nat
  | .hbm => 28
  | .vmem => 20
  | .smem => 0
  | _ => 0

abbrev bufTy : (tb : Table) → Fin (tcTables nBuf tb) → BufTy
  | .hbm, ⟨0, _⟩ => ⟨S1x256x2048, .bf16⟩
  | .hbm, ⟨1, _⟩ => ⟨S1x256x2048, .bf16⟩
  | .hbm, ⟨2, _⟩ => ⟨S1x256x2048, .bf16⟩
  | .hbm, ⟨3, _⟩ => ⟨S2048x8192, .i8⟩
  | .hbm, ⟨4, _⟩ => ⟨S32x8192, .f32⟩
  | .hbm, ⟨5, _⟩ => ⟨S2048x8192, .f32⟩
  | .hbm, ⟨6, _⟩ => ⟨S2048x8192, .i8⟩
  | .hbm, ⟨7, _⟩ => ⟨S32x8192, .f32⟩
  | .hbm, ⟨8, _⟩ => ⟨S2048x8192, .f32⟩
  | .hbm, ⟨9, _⟩ => ⟨S8192x2048, .i8⟩
  | .hbm, ⟨10, _⟩ => ⟨S128x2048, .f32⟩
  | .hbm, ⟨11, _⟩ => ⟨S8192x2048, .f32⟩
  | .hbm, ⟨12, _⟩ => ⟨S256x2048, .bf16⟩
  | .hbm, ⟨13, _⟩ => ⟨S256x2048, .bf16⟩
  | .hbm, ⟨14, _⟩ => ⟨S256x2048, .bf16⟩
  | .hbm, ⟨15, _⟩ => ⟨S256x1, .f32⟩
  | .hbm, ⟨16, _⟩ => ⟨S2048x8192, .f32⟩
  | .hbm, ⟨17, _⟩ => ⟨S2048x8192, .f32⟩
  | .hbm, ⟨18, _⟩ => ⟨S8192x2048, .f32⟩
  | .hbm, ⟨19, _⟩ => ⟨S256x2048, .i8⟩
  | .hbm, ⟨20, _⟩ => ⟨S256x1, .f32⟩
  | .hbm, ⟨21, _⟩ => ⟨S256x8192, .i8⟩
  | .hbm, ⟨22, _⟩ => ⟨S256x1, .f32⟩
  | .hbm, ⟨23, _⟩ => ⟨S1x256, .f32⟩
  | .hbm, ⟨24, _⟩ => ⟨S1x256x2048, .i8⟩
  | .hbm, ⟨25, _⟩ => ⟨S1x256, .f32⟩
  | .hbm, ⟨26, _⟩ => ⟨S1x256x8192, .i8⟩
  | .hbm, ⟨27, _⟩ => ⟨S1x256, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S2048x8192, .i8⟩
  | .local _ .vmem, ⟨4, _⟩ => ⟨S32x8192, .f32⟩
  | .local _ .vmem, ⟨5, _⟩ => ⟨S2048x8192, .f32⟩
  | .local _ .vmem, ⟨6, _⟩ => ⟨S2048x8192, .i8⟩
  | .local _ .vmem, ⟨7, _⟩ => ⟨S32x8192, .f32⟩
  | .local _ .vmem, ⟨8, _⟩ => ⟨S2048x8192, .f32⟩
  | .local _ .vmem, ⟨9, _⟩ => ⟨S8192x2048, .i8⟩
  | .local _ .vmem, ⟨10, _⟩ => ⟨S128x2048, .f32⟩
  | .local _ .vmem, ⟨11, _⟩ => ⟨S8192x2048, .f32⟩
  | .local _ .vmem, ⟨12, _⟩ => ⟨S256x1, .f32⟩
  | .local _ .vmem, ⟨13, _⟩ => ⟨S2048x8192, .f32⟩
  | .local _ .vmem, ⟨14, _⟩ => ⟨S2048x8192, .f32⟩
  | .local _ .vmem, ⟨15, _⟩ => ⟨S8192x2048, .f32⟩
  | .local _ .vmem, ⟨16, _⟩ => ⟨S256x2048, .i8⟩
  | .local _ .vmem, ⟨17, _⟩ => ⟨S256x1, .f32⟩
  | .local _ .vmem, ⟨18, _⟩ => ⟨S256x8192, .i8⟩
  | .local _ .vmem, ⟨19, _⟩ => ⟨S256x1, .f32⟩
  | _, _ => ⟨S1x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F] [Named F]

def κ : String → Option EReal := fun
  | "gamma" => some ((-1 / 10 : ℝ) : EReal)
  | "zeta_minus_gamma" => some ((6 / 5 : ℝ) : EReal)
  | _ => none

abbrev grid0 : Pipeline.Grid := .none

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x8192 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x2048 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x8192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x8192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8192x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x2048 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x8192 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.Lib.Whole.lean ====
/- Loads and stores of whole buffers, and buffers that keep their contents between the grid points that store them:
   two small sets of facts the region modules share. -/
module

public import Idealize.ShloMosaic.Lib.Pipeline.FrameBody
public import Idealize.ShloMosaic.Lib.VecWindow

@[expose] public section

noncomputable section

namespace Cert.Whole

open Idealize.ShloMosaic

section Reads

variable {sig : RefSig} {κ : Kind} {sp : Space} {s : Shape} {e : EltTy} {Val : EltTy → Type}

/-- A store of the whole view, done last, leaves its payload. -/
theorem read_writes (v : View sig κ sp s e) (f : v.ty.Contents Val) {off : Fin s.rank → ℕ}
    (inb : ∀ a, off a + s.size a ≤ s.size a) (w : s.Idx → Val e) (L : List (View.Piece Val s e)) :
    v.read Val (v.writes Val f ((⟨Rect.unit off (no_index s.size) inb, w⟩ : View.Piece Val s e) :: L)) = w :=
  View.read_writes_full v f inb w L

/-- A load of the whole view after a store of the whole view reads the payload. -/
theorem readAt_writes (v : View sig κ sp s e) (f : v.ty.Contents Val) {off off' : Fin s.rank → ℕ}
    (inb : ∀ a, off a + s.size a ≤ s.size a) (inb' : ∀ a, off' a + s.size a ≤ s.size a) (w : s.Idx → Val e)
    (L : List (View.Piece Val s e)) :
    v.readAt Val (Rect.unit off (no_index s.size) inb).toLoadRect
      (v.writes Val f ((⟨Rect.unit off' (no_index s.size) inb', w⟩ : View.Piece Val s e) :: L)) = w :=
  View.readAt_writes_full v f inb inb' w L

/-- The same load, stated over the stores alone. -/
theorem readCov [∀ e, Nonempty (Val e)] (v : View sig κ sp s e) {off off' : Fin s.rank → ℕ}
    (inb : ∀ a, off a + s.size a ≤ s.size a) (inb' : ∀ a, off' a + s.size a ≤ s.size a) (w : s.Idx → Val e)
    (L : List (View.Piece Val s e)) :
    v.readCov ((⟨Rect.unit off' (no_index s.size) inb', w⟩ : View.Piece Val s e) :: L)
      (Rect.unit off (no_index s.size) inb).toLoadRect = w :=
  View.readCov_full v inb inb' w L

/-- A load of a whole memref held at known contents reads them. -/
theorem readAt_unread {m : Memref sig κ sp s e} (h : m.IsWhole) (X : s.Idx → Val e) {off : Fin s.rank → ℕ}
    (inb : ∀ a, off a + s.size a ≤ s.size a) :
    View.readAt Val m.view (Rect.unit off (no_index s.size) inb).toLoadRect (h.unread X) = X :=
  (View.readAt_full m.view _ inb).trans (h.read_unread X)

/-- A load of part of a whole memref held at known contents reads that window of them. -/
theorem readAt_part_unread {m : Memref sig κ sp s e} (h : m.IsWhole) (X : s.Idx → Val e) {off size : Fin s.rank → ℕ}
    (inb : ∀ a, off a + size a ≤ s.size a) :
    View.readAt Val m.view (Rect.unit off size inb).toLoadRect (h.unread X) = VecWindow.window X off size inb :=
  (View.readAt_unit m.view _ inb rfl inb).trans (by rw [h.read_unread])

/-- A store of part of a whole memref held at known contents puts its payload into them. -/
theorem read_writes_part {m : Memref sig κ sp s e} (h : m.IsWhole) (X : s.Idx → Val e) {off size : Fin s.rank → ℕ}
    (inb : ∀ a, off a + size a ≤ s.size a) (w : (Rect.unit off size inb).shape.Idx → Val e) :
    m.view.read Val (m.view.writes Val (h.unread X) [(⟨Rect.unit off size inb, w⟩ : View.Piece Val s e)])
      = VecWindow.put X off size w :=
  (View.read_writes_cons_put m.view _ inb w [] rfl).trans (by rw [View.writes_nil, h.read_unread])

/-- A load of the part just stored reads the payload. -/
theorem readAt_writes_part (v : View sig κ sp s e) (f : v.ty.Contents Val) {off off' size : Fin s.rank → ℕ}
    (inb : ∀ a, off a + size a ≤ s.size a) (inb' : ∀ a, off' a + size a ≤ s.size a)
    (w : (Rect.unit off' size inb').shape.Idx → Val e)
    (L : List (View.Piece Val s e)) (h : off = off') :
    v.readAt Val (Rect.unit off size inb).toLoadRect
      (v.writes Val f ((⟨Rect.unit off' size inb', w⟩ : View.Piece Val s e) :: L)) = w := by
  subst h
  rw [View.readAt_unit v _ inb rfl inb, View.read_writes_cons_put v f inb w L rfl, VecWindow.window_put_same]

/-- The same load, stated over the stores alone. -/
theorem readCov_part [∀ e, Nonempty (Val e)] (v : View sig κ sp s e) {off off' size : Fin s.rank → ℕ}
    (inb : ∀ a, off a + size a ≤ s.size a) (inb' : ∀ a, off' a + size a ≤ s.size a)
    (w : (Rect.unit off' size inb').shape.Idx → Val e)
    (L : List (View.Piece Val s e)) (h : off = off') :
    v.readCov ((⟨Rect.unit off' size inb', w⟩ : View.Piece Val s e) :: L) (Rect.unit off size inb).toLoadRect = w :=
  readAt_writes_part v v.junk inb inb' w L h

end Reads

end Cert.Whole

end
-- ==== Proof.Kernel.Run0.lean ====
/- The body of the gate and up kernel, run once: at the first grid point and at the others. -/
module

public import proofs.«01_k».proof.Proof.Gen.Kernel.Launch
public import proofs.«01_k».proof.Proof.Gen.Kernel.Skeleton
public import proofs.«01_k».proof.Proof.Gen.Kernel.Points
public import proofs.«01_k».proof.Proof.Lib.Whole
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first grid point. -/
theorem run0_A (c : Dev nD) (i : grid0.Coords) (arg1 : Memref sig .tc .vmem S256x2048 .bf16) (harg1 : arg1.IsWhole) (arg2 : Memref sig .tc .vmem S2048x256 .i8) (harg2 : arg2.IsWhole) (arg3 : Memref sig .tc .vmem S32x256 .f32) (harg3 : arg3.IsWhole) (arg4 : Memref sig .tc .vmem S2048x256 .f32) (harg4 : arg4.IsWhole) (arg5 : Memref sig .tc .vmem S2048x256 .i8) (harg5 : arg5.IsWhole) (arg6 : Memref sig .tc .vmem S32x256 .f32) (harg6 : arg6.IsWhole) (arg7 : Memref sig .tc .vmem S2048x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x2048 .bf16) (harg13 : arg13.IsWhole)
    (hc0 : k0_cond1 i = 1#1)
    (x0 : Vec F S256x2048 .bf16) (x1 : Vec F S2048x256 .i8) (x2 : Vec F S32x256 .f32) (x3 : Vec F S2048x256 .f32) (x4 : Vec F S2048x256 .i8) (x5 : Vec F S32x256 .f32) (x6 : Vec F S2048x256 .f32) :
      ∀ (E : Set ℕ) (Q : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay9 (k0_pay3 x0) (k0_pay6 x0) x3 x1 x2 : Vec F S256x256 .f32) ∗ owns (c : Thread nD τ) arg9 fullShare (k0_pay10 (k0_pay8 (k0_pay3 x0)) (k0_pay6 x0) x6 x4 x5 : Vec F S256x256 .f32) ∗ owns (c : Thread nD τ) arg10 fullShare (k0_pay5 x0 : Vec F S256x2048 .i8) ∗ owns (c : Thread nD τ) arg11 fullShare ((k0_pay3 x0) : Vec F S256x1 .f32) ∗ owns (c : Thread nD τ) arg12 fullShare (k0_pay1 (k0_pay11 (k0_pay8 (k0_pay3 x0)) (k0_pay9 (k0_pay3 x0) (k0_pay6 x0) x3 x1 x2) (k0_pay6 x0) x6 x4 x5) k0_pay7 : Vec F S256x1 .f32) ∗ owns (c : Thread nD τ) arg13 fullShare ((k0_pay6 x0) : Vec F S256x2048 .bf16)) -∗ Q ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) Q := by
    intro E Q
    simp only [cc0_gate_up_eq_skeleton]; unfold cc0_gate_up_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      unfold run0_A.sl.r_1 run0_A.sl.v5 run0_A.sl.v3 run0_A.sl.H10_1 run0_A.sl.H12_1
      simp only [Whole.read_writes, Whole.readAt_writes, Whole.readCov, Whole.readAt_unread]
    isplitl [H8]
    · iexists _; isplitr; swap; · iexact H8
      ipureintro
      unfold run0_A.sl.r run0_A.sl.v5 run0_A.sl.v3 run0_A.sl.H10_1 run0_A.sl.H12_1
      simp only [Whole.read_writes, Whole.readAt_writes, Whole.readCov, Whole.readAt_unread]
    isplitl [H9]
    · iexists _; isplitr; swap; · iexact H9
      ipureintro
      simp only [Whole.read_writes, Whole.readAt_writes, Whole.readCov, Whole.readAt_unread]
    isplitl [H10]
    · iexists _; isplitr; swap; · iexact H10
      ipureintro
      unfold run0_A.sl.H10_1
      simp only [Whole.read_writes, Whole.readAt_writes, Whole.readCov, Whole.readAt_unread]
    isplitl [H11]
    · iexists _; isplitr; swap; · iexact H11
      ipureintro
      unfold run0_A.sl.r_2 run0_A.sl.r_1 run0_A.sl.r run0_A.sl.v76 run0_A.sl.v5 run0_A.sl.v3 run0_A.sl.H10_1 run0_A.sl.H11_1 run0_A.sl.H12_1
      simp only [Whole.read_writes, Whole.readAt_writes, Whole.readCov, Whole.readAt_unread]
    iexists _; isplitr; swap; · iexact H12
    ipureintro
    unfold run0_A.sl.H12_1
    simp only [Whole.read_writes, Whole.readAt_writes, Whole.readCov, Whole.readAt_unread]

set_option maxHeartbeats 4000000 in
/-- At a later grid point. -/
theorem run0_B (c : Dev nD) (i : grid0.Coords) (arg1 : Memref sig .tc .vmem S256x2048 .bf16) (harg1 : arg1.IsWhole) (arg2 : Memref sig .tc .vmem S2048x256 .i8) (harg2 : arg2.IsWhole) (arg3 : Memref sig .tc .vmem S32x256 .f32) (harg3 : arg3.IsWhole) (arg4 : Memref sig .tc .vmem S2048x256 .f32) (harg4 : arg4.IsWhole) (arg5 : Memref sig .tc .vmem S2048x256 .i8) (harg5 : arg5.IsWhole) (arg6 : Memref sig .tc .vmem S32x256 .f32) (harg6 : arg6.IsWhole) (arg7 : Memref sig .tc .vmem S2048x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x2048 .bf16) (harg13 : arg13.IsWhole)
    (hc0 : ¬ k0_cond1 i = 1#1)
    (x0 : Vec F S256x2048 .bf16) (x1 : Vec F S2048x256 .i8) (x2 : Vec F S32x256 .f32) (x3 : Vec F S2048x256 .f32) (x4 : Vec F S2048x256 .i8) (x5 : Vec F S32x256 .f32) (x6 : Vec F S2048x256 .f32) (x9 : Vec F S256x2048 .i8) (x10 : Vec F S256x1 .f32) (x11 : Vec F S256x1 .f32) (x12 : Vec F S256x2048 .bf16) :
      ∀ (E : Set ℕ) (Q : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare x9 ∗ owns (c : Thread nD τ) arg11 fullShare x10 ∗ owns (c : Thread nD τ) arg12 fullShare x11 ∗ owns (c : Thread nD τ) arg13 fullShare x12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay9 x10 x12 x3 x1 x2 : Vec F S256x256 .f32) ∗ owns (c : Thread nD τ) arg9 fullShare (k0_pay10 (k0_pay8 x10) x12 x6 x4 x5 : Vec F S256x256 .f32) ∗ owns (c : Thread nD τ) arg10 fullShare x9 ∗ owns (c : Thread nD τ) arg11 fullShare x10 ∗ owns (c : Thread nD τ) arg12 fullShare (k0_pay1 (k0_pay11 (k0_pay8 x10) (k0_pay9 x10 x12 x3 x1 x2) x12 x6 x4 x5) x11 : Vec F S256x1 .f32) ∗ owns (c : Thread nD τ) arg13 fullShare x12) -∗ Q ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) Q := by
    intro E Q
    simp only [cc0_gate_up_eq_skeleton]; unfold cc0_gate_up_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      unfold run0_B.sl.r_1
      simp only [Whole.read_writes, Whole.readAt_writes, Whole.readCov, Whole.readAt_unread]
    isplitl [H8]
    · iexists _; isplitr; swap; · iexact H8
      ipureintro
      unfold run0_B.sl.r
      simp only [Whole.read_writes, Whole.readAt_writes, Whole.readCov, Whole.readAt_unread]
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro
      unfold run0_B.sl.r_2 run0_B.sl.r_1 run0_B.sl.r
      simp only [Whole.read_writes, Whole.readAt_writes, Whole.readCov, Whole.readAt_unread]
    iexists _; isplitr; · ipureintro; exact harg13.read_unread _
    iexact H12

end Cert.Kernel.Own

end
-- ==== Proof.Lib.Persist.lean ====
/- Buffers of a pipeline that keep what an earlier grid point stored: what such a buffer holds when a later point finds
   it, and how a body hands it back. -/
module

public import Idealize.ShloMosaic.Lib.Pipeline.FrameBody
public import Idealize.ShloMosaic.Lib.VecWindow

@[expose] public section

noncomputable section

namespace Cert.Persist

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (dat : Dat τ Val Ix Name U Lvl cfg c)

local notation "𝕄" => MT nD τ sig Ix Val Name U Lvl

/-- What a point finds in an output buffer the point before did not write back and did store. -/
theorem before_of_live (w : Fin cfg.W) (hk : ∀ t d, dat.kept w t d = dat.after w t)
    (t t' : Fin cfg.N) (h : t'.val + 1 = t.val) (hf : (cfg.win w).fetch t = false) (hfl : (cfg.win w).flush t' = false)
    (hi : cfg.idle w (cfg.grid.coords t') = false) (d) : dat.before w t d = dat.after w t' := by
  have ht : t' = ⟨t.val - 1, Nat.lt_of_le_of_lt (Nat.sub_le _ _) t.isLt⟩ := Fin.ext (by show t'.val = t.val - 1; omega)
  rw [dat.before_of_pos w t (by omega) hf d, ← ht, hfl]
  unfold Dat.left
  rw [hi]
  exact hk t' d

/-- An output buffer whose contents only the points that store it change: at a point that does not store it, it is found
    holding what the recorded contents of that point are. -/
theorem before_idle (w : Fin cfg.W) (hk : ∀ t d, dat.kept w t d = dat.after w t)
    (hf : ∀ t, (cfg.win w).fetch t = false)
    (hp : ∀ t : Fin cfg.N, cfg.idle w (cfg.grid.coords t) = true →
      ∃ t' : Fin cfg.N, t'.val + 1 = t.val ∧ dat.after w t = dat.after w t' ∧ (cfg.win w).flush t' = false) :
    ∀ (n : ℕ) (t : Fin cfg.N), t.val = n → cfg.idle w (cfg.grid.coords t) = true → ∀ d, dat.before w t d = dat.after w t := by
  intro n
  induction n with
  | zero =>
    intro t ht hi d
    obtain ⟨t', h1, -, -⟩ := hp t hi
    omega
  | succ n ih =>
    intro t ht hi d
    obtain ⟨t', h1, h2, h3⟩ := hp t hi
    have e : t' = ⟨t.val - 1, Nat.lt_of_le_of_lt (Nat.sub_le _ _) t.isLt⟩ := Fin.ext (by show t'.val = t.val - 1; omega)
    by_cases hi' : cfg.idle w (cfg.grid.coords t') = true
    · rw [dat.before_of_pos w t (by omega) (hf t) d, ← e, h3]
      unfold Dat.left
      rw [hi', h2]
      exact ih t' (by omega) hi' d
    · rw [Bool.not_eq_true] at hi'
      rw [h2]
      exact before_of_live dat w hk t t' h1 (hf t) h3 hi' d

/-- The same for any later point: what it finds is the recorded contents of the point before, if that point did not
    write the buffer back. -/
theorem before_next (w : Fin cfg.W) (hk : ∀ t d, dat.kept w t d = dat.after w t)
    (hf : ∀ t, (cfg.win w).fetch t = false)
    (hp : ∀ t : Fin cfg.N, cfg.idle w (cfg.grid.coords t) = true →
      ∃ t' : Fin cfg.N, t'.val + 1 = t.val ∧ dat.after w t = dat.after w t' ∧ (cfg.win w).flush t' = false)
    (t t' : Fin cfg.N) (h : t'.val + 1 = t.val) (hfl : (cfg.win w).flush t' = false) (d) :
    dat.before w t d = dat.after w t' := by
  by_cases hi' : cfg.idle w (cfg.grid.coords t') = true
  · have e : t' = ⟨t.val - 1, Nat.lt_of_le_of_lt (Nat.sub_le _ _) t.isLt⟩ := Fin.ext (by show t'.val = t.val - 1; omega)
    rw [dat.before_of_pos w t (by omega) (hf t) d, ← e, hfl]
    unfold Dat.left
    rw [hi']
    exact before_idle dat w hk hf hp _ t' rfl hi' d
  · rw [Bool.not_eq_true] at hi'
    exact before_of_live dat w hk t t' h (hf t) hfl hi' d

/-- A point that stores the buffer hands it back at its recorded contents. -/
theorem hand_live (w : Fin cfg.W) (t : Fin cfg.N) (hi : cfg.idle w (cfg.grid.coords t) = false)
    {X : (cfg.win w).block.Idx → Val (cfg.win w).elt} (h : X = dat.after w t) :
    owns (c : Thread nD τ) ((cfg.win w).stage (cfg.slots t w)) fullShare X ⊢ (dat.leavesExact w t : sProp 𝕄) := by
  subst h; unfold Dat.leavesExact; rw [hi]

/-- A point that does not store the buffer hands it back as found, where that is what is recorded. -/
theorem hand_idle (w : Fin cfg.W) (t : Fin cfg.N) (hi : cfg.idle w (cfg.grid.coords t) = true)
    {X : (cfg.win w).block.Idx → Val (cfg.win w).elt} (d) (hb : dat.before w t d = X) (h : X = dat.after w t) :
    owns (c : Thread nD τ) ((cfg.win w).stage (cfg.slots t w)) fullShare X ⊢ (dat.leavesExact w t : sProp 𝕄) := by
  unfold Dat.leavesExact; rw [hi]
  cases hfl : (cfg.win w).flush t
  · subst hb
    iintro H
    iexists d
    iexact H
  · subst h; exact .rfl

/-- A point that neither stores the buffer nor writes it back hands it back as found. -/
theorem hand_found (w : Fin cfg.W) (t : Fin cfg.N) (hi : cfg.idle w (cfg.grid.coords t) = true)
    (hfl : (cfg.win w).flush t = false) (d) :
    owns (c : Thread nD τ) ((cfg.win w).stage (cfg.slots t w)) fullShare (dat.before w t d) ⊢ (dat.leavesExact w t : sProp 𝕄) := by
  unfold Dat.leavesExact; rw [hi, hfl]
  iintro H
  iexists d
  iexact H

/-- A window at equal offsets is the same window. -/
theorem window_congr {α : Type} {s : Shape} (x : s.Idx → α) {off off' size : Fin s.rank → ℕ} (h : off = off')
    (inb : ∀ a, off a + size a ≤ s.size a) (inb' : ∀ a, off' a + size a ≤ s.size a) :
    VecWindow.window x off size inb = VecWindow.window x off' size inb' := by
  subst h; rfl

/-- An invariant stated by the point's number, read at a point's start and at its end. -/
theorem at_castSucc {α : Sort _} {N : ℕ} (S : ℕ → α) (t : Fin N) : S (Fin.castSucc t).val = S t.val := rfl
theorem at_succ {α : Sort _} {N : ℕ} (S : ℕ → α) (t : Fin N) : S (Fin.succ t).val = S (t.val + 1) := rfl

end Cert.Persist

end
-- ==== Proof.Kernel.Region0.lean ====
/- The gate and up kernel as a region: what every buffer holds after every grid point, and the body at every point. -/
module

public import proofs.«01_k».proof.Proof.Kernel.Run0
public import proofs.«01_k».proof.Proof.Lib.Persist
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers' contents as the region finds them. -/
abbrev Entry (F : FTy → Type) : Type := (c : Dev nD) → (b : Ref sig .tc) → Buf (Elt F) ((c : Thread nD τ).loc b)

variable (V : Entry F)

/-- The grid point numbered `n`. -/
def pt0 (n : ℕ) : Fin cfg0.N := ⟨n % 32, lt_of_lt_of_eq (Nat.mod_lt n (by decide)) (show 32 = cfg0.N from N_0.symm)⟩

theorem pt0_val (t : Fin cfg0.N) : pt0 t.val = t :=
  Fin.ext (Nat.mod_eq_of_lt (lt_of_lt_of_eq t.isLt (show cfg0.N = 32 from N_0)))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0's staging buffer at point `t`. -/
abbrev ms0_0 (t : Fin cfg0.N) : Memref sig .tc .vmem S256x2048 .bf16 := win0_0.stage (cfg0.slots t 0)
/-- Window 1's staging buffer at point `t`. -/
abbrev ms0_1 (t : Fin cfg0.N) : Memref sig .tc .vmem S2048x256 .i8 := win0_1.stage (cfg0.slots t 1)
/-- Window 2's staging buffer at point `t`. -/
abbrev ms0_2 (t : Fin cfg0.N) : Memref sig .tc .vmem S32x256 .f32 := win0_2.stage (cfg0.slots t 2)
/-- Window 3's staging buffer at point `t`. -/
abbrev ms0_3 (t : Fin cfg0.N) : Memref sig .tc .vmem S2048x256 .f32 := win0_3.stage (cfg0.slots t 3)
/-- Window 4's staging buffer at point `t`. -/
abbrev ms0_4 (t : Fin cfg0.N) : Memref sig .tc .vmem S2048x256 .i8 := win0_4.stage (cfg0.slots t 4)
/-- Window 5's staging buffer at point `t`. -/
abbrev ms0_5 (t : Fin cfg0.N) : Memref sig .tc .vmem S32x256 .f32 := win0_5.stage (cfg0.slots t 5)
/-- Window 6's staging buffer at point `t`. -/
abbrev ms0_6 (t : Fin cfg0.N) : Memref sig .tc .vmem S2048x256 .f32 := win0_6.stage (cfg0.slots t 6)
/-- Window 7's staging buffer at point `t`. -/
abbrev ms0_7 (t : Fin cfg0.N) : Memref sig .tc .vmem S256x256 .f32 := win0_7.stage (cfg0.slots t 7)
/-- Window 8's staging buffer at point `t`. -/
abbrev ms0_8 (t : Fin cfg0.N) : Memref sig .tc .vmem S256x256 .f32 := win0_8.stage (cfg0.slots t 8)
/-- Window 9's staging buffer at point `t`. -/
abbrev ms0_9 (t : Fin cfg0.N) : Memref sig .tc .vmem S256x2048 .i8 := win0_9.stage (cfg0.slots t 9)
/-- Window 10's staging buffer at point `t`. -/
abbrev ms0_10 (t : Fin cfg0.N) : Memref sig .tc .vmem S256x1 .f32 := win0_10.stage (cfg0.slots t 10)
/-- Window 11's staging buffer at point `t`. -/
abbrev ms0_11 (t : Fin cfg0.N) : Memref sig .tc .vmem S256x1 .f32 := win0_11.stage (cfg0.slots t 11)
/-- The kernel's own buffer 0. -/
abbrev scM0_0 : Memref sig .tc .vmem S256x2048 .bf16 := Memref.whole cc0_scratch0

/-- The activation scales, the integer activations, and the activations the products use: stored at the first point. -/
def sx0 (c : Dev nD) : Vec F S256x1 .f32 := k0_pay3 (blk0 V c 0 (pt0 0))
def xq0 (c : Dev nD) : Vec F S256x2048 .i8 := k0_pay5 (blk0 V c 0 (pt0 0))
def xb0 (c : Dev nD) : Vec F S256x2048 .bf16 := k0_pay6 (blk0 V c 0 (pt0 0))

/-- The gate and the up block of a point. -/
def gg0 (c : Dev nD) (t : Fin cfg0.N) : Vec F S256x256 .f32 :=
  k0_pay9 (sx0 V c) (xb0 V c) (blk0 V c 3 t) (blk0 V c 1 t) (blk0 V c 2 t)
def uu0 (c : Dev nD) (t : Fin cfg0.N) : Vec F S256x256 .f32 :=
  k0_pay10 (k0_pay8 (sx0 V c)) (xb0 V c) (blk0 V c 6 t) (blk0 V c 4 t) (blk0 V c 5 t)

/-- One point's update of the running row maxima, and the maxima after point `n`. -/
def amStep0 (c : Dev nD) (t : Fin cfg0.N) (prev : Vec F S256x1 .f32) : Vec F S256x1 .f32 :=
  k0_pay1 (k0_pay11 (k0_pay8 (sx0 V c)) (gg0 V c t) (xb0 V c) (blk0 V c 6 t) (blk0 V c 4 t) (blk0 V c 5 t)) prev
def am0 (c : Dev nD) : ℕ → Vec F S256x1 .f32
  | 0 => amStep0 V c (pt0 0) k0_pay7
  | n + 1 => amStep0 V c (pt0 (n + 1)) (am0 c n)

/-- The body's invariant before point `n`: the kernel's own buffer, the activations once the first point has stored them. -/
def Phi0 (c : Dev nD) (n : ℕ) : sProp 𝕄 :=
  iprop((∃ X, ⌜0 < n → X = xb0 V c⌝ ∗ owns (c : Thread nD τ) scM0_0 fullShare X)
    ∗ Pipeline.scopedRestBut (Ix := Unit) (Name := ℕ) (U := UR sig nD τ) (Lvl := ℕ) (Val := Elt F) spec0 c [cc0_scratch0]
    ∗ ∃ r, prngReg c r)

/-- The proof data of the pipeline on core `c`: each input's buffer holds its block, each output's what the body leaves. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => gg0 V c t
    | ⟨8, _⟩ => uu0 V c t
    | ⟨9, _⟩ => xq0 V c
    | ⟨10, _⟩ => sx0 V c
    | ⟨11, _⟩ => am0 V c t.val
  Φ s := Phi0 V c s.val
  q _ := fullShare
  owed _ := 0

theorem dat0_A (c : Dev nD) (w : Fin cfg0.W) : (dat0 V c).A w = V c (Pipeline.arrRef spec0 w) := by dsimp only [dat0]
theorem dat0_castSucc (c : Dev nD) (t : Fin cfg0.N) : (dat0 V c).Φ t.castSucc = Phi0 V c t.val := by
  dsimp only [dat0]; exact Persist.at_castSucc (Phi0 V c) t
theorem dat0_succ (c : Dev nD) (t : Fin cfg0.N) : (dat0 V c).Φ t.succ = Phi0 V c (t.val + 1) := by
  dsimp only [dat0]; exact Persist.at_succ (Phi0 V c) t
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = gg0 V c t := by dsimp only [dat0]
theorem after0_8 (c : Dev nD) (t : Fin cfg0.N) : (dat0 V c).after 8 t = uu0 V c t := by dsimp only [dat0]
theorem after0_9 (c : Dev nD) (t : Fin cfg0.N) : (dat0 V c).after 9 t = xq0 V c := by dsimp only [dat0]
theorem after0_10 (c : Dev nD) (t : Fin cfg0.N) : (dat0 V c).after 10 t = sx0 V c := by dsimp only [dat0]
theorem after0_11 (c : Dev nD) (t : Fin cfg0.N) : (dat0 V c).after 11 t = am0 V c t.val := by dsimp only [dat0]
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [dat0_A]; try rfl) t d).trans
    (by unfold Dat.fetched Dat.blockOf blk0; rw [dat0_A]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [dat0_A]; try rfl) t d).trans
    (by unfold Dat.fetched Dat.blockOf blk0; rw [dat0_A]; try rfl)
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [dat0_A]; try rfl) t d).trans
    (by unfold Dat.fetched Dat.blockOf blk0; rw [dat0_A]; try rfl)
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [dat0_A]; try rfl) t d).trans
    (by unfold Dat.fetched Dat.blockOf blk0; rw [dat0_A]; try rfl)
theorem before0_5 (c : Dev nD) (t : Fin cfg0.N) (d) : (dat0 V c).before 5 t d = blk0 V c 5 t :=
  ((dat0 V c).before_in_eq_fetched 5 rfl (fun _ => rfl) (fun _ _ _ => rfl)
    (fun t => by rw [after0_5]; unfold Dat.blockOf blk0; rw [dat0_A]; try rfl) t d).trans
    (by unfold Dat.fetched Dat.blockOf blk0; rw [dat0_A]; try rfl)
theorem before0_6 (c : Dev nD) (t : Fin cfg0.N) (d) : (dat0 V c).before 6 t d = blk0 V c 6 t :=
  ((dat0 V c).before_in_eq_fetched 6 rfl (fun _ => rfl) (fun _ _ _ => rfl)
    (fun t => by rw [after0_6]; unfold Dat.blockOf blk0; rw [dat0_A]; try rfl) t d).trans
    (by unfold Dat.fetched Dat.blockOf blk0; rw [dat0_A]; try rfl)

/-- The first point is the one at which the body's condition holds. -/
theorem cond0 : ∀ t : Fin cfg0.N, k0_cond1 (grid0.coords t) = 1#1 ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [k0_cond1, e0]
    word_cmp
   : ∀ t : Fin grid0.N, k0_cond1 (grid0.coords t) = 1#1 ↔ t.val % 32 = 0)

theorem lt0 (t : Fin cfg0.N) : t.val < 32 := lt_of_lt_of_eq t.isLt (show cfg0.N = 32 from N_0)

theorem idle0_9 (t : Fin cfg0.N) : cfg0.idle 9 (cfg0.grid.coords t) = !(k0_cond1 (grid0.coords t) == 1#1) := rfl
theorem idle0_10 (t : Fin cfg0.N) : cfg0.idle 10 (cfg0.grid.coords t) = !(k0_cond1 (grid0.coords t) == 1#1) := rfl

theorem live0_first (t : Fin cfg0.N) (h : t.val % 32 = 0) : (!(k0_cond1 (grid0.coords t) == 1#1)) = false := by
  rw [(cond0 t).mpr h]; rfl
theorem idle0_later (t : Fin cfg0.N) (h : ¬ t.val % 32 = 0) : (!(k0_cond1 (grid0.coords t) == 1#1)) = true := by
  have : ¬ k0_cond1 (grid0.coords t) = 1#1 := fun e => h ((cond0 t).mp e)
  rw [beq_eq_false_iff_ne.mpr this]; rfl
theorem later_of_idle0 (t : Fin cfg0.N) (h : (!(k0_cond1 (grid0.coords t) == 1#1)) = true) : ¬ t.val % 32 = 0 := fun e => by
  rw [live0_first t e] at h; cases h

/-- The point before a later one. -/
theorem pred0 (t : Fin cfg0.N) (h : ¬ t.val % 32 = 0) : ∃ t' : Fin cfg0.N, t'.val + 1 = t.val :=
  ⟨⟨t.val - 1, Nat.lt_of_le_of_lt (Nat.sub_le _ _) t.isLt⟩, by show t.val - 1 + 1 = t.val; have := lt0 t; omega⟩

theorem noflush0_9 (t' t : Fin cfg0.N) (h : t'.val + 1 = t.val) : (cfg0.win 9).flush t' = false := by
  rw [← Bool.not_eq_true]; intro e; have := (flush0_9 t').mp e; have := lt0 t; omega
theorem noflush0_10 (t' t : Fin cfg0.N) (h : t'.val + 1 = t.val) : (cfg0.win 10).flush t' = false := by
  rw [← Bool.not_eq_true]; intro e; have := (flush0_10 t').mp e; have := lt0 t; omega
theorem noflush0_11 (t' t : Fin cfg0.N) (h : t'.val + 1 = t.val) : (cfg0.win 11).flush t' = false := by
  rw [← Bool.not_eq_true]; intro e; have := (flush0_11 t').mp e; have := lt0 t; omega

/-- At a later point the buffers of windows 9, 10 and 11 are found as the points before left them. -/
theorem found0_9 (c : Dev nD) (t : Fin cfg0.N) (h : ¬ t.val % 32 = 0) (d) : (dat0 V c).before 9 t d = xq0 V c :=
  (Persist.before_idle (dat0 V c) 9 (fun _ _ => rfl) (fun _ => rfl) (fun t hi => by
    obtain ⟨t', ht'⟩ := pred0 t (later_of_idle0 t hi)
    exact ⟨t', ht', by rw [after0_9, after0_9], noflush0_9 t' t ht'⟩) _ t rfl (idle0_later t h) d).trans (after0_9 V c t)
theorem found0_10 (c : Dev nD) (t : Fin cfg0.N) (h : ¬ t.val % 32 = 0) (d) : (dat0 V c).before 10 t d = sx0 V c :=
  (Persist.before_idle (dat0 V c) 10 (fun _ _ => rfl) (fun _ => rfl) (fun t hi => by
    obtain ⟨t', ht'⟩ := pred0 t (later_of_idle0 t hi)
    exact ⟨t', ht', by rw [after0_10, after0_10], noflush0_10 t' t ht'⟩) _ t rfl (idle0_later t h) d).trans (after0_10 V c t)
theorem found0_11 (c : Dev nD) (t : Fin cfg0.N) (n : ℕ) (hn : t.val = n + 1) (d) : (dat0 V c).before 11 t d = am0 V c n := by
  have hl := lt0 t
  obtain ⟨t', ht'⟩ := pred0 t (by omega)
  refine (Persist.before_of_live (dat0 V c) 11 (fun _ _ => rfl) t t' ht' rfl (noflush0_11 t' t ht') rfl d).trans ?_
  rw [after0_11, show t'.val = n by omega]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 4000000 in
/-- The body at any point. -/
theorem body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).owesAt () t.succ = (dat0 V c).owesAt () t.castSucc from rfl, dat0_castSucc, dat0_succ]
  simp only [before0_0, before0_1, before0_2, before0_3, before0_4, before0_5, before0_6]
  unfold Phi0
  have hN := lt0 t
  by_cases h0 : t.val % 32 = 0
  · obtain rfl : t = pt0 0 := Fin.ext (by show t.val = 0 % 32; omega)
    iintro ⟨⟨⟨%X, %hX, HS0⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((run0_A c (grid0.coords (pt0 0)) _ _ _ _ _ _ _ _ _ _ _ _ _ _ _ _ _ _ _ _ _ _ _ _ _ _ ((cond0 _).mpr h0) (blk0 V c 0 (pt0 0)) (blk0 V c 1 (pt0 0)) (blk0 V c 2 (pt0 0)) (blk0 V c 3 (pt0 0)) (blk0 V c 4 (pt0 0)) (blk0 V c 5 (pt0 0)) (blk0 V c 6 (pt0 0))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexists _; iexact HS0
    iintro ⟨H0, H1, H2, H3, H4, H5, H6, H7, H8, H9, H10, H11, HS0⟩
    isplitl [HS0 HR]
    · isplitl [HS0]
      · iexists _; isplitr; swap; · iexact HS0
        ipureintro; intro _; rfl
      iexact HR
    isplitl [Ho]; · iexact Ho
    isplitl [H0]; · iapply (Persist.hand_live (dat0 V c) 0 (pt0 0) rfl (after0_0 V c (pt0 0)).symm); iexact H0
    isplitl [H1]; · iapply (Persist.hand_live (dat0 V c) 1 (pt0 0) rfl (after0_1 V c (pt0 0)).symm); iexact H1
    isplitl [H2]; · iapply (Persist.hand_live (dat0 V c) 2 (pt0 0) rfl (after0_2 V c (pt0 0)).symm); iexact H2
    isplitl [H3]; · iapply (Persist.hand_live (dat0 V c) 3 (pt0 0) rfl (after0_3 V c (pt0 0)).symm); iexact H3
    isplitl [H4]; · iapply (Persist.hand_live (dat0 V c) 4 (pt0 0) rfl (after0_4 V c (pt0 0)).symm); iexact H4
    isplitl [H5]; · iapply (Persist.hand_live (dat0 V c) 5 (pt0 0) rfl (after0_5 V c (pt0 0)).symm); iexact H5
    isplitl [H6]; · iapply (Persist.hand_live (dat0 V c) 6 (pt0 0) rfl (after0_6 V c (pt0 0)).symm); iexact H6
    isplitl [H7]; · iapply (Persist.hand_live (dat0 V c) 7 (pt0 0) rfl (after0_7 V c _).symm); iexact H7
    isplitl [H8]; · iapply (Persist.hand_live (dat0 V c) 8 (pt0 0) rfl (after0_8 V c _).symm); iexact H8
    isplitl [H9]; · iapply (Persist.hand_live (dat0 V c) 9 (pt0 0) ((idle0_9 (pt0 0)).trans (live0_first (pt0 0) rfl)) (after0_9 V c _).symm); iexact H9
    isplitl [H10]; · iapply (Persist.hand_live (dat0 V c) 10 (pt0 0) ((idle0_10 (pt0 0)).trans (live0_first (pt0 0) rfl)) (after0_10 V c _).symm); iexact H10
    iapply (Persist.hand_live (dat0 V c) 11 (pt0 0) rfl (after0_11 V c _).symm); iexact H11

  · obtain ⟨n, hn⟩ : ∃ n, t.val = n + 1 := ⟨t.val - 1, by omega⟩
    simp only [found0_9 V c t h0, found0_10 V c t h0, found0_11 V c t n hn]
    have hlast : amStep0 V c t (am0 V c n) = (dat0 V c).after 11 t := by
      rw [after0_11, hn]; show _ = amStep0 V c (pt0 (n + 1)) (am0 V c n); rw [← hn, pt0_val]
    iintro ⟨⟨⟨%X, %hX, HS0⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl := hX (by omega)
    iapply ((run0_B c (grid0.coords t) _ _ _ _ _ _ _ _ _ _ _ _ _ _ _ _ _ _ _ _ _ _ _ _ _ _ (fun h => h0 ((cond0 t).mp h)) (blk0 V c 0 t) (blk0 V c 1 t) (blk0 V c 2 t) (blk0 V c 3 t) (blk0 V c 4 t) (blk0 V c 5 t) (blk0 V c 6 t) (xq0 V c) (sx0 V c) (am0 V c n) (xb0 V c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [H11]; · iexact H11
    isplitl [HS0]; · iexact HS0
    iintro ⟨H0, H1, H2, H3, H4, H5, H6, H7, H8, H9, H10, H11, HS0⟩
    isplitl [HS0 HR]
    · isplitl [HS0]
      · iexists _; isplitr; swap; · iexact HS0
        ipureintro; intro _; rfl
      iexact HR
    isplitl [Ho]; · iexact Ho
    isplitl [H0]; · iapply (Persist.hand_live (dat0 V c) 0 t rfl (after0_0 V c t).symm); iexact H0
    isplitl [H1]; · iapply (Persist.hand_live (dat0 V c) 1 t rfl (after0_1 V c t).symm); iexact H1
    isplitl [H2]; · iapply (Persist.hand_live (dat0 V c) 2 t rfl (after0_2 V c t).symm); iexact H2
    isplitl [H3]; · iapply (Persist.hand_live (dat0 V c) 3 t rfl (after0_3 V c t).symm); iexact H3
    isplitl [H4]; · iapply (Persist.hand_live (dat0 V c) 4 t rfl (after0_4 V c t).symm); iexact H4
    isplitl [H5]; · iapply (Persist.hand_live (dat0 V c) 5 t rfl (after0_5 V c t).symm); iexact H5
    isplitl [H6]; · iapply (Persist.hand_live (dat0 V c) 6 t rfl (after0_6 V c t).symm); iexact H6
    isplitl [H7]; · iapply (Persist.hand_live (dat0 V c) 7 t rfl (after0_7 V c t).symm); iexact H7
    isplitl [H8]; · iapply (Persist.hand_live (dat0 V c) 8 t rfl (after0_8 V c t).symm); iexact H8
    isplitl [H9]; · iapply (Persist.hand_idle (dat0 V c) 9 t ((idle0_9 t).trans (idle0_later t h0)) d9 (found0_9 V c t h0 d9) (after0_9 V c t).symm); iexact H9
    isplitl [H10]; · iapply (Persist.hand_idle (dat0 V c) 10 t ((idle0_10 t).trans (idle0_later t h0)) d10 (found0_10 V c t h0 d10) (after0_10 V c t).symm); iexact H10
    iapply (Persist.hand_live (dat0 V c) 11 t rfl hlast); iexact H11

/-- The body table's row at point `t`'s slots is the body. -/
theorem row0 (t : Fin cfg0.N) :
    defs₀ (F := F) .tc cfg0.body (cfg0.bodyArgs t (cfg0.slots t)) = bodyAt0 t := by
  unfold defs₀; rw [Defs.onTc_tc]

/-- The body obligation of the region, at every point. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

end Cert.Kernel.Own

end
-- ==== Proof.Kernel.Dat1.lean ====
/- The down kernel as a region: what every buffer holds after every grid point, and the body at every point. -/
module

public import proofs.«01_k».proof.Proof.Kernel.Region0
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-- The grid point numbered `n`. -/
def pt1 (n : ℕ) : Fin cfg1.N := ⟨n % 32, lt_of_lt_of_eq (Nat.mod_lt n (by decide)) (show 32 = cfg1.N from N_1.symm)⟩

theorem pt1_val (t : Fin cfg1.N) : pt1 t.val = t :=
  Fin.ext (Nat.mod_eq_of_lt (lt_of_lt_of_eq t.isLt (show cfg1.N = 32 from N_1)))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's staging buffer at point `t`. -/
abbrev ms1_0 (t : Fin cfg1.N) : Memref sig .tc .vmem S256x2048 .f32 := win1_0.stage (cfg1.slots t 0)
/-- Window 1's staging buffer at point `t`. -/
abbrev ms1_1 (t : Fin cfg1.N) : Memref sig .tc .vmem S256x2048 .f32 := win1_1.stage (cfg1.slots t 1)
/-- Window 2's staging buffer at point `t`. -/
abbrev ms1_2 (t : Fin cfg1.N) : Memref sig .tc .vmem S256x1 .f32 := win1_2.stage (cfg1.slots t 2)
/-- Window 3's staging buffer at point `t`. -/
abbrev ms1_3 (t : Fin cfg1.N) : Memref sig .tc .vmem S256x256 .bf16 := win1_3.stage (cfg1.slots t 3)
/-- Window 4's staging buffer at point `t`. -/
abbrev ms1_4 (t : Fin cfg1.N) : Memref sig .tc .vmem S256x256 .bf16 := win1_4.stage (cfg1.slots t 4)
/-- Window 5's staging buffer at point `t`. -/
abbrev ms1_5 (t : Fin cfg1.N) : Memref sig .tc .vmem S2048x256 .i8 := win1_5.stage (cfg1.slots t 5)
/-- Window 6's staging buffer at point `t`. -/
abbrev ms1_6 (t : Fin cfg1.N) : Memref sig .tc .vmem S32x256 .f32 := win1_6.stage (cfg1.slots t 6)
/-- Window 7's staging buffer at point `t`. -/
abbrev ms1_7 (t : Fin cfg1.N) : Memref sig .tc .vmem S2048x256 .f32 := win1_7.stage (cfg1.slots t 7)
/-- Window 8's staging buffer at point `t`. -/
abbrev ms1_8 (t : Fin cfg1.N) : Memref sig .tc .vmem S256x2048 .i8 := win1_8.stage (cfg1.slots t 8)
/-- Window 9's staging buffer at point `t`. -/
abbrev ms1_9 (t : Fin cfg1.N) : Memref sig .tc .vmem S256x1 .f32 := win1_9.stage (cfg1.slots t 9)
/-- Window 10's staging buffer at point `t`. -/
abbrev ms1_10 (t : Fin cfg1.N) : Memref sig .tc .vmem S256x1 .f32 := win1_10.stage (cfg1.slots t 10)
/-- Window 11's staging buffer at point `t`. -/
abbrev ms1_11 (t : Fin cfg1.N) : Memref sig .tc .vmem S256x256 .bf16 := win1_11.stage (cfg1.slots t 11)
/-- Window 12's staging buffer at point `t`. -/
abbrev ms1_12 (t : Fin cfg1.N) : Memref sig .tc .vmem S256x256 .bf16 := win1_12.stage (cfg1.slots t 12)
/-- The kernel's own buffer 0. -/
abbrev scM1_0 : Memref sig .tc .vmem S4x256x2048 .bf16 := Memref.whole cc1_scratch0

/-- The kernel's own buffer 1. -/
abbrev scM1_1 : Memref sig .tc .vmem S256x256 .f32 := Memref.whole cc1_scratch1

theorem lt1 (t : Fin cfg1.N) : t.val < 32 := lt_of_lt_of_eq t.isLt (show cfg1.N = 32 from N_1)

/-- The quantised activation block the product uses, stored at point `k < 4`. -/
def pb1 (c : Dev nD) (k : ℕ) : Vec F S1x256x2048 .bf16 := k1_pay12 (blk1 V c 2 (pt1 k)) (blk1 V c 0 (pt1 k)) (blk1 V c 1 (pt1 k))

/-- One point's step of the product, and the product's sum after point `n` (started afresh at every fourth point). -/
def accStep1 (c : Dev nD) (t : Fin cfg1.N) (prev : Vec F S256x256 .f32) : Vec F S256x256 .f32 :=
  k1_pay1 prev (k1_pay14 (pb1 V c (t.val % 4))) (blk1 V c 5 t) (blk1 V c 6 t) (k1_pay15 (blk1 V c 7 t))
def acc1 (c : Dev nD) : ℕ → Vec F S256x256 .f32
  | 0 => accStep1 V c (pt1 0) k1_pay13
  | n + 1 => accStep1 V c (pt1 (n + 1)) (if (n + 1) % 4 = 0 then k1_pay13 else acc1 c n)

/-- The loss rows after point `n`. -/
def loss1 (c : Dev nD) : ℕ → Vec F S256x1 .f32
  | 0 => k1_pay9
  | n + 1 => if (n + 1) % 4 = 3 then
      k1_pay4 (k1_pay8 (blk1 V c 2 (pt1 (n + 1)))) (acc1 V c (n + 1)) (blk1 V c 3 (pt1 (n + 1))) (blk1 V c 4 (pt1 (n + 1))) (loss1 c n)
    else loss1 c n

/-- The integer activations last stored by point `n`, the activation scales, and the two output blocks of a point. -/
def aq1 (c : Dev nD) (n : ℕ) : Vec F S256x2048 .i8 := k1_pay11 (blk1 V c 2 (pt1 (min n 3))) (blk1 V c 0 (pt1 (min n 3))) (blk1 V c 1 (pt1 (min n 3)))
def sa1 (c : Dev nD) : Vec F S256x1 .f32 := k1_pay8 (blk1 V c 2 (pt1 0))
def dy1 (c : Dev nD) (t : Fin cfg1.N) : Vec F S256x256 .bf16 := k1_pay6 (k1_pay8 (blk1 V c 2 t)) (acc1 V c t.val) (blk1 V c 3 t) (blk1 V c 4 t)
def dys1 (c : Dev nD) (t : Fin cfg1.N) : Vec F S256x256 .bf16 := k1_pay7 (k1_pay8 (blk1 V c 2 t)) (acc1 V c t.val) (blk1 V c 3 t) (blk1 V c 4 t)

theorem acc1_first (c : Dev nD) (t : Fin cfg1.N) (h : t.val % 4 = 0) : acc1 V c t.val = accStep1 V c t k1_pay13 := by
  obtain ⟨n, hn⟩ := t
  cases n with
  | zero => rfl
  | succ n =>
    show accStep1 V c (pt1 (n + 1)) (if (n + 1) % 4 = 0 then k1_pay13 else acc1 V c n) = _
    rw [if_pos h, show pt1 (n + 1) = ⟨n + 1, hn⟩ from pt1_val ⟨n + 1, hn⟩]
theorem acc1_later (c : Dev nD) (t : Fin cfg1.N) (n : ℕ) (hn : t.val = n + 1) (h : ¬ t.val % 4 = 0) :
    acc1 V c t.val = accStep1 V c t (acc1 V c n) := by
  obtain ⟨m, hm⟩ := t
  obtain rfl : m = n + 1 := hn
  show accStep1 V c (pt1 (n + 1)) (if (n + 1) % 4 = 0 then k1_pay13 else acc1 V c n) = _
  rw [if_neg h, show pt1 (n + 1) = ⟨n + 1, hm⟩ from pt1_val ⟨n + 1, hm⟩]
theorem loss1_last (c : Dev nD) (t : Fin cfg1.N) (n : ℕ) (hn : t.val = n + 1) (h : t.val % 4 = 3) :
    loss1 V c t.val = k1_pay4 (k1_pay8 (blk1 V c 2 t)) (acc1 V c t.val) (blk1 V c 3 t) (blk1 V c 4 t) (loss1 V c n) := by
  obtain ⟨m, hm⟩ := t
  obtain rfl : m = n + 1 := hn
  show (if (n + 1) % 4 = 3 then k1_pay4 (k1_pay8 (blk1 V c 2 (pt1 (n + 1)))) (acc1 V c (n + 1)) (blk1 V c 3 (pt1 (n + 1))) (blk1 V c 4 (pt1 (n + 1))) (loss1 V c n) else loss1 V c n) = _
  rw [if_pos h, show pt1 (n + 1) = ⟨n + 1, hm⟩ from pt1_val ⟨n + 1, hm⟩]
theorem loss1_kept (c : Dev nD) (n m : ℕ) (hn : m = n + 1) (h : ¬ m % 4 = 3) : loss1 V c m = loss1 V c n := by
  subst hn; exact if_neg h

/-- A block stored at one of the first four points. -/
theorem pb1_point (c : Dev nD) (t : Fin cfg1.N) (h : t.val < 4) : k1_pay12 (blk1 V c 2 t) (blk1 V c 0 t) (blk1 V c 1 t) = pb1 V c (t.val % 4) := by
  unfold pb1; rw [Nat.mod_eq_of_lt h, pt1_val]

/-- The body's invariant before point `n`: the quantised blocks stored so far, and the product's sum. -/
def Phi1 (c : Dev nD) (n : ℕ) : sProp 𝕄 :=
  iprop((∃ X : Vec F S4x256x2048 .bf16, ⌜∀ k, k < 4 → k < n → VecWindow.window X (k1_off2 (grid1.coords (pt1 k))) S1x256x2048.size (k1_off2_inb (grid1.coords (pt1 k))) = pb1 V c k⌝
        ∗ owns (c : Thread nD τ) scM1_0 fullShare X)
    ∗ (∃ Y : Vec F S256x256 .f32, ⌜∀ m, n = m + 1 → Y = acc1 V c m⌝ ∗ owns (c : Thread nD τ) scM1_1 fullShare Y)
    ∗ Pipeline.scopedRestBut (Ix := Unit) (Name := ℕ) (U := UR sig nD τ) (Lvl := ℕ) (Val := Elt F) spec1 c [cc1_scratch0, cc1_scratch1]
    ∗ ∃ r, prngReg c r)

/-- The proof data of the pipeline on core `c`: each input's buffer holds its block, each output's what the body leaves. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => aq1 V c t.val
    | ⟨9, _⟩ => sa1 V c
    | ⟨10, _⟩ => loss1 V c t.val
    | ⟨11, _⟩ => dy1 V c t
    | ⟨12, _⟩ => dys1 V c t
  Φ s := Phi1 V c s.val
  q _ := fullShare
  owed _ := 0

theorem dat1_A (c : Dev nD) (w : Fin cfg1.W) : (dat1 V c).A w = V c (Pipeline.arrRef spec1 w) := by dsimp only [dat1]
theorem dat1_castSucc (c : Dev nD) (t : Fin cfg1.N) : (dat1 V c).Φ t.castSucc = Phi1 V c t.val := by
  dsimp only [dat1]; exact Persist.at_castSucc (Phi1 V c) t
theorem dat1_succ (c : Dev nD) (t : Fin cfg1.N) : (dat1 V c).Φ t.succ = Phi1 V c (t.val + 1) := by
  dsimp only [dat1]; exact Persist.at_succ (Phi1 V c) t
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = aq1 V c t.val := by dsimp only [dat1]
theorem after1_9 (c : Dev nD) (t : Fin cfg1.N) : (dat1 V c).after 9 t = sa1 V c := by dsimp only [dat1]
theorem after1_10 (c : Dev nD) (t : Fin cfg1.N) : (dat1 V c).after 10 t = loss1 V c t.val := by dsimp only [dat1]
theorem after1_11 (c : Dev nD) (t : Fin cfg1.N) : (dat1 V c).after 11 t = dy1 V c t := by dsimp only [dat1]
theorem after1_12 (c : Dev nD) (t : Fin cfg1.N) : (dat1 V c).after 12 t = dys1 V c t := by dsimp only [dat1]
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [dat1_A]; try rfl) t d).trans
    (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [dat1_A]; try rfl) t d).trans
    (by unfold Dat.fetched Dat.blockOf blk1; rw [dat1_A]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [dat1_A]; try rfl) t d).trans
    (by unfold Dat.fetched Dat.blockOf blk1; rw [dat1_A]; try rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [dat1_A]; try rfl) t d).trans
    (by unfold Dat.fetched Dat.blockOf blk1; rw [dat1_A]; try rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [dat1_A]; try rfl) t d).trans
    (by unfold Dat.fetched Dat.blockOf blk1; rw [dat1_A]; try rfl)
theorem before1_6 (c : Dev nD) (t : Fin cfg1.N) (d) : (dat1 V c).before 6 t d = blk1 V c 6 t :=
  ((dat1 V c).before_in_eq_fetched 6 rfl (fun _ => rfl) (fun _ _ _ => rfl)
    (fun t => by rw [after1_6]; unfold Dat.blockOf blk1; rw [dat1_A]; try rfl) t d).trans
    (by unfold Dat.fetched Dat.blockOf blk1; rw [dat1_A]; try rfl)
theorem before1_7 (c : Dev nD) (t : Fin cfg1.N) (d) : (dat1 V c).before 7 t d = blk1 V c 7 t :=
  ((dat1 V c).before_in_eq_fetched 7 rfl (fun _ => rfl) (fun _ _ _ => rfl)
    (fun t => by rw [after1_7]; unfold Dat.blockOf blk1; rw [dat1_A]; try rfl) t d).trans
    (by unfold Dat.fetched Dat.blockOf blk1; rw [dat1_A]; try rfl)

/-- Where the body's conditions hold. -/
theorem cond1_1 : ∀ t : Fin cfg1.N, (k1_cond1 (grid1.coords t) = 1#1) ↔ t.val = 0 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [k1_cond1, k1_cond2, k1_cond4, e0, e1]
    word_cmp
   : ∀ t : Fin grid1.N, (k1_cond1 (grid1.coords t) = 1#1) ↔ t.val = 0)

theorem cond1_2 : ∀ t : Fin cfg1.N, (k1_cond2 (grid1.coords t) = 1#1) ↔ t.val < 4 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [k1_cond1, k1_cond2, k1_cond4, e0, e1]
    word_cmp
   : ∀ t : Fin grid1.N, (k1_cond2 (grid1.coords t) = 1#1) ↔ t.val < 4)

theorem cond1_3 : ∀ t : Fin cfg1.N, (Scalar.cmpi .ne (Scalar.extui (Scalar.cmpi .eq (BitVec.ofNat 32 ((grid1.coords t) 1).val) 0#32) : BitVec 32) 0#32 = 1#1) ↔ t.val % 4 = 0 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [k1_cond1, k1_cond2, k1_cond4, e0, e1]
    word_cmp
   : ∀ t : Fin grid1.N, (Scalar.cmpi .ne (Scalar.extui (Scalar.cmpi .eq (BitVec.ofNat 32 ((grid1.coords t) 1).val) 0#32) : BitVec 32) 0#32 = 1#1) ↔ t.val % 4 = 0)

theorem cond1_4 : ∀ t : Fin cfg1.N, (k1_cond4 (grid1.coords t) = 1#1) ↔ t.val % 4 = 3 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [k1_cond1, k1_cond2, k1_cond4, e0, e1]
    word_cmp
   : ∀ t : Fin grid1.N, (k1_cond4 (grid1.coords t) = 1#1) ↔ t.val % 4 = 3)

theorem not_beq_true (x : BitVec 1) : (!(x == 1#1)) = true ↔ ¬ x = 1#1 := by simp
theorem not_beq_false (x : BitVec 1) : (!(x == 1#1)) = false ↔ x = 1#1 := by simp

theorem idle1_8 (t : Fin cfg1.N) : cfg1.idle 8 (cfg1.grid.coords t) = true ↔ ¬ t.val < 4 :=
  (show (!(k1_cond2 (grid1.coords t) == 1#1)) = true ↔ _ by rw [not_beq_true, cond1_2])
theorem idle1_9 (t : Fin cfg1.N) : cfg1.idle 9 (cfg1.grid.coords t) = true ↔ ¬ t.val = 0 :=
  (show (!(k1_cond1 (grid1.coords t) == 1#1)) = true ↔ _ by rw [not_beq_true, cond1_1])
theorem idle1_10 (t : Fin cfg1.N) : cfg1.idle 10 (cfg1.grid.coords t) = true ↔ ¬ t.val = 0 ∧ ¬ t.val % 4 = 3 :=
  (show (!(k1_cond1 (grid1.coords t) == 1#1) && !(k1_cond4 (grid1.coords t) == 1#1)) = true ↔ _ by
    rw [Bool.and_eq_true, not_beq_true, not_beq_true, cond1_1, cond1_4])
theorem idle1_11 (t : Fin cfg1.N) : cfg1.idle 11 (cfg1.grid.coords t) = true ↔ ¬ t.val % 4 = 3 :=
  (show (!(k1_cond4 (grid1.coords t) == 1#1)) = true ↔ _ by rw [not_beq_true, cond1_4])
theorem idle1_12 (t : Fin cfg1.N) : cfg1.idle 12 (cfg1.grid.coords t) = true ↔ ¬ t.val % 4 = 3 :=
  (show (!(k1_cond4 (grid1.coords t) == 1#1)) = true ↔ _ by rw [not_beq_true, cond1_4])
theorem live1_8 (t : Fin cfg1.N) (h : t.val < 4) : cfg1.idle 8 (cfg1.grid.coords t) = false := by
  rw [← Bool.not_eq_true, idle1_8]; omega
theorem live1_9 (t : Fin cfg1.N) (h : t.val = 0) : cfg1.idle 9 (cfg1.grid.coords t) = false := by
  rw [← Bool.not_eq_true, idle1_9]; omega
theorem live1_10 (t : Fin cfg1.N) (h : t.val = 0 ∨ t.val % 4 = 3) : cfg1.idle 10 (cfg1.grid.coords t) = false := by
  rw [← Bool.not_eq_true, idle1_10]; omega
theorem live1_11 (t : Fin cfg1.N) (h : t.val % 4 = 3) : cfg1.idle 11 (cfg1.grid.coords t) = false := by
  rw [← Bool.not_eq_true, idle1_11]; omega
theorem live1_12 (t : Fin cfg1.N) (h : t.val % 4 = 3) : cfg1.idle 12 (cfg1.grid.coords t) = false := by
  rw [← Bool.not_eq_true, idle1_12]; omega

/-- The point before a later one. -/
theorem pred1 (t : Fin cfg1.N) (h : ¬ t.val = 0) : ∃ t' : Fin cfg1.N, t'.val + 1 = t.val :=
  ⟨⟨t.val - 1, Nat.lt_of_le_of_lt (Nat.sub_le _ _) t.isLt⟩, by show t.val - 1 + 1 = t.val; have := lt1 t; omega⟩

/-- Window 8's block is not written back between the fourth point and the last. -/
theorem noflush1_8 : ∀ t : Fin cfg1.N, 3 ≤ t.val → t.val < 31 → (cfg1.win 8).flush t = false :=
  (by decide +kernel : ∀ t : Fin grid1.N, 3 ≤ t.val → t.val < 31 → win1_8.flush t = false)
theorem noflush1_9 (t' t : Fin cfg1.N) (h : t'.val + 1 = t.val) : (cfg1.win 9).flush t' = false := by
  rw [← Bool.not_eq_true]; intro e; have := (flush1_9 t').mp e; have := lt1 t; omega
theorem noflush1_10 (t' t : Fin cfg1.N) (h : t'.val + 1 = t.val) : (cfg1.win 10).flush t' = false := by
  rw [← Bool.not_eq_true]; intro e; have := (flush1_10 t').mp e; have := lt1 t; omega
theorem noflush1_11 (t : Fin cfg1.N) (h : ¬ t.val % 4 = 3) : (cfg1.win 11).flush t = false := by
  rw [← Bool.not_eq_true, flush1_11]; exact h
theorem noflush1_12 (t : Fin cfg1.N) (h : ¬ t.val % 4 = 3) : (cfg1.win 12).flush t = false := by
  rw [← Bool.not_eq_true, flush1_12]; exact h

/-- What later points find in the buffers of windows 8, 9 and 10. -/
theorem found1_8 (c : Dev nD) (t : Fin cfg1.N) (h : ¬ t.val < 4) (d) : (dat1 V c).before 8 t d = aq1 V c t.val :=
  (Persist.before_idle (dat1 V c) 8 (fun _ _ => rfl) (fun _ => rfl) (fun t hi => by
    have h4 := (idle1_8 t).mp hi
    obtain ⟨t', ht'⟩ := pred1 t (by omega)
    have hl := lt1 t
    exact ⟨t', ht', by rw [after1_8, after1_8]; unfold aq1; rw [show min t.val 3 = 3 by omega, show min t'.val 3 = 3 by omega],
      noflush1_8 t' (by omega) (by omega)⟩) _ t rfl ((idle1_8 t).mpr h) d).trans (after1_8 V c t)
theorem found1_9 (c : Dev nD) (t : Fin cfg1.N) (h : ¬ t.val = 0) (d) : (dat1 V c).before 9 t d = sa1 V c :=
  (Persist.before_idle (dat1 V c) 9 (fun _ _ => rfl) (fun _ => rfl) (fun t hi => by
    obtain ⟨t', ht'⟩ := pred1 t ((idle1_9 t).mp hi)
    exact ⟨t', ht', by rw [after1_9, after1_9], noflush1_9 t' t ht'⟩) _ t rfl ((idle1_9 t).mpr h) d).trans (after1_9 V c t)
theorem found1_10 (c : Dev nD) (t : Fin cfg1.N) (n : ℕ) (hn : t.val = n + 1) (d) : (dat1 V c).before 10 t d = loss1 V c n := by
  obtain ⟨t', ht'⟩ := pred1 t (by omega)
  refine (Persist.before_next (dat1 V c) 10 (fun _ _ => rfl) (fun _ => rfl) (fun t hi => by
    have h := (idle1_10 t).mp hi
    obtain ⟨t', ht'⟩ := pred1 t h.1
    exact ⟨t', ht', by rw [after1_10, after1_10]; exact loss1_kept V c t'.val t.val ht'.symm h.2, noflush1_10 t' t ht'⟩)
    t t' ht' (noflush1_10 t' t ht') d).trans ?_
  rw [after1_10, show t'.val = n by omega]

/-- The offsets of a point's block in the kernel's own buffer. -/
theorem off1_2 (t : Fin cfg1.N) : k1_off2 (grid1.coords t) = ![t.val % 4, 0, 0] := by
  have e1 : (grid1.coords t 1).val = t.val / 1 % 4 := Pipeline.Grid.coords_val t 1 (by decide) rfl
  rw [k1_off2_eq, e1, Nat.div_one]
theorem off1_1 (t : Fin cfg1.N) : k1_off1 (grid1.coords t) = ![t.val % 4, 0, 0] := by
  have e1 : (grid1.coords t 1).val = t.val / 1 % 4 := Pipeline.Grid.coords_val t 1 (by decide) rfl
  rw [k1_off1_eq, e1, Nat.div_one]

/-- After all four blocks are stored, the block a point reads is the one stored for it. -/
theorem block_read1 (c : Dev nD) (t : Fin cfg1.N) (X : Vec F S4x256x2048 .bf16) (h4 : ¬ t.val < 4)
    (hX : ∀ k, k < 4 → k < t.val → VecWindow.window X (k1_off2 (grid1.coords (pt1 k))) S1x256x2048.size (k1_off2_inb (grid1.coords (pt1 k))) = pb1 V c k) :
    VecWindow.window X (k1_off2 (grid1.coords t)) S1x256x2048.size (k1_off2_inb (grid1.coords t)) = pb1 V c (t.val % 4) := by
  have e : k1_off2 (grid1.coords t) = k1_off2 (grid1.coords (pt1 (t.val % 4))) := by
    rw [off1_2, off1_2, show (pt1 (t.val % 4)).val = t.val % 4 from Nat.mod_eq_of_lt (by omega), Nat.mod_mod]
  have h := hX (t.val % 4) (by omega) (by omega)
  rw [← h]
  exact Persist.window_congr X e _ _

/-- Storing a point's block keeps the blocks stored before it. -/
theorem block_stored1 (c : Dev nD) (t : Fin cfg1.N) (X : Vec F S4x256x2048 .bf16) (w : Vec F S1x256x2048 .bf16) (h4 : t.val < 4)
    (hw : w = pb1 V c (t.val % 4))
    (hX : ∀ k, k < 4 → k < t.val → VecWindow.window X (k1_off2 (grid1.coords (pt1 k))) S1x256x2048.size (k1_off2_inb (grid1.coords (pt1 k))) = pb1 V c k) :
    ∀ k, k < 4 → k < t.val + 1 → VecWindow.window (VecWindow.put X (k1_off1 (grid1.coords t)) S1x256x2048.size w)
      (k1_off2 (grid1.coords (pt1 k))) S1x256x2048.size (k1_off2_inb (grid1.coords (pt1 k))) = pb1 V c k := by
  intro k hk hkt
  by_cases e : k = t.val
  · subst e
    have e : k1_off2 (grid1.coords (pt1 t.val)) = k1_off1 (grid1.coords t) := by rw [pt1_val, off1_2, off1_1]
    have h1 := Persist.window_congr (VecWindow.put X (k1_off1 (grid1.coords t)) S1x256x2048.size w) e
      (k1_off2_inb _) (k1_off1_inb _ ((cond1_2 t).mpr h4))
    have h2 : pb1 V c t.val = w := by rw [hw, Nat.mod_eq_of_lt h4]
    rw [h2]
    exact h1.trans (VecWindow.window_put_same X _ _ _ w)
  · refine (VecWindow.window_put_of_disjoint X _ _ _ _ _ w 0 ?_).trans (hX k hk (by omega))
    rw [off1_1, off1_2]
    show k % 32 % 4 + 1 ≤ t.val % 4 ∨ t.val % 4 + 1 ≤ k % 32 % 4
    omega

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

end Cert.Kernel.Own

end
-- ==== Proof.Kernel.Row1.lean ====
/- The row of the down kernel's block buffer that a grid point has just stored. -/
module

public import proofs.«01_k».proof.Proof.Gen.Kernel.Launch
public import proofs.«01_k».proof.Proof.Gen.Kernel.Skeleton
public import proofs.«01_k».proof.Proof.Gen.Kernel.Points
public import proofs.«01_k».proof.Proof.Lib.Whole
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of the row just stored reads what was stored. -/
theorem readCov_row (v : View sig .tc .vmem S4x256x2048 .bf16) (i : grid1.Coords) (h : k1_cond2 i = 1#1)
    (w : Vec F S1x256x2048 .bf16) :
    v.readCov [(⟨Rect.unit (s := S4x256x2048) (k1_off1 i) (no_index S1x256x2048.size) (k1_off1_inb i h), w⟩ : View.Piece (Elt F) S4x256x2048 .bf16)]
      (Rect.unit (s := S4x256x2048) (k1_off2 i) (no_index S1x256x2048.size) (k1_off2_inb i)).toLoadRect = w :=
  Whole.readCov_part v (k1_off2_inb i) (k1_off1_inb i h) w [] rfl

end Cert.Kernel.Own

end
-- ==== Proof.Kernel.Run1A.lean ====
/- The body of the down kernel, run once, in the cases of its conditions (part AB). -/
module

public import proofs.«01_k».proof.Proof.Gen.Kernel.Launch
public import proofs.«01_k».proof.Proof.Gen.Kernel.Skeleton
public import proofs.«01_k».proof.Proof.Gen.Kernel.Points
public import proofs.«01_k».proof.Proof.Lib.Whole
public import proofs.«01_k».proof.Proof.Kernel.Row1
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first grid point. -/
theorem run1_A (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2048x256 .i8) (harg7 : arg7.IsWhole) (arg8 : Memref sig .tc .vmem S32x256 .f32) (harg8 : arg8.IsWhole) (arg9 : Memref sig .tc .vmem S2048x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S4x256x2048 .bf16) (harg15 : arg15.IsWhole) (arg16 : Memref sig .tc .vmem S256x256 .f32) (harg16 : arg16.IsWhole)
    (hc1 : k1_cond1 i = 1#1) (hc2 : k1_cond2 i = 1#1) (hc3 : (Scalar.cmpi .ne (Scalar.extui (Scalar.cmpi .eq (BitVec.ofNat 32 (i 1).val) 0#32) : BitVec 32) 0#32 = 1#1)) (hc4 : ¬ k1_cond4 i = 1#1)
    (x0 : Vec F S256x2048 .f32) (x1 : Vec F S256x2048 .f32) (x2 : Vec F S256x1 .f32) (x3 : Vec F S256x256 .bf16) (x4 : Vec F S256x256 .bf16) (x5 : Vec F S2048x256 .i8) (x6 : Vec F S32x256 .f32) (x7 : Vec F S2048x256 .f32) (x11 : Vec F S256x256 .bf16) (x12 : Vec F S256x256 .bf16) (x13 : Vec F S4x256x2048 .bf16) :
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x11 ∗ owns (c : Thread nD τ) arg14 fullShare x12 ∗ owns (c : Thread nD τ) arg15 fullShare x13 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay11 x2 x0 x1 : Vec F S256x2048 .i8) ∗ owns (c : Thread nD τ) arg11 fullShare (k1_pay8 x2 : Vec F S256x1 .f32) ∗ owns (c : Thread nD τ) arg12 fullShare (k1_pay9 : Vec F S256x1 .f32) ∗ owns (c : Thread nD τ) arg13 fullShare x11 ∗ owns (c : Thread nD τ) arg14 fullShare x12 ∗ owns (c : Thread nD τ) arg15 fullShare (VecWindow.put x13 (k1_off1 i) S1x256x2048.size (k1_pay12 x2 x0 x1) : Vec F S4x256x2048 .bf16) ∗ owns (c : Thread nD τ) arg16 fullShare (k1_pay1 k1_pay13 (k1_pay14 (k1_pay12 x2 x0 x1)) x5 x6 (k1_pay15 x7) : Vec F S256x256 .f32)) -∗ Q ⟨⟩))
          ⊢ wp frame (wpE (defs₀ (F := F)) Variants.none c none) E (cc1_down i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    intro E Q
    simp only [cc1_down_eq_skeleton]; unfold cc1_down_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hf11; obtain rfl := harg14.eq_unread hf12; obtain rfl := harg15.eq_unread hf13
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      simp only [Whole.read_writes, Whole.readAt_writes, Whole.readCov, Whole.readAt_unread, Whole.read_writes_part, readCov_row, Whole.readAt_part_unread]
    isplitl [H9]
    · iexists _; isplitr; swap; · iexact H9
      ipureintro
      simp only [Whole.read_writes, Whole.readAt_writes, Whole.readCov, Whole.readAt_unread, Whole.read_writes_part, readCov_row, Whole.readAt_part_unread]
    isplitl [H10]
    · iexists _; isplitr; swap; · iexact H10
      ipureintro
      simp only [Whole.read_writes, Whole.readAt_writes, Whole.readCov, Whole.readAt_unread, Whole.read_writes_part, readCov_row, Whole.readAt_part_unread]
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro
      unfold run1_A.sl.H13_1
      simp only [Whole.read_writes, Whole.readAt_writes, Whole.readCov, Whole.readAt_unread, Whole.read_writes_part, readCov_row, Whole.readAt_part_unread]
    iexists _; isplitr; swap; · iexact H14
    ipureintro
    unfold run1_A.sl.r_4 run1_A.sl.r_3 run1_A.sl.r_2 run1_A.sl.r_1 run1_A.sl.v21 run1_A.sl.v19 run1_A.sl.H13_1 run1_A.sl.H14_1
    simp only [Whole.read_writes, Whole.readAt_writes, Whole.readCov, Whole.readAt_unread, Whole.read_writes_part, readCov_row, Whole.readAt_part_unread]
    exact congrArg (fun z : Vec F S1x256x2048 .bf16 => k1_pay1 k1_pay13 (k1_pay14 z) x5 x6 (k1_pay15 x7)) (readCov_row _ i hc2 _)

set_option maxHeartbeats 4000000 in
/-- At a middle point of the first column block. -/
theorem run1_B (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2048x256 .i8) (harg7 : arg7.IsWhole) (arg8 : Memref sig .tc .vmem S32x256 .f32) (harg8 : arg8.IsWhole) (arg9 : Memref sig .tc .vmem S2048x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S4x256x2048 .bf16) (harg15 : arg15.IsWhole) (arg16 : Memref sig .tc .vmem S256x256 .f32) (harg16 : arg16.IsWhole)
    (hc1 : ¬ k1_cond1 i = 1#1) (hc2 : k1_cond2 i = 1#1) (hc3 : ¬ (Scalar.cmpi .ne (Scalar.extui (Scalar.cmpi .eq (BitVec.ofNat 32 (i 1).val) 0#32) : BitVec 32) 0#32 = 1#1)) (hc4 : ¬ k1_cond4 i = 1#1)
    (x0 : Vec F S256x2048 .f32) (x1 : Vec F S256x2048 .f32) (x2 : Vec F S256x1 .f32) (x3 : Vec F S256x256 .bf16) (x4 : Vec F S256x256 .bf16) (x5 : Vec F S2048x256 .i8) (x6 : Vec F S32x256 .f32) (x7 : Vec F S2048x256 .f32) (x9 : Vec F S256x1 .f32) (x10 : Vec F S256x1 .f32) (x11 : Vec F S256x256 .bf16) (x12 : Vec F S256x256 .bf16) (x13 : Vec F S4x256x2048 .bf16) (x14 : Vec F S256x256 .f32) :
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay11 x2 x0 x1 : Vec F S256x2048 .i8) ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (VecWindow.put x13 (k1_off1 i) S1x256x2048.size (k1_pay12 x2 x0 x1) : Vec F S4x256x2048 .bf16) ∗ owns (c : Thread nD τ) arg16 fullShare (k1_pay1 x14 (k1_pay14 (k1_pay12 x2 x0 x1)) x5 x6 (k1_pay15 x7) : Vec F S256x256 .f32)) -∗ Q ⟨⟩))
          ⊢ wp frame (wpE (defs₀ (F := F)) Variants.none c none) E (cc1_down i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    intro E Q
    simp only [cc1_down_eq_skeleton]; unfold cc1_down_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      simp only [Whole.read_writes, Whole.readAt_writes, Whole.readCov, Whole.readAt_unread, Whole.read_writes_part, readCov_row, Whole.readAt_part_unread]
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro
      unfold run1_B.sl.H13_1
      simp only [Whole.read_writes, Whole.readAt_writes, Whole.readCov, Whole.readAt_unread, Whole.read_writes_part, readCov_row, Whole.readAt_part_unread]
    iexists _; isplitr; swap; · iexact H14
    ipureintro
    unfold run1_B.sl.r_5 run1_B.sl.r_4 run1_B.sl.r_3 run1_B.sl.r_2 run1_B.sl.r_1 run1_B.sl.v21 run1_B.sl.H13_1
    simp only [Whole.read_writes, Whole.readAt_writes, Whole.readCov, Whole.readAt_unread, Whole.read_writes_part, readCov_row, Whole.readAt_part_unread]
    exact congrArg (fun z : Vec F S1x256x2048 .bf16 => k1_pay1 x14 (k1_pay14 z) x5 x6 (k1_pay15 x7)) (readCov_row _ i hc2 _)

end Cert.Kernel.Own

end
-- ==== Proof.Kernel.Run1C.lean ====
/- The body of the down kernel, run once, in the cases of its conditions (part CD). -/
module

public import proofs.«01_k».proof.Proof.Gen.Kernel.Launch
public import proofs.«01_k».proof.Proof.Gen.Kernel.Skeleton
public import proofs.«01_k».proof.Proof.Gen.Kernel.Points
public import proofs.«01_k».proof.Proof.Lib.Whole
public import proofs.«01_k».proof.Proof.Kernel.Row1
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last point of the first column block. -/
theorem run1_C (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2048x256 .i8) (harg7 : arg7.IsWhole) (arg8 : Memref sig .tc .vmem S32x256 .f32) (harg8 : arg8.IsWhole) (arg9 : Memref sig .tc .vmem S2048x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S4x256x2048 .bf16) (harg15 : arg15.IsWhole) (arg16 : Memref sig .tc .vmem S256x256 .f32) (harg16 : arg16.IsWhole)
    (hc1 : ¬ k1_cond1 i = 1#1) (hc2 : k1_cond2 i = 1#1) (hc3 : ¬ (Scalar.cmpi .ne (Scalar.extui (Scalar.cmpi .eq (BitVec.ofNat 32 (i 1).val) 0#32) : BitVec 32) 0#32 = 1#1)) (hc4 : k1_cond4 i = 1#1)
    (x0 : Vec F S256x2048 .f32) (x1 : Vec F S256x2048 .f32) (x2 : Vec F S256x1 .f32) (x3 : Vec F S256x256 .bf16) (x4 : Vec F S256x256 .bf16) (x5 : Vec F S2048x256 .i8) (x6 : Vec F S32x256 .f32) (x7 : Vec F S2048x256 .f32) (x9 : Vec F S256x1 .f32) (x10 : Vec F S256x1 .f32) (x13 : Vec F S4x256x2048 .bf16) (x14 : Vec F S256x256 .f32) :
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg15 fullShare x13 ∗ owns (c : Thread nD τ) arg16 fullShare x14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay11 x2 x0 x1 : Vec F S256x2048 .i8) ∗ owns (c : Thread nD τ) arg11 fullShare x9 ∗ owns (c : Thread nD τ) arg12 fullShare (k1_pay4 (k1_pay8 x2) (k1_pay1 x14 (k1_pay14 (k1_pay12 x2 x0 x1)) x5 x6 (k1_pay15 x7)) x3 x4 x10 : Vec F S256x1 .f32) ∗ owns (c : Thread nD τ) arg13 fullShare (k1_pay6 (k1_pay8 x2) (k1_pay1 x14 (k1_pay14 (k1_pay12 x2 x0 x1)) x5 x6 (k1_pay15 x7)) x3 x4 : Vec F S256x256 .bf16) ∗ owns (c : Thread nD τ) arg14 fullShare (k1_pay7 (k1_pay8 x2) (k1_pay1 x14 (k1_pay14 (k1_pay12 x2 x0 x1)) x5 x6 (k1_pay15 x7)) x3 x4 : Vec F S256x256 .bf16) ∗ owns (c : Thread nD τ) arg15 fullShare (VecWindow.put x13 (k1_off1 i) S1x256x2048.size (k1_pay12 x2 x0 x1) : Vec F S4x256x2048 .bf16) ∗ owns (c : Thread nD τ) arg16 fullShare (k1_pay1 x14 (k1_pay14 (k1_pay12 x2 x0 x1)) x5 x6 (k1_pay15 x7) : Vec F S256x256 .f32)) -∗ Q ⟨⟩))
          ⊢ wp frame (wpE (defs₀ (F := F)) Variants.none c none) E (cc1_down i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    intro E Q
    simp only [cc1_down_eq_skeleton]; unfold cc1_down_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg15.eq_unread hf13; obtain rfl := harg16.eq_unread hf14
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      simp only [Whole.read_writes, Whole.readAt_writes, Whole.readCov, Whole.readAt_unread, Whole.read_writes_part, readCov_row, Whole.readAt_part_unread]
    isplitl [H9]
    · iexists _; isplitr; · ipureintro; exact harg11.read_unread _
      iexact H9
    isplitl [H10]
    · iexists _; isplitr; swap; · iexact H10
      ipureintro
      unfold run1_C.sl.r run1_C.sl.v60 run1_C.sl.H14_1 run1_C.sl.r_5 run1_C.sl.r_4 run1_C.sl.r_3 run1_C.sl.r_2 run1_C.sl.r_1 run1_C.sl.v21 run1_C.sl.H13_1
      simp only [Whole.read_writes, Whole.readAt_writes, Whole.readCov, Whole.readAt_unread, Whole.read_writes_part, readCov_row, Whole.readAt_part_unread]
      exact congrArg (fun z : Vec F S1x256x2048 .bf16 => k1_pay4 (k1_pay8 x2) (k1_pay1 x14 (k1_pay14 z) x5 x6 (k1_pay15 x7)) x3 x4 x10) (readCov_row _ i hc2 _)
    isplitl [H11]
    · iexists _; isplitr; swap; · iexact H11
      ipureintro
      unfold run1_C.sl.r run1_C.sl.v60 run1_C.sl.H14_1 run1_C.sl.r_5 run1_C.sl.r_4 run1_C.sl.r_3 run1_C.sl.r_2 run1_C.sl.r_1 run1_C.sl.v21 run1_C.sl.H13_1
      simp only [Whole.read_writes, Whole.readAt_writes, Whole.readCov, Whole.readAt_unread, Whole.read_writes_part, readCov_row, Whole.readAt_part_unread]
      exact congrArg (fun z : Vec F S1x256x2048 .bf16 => k1_pay6 (k1_pay8 x2) (k1_pay1 x14 (k1_pay14 z) x5 x6 (k1_pay15 x7)) x3 x4) (readCov_row _ i hc2 _)
    isplitl [H12]
    · iexists _; isplitr; swap; · iexact H12
      ipureintro
      unfold run1_C.sl.r run1_C.sl.v60 run1_C.sl.H14_1 run1_C.sl.r_5 run1_C.sl.r_4 run1_C.sl.r_3 run1_C.sl.r_2 run1_C.sl.r_1 run1_C.sl.v21 run1_C.sl.H13_1
      simp only [Whole.read_writes, Whole.readAt_writes, Whole.readCov, Whole.readAt_unread, Whole.read_writes_part, readCov_row, Whole.readAt_part_unread]
      exact congrArg (fun z : Vec F S1x256x2048 .bf16 => k1_pay7 (k1_pay8 x2) (k1_pay1 x14 (k1_pay14 z) x5 x6 (k1_pay15 x7)) x3 x4) (readCov_row _ i hc2 _)
    isplitl [H13]
    · iexists _; isplitr; swap; · iexact H13
      ipureintro
      unfold run1_C.sl.H13_1
      simp only [Whole.read_writes, Whole.readAt_writes, Whole.readCov, Whole.readAt_unread, Whole.read_writes_part, readCov_row, Whole.readAt_part_unread]
    iexists _; isplitr; swap; · iexact H14
    ipureintro
    unfold run1_C.sl.H14_1 run1_C.sl.r_5 run1_C.sl.r_4 run1_C.sl.r_3 run1_C.sl.r_2 run1_C.sl.r_1 run1_C.sl.v21 run1_C.sl.H13_1
    simp only [Whole.read_writes, Whole.readAt_writes, Whole.readCov, Whole.readAt_unread, Whole.read_writes_part, readCov_row, Whole.readAt_part_unread]
    exact congrArg (fun z : Vec F S1x256x2048 .bf16 => k1_pay1 x14 (k1_pay14 z) x5 x6 (k1_pay15 x7)) (readCov_row _ i hc2 _)

set_option maxHeartbeats 4000000 in
/-- At the first point of a later column block. -/
theorem run1_D (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2048x256 .i8) (harg7 : arg7.IsWhole) (arg8 : Memref sig .tc .vmem S32x256 .f32) (harg8 : arg8.IsWhole) (arg9 : Memref sig .tc .vmem S2048x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S4x256x2048 .bf16) (harg15 : arg15.IsWhole) (arg16 : Memref sig .tc .vmem S256x256 .f32) (harg16 : arg16.IsWhole)
    (hc1 : ¬ k1_cond1 i = 1#1) (hc2 : ¬ k1_cond2 i = 1#1) (hc3 : (Scalar.cmpi .ne (Scalar.extui (Scalar.cmpi .eq (BitVec.ofNat 32 (i 1).val) 0#32) : BitVec 32) 0#32 = 1#1)) (hc4 : ¬ k1_cond4 i = 1#1)
    (x0 : Vec F S256x2048 .f32) (x1 : Vec F S256x2048 .f32) (x2 : Vec F S256x1 .f32) (x3 : Vec F S256x256 .bf16) (x4 : Vec F S256x256 .bf16) (x5 : Vec F S2048x256 .i8) (x6 : Vec F S32x256 .f32) (x7 : Vec F S2048x256 .f32) (x8 : Vec F S256x2048 .i8) (x9 : Vec F S256x1 .f32) (x10 : Vec F S256x1 .f32) (x11 : Vec F S256x256 .bf16) (x12 : Vec F S256x256 .bf16) (x13 : Vec F S4x256x2048 .bf16) :
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k1_pay1 k1_pay13 (k1_pay14 (VecWindow.window x13 (k1_off2 i) S1x256x2048.size (k1_off2_inb i))) x5 x6 (k1_pay15 x7) : Vec F S256x256 .f32)) -∗ Q ⟨⟩))
          ⊢ wp frame (wpE (defs₀ (F := F)) Variants.none c none) E (cc1_down i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    intro E Q
    simp only [cc1_down_eq_skeleton]; unfold cc1_down_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    iexists _; isplitr; swap; · iexact H14
    ipureintro
    unfold run1_D.sl.r_4 run1_D.sl.r_3 run1_D.sl.r_2 run1_D.sl.r_1 run1_D.sl.v19 run1_D.sl.H14_1
    simp only [Whole.read_writes, Whole.readAt_writes, Whole.readCov, Whole.readAt_unread, Whole.read_writes_part, readCov_row, Whole.readAt_part_unread]

end Cert.Kernel.Own

end
-- ==== Proof.Kernel.Run1E.lean ====
/- The body of the down kernel, run once, in the cases of its conditions (part EG). -/
module

public import proofs.«01_k».proof.Proof.Gen.Kernel.Launch
public import proofs.«01_k».proof.Proof.Gen.Kernel.Skeleton
public import proofs.«01_k».proof.Proof.Gen.Kernel.Points
public import proofs.«01_k».proof.Proof.Lib.Whole
public import proofs.«01_k».proof.Proof.Kernel.Row1
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle point of a later column block. -/
theorem run1_E (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2048x256 .i8) (harg7 : arg7.IsWhole) (arg8 : Memref sig .tc .vmem S32x256 .f32) (harg8 : arg8.IsWhole) (arg9 : Memref sig .tc .vmem S2048x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S4x256x2048 .bf16) (harg15 : arg15.IsWhole) (arg16 : Memref sig .tc .vmem S256x256 .f32) (harg16 : arg16.IsWhole)
    (hc1 : ¬ k1_cond1 i = 1#1) (hc2 : ¬ k1_cond2 i = 1#1) (hc3 : ¬ (Scalar.cmpi .ne (Scalar.extui (Scalar.cmpi .eq (BitVec.ofNat 32 (i 1).val) 0#32) : BitVec 32) 0#32 = 1#1)) (hc4 : ¬ k1_cond4 i = 1#1)
    (x0 : Vec F S256x2048 .f32) (x1 : Vec F S256x2048 .f32) (x2 : Vec F S256x1 .f32) (x3 : Vec F S256x256 .bf16) (x4 : Vec F S256x256 .bf16) (x5 : Vec F S2048x256 .i8) (x6 : Vec F S32x256 .f32) (x7 : Vec F S2048x256 .f32) (x8 : Vec F S256x2048 .i8) (x9 : Vec F S256x1 .f32) (x10 : Vec F S256x1 .f32) (x11 : Vec F S256x256 .bf16) (x12 : Vec F S256x256 .bf16) (x13 : Vec F S4x256x2048 .bf16) (x14 : Vec F S256x256 .f32) :
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k1_pay1 x14 (k1_pay14 (VecWindow.window x13 (k1_off2 i) S1x256x2048.size (k1_off2_inb i))) x5 x6 (k1_pay15 x7) : Vec F S256x256 .f32)) -∗ Q ⟨⟩))
          ⊢ wp frame (wpE (defs₀ (F := F)) Variants.none c none) E (cc1_down i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    intro E Q
    simp only [cc1_down_eq_skeleton]; unfold cc1_down_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    iexists _; isplitr; swap; · iexact H14
    ipureintro
    unfold run1_E.sl.r_5 run1_E.sl.r_4 run1_E.sl.r_3 run1_E.sl.r_2 run1_E.sl.r_1
    simp only [Whole.read_writes, Whole.readAt_writes, Whole.readCov, Whole.readAt_unread, Whole.read_writes_part, readCov_row, Whole.readAt_part_unread]

set_option maxHeartbeats 4000000 in
/-- At the last point of a later column block. -/
theorem run1_G (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2048x256 .i8) (harg7 : arg7.IsWhole) (arg8 : Memref sig .tc .vmem S32x256 .f32) (harg8 : arg8.IsWhole) (arg9 : Memref sig .tc .vmem S2048x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S4x256x2048 .bf16) (harg15 : arg15.IsWhole) (arg16 : Memref sig .tc .vmem S256x256 .f32) (harg16 : arg16.IsWhole)
    (hc1 : ¬ k1_cond1 i = 1#1) (hc2 : ¬ k1_cond2 i = 1#1) (hc3 : ¬ (Scalar.cmpi .ne (Scalar.extui (Scalar.cmpi .eq (BitVec.ofNat 32 (i 1).val) 0#32) : BitVec 32) 0#32 = 1#1)) (hc4 : k1_cond4 i = 1#1)
    (x0 : Vec F S256x2048 .f32) (x1 : Vec F S256x2048 .f32) (x2 : Vec F S256x1 .f32) (x3 : Vec F S256x256 .bf16) (x4 : Vec F S256x256 .bf16) (x5 : Vec F S2048x256 .i8) (x6 : Vec F S32x256 .f32) (x7 : Vec F S2048x256 .f32) (x8 : Vec F S256x2048 .i8) (x9 : Vec F S256x1 .f32) (x10 : Vec F S256x1 .f32) (x13 : Vec F S4x256x2048 .bf16) (x14 : Vec F S256x256 .f32) :
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg15 fullShare x13 ∗ owns (c : Thread nD τ) arg16 fullShare x14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k1_pay4 (k1_pay8 x2) (k1_pay1 x14 (k1_pay14 (VecWindow.window x13 (k1_off2 i) S1x256x2048.size (k1_off2_inb i))) x5 x6 (k1_pay15 x7)) x3 x4 x10 : Vec F S256x1 .f32) ∗ owns (c : Thread nD τ) arg13 fullShare (k1_pay6 (k1_pay8 x2) (k1_pay1 x14 (k1_pay14 (VecWindow.window x13 (k1_off2 i) S1x256x2048.size (k1_off2_inb i))) x5 x6 (k1_pay15 x7)) x3 x4 : Vec F S256x256 .bf16) ∗ owns (c : Thread nD τ) arg14 fullShare (k1_pay7 (k1_pay8 x2) (k1_pay1 x14 (k1_pay14 (VecWindow.window x13 (k1_off2 i) S1x256x2048.size (k1_off2_inb i))) x5 x6 (k1_pay15 x7)) x3 x4 : Vec F S256x256 .bf16) ∗ owns (c : Thread nD τ) arg15 fullShare x13 ∗ owns (c : Thread nD τ) arg16 fullShare (k1_pay1 x14 (k1_pay14 (VecWindow.window x13 (k1_off2 i) S1x256x2048.size (k1_off2_inb i))) x5 x6 (k1_pay15 x7) : Vec F S256x256 .f32)) -∗ Q ⟨⟩))
          ⊢ wp frame (wpE (defs₀ (F := F)) Variants.none c none) E (cc1_down i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    intro E Q
    simp only [cc1_down_eq_skeleton]; unfold cc1_down_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg15.eq_unread hf13; obtain rfl := harg16.eq_unread hf14
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro
      unfold run1_G.sl.r run1_G.sl.v60 run1_G.sl.H14_1 run1_G.sl.r_5 run1_G.sl.r_4 run1_G.sl.r_3 run1_G.sl.r_2 run1_G.sl.r_1
      simp only [Whole.read_writes, Whole.readAt_writes, Whole.readCov, Whole.readAt_unread, Whole.read_writes_part, readCov_row, Whole.readAt_part_unread]
    isplitl [H11]
    · iexists _; isplitr; swap; · iexact H11
      ipureintro
      unfold run1_G.sl.r run1_G.sl.v60 run1_G.sl.H14_1 run1_G.sl.r_5 run1_G.sl.r_4 run1_G.sl.r_3 run1_G.sl.r_2 run1_G.sl.r_1
      simp only [Whole.read_writes, Whole.readAt_writes, Whole.readCov, Whole.readAt_unread, Whole.read_writes_part, readCov_row, Whole.readAt_part_unread]
    isplitl [H12]
    · iexists _; isplitr; swap; · iexact H12
      ipureintro
      unfold run1_G.sl.r run1_G.sl.v60 run1_G.sl.H14_1 run1_G.sl.r_5 run1_G.sl.r_4 run1_G.sl.r_3 run1_G.sl.r_2 run1_G.sl.r_1
      simp only [Whole.read_writes, Whole.readAt_writes, Whole.readCov, Whole.readAt_unread, Whole.read_writes_part, readCov_row, Whole.readAt_part_unread]
    isplitl [H13]
    · iexists _; isplitr; · ipureintro; exact harg15.read_unread _
      iexact H13
    iexists _; isplitr; swap; · iexact H14
    ipureintro
    unfold run1_G.sl.H14_1 run1_G.sl.r_5 run1_G.sl.r_4 run1_G.sl.r_3 run1_G.sl.r_2 run1_G.sl.r_1
    simp only [Whole.read_writes, Whole.readAt_writes, Whole.readCov, Whole.readAt_unread, Whole.read_writes_part, readCov_row, Whole.readAt_part_unread]

end Cert.Kernel.Own

end
-- ==== Proof.Kernel.Region1.lean ====
/- The down kernel's body at every grid point, by the cases of its conditions. -/
module

public import proofs.«01_k».proof.Proof.Kernel.Dat1
public import proofs.«01_k».proof.Proof.Kernel.Run1A
public import proofs.«01_k».proof.Proof.Kernel.Run1C
public import proofs.«01_k».proof.Proof.Kernel.Run1E
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

set_option maxHeartbeats 4000000 in
theorem body1_A (c : Dev nD) (t : Fin cfg1.N) (h0 : t.val = 0) (h4 : t.val < 4) (hk : t.val % 4 = 0) (h3 : ¬ t.val % 4 = 3) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl, dat1_castSucc, dat1_succ]
  simp only [before1_0, before1_1, before1_2, before1_3, before1_4, before1_5, before1_6, before1_7]
  unfold Phi1
  have hN := lt1 t
  iintro ⟨⟨⟨%X, %hX, HS0⟩, ⟨%Y, %hY, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hab : (k1_pay12 (blk1 V c 2 t) (blk1 V c 0 t) (blk1 V c 1 t)) = pb1 V c (t.val % 4) := pb1_point V c t h4
  have eacc : k1_pay1 k1_pay13 (k1_pay14 (k1_pay12 (blk1 V c 2 t) (blk1 V c 0 t) (blk1 V c 1 t))) (blk1 V c 5 t) (blk1 V c 6 t) (k1_pay15 (blk1 V c 7 t)) = acc1 V c t.val := by
    rw [hab]; exact (acc1_first V c t hk).symm
  have e8 : k1_pay11 (blk1 V c 2 t) (blk1 V c 0 t) (blk1 V c 1 t) = (dat1 V c).after 8 t := by
    rw [after1_8]; unfold aq1; rw [show min t.val 3 = t.val by omega, pt1_val]
  have e9 : k1_pay8 (blk1 V c 2 t) = (dat1 V c).after 9 t := by
    rw [after1_9]; unfold sa1; rw [show pt1 0 = t from Fin.ext h0.symm]
  have e10 : k1_pay9 = (dat1 V c).after 10 t := by rw [after1_10, h0]; rfl
  have hl : t.val = 0 ∨ t.val % 4 = 3 := Or.inl h0
  iapply ((run1_A c (grid1.coords t) _ _ _ _ _ _ _ _ _ _ _ _ _ _ _ _ _ _ _ _ _ _ _ _ _ _ _ _ _ _ ((cond1_1 t).mpr h0) ((cond1_2 t).mpr h4) ((cond1_3 t).mpr hk) (fun h => h3 ((cond1_4 t).mp h)) (blk1 V c 0 t) (blk1 V c 1 t) (blk1 V c 2 t) (blk1 V c 3 t) (blk1 V c 4 t) (blk1 V c 5 t) (blk1 V c 6 t) (blk1 V c 7 t) ((dat1 V c).before 11 t d11) ((dat1 V c).before 12 t d12) X) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [HS0]; · iexact HS0
  isplitl [HS1]; · iexists _; iexact HS1
  iintro ⟨H0, H1, H2, H3, H4, H5, H6, H7, H8, H9, H10, H11, H12, HS0, HS1⟩
  isplitl [HS0 HS1 HR]
  · isplitl [HS0]
    · iexists _; isplitr; swap; · iexact HS0
      ipureintro; exact block_stored1 V c t X _ h4 hab hX
    isplitl [HS1]
    · iexists _; isplitr; swap; · iexact HS1
      ipureintro; intro m hm; obtain rfl : m = t.val := by omega
      exact eacc
    iexact HR
  isplitl [Ho]; · iexact Ho
  isplitl [H0]; · iapply (Persist.hand_live (dat1 V c) 0 t rfl (after1_0 V c t).symm); iexact H0
  isplitl [H1]; · iapply (Persist.hand_live (dat1 V c) 1 t rfl (after1_1 V c t).symm); iexact H1
  isplitl [H2]; · iapply (Persist.hand_live (dat1 V c) 2 t rfl (after1_2 V c t).symm); iexact H2
  isplitl [H3]; · iapply (Persist.hand_live (dat1 V c) 3 t rfl (after1_3 V c t).symm); iexact H3
  isplitl [H4]; · iapply (Persist.hand_live (dat1 V c) 4 t rfl (after1_4 V c t).symm); iexact H4
  isplitl [H5]; · iapply (Persist.hand_live (dat1 V c) 5 t rfl (after1_5 V c t).symm); iexact H5
  isplitl [H6]; · iapply (Persist.hand_live (dat1 V c) 6 t rfl (after1_6 V c t).symm); iexact H6
  isplitl [H7]; · iapply (Persist.hand_live (dat1 V c) 7 t rfl (after1_7 V c t).symm); iexact H7
  isplitl [H8]; · iapply (Persist.hand_live (dat1 V c) 8 t (live1_8 t h4) e8); iexact H8
  isplitl [H9]; · iapply (Persist.hand_live (dat1 V c) 9 t (live1_9 t h0) e9); iexact H9
  isplitl [H10]; · iapply (Persist.hand_live (dat1 V c) 10 t (live1_10 t hl) e10); iexact H10
  isplitl [H11]; · iapply (Persist.hand_found (dat1 V c) 11 t ((idle1_11 t).mpr h3) (noflush1_11 t h3) d11); iexact H11
  iapply (Persist.hand_found (dat1 V c) 12 t ((idle1_12 t).mpr h3) (noflush1_12 t h3) d12); iexact H12

set_option maxHeartbeats 4000000 in
theorem body1_B (c : Dev nD) (t : Fin cfg1.N) (h0 : ¬ t.val = 0) (h4 : t.val < 4) (hk : ¬ t.val % 4 = 0) (h3 : ¬ t.val % 4 = 3) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl, dat1_castSucc, dat1_succ]
  simp only [before1_0, before1_1, before1_2, before1_3, before1_4, before1_5, before1_6, before1_7]
  unfold Phi1
  have hN := lt1 t
  obtain ⟨n, hn⟩ : ∃ n, t.val = n + 1 := ⟨t.val - 1, by omega⟩
  simp only [found1_9 V c t h0, found1_10 V c t n hn]
  iintro ⟨⟨⟨%X, %hX, HS0⟩, ⟨%Y, %hY, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := hY n hn
  have hab : (k1_pay12 (blk1 V c 2 t) (blk1 V c 0 t) (blk1 V c 1 t)) = pb1 V c (t.val % 4) := pb1_point V c t h4
  have eacc : k1_pay1 (acc1 V c n) (k1_pay14 (k1_pay12 (blk1 V c 2 t) (blk1 V c 0 t) (blk1 V c 1 t))) (blk1 V c 5 t) (blk1 V c 6 t) (k1_pay15 (blk1 V c 7 t)) = acc1 V c t.val := by
    rw [hab]; exact (acc1_later V c t n hn hk).symm
  have e8 : k1_pay11 (blk1 V c 2 t) (blk1 V c 0 t) (blk1 V c 1 t) = (dat1 V c).after 8 t := by
    rw [after1_8]; unfold aq1; rw [show min t.val 3 = t.val by omega, pt1_val]
  iapply ((run1_B c (grid1.coords t) _ _ _ _ _ _ _ _ _ _ _ _ _ _ _ _ _ _ _ _ _ _ _ _ _ _ _ _ _ _ (fun h => h0 ((cond1_1 t).mp h)) ((cond1_2 t).mpr h4) (fun h => hk ((cond1_3 t).mp h)) (fun h => h3 ((cond1_4 t).mp h)) (blk1 V c 0 t) (blk1 V c 1 t) (blk1 V c 2 t) (blk1 V c 3 t) (blk1 V c 4 t) (blk1 V c 5 t) (blk1 V c 6 t) (blk1 V c 7 t) (sa1 V c) (loss1 V c n) ((dat1 V c).before 11 t d11) ((dat1 V c).before 12 t d12) X (acc1 V c n)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, H10, H11, H12, HS0, HS1⟩
  isplitl [HS0 HS1 HR]
  · isplitl [HS0]
    · iexists _; isplitr; swap; · iexact HS0
      ipureintro; exact block_stored1 V c t X _ h4 hab hX
    isplitl [HS1]
    · iexists _; isplitr; swap; · iexact HS1
      ipureintro; intro m hm; obtain rfl : m = t.val := by omega
      exact eacc
    iexact HR
  isplitl [Ho]; · iexact Ho
  isplitl [H0]; · iapply (Persist.hand_live (dat1 V c) 0 t rfl (after1_0 V c t).symm); iexact H0
  isplitl [H1]; · iapply (Persist.hand_live (dat1 V c) 1 t rfl (after1_1 V c t).symm); iexact H1
  isplitl [H2]; · iapply (Persist.hand_live (dat1 V c) 2 t rfl (after1_2 V c t).symm); iexact H2
  isplitl [H3]; · iapply (Persist.hand_live (dat1 V c) 3 t rfl (after1_3 V c t).symm); iexact H3
  isplitl [H4]; · iapply (Persist.hand_live (dat1 V c) 4 t rfl (after1_4 V c t).symm); iexact H4
  isplitl [H5]; · iapply (Persist.hand_live (dat1 V c) 5 t rfl (after1_5 V c t).symm); iexact H5
  isplitl [H6]; · iapply (Persist.hand_live (dat1 V c) 6 t rfl (after1_6 V c t).symm); iexact H6
  isplitl [H7]; · iapply (Persist.hand_live (dat1 V c) 7 t rfl (after1_7 V c t).symm); iexact H7
  isplitl [H8]; · iapply (Persist.hand_live (dat1 V c) 8 t (live1_8 t h4) e8); iexact H8
  isplitl [H9]; · iapply (Persist.hand_idle (dat1 V c) 9 t ((idle1_9 t).mpr h0) d9 (found1_9 V c t h0 d9) (after1_9 V c t).symm); iexact H9
  isplitl [H10]; · iapply (Persist.hand_idle (dat1 V c) 10 t ((idle1_10 t).mpr ⟨h0, h3⟩) d10 (found1_10 V c t n hn d10) ((loss1_kept V c n _ hn h3).symm.trans (after1_10 V c t).symm)); iexact H10
  isplitl [H11]; · iapply (Persist.hand_found (dat1 V c) 11 t ((idle1_11 t).mpr h3) (noflush1_11 t h3) d11); iexact H11
  iapply (Persist.hand_found (dat1 V c) 12 t ((idle1_12 t).mpr h3) (noflush1_12 t h3) d12); iexact H12

set_option maxHeartbeats 4000000 in
theorem body1_C (c : Dev nD) (t : Fin cfg1.N) (h0 : ¬ t.val = 0) (h4 : t.val < 4) (hk : ¬ t.val % 4 = 0) (h3 : t.val % 4 = 3) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl, dat1_castSucc, dat1_succ]
  simp only [before1_0, before1_1, before1_2, before1_3, before1_4, before1_5, before1_6, before1_7]
  unfold Phi1
  have hN := lt1 t
  obtain ⟨n, hn⟩ : ∃ n, t.val = n + 1 := ⟨t.val - 1, by omega⟩
  simp only [found1_9 V c t h0, found1_10 V c t n hn]
  iintro ⟨⟨⟨%X, %hX, HS0⟩, ⟨%Y, %hY, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := hY n hn
  have hab : (k1_pay12 (blk1 V c 2 t) (blk1 V c 0 t) (blk1 V c 1 t)) = pb1 V c (t.val % 4) := pb1_point V c t h4
  have eacc : k1_pay1 (acc1 V c n) (k1_pay14 (k1_pay12 (blk1 V c 2 t) (blk1 V c 0 t) (blk1 V c 1 t))) (blk1 V c 5 t) (blk1 V c 6 t) (k1_pay15 (blk1 V c 7 t)) = acc1 V c t.val := by
    rw [hab]; exact (acc1_later V c t n hn hk).symm
  have e8 : k1_pay11 (blk1 V c 2 t) (blk1 V c 0 t) (blk1 V c 1 t) = (dat1 V c).after 8 t := by
    rw [after1_8]; unfold aq1; rw [show min t.val 3 = t.val by omega, pt1_val]
  have e10 : k1_pay4 (k1_pay8 (blk1 V c 2 t)) (k1_pay1 (acc1 V c n) (k1_pay14 (k1_pay12 (blk1 V c 2 t) (blk1 V c 0 t) (blk1 V c 1 t))) (blk1 V c 5 t) (blk1 V c 6 t) (k1_pay15 (blk1 V c 7 t))) (blk1 V c 3 t) (blk1 V c 4 t) (loss1 V c n) = (dat1 V c).after 10 t := by
    rw [after1_10, eacc]; exact (loss1_last V c t n hn h3).symm
  have e11 : k1_pay6 (k1_pay8 (blk1 V c 2 t)) (k1_pay1 (acc1 V c n) (k1_pay14 (k1_pay12 (blk1 V c 2 t) (blk1 V c 0 t) (blk1 V c 1 t))) (blk1 V c 5 t) (blk1 V c 6 t) (k1_pay15 (blk1 V c 7 t))) (blk1 V c 3 t) (blk1 V c 4 t) = (dat1 V c).after 11 t := by
    rw [after1_11, eacc]; rfl
  have e12 : k1_pay7 (k1_pay8 (blk1 V c 2 t)) (k1_pay1 (acc1 V c n) (k1_pay14 (k1_pay12 (blk1 V c 2 t) (blk1 V c 0 t) (blk1 V c 1 t))) (blk1 V c 5 t) (blk1 V c 6 t) (k1_pay15 (blk1 V c 7 t))) (blk1 V c 3 t) (blk1 V c 4 t) = (dat1 V c).after 12 t := by
    rw [after1_12, eacc]; rfl
  have hl : t.val = 0 ∨ t.val % 4 = 3 := Or.inr h3
  iapply ((run1_C c (grid1.coords t) _ _ _ _ _ _ _ _ _ _ _ _ _ _ _ _ _ _ _ _ _ _ _ _ _ _ _ _ _ _ (fun h => h0 ((cond1_1 t).mp h)) ((cond1_2 t).mpr h4) (fun h => hk ((cond1_3 t).mp h)) ((cond1_4 t).mpr h3) (blk1 V c 0 t) (blk1 V c 1 t) (blk1 V c 2 t) (blk1 V c 3 t) (blk1 V c 4 t) (blk1 V c 5 t) (blk1 V c 6 t) (blk1 V c 7 t) (sa1 V c) (loss1 V c n) X (acc1 V c n)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 HR]
  · isplitl [HS0]
    · iexists _; isplitr; swap; · iexact HS0
      ipureintro; exact block_stored1 V c t X _ h4 hab hX
    isplitl [HS1]
    · iexists _; isplitr; swap; · iexact HS1
      ipureintro; intro m hm; obtain rfl : m = t.val := by omega
      exact eacc
    iexact HR
  isplitl [Ho]; · iexact Ho
  isplitl [H0]; · iapply (Persist.hand_live (dat1 V c) 0 t rfl (after1_0 V c t).symm); iexact H0
  isplitl [H1]; · iapply (Persist.hand_live (dat1 V c) 1 t rfl (after1_1 V c t).symm); iexact H1
  isplitl [H2]; · iapply (Persist.hand_live (dat1 V c) 2 t rfl (after1_2 V c t).symm); iexact H2
  isplitl [H3]; · iapply (Persist.hand_live (dat1 V c) 3 t rfl (after1_3 V c t).symm); iexact H3
  isplitl [H4]; · iapply (Persist.hand_live (dat1 V c) 4 t rfl (after1_4 V c t).symm); iexact H4
  isplitl [H5]; · iapply (Persist.hand_live (dat1 V c) 5 t rfl (after1_5 V c t).symm); iexact H5
  isplitl [H6]; · iapply (Persist.hand_live (dat1 V c) 6 t rfl (after1_6 V c t).symm); iexact H6
  isplitl [H7]; · iapply (Persist.hand_live (dat1 V c) 7 t rfl (after1_7 V c t).symm); iexact H7
  isplitl [H8]; · iapply (Persist.hand_live (dat1 V c) 8 t (live1_8 t h4) e8); iexact H8
  isplitl [H9]; · iapply (Persist.hand_idle (dat1 V c) 9 t ((idle1_9 t).mpr h0) d9 (found1_9 V c t h0 d9) (after1_9 V c t).symm); iexact H9
  isplitl [H10]; · iapply (Persist.hand_live (dat1 V c) 10 t (live1_10 t hl) e10); iexact H10
  isplitl [H11]; · iapply (Persist.hand_live (dat1 V c) 11 t (live1_11 t h3) e11); iexact H11
  iapply (Persist.hand_live (dat1 V c) 12 t (live1_12 t h3) e12); iexact H12

set_option maxHeartbeats 4000000 in
theorem body1_D (c : Dev nD) (t : Fin cfg1.N) (h0 : ¬ t.val = 0) (h4 : ¬ t.val < 4) (hk : t.val % 4 = 0) (h3 : ¬ t.val % 4 = 3) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl, dat1_castSucc, dat1_succ]
  simp only [before1_0, before1_1, before1_2, before1_3, before1_4, before1_5, before1_6, before1_7]
  unfold Phi1
  have hN := lt1 t
  obtain ⟨n, hn⟩ : ∃ n, t.val = n + 1 := ⟨t.val - 1, by omega⟩
  simp only [found1_8 V c t h4, found1_9 V c t h0, found1_10 V c t n hn]
  iintro ⟨⟨⟨%X, %hX, HS0⟩, ⟨%Y, %hY, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := hY n hn
  have hab : (VecWindow.window X (k1_off2 (grid1.coords t)) S1x256x2048.size (k1_off2_inb (grid1.coords t))) = pb1 V c (t.val % 4) := block_read1 V c t X h4 hX
  have eacc : k1_pay1 k1_pay13 (k1_pay14 (VecWindow.window X (k1_off2 (grid1.coords t)) S1x256x2048.size (k1_off2_inb (grid1.coords t)))) (blk1 V c 5 t) (blk1 V c 6 t) (k1_pay15 (blk1 V c 7 t)) = acc1 V c t.val := by
    rw [hab]; exact (acc1_first V c t hk).symm
  iapply ((run1_D c (grid1.coords t) _ _ _ _ _ _ _ _ _ _ _ _ _ _ _ _ _ _ _ _ _ _ _ _ _ _ _ _ _ _ (fun h => h0 ((cond1_1 t).mp h)) (fun h => h4 ((cond1_2 t).mp h)) ((cond1_3 t).mpr hk) (fun h => h3 ((cond1_4 t).mp h)) (blk1 V c 0 t) (blk1 V c 1 t) (blk1 V c 2 t) (blk1 V c 3 t) (blk1 V c 4 t) (blk1 V c 5 t) (blk1 V c 6 t) (blk1 V c 7 t) (aq1 V c t.val) (sa1 V c) (loss1 V c n) ((dat1 V c).before 11 t d11) ((dat1 V c).before 12 t d12) X) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexists _; iexact HS1
  iintro ⟨H0, H1, H2, H3, H4, H5, H6, H7, H8, H9, H10, H11, H12, HS0, HS1⟩
  isplitl [HS0 HS1 HR]
  · isplitl [HS0]
    · iexists _; isplitr; swap; · iexact HS0
      ipureintro; exact fun k hk _ => hX k hk (by omega)
    isplitl [HS1]
    · iexists _; isplitr; swap; · iexact HS1
      ipureintro; intro m hm; obtain rfl : m = t.val := by omega
      exact eacc
    iexact HR
  isplitl [Ho]; · iexact Ho
  isplitl [H0]; · iapply (Persist.hand_live (dat1 V c) 0 t rfl (after1_0 V c t).symm); iexact H0
  isplitl [H1]; · iapply (Persist.hand_live (dat1 V c) 1 t rfl (after1_1 V c t).symm); iexact H1
  isplitl [H2]; · iapply (Persist.hand_live (dat1 V c) 2 t rfl (after1_2 V c t).symm); iexact H2
  isplitl [H3]; · iapply (Persist.hand_live (dat1 V c) 3 t rfl (after1_3 V c t).symm); iexact H3
  isplitl [H4]; · iapply (Persist.hand_live (dat1 V c) 4 t rfl (after1_4 V c t).symm); iexact H4
  isplitl [H5]; · iapply (Persist.hand_live (dat1 V c) 5 t rfl (after1_5 V c t).symm); iexact H5
  isplitl [H6]; · iapply (Persist.hand_live (dat1 V c) 6 t rfl (after1_6 V c t).symm); iexact H6
  isplitl [H7]; · iapply (Persist.hand_live (dat1 V c) 7 t rfl (after1_7 V c t).symm); iexact H7
  isplitl [H8]; · iapply (Persist.hand_idle (dat1 V c) 8 t ((idle1_8 t).mpr h4) d8 (found1_8 V c t h4 d8) (after1_8 V c t).symm); iexact H8
  isplitl [H9]; · iapply (Persist.hand_idle (dat1 V c) 9 t ((idle1_9 t).mpr h0) d9 (found1_9 V c t h0 d9) (after1_9 V c t).symm); iexact H9
  isplitl [H10]; · iapply (Persist.hand_idle (dat1 V c) 10 t ((idle1_10 t).mpr ⟨h0, h3⟩) d10 (found1_10 V c t n hn d10) ((loss1_kept V c n _ hn h3).symm.trans (after1_10 V c t).symm)); iexact H10
  isplitl [H11]; · iapply (Persist.hand_found (dat1 V c) 11 t ((idle1_11 t).mpr h3) (noflush1_11 t h3) d11); iexact H11
  iapply (Persist.hand_found (dat1 V c) 12 t ((idle1_12 t).mpr h3) (noflush1_12 t h3) d12); iexact H12

set_option maxHeartbeats 4000000 in
theorem body1_E (c : Dev nD) (t : Fin cfg1.N) (h0 : ¬ t.val = 0) (h4 : ¬ t.val < 4) (hk : ¬ t.val % 4 = 0) (h3 : ¬ t.val % 4 = 3) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl, dat1_castSucc, dat1_succ]
  simp only [before1_0, before1_1, before1_2, before1_3, before1_4, before1_5, before1_6, before1_7]
  unfold Phi1
  have hN := lt1 t
  obtain ⟨n, hn⟩ : ∃ n, t.val = n + 1 := ⟨t.val - 1, by omega⟩
  simp only [found1_8 V c t h4, found1_9 V c t h0, found1_10 V c t n hn]
  iintro ⟨⟨⟨%X, %hX, HS0⟩, ⟨%Y, %hY, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := hY n hn
  have hab : (VecWindow.window X (k1_off2 (grid1.coords t)) S1x256x2048.size (k1_off2_inb (grid1.coords t))) = pb1 V c (t.val % 4) := block_read1 V c t X h4 hX
  have eacc : k1_pay1 (acc1 V c n) (k1_pay14 (VecWindow.window X (k1_off2 (grid1.coords t)) S1x256x2048.size (k1_off2_inb (grid1.coords t)))) (blk1 V c 5 t) (blk1 V c 6 t) (k1_pay15 (blk1 V c 7 t)) = acc1 V c t.val := by
    rw [hab]; exact (acc1_later V c t n hn hk).symm
  iapply ((run1_E c (grid1.coords t) _ _ _ _ _ _ _ _ _ _ _ _ _ _ _ _ _ _ _ _ _ _ _ _ _ _ _ _ _ _ (fun h => h0 ((cond1_1 t).mp h)) (fun h => h4 ((cond1_2 t).mp h)) (fun h => hk ((cond1_3 t).mp h)) (fun h => h3 ((cond1_4 t).mp h)) (blk1 V c 0 t) (blk1 V c 1 t) (blk1 V c 2 t) (blk1 V c 3 t) (blk1 V c 4 t) (blk1 V c 5 t) (blk1 V c 6 t) (blk1 V c 7 t) (aq1 V c t.val) (sa1 V c) (loss1 V c n) ((dat1 V c).before 11 t d11) ((dat1 V c).before 12 t d12) X (acc1 V c n)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, H10, H11, H12, HS0, HS1⟩
  isplitl [HS0 HS1 HR]
  · isplitl [HS0]
    · iexists _; isplitr; swap; · iexact HS0
      ipureintro; exact fun k hk _ => hX k hk (by omega)
    isplitl [HS1]
    · iexists _; isplitr; swap; · iexact HS1
      ipureintro; intro m hm; obtain rfl : m = t.val := by omega
      exact eacc
    iexact HR
  isplitl [Ho]; · iexact Ho
  isplitl [H0]; · iapply (Persist.hand_live (dat1 V c) 0 t rfl (after1_0 V c t).symm); iexact H0
  isplitl [H1]; · iapply (Persist.hand_live (dat1 V c) 1 t rfl (after1_1 V c t).symm); iexact H1
  isplitl [H2]; · iapply (Persist.hand_live (dat1 V c) 2 t rfl (after1_2 V c t).symm); iexact H2
  isplitl [H3]; · iapply (Persist.hand_live (dat1 V c) 3 t rfl (after1_3 V c t).symm); iexact H3
  isplitl [H4]; · iapply (Persist.hand_live (dat1 V c) 4 t rfl (after1_4 V c t).symm); iexact H4
  isplitl [H5]; · iapply (Persist.hand_live (dat1 V c) 5 t rfl (after1_5 V c t).symm); iexact H5
  isplitl [H6]; · iapply (Persist.hand_live (dat1 V c) 6 t rfl (after1_6 V c t).symm); iexact H6
  isplitl [H7]; · iapply (Persist.hand_live (dat1 V c) 7 t rfl (after1_7 V c t).symm); iexact H7
  isplitl [H8]; · iapply (Persist.hand_idle (dat1 V c) 8 t ((idle1_8 t).mpr h4) d8 (found1_8 V c t h4 d8) (after1_8 V c t).symm); iexact H8
  isplitl [H9]; · iapply (Persist.hand_idle (dat1 V c) 9 t ((idle1_9 t).mpr h0) d9 (found1_9 V c t h0 d9) (after1_9 V c t).symm); iexact H9
  isplitl [H10]; · iapply (Persist.hand_idle (dat1 V c) 10 t ((idle1_10 t).mpr ⟨h0, h3⟩) d10 (found1_10 V c t n hn d10) ((loss1_kept V c n _ hn h3).symm.trans (after1_10 V c t).symm)); iexact H10
  isplitl [H11]; · iapply (Persist.hand_found (dat1 V c) 11 t ((idle1_11 t).mpr h3) (noflush1_11 t h3) d11); iexact H11
  iapply (Persist.hand_found (dat1 V c) 12 t ((idle1_12 t).mpr h3) (noflush1_12 t h3) d12); iexact H12

set_option maxHeartbeats 4000000 in
theorem body1_G (c : Dev nD) (t : Fin cfg1.N) (h0 : ¬ t.val = 0) (h4 : ¬ t.val < 4) (hk : ¬ t.val % 4 = 0) (h3 : t.val % 4 = 3) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl, dat1_castSucc, dat1_succ]
  simp only [before1_0, before1_1, before1_2, before1_3, before1_4, before1_5, before1_6, before1_7]
  unfold Phi1
  have hN := lt1 t
  obtain ⟨n, hn⟩ : ∃ n, t.val = n + 1 := ⟨t.val - 1, by omega⟩
  simp only [found1_8 V c t h4, found1_9 V c t h0, found1_10 V c t n hn]
  iintro ⟨⟨⟨%X, %hX, HS0⟩, ⟨%Y, %hY, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := hY n hn
  have hab : (VecWindow.window X (k1_off2 (grid1.coords t)) S1x256x2048.size (k1_off2_inb (grid1.coords t))) = pb1 V c (t.val % 4) := block_read1 V c t X h4 hX
  have eacc : k1_pay1 (acc1 V c n) (k1_pay14 (VecWindow.window X (k1_off2 (grid1.coords t)) S1x256x2048.size (k1_off2_inb (grid1.coords t)))) (blk1 V c 5 t) (blk1 V c 6 t) (k1_pay15 (blk1 V c 7 t)) = acc1 V c t.val := by
    rw [hab]; exact (acc1_later V c t n hn hk).symm
  have e10 : k1_pay4 (k1_pay8 (blk1 V c 2 t)) (k1_pay1 (acc1 V c n) (k1_pay14 (VecWindow.window X (k1_off2 (grid1.coords t)) S1x256x2048.size (k1_off2_inb (grid1.coords t)))) (blk1 V c 5 t) (blk1 V c 6 t) (k1_pay15 (blk1 V c 7 t))) (blk1 V c 3 t) (blk1 V c 4 t) (loss1 V c n) = (dat1 V c).after 10 t := by
    rw [after1_10, eacc]; exact (loss1_last V c t n hn h3).symm
  have e11 : k1_pay6 (k1_pay8 (blk1 V c 2 t)) (k1_pay1 (acc1 V c n) (k1_pay14 (VecWindow.window X (k1_off2 (grid1.coords t)) S1x256x2048.size (k1_off2_inb (grid1.coords t)))) (blk1 V c 5 t) (blk1 V c 6 t) (k1_pay15 (blk1 V c 7 t))) (blk1 V c 3 t) (blk1 V c 4 t) = (dat1 V c).after 11 t := by
    rw [after1_11, eacc]; rfl
  have e12 : k1_pay7 (k1_pay8 (blk1 V c 2 t)) (k1_pay1 (acc1 V c n) (k1_pay14 (VecWindow.window X (k1_off2 (grid1.coords t)) S1x256x2048.size (k1_off2_inb (grid1.coords t)))) (blk1 V c 5 t) (blk1 V c 6 t) (k1_pay15 (blk1 V c 7 t))) (blk1 V c 3 t) (blk1 V c 4 t) = (dat1 V c).after 12 t := by
    rw [after1_12, eacc]; rfl
  have hl : t.val = 0 ∨ t.val % 4 = 3 := Or.inr h3
  iapply ((run1_G c (grid1.coords t) _ _ _ _ _ _ _ _ _ _ _ _ _ _ _ _ _ _ _ _ _ _ _ _ _ _ _ _ _ _ (fun h => h0 ((cond1_1 t).mp h)) (fun h => h4 ((cond1_2 t).mp h)) (fun h => hk ((cond1_3 t).mp h)) ((cond1_4 t).mpr h3) (blk1 V c 0 t) (blk1 V c 1 t) (blk1 V c 2 t) (blk1 V c 3 t) (blk1 V c 4 t) (blk1 V c 5 t) (blk1 V c 6 t) (blk1 V c 7 t) (aq1 V c t.val) (sa1 V c) (loss1 V c n) X (acc1 V c n)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 HR]
  · isplitl [HS0]
    · iexists _; isplitr; swap; · iexact HS0
      ipureintro; exact fun k hk _ => hX k hk (by omega)
    isplitl [HS1]
    · iexists _; isplitr; swap; · iexact HS1
      ipureintro; intro m hm; obtain rfl : m = t.val := by omega
      exact eacc
    iexact HR
  isplitl [Ho]; · iexact Ho
  isplitl [H0]; · iapply (Persist.hand_live (dat1 V c) 0 t rfl (after1_0 V c t).symm); iexact H0
  isplitl [H1]; · iapply (Persist.hand_live (dat1 V c) 1 t rfl (after1_1 V c t).symm); iexact H1
  isplitl [H2]; · iapply (Persist.hand_live (dat1 V c) 2 t rfl (after1_2 V c t).symm); iexact H2
  isplitl [H3]; · iapply (Persist.hand_live (dat1 V c) 3 t rfl (after1_3 V c t).symm); iexact H3
  isplitl [H4]; · iapply (Persist.hand_live (dat1 V c) 4 t rfl (after1_4 V c t).symm); iexact H4
  isplitl [H5]; · iapply (Persist.hand_live (dat1 V c) 5 t rfl (after1_5 V c t).symm); iexact H5
  isplitl [H6]; · iapply (Persist.hand_live (dat1 V c) 6 t rfl (after1_6 V c t).symm); iexact H6
  isplitl [H7]; · iapply (Persist.hand_live (dat1 V c) 7 t rfl (after1_7 V c t).symm); iexact H7
  isplitl [H8]; · iapply (Persist.hand_idle (dat1 V c) 8 t ((idle1_8 t).mpr h4) d8 (found1_8 V c t h4 d8) (after1_8 V c t).symm); iexact H8
  isplitl [H9]; · iapply (Persist.hand_idle (dat1 V c) 9 t ((idle1_9 t).mpr h0) d9 (found1_9 V c t h0 d9) (after1_9 V c t).symm); iexact H9
  isplitl [H10]; · iapply (Persist.hand_live (dat1 V c) 10 t (live1_10 t hl) e10); iexact H10
  isplitl [H11]; · iapply (Persist.hand_live (dat1 V c) 11 t (live1_11 t h3) e11); iexact H11
  iapply (Persist.hand_live (dat1 V c) 12 t (live1_12 t h3) e12); iexact H12

/-- The body at any point. -/
theorem body1 (c : Dev nD) (t : Fin cfg1.N) :
    bodyPre1 V c t ⊢ wp frame (wpE (defs₀ (F := F)) Variants.none c none) Set.univ (bodyAt1 t) (fun _ => bodyPost1 V c t) := by
  by_cases h4 : t.val < 4
  · by_cases h0 : t.val = 0
    · exact body1_A V c t h0 h4 (by omega) (by omega)
    · by_cases h3 : t.val % 4 = 3
      · exact body1_C V c t h0 h4 (by omega) h3
      · exact body1_B V c t h0 h4 (by omega) h3
  · by_cases hk : t.val % 4 = 0
    · exact body1_D V c t (by omega) h4 hk (by omega)
    · by_cases h3 : t.val % 4 = 3
      · exact body1_G V c t (by omega) h4 hk h3
      · exact body1_E V c t (by omega) h4 hk h3

/-- The body table's row at point `t`'s slots is the body. -/
theorem row1 (t : Fin cfg1.N) :
    defs₀ (F := F) .tc cfg1.body (cfg1.bodyArgs t (cfg1.slots t)) = bodyAt1 t := by
  unfold defs₀; rw [Defs.onTc_tc]

/-- The body obligation of the region, at every point. -/
theorem obligation1 (c : Dev nD) : BodyObligation (dat1 (F := F) V c) (defs₀ (F := F)) Variants.none () Set.univ := fun t => by
  rw [bigSep_W1, bigSep_W1, row1]
  exact triple_restated (body1 V c t) rfl .rfl fun _ => .rfl

end Cert.Kernel.Own

end
-- ==== Proof.Kernel.Run2A.lean ====
/- The body of the backward kernel, run once, at the first grid point. -/
module

public import proofs.«01_k».proof.Proof.Gen.Kernel.Launch
public import proofs.«01_k».proof.Proof.Gen.Kernel.Skeleton
public import proofs.«01_k».proof.Proof.Gen.Kernel.Points
public import proofs.«01_k».proof.Proof.Lib.Whole
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first grid point. -/
theorem run2_A (c : Dev nD) (i : grid2.Coords) (arg1 : Memref sig .tc .vmem S256x2048 .i8) (harg1 : arg1.IsWhole) (arg2 : Memref sig .tc .vmem S256x1 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .i8) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S2048x256 .i8) (harg8 : arg8.IsWhole) (arg9 : Memref sig .tc .vmem S32x256 .f32) (harg9 : arg9.IsWhole) (arg10 : Memref sig .tc .vmem S2048x256 .f32) (harg10 : arg10.IsWhole) (arg11 : Memref sig .tc .vmem S2048x256 .i8) (harg11 : arg11.IsWhole) (arg12 : Memref sig .tc .vmem S32x256 .f32) (harg12 : arg12.IsWhole) (arg13 : Memref sig .tc .vmem S2048x256 .f32) (harg13 : arg13.IsWhole) (arg14 : Memref sig .tc .vmem S256x2048 .i8) (harg14 : arg14.IsWhole) (arg15 : Memref sig .tc .vmem S1x4x2048 .f32) (harg15 : arg15.IsWhole) (arg16 : Memref sig .tc .vmem S256x2048 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S256x2048 .f32) (harg19 : arg19.IsWhole) (arg20 : Memref sig .tc .vmem S2048x256 .bf16) (harg20 : arg20.IsWhole)
    (hc0 : Scalar.cmpi .ne (Scalar.extui (Scalar.cmpi .eq (BitVec.ofNat 32 (i 0).val) 0#32) : BitVec 32) 0#32 = 1#1)
    (x0 : Vec F S256x2048 .i8) (x1 : Vec F S256x1 .f32) (x2 : Vec F S256x256 .f32) (x3 : Vec F S256x256 .f32) (x4 : Vec F S256x256 .i8) (x5 : Vec F S256x2048 .bf16) (x6 : Vec F S256x2048 .bf16) (x7 : Vec F S2048x256 .i8) (x8 : Vec F S32x256 .f32) (x9 : Vec F S2048x256 .f32) (x10 : Vec F S2048x256 .i8) (x11 : Vec F S32x256 .f32) (x12 : Vec F S2048x256 .f32) (x13 : Vec F S256x2048 .i8) (x14 : Vec F S1x4x2048 .f32) (x15 : Vec F S256x2048 .f32) :
      ∀ (E : Set ℕ) (Q : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (k2_pay12 (k2_pay10 x9 x7) (k2_pay11 (k2_pay3 x15 x5 x13 x14) (k2_pay5 x1) (k2_pay6 x2) (k2_pay7 x2) x3 (k2_pay1 x0) x9 x8) (Scalar.ofBits .f32 0x00000000#32) : Vec F S2048x256 .f32) ∗ owns (c : Thread nD τ) arg18 fullShare (k2_pay13 (k2_pay5 x1) (k2_pay8 (k2_pay3 x15 x5 x13 x14) (k2_pay6 x2) (k2_pay7 x2)) (k2_pay1 x0) x12 x10 x11 : Vec F S2048x256 .f32) ∗ owns (c : Thread nD τ) arg19 fullShare (k2_pay4 (k2_pay2 x15) x4 x6 x13 x14 : Vec F S256x2048 .f32) ∗ owns (c : Thread nD τ) arg20 fullShare (k2_pay1 x0 : Vec F S2048x256 .bf16)) -∗ Q ⟨⟩))
          ⊢ wp frame (wpE (defs₀ (F := F)) Variants.none c none) E (cc2_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
    intro E Q
    simp only [cc2_backward_eq_skeleton]; unfold cc2_backward_skel
    simp only [k2_part1_eq_skeleton, k2_part2_eq_skeleton, k2_part3_eq_skeleton, k2_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; swap; · iexact H16
      ipureintro
      unfold run2_A.sl.cst_55 run2_A.sl.r_9 run2_A.sl.r_8 run2_A.sl.r_6 run2_A.sl.r_5 run2_A.sl.r_4 run2_A.sl.r_3 run2_A.sl.r_1 run2_A.sl.v85 run2_A.sl.H19_1
      simp only [Whole.read_writes, Whole.readAt_writes, Whole.readCov, Whole.readAt_unread]
    isplitl [H17]
    · iexists _; isplitr; swap; · iexact H17
      ipureintro
      unfold run2_A.sl.r_10 run2_A.sl.r_7 run2_A.sl.r_5 run2_A.sl.r_4 run2_A.sl.r_3 run2_A.sl.r_1 run2_A.sl.v85 run2_A.sl.H19_1
      simp only [Whole.read_writes, Whole.readAt_writes, Whole.readCov, Whole.readAt_unread]
    isplitl [H18]
    · iexists _; isplitr; swap; · iexact H18
      ipureintro
      unfold run2_A.sl.r_2 run2_A.sl.r
      simp only [Whole.read_writes, Whole.readAt_writes, Whole.readCov, Whole.readAt_unread]
    iexists _; isplitr; swap; · iexact H19
    ipureintro
    unfold run2_A.sl.H19_1
    simp only [Whole.read_writes, Whole.readAt_writes, Whole.readCov, Whole.readAt_unread]

end Cert.Kernel.Own

end
-- ==== Proof.Kernel.Run2B.lean ====
/- The body of the backward kernel, run once, at a later grid point. -/
module

public import proofs.«01_k».proof.Proof.Gen.Kernel.Launch
public import proofs.«01_k».proof.Proof.Gen.Kernel.Skeleton
public import proofs.«01_k».proof.Proof.Gen.Kernel.Points
public import proofs.«01_k».proof.Proof.Lib.Whole
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a later grid point. -/
theorem run2_B (c : Dev nD) (i : grid2.Coords) (arg1 : Memref sig .tc .vmem S256x2048 .i8) (harg1 : arg1.IsWhole) (arg2 : Memref sig .tc .vmem S256x1 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .i8) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S2048x256 .i8) (harg8 : arg8.IsWhole) (arg9 : Memref sig .tc .vmem S32x256 .f32) (harg9 : arg9.IsWhole) (arg10 : Memref sig .tc .vmem S2048x256 .f32) (harg10 : arg10.IsWhole) (arg11 : Memref sig .tc .vmem S2048x256 .i8) (harg11 : arg11.IsWhole) (arg12 : Memref sig .tc .vmem S32x256 .f32) (harg12 : arg12.IsWhole) (arg13 : Memref sig .tc .vmem S2048x256 .f32) (harg13 : arg13.IsWhole) (arg14 : Memref sig .tc .vmem S256x2048 .i8) (harg14 : arg14.IsWhole) (arg15 : Memref sig .tc .vmem S1x4x2048 .f32) (harg15 : arg15.IsWhole) (arg16 : Memref sig .tc .vmem S256x2048 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S256x2048 .f32) (harg19 : arg19.IsWhole) (arg20 : Memref sig .tc .vmem S2048x256 .bf16) (harg20 : arg20.IsWhole)
    (hc0 : ¬ (Scalar.cmpi .ne (Scalar.extui (Scalar.cmpi .eq (BitVec.ofNat 32 (i 0).val) 0#32) : BitVec 32) 0#32 = 1#1))
    (x0 : Vec F S256x2048 .i8) (x1 : Vec F S256x1 .f32) (x2 : Vec F S256x256 .f32) (x3 : Vec F S256x256 .f32) (x4 : Vec F S256x256 .i8) (x5 : Vec F S256x2048 .bf16) (x6 : Vec F S256x2048 .bf16) (x7 : Vec F S2048x256 .i8) (x8 : Vec F S32x256 .f32) (x9 : Vec F S2048x256 .f32) (x10 : Vec F S2048x256 .i8) (x11 : Vec F S32x256 .f32) (x12 : Vec F S2048x256 .f32) (x13 : Vec F S256x2048 .i8) (x14 : Vec F S1x4x2048 .f32) (x15 : Vec F S256x2048 .f32) (x19 : Vec F S2048x256 .bf16) :
      ∀ (E : Set ℕ) (Q : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare x19
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (k2_pay12 (k2_pay10 x9 x7) (k2_pay11 (k2_pay3 x15 x5 x13 x14) (k2_pay5 x1) (k2_pay6 x2) (k2_pay7 x2) x3 x19 x9 x8) (Scalar.ofBits .f32 0x00000000#32) : Vec F S2048x256 .f32) ∗ owns (c : Thread nD τ) arg18 fullShare (k2_pay13 (k2_pay5 x1) (k2_pay8 (k2_pay3 x15 x5 x13 x14) (k2_pay6 x2) (k2_pay7 x2)) x19 x12 x10 x11 : Vec F S2048x256 .f32) ∗ owns (c : Thread nD τ) arg19 fullShare (k2_pay4 (k2_pay2 x15) x4 x6 x13 x14 : Vec F S256x2048 .f32) ∗ owns (c : Thread nD τ) arg20 fullShare x19) -∗ Q ⟨⟩))
          ⊢ wp frame (wpE (defs₀ (F := F)) Variants.none c none) E (cc2_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
    intro E Q
    simp only [cc2_backward_eq_skeleton]; unfold cc2_backward_skel
    simp only [k2_part1_eq_skeleton, k2_part2_eq_skeleton, k2_part3_eq_skeleton, k2_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg20.eq_unread hf19
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; swap; · iexact H16
      ipureintro
      unfold run2_B.sl.cst_55 run2_B.sl.r_9 run2_B.sl.r_8 run2_B.sl.r_6 run2_B.sl.r_5 run2_B.sl.r_4 run2_B.sl.r_3 run2_B.sl.r_1
      simp only [Whole.read_writes, Whole.readAt_writes, Whole.readCov, Whole.readAt_unread]
    isplitl [H17]
    · iexists _; isplitr; swap; · iexact H17
      ipureintro
      unfold run2_B.sl.r_10 run2_B.sl.r_7 run2_B.sl.r_5 run2_B.sl.r_4 run2_B.sl.r_3 run2_B.sl.r_1
      simp only [Whole.read_writes, Whole.readAt_writes, Whole.readCov, Whole.readAt_unread]
    isplitl [H18]
    · iexists _; isplitr; swap; · iexact H18
      ipureintro
      unfold run2_B.sl.r_2 run2_B.sl.r
      simp only [Whole.read_writes, Whole.readAt_writes, Whole.readCov, Whole.readAt_unread]
    iexists _; isplitr; · ipureintro; exact harg20.read_unread _
    iexact H19

end Cert.Kernel.Own

end
-- ==== Proof.Kernel.Region2.lean ====
/- The backward kernel as a region: what every buffer holds after every grid point, and the body at every point. -/
module

public import proofs.«01_k».proof.Proof.Kernel.Region0
public import proofs.«01_k».proof.Proof.Kernel.Run2A
public import proofs.«01_k».proof.Proof.Kernel.Run2B
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-- The grid point numbered `n`. -/
def pt2 (n : ℕ) : Fin cfg2.N := ⟨n % 32, lt_of_lt_of_eq (Nat.mod_lt n (by decide)) (show 32 = cfg2.N from N_2.symm)⟩

theorem pt2_val (t : Fin cfg2.N) : pt2 t.val = t :=
  Fin.ext (Nat.mod_eq_of_lt (lt_of_lt_of_eq t.isLt (show cfg2.N = 32 from N_2)))

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0's staging buffer at point `t`. -/
abbrev ms2_0 (t : Fin cfg2.N) : Memref sig .tc .vmem S256x2048 .i8 := win2_0.stage (cfg2.slots t 0)
/-- Window 1's staging buffer at point `t`. -/
abbrev ms2_1 (t : Fin cfg2.N) : Memref sig .tc .vmem S256x1 .f32 := win2_1.stage (cfg2.slots t 1)
/-- Window 2's staging buffer at point `t`. -/
abbrev ms2_2 (t : Fin cfg2.N) : Memref sig .tc .vmem S256x256 .f32 := win2_2.stage (cfg2.slots t 2)
/-- Window 3's staging buffer at point `t`. -/
abbrev ms2_3 (t : Fin cfg2.N) : Memref sig .tc .vmem S256x256 .f32 := win2_3.stage (cfg2.slots t 3)
/-- Window 4's staging buffer at point `t`. -/
abbrev ms2_4 (t : Fin cfg2.N) : Memref sig .tc .vmem S256x256 .i8 := win2_4.stage (cfg2.slots t 4)
/-- Window 5's staging buffer at point `t`. -/
abbrev ms2_5 (t : Fin cfg2.N) : Memref sig .tc .vmem S256x2048 .bf16 := win2_5.stage (cfg2.slots t 5)
/-- Window 6's staging buffer at point `t`. -/
abbrev ms2_6 (t : Fin cfg2.N) : Memref sig .tc .vmem S256x2048 .bf16 := win2_6.stage (cfg2.slots t 6)
/-- Window 7's staging buffer at point `t`. -/
abbrev ms2_7 (t : Fin cfg2.N) : Memref sig .tc .vmem S2048x256 .i8 := win2_7.stage (cfg2.slots t 7)
/-- Window 8's staging buffer at point `t`. -/
abbrev ms2_8 (t : Fin cfg2.N) : Memref sig .tc .vmem S32x256 .f32 := win2_8.stage (cfg2.slots t 8)
/-- Window 9's staging buffer at point `t`. -/
abbrev ms2_9 (t : Fin cfg2.N) : Memref sig .tc .vmem S2048x256 .f32 := win2_9.stage (cfg2.slots t 9)
/-- Window 10's staging buffer at point `t`. -/
abbrev ms2_10 (t : Fin cfg2.N) : Memref sig .tc .vmem S2048x256 .i8 := win2_10.stage (cfg2.slots t 10)
/-- Window 11's staging buffer at point `t`. -/
abbrev ms2_11 (t : Fin cfg2.N) : Memref sig .tc .vmem S32x256 .f32 := win2_11.stage (cfg2.slots t 11)
/-- Window 12's staging buffer at point `t`. -/
abbrev ms2_12 (t : Fin cfg2.N) : Memref sig .tc .vmem S2048x256 .f32 := win2_12.stage (cfg2.slots t 12)
/-- Window 13's staging buffer at point `t`. -/
abbrev ms2_13 (t : Fin cfg2.N) : Memref sig .tc .vmem S256x2048 .i8 := win2_13.stage (cfg2.slots t 13)
/-- Window 14's staging buffer at point `t`. -/
abbrev ms2_14 (t : Fin cfg2.N) : Memref sig .tc .vmem S1x4x2048 .f32 := win2_14.stage (cfg2.slots t 14)
/-- Window 15's staging buffer at point `t`. -/
abbrev ms2_15 (t : Fin cfg2.N) : Memref sig .tc .vmem S256x2048 .f32 := win2_15.stage (cfg2.slots t 15)
/-- Window 16's staging buffer at point `t`. -/
abbrev ms2_16 (t : Fin cfg2.N) : Memref sig .tc .vmem S2048x256 .f32 := win2_16.stage (cfg2.slots t 16)
/-- Window 17's staging buffer at point `t`. -/
abbrev ms2_17 (t : Fin cfg2.N) : Memref sig .tc .vmem S2048x256 .f32 := win2_17.stage (cfg2.slots t 17)
/-- Window 18's staging buffer at point `t`. -/
abbrev ms2_18 (t : Fin cfg2.N) : Memref sig .tc .vmem S256x2048 .f32 := win2_18.stage (cfg2.slots t 18)
/-- The kernel's own buffer 0. -/
abbrev scM2_0 : Memref sig .tc .vmem S2048x256 .bf16 := Memref.whole cc2_scratch0

/-- The transposed activations the products use: stored at the first point. -/
def xbt2 (c : Dev nD) : Vec F S2048x256 .bf16 := k2_pay1 (blk2 V c 0 (pt2 0))

/-- The three gradient blocks of a point. -/
def dvg2 (c : Dev nD) (t : Fin cfg2.N) : Vec F S2048x256 .f32 :=
  k2_pay12 (k2_pay10 (blk2 V c 9 t) (blk2 V c 7 t)) (k2_pay11 (k2_pay3 (blk2 V c 15 t) (blk2 V c 5 t) (blk2 V c 13 t) (blk2 V c 14 t)) (k2_pay5 (blk2 V c 1 t)) (k2_pay6 (blk2 V c 2 t)) (k2_pay7 (blk2 V c 2 t)) (blk2 V c 3 t) (xbt2 V c) (blk2 V c 9 t) (blk2 V c 8 t)) (Scalar.ofBits .f32 0x00000000#32)
def dvu2 (c : Dev nD) (t : Fin cfg2.N) : Vec F S2048x256 .f32 :=
  k2_pay13 (k2_pay5 (blk2 V c 1 t)) (k2_pay8 (k2_pay3 (blk2 V c 15 t) (blk2 V c 5 t) (blk2 V c 13 t) (blk2 V c 14 t)) (k2_pay6 (blk2 V c 2 t)) (k2_pay7 (blk2 V c 2 t))) (xbt2 V c) (blk2 V c 12 t) (blk2 V c 10 t) (blk2 V c 11 t)
def dvd2 (c : Dev nD) (t : Fin cfg2.N) : Vec F S256x2048 .f32 :=
  k2_pay4 (k2_pay2 (blk2 V c 15 t)) (blk2 V c 4 t) (blk2 V c 6 t) (blk2 V c 13 t) (blk2 V c 14 t)

/-- The body's invariant before point `n`: the kernel's own buffer, the activations once the first point has stored them. -/
def Phi2 (c : Dev nD) (n : ℕ) : sProp 𝕄 :=
  iprop((∃ X, ⌜0 < n → X = xbt2 V c⌝ ∗ owns (c : Thread nD τ) scM2_0 fullShare X)
    ∗ Pipeline.scopedRestBut (Ix := Unit) (Name := ℕ) (U := UR sig nD τ) (Lvl := ℕ) (Val := Elt F) spec2 c [cc2_scratch0]
    ∗ ∃ r, prngReg c r)

/-- The proof data of the pipeline on core `c`: each input's buffer holds its block, each output's what the body leaves. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => blk2 V c 10 t
    | ⟨11, _⟩ => blk2 V c 11 t
    | ⟨12, _⟩ => blk2 V c 12 t
    | ⟨13, _⟩ => blk2 V c 13 t
    | ⟨14, _⟩ => blk2 V c 14 t
    | ⟨15, _⟩ => blk2 V c 15 t
    | ⟨16, _⟩ => dvg2 V c t
    | ⟨17, _⟩ => dvu2 V c t
    | ⟨18, _⟩ => dvd2 V c t
    | ⟨_ + 19, h⟩ => absurd h (Nat.not_lt.2 (Nat.le_add_left _ _))
  Φ s := Phi2 V c s.val
  q _ := fullShare
  owed _ := 0

theorem dat2_A (c : Dev nD) (w : Fin cfg2.W) : (dat2 V c).A w = V c (Pipeline.arrRef spec2 w) := by dsimp only [dat2]
theorem dat2_castSucc (c : Dev nD) (t : Fin cfg2.N) : (dat2 V c).Φ t.castSucc = Phi2 V c t.val := by
  dsimp only [dat2]; exact Persist.at_castSucc (Phi2 V c) t
theorem dat2_succ (c : Dev nD) (t : Fin cfg2.N) : (dat2 V c).Φ t.succ = Phi2 V c (t.val + 1) := by
  dsimp only [dat2]; exact Persist.at_succ (Phi2 V c) t
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = blk2 V c 8 t := by dsimp only [dat2]
theorem after2_9 (c : Dev nD) (t : Fin cfg2.N) : (dat2 V c).after 9 t = blk2 V c 9 t := by dsimp only [dat2]
theorem after2_10 (c : Dev nD) (t : Fin cfg2.N) : (dat2 V c).after 10 t = blk2 V c 10 t := by dsimp only [dat2]
theorem after2_11 (c : Dev nD) (t : Fin cfg2.N) : (dat2 V c).after 11 t = blk2 V c 11 t := by dsimp only [dat2]
theorem after2_12 (c : Dev nD) (t : Fin cfg2.N) : (dat2 V c).after 12 t = blk2 V c 12 t := by dsimp only [dat2]
theorem after2_13 (c : Dev nD) (t : Fin cfg2.N) : (dat2 V c).after 13 t = blk2 V c 13 t := by dsimp only [dat2]
theorem after2_14 (c : Dev nD) (t : Fin cfg2.N) : (dat2 V c).after 14 t = blk2 V c 14 t := by dsimp only [dat2]
theorem after2_15 (c : Dev nD) (t : Fin cfg2.N) : (dat2 V c).after 15 t = blk2 V c 15 t := by dsimp only [dat2]
theorem after2_16 (c : Dev nD) (t : Fin cfg2.N) : (dat2 V c).after 16 t = dvg2 V c t := by dsimp only [dat2]
theorem after2_17 (c : Dev nD) (t : Fin cfg2.N) : (dat2 V c).after 17 t = dvu2 V c t := by dsimp only [dat2]
theorem after2_18 (c : Dev nD) (t : Fin cfg2.N) : (dat2 V c).after 18 t = dvd2 V c t := by dsimp only [dat2]
theorem before2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [dat2_A]; try rfl) t d).trans
    (by unfold Dat.fetched Dat.blockOf blk2; rw [dat2_A]; try rfl)
theorem before2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [dat2_A]; try rfl) t d).trans
    (by unfold Dat.fetched Dat.blockOf blk2; rw [dat2_A]; try rfl)
theorem before2_2 (c : Dev nD) (t : Fin cfg2.N) (d) : (dat2 V c).before 2 t d = blk2 V c 2 t :=
  ((dat2 V c).before_in_eq_fetched 2 rfl (fun _ => rfl) (fun _ _ _ => rfl)
    (fun t => by rw [after2_2]; unfold Dat.blockOf blk2; rw [dat2_A]; try rfl) t d).trans
    (by unfold Dat.fetched Dat.blockOf blk2; rw [dat2_A]; try rfl)
theorem before2_3 (c : Dev nD) (t : Fin cfg2.N) (d) : (dat2 V c).before 3 t d = blk2 V c 3 t :=
  ((dat2 V c).before_in_eq_fetched 3 rfl (fun _ => rfl) (fun _ _ _ => rfl)
    (fun t => by rw [after2_3]; unfold Dat.blockOf blk2; rw [dat2_A]; try rfl) t d).trans
    (by unfold Dat.fetched Dat.blockOf blk2; rw [dat2_A]; try rfl)
theorem before2_4 (c : Dev nD) (t : Fin cfg2.N) (d) : (dat2 V c).before 4 t d = blk2 V c 4 t :=
  ((dat2 V c).before_in_eq_fetched 4 rfl (fun _ => rfl) (fun _ _ _ => rfl)
    (fun t => by rw [after2_4]; unfold Dat.blockOf blk2; rw [dat2_A]; try rfl) t d).trans
    (by unfold Dat.fetched Dat.blockOf blk2; rw [dat2_A]; try rfl)
theorem before2_5 (c : Dev nD) (t : Fin cfg2.N) (d) : (dat2 V c).before 5 t d = blk2 V c 5 t :=
  ((dat2 V c).before_in_eq_fetched 5 rfl (fun _ => rfl) (fun _ _ _ => rfl)
    (fun t => by rw [after2_5]; unfold Dat.blockOf blk2; rw [dat2_A]; try rfl) t d).trans
    (by unfold Dat.fetched Dat.blockOf blk2; rw [dat2_A]; try rfl)
theorem before2_6 (c : Dev nD) (t : Fin cfg2.N) (d) : (dat2 V c).before 6 t d = blk2 V c 6 t :=
  ((dat2 V c).before_in_eq_fetched 6 rfl (fun _ => rfl) (fun _ _ _ => rfl)
    (fun t => by rw [after2_6]; unfold Dat.blockOf blk2; rw [dat2_A]; try rfl) t d).trans
    (by unfold Dat.fetched Dat.blockOf blk2; rw [dat2_A]; try rfl)
theorem before2_7 (c : Dev nD) (t : Fin cfg2.N) (d) : (dat2 V c).before 7 t d = blk2 V c 7 t :=
  ((dat2 V c).before_in_eq_fetched 7 rfl (fun _ => rfl) (fun _ _ _ => rfl)
    (fun t => by rw [after2_7]; unfold Dat.blockOf blk2; rw [dat2_A]; try rfl) t d).trans
    (by unfold Dat.fetched Dat.blockOf blk2; rw [dat2_A]; try rfl)
theorem before2_8 (c : Dev nD) (t : Fin cfg2.N) (d) : (dat2 V c).before 8 t d = blk2 V c 8 t :=
  ((dat2 V c).before_in_eq_fetched 8 rfl (fun _ => rfl) (fun _ _ _ => rfl)
    (fun t => by rw [after2_8]; unfold Dat.blockOf blk2; rw [dat2_A]; try rfl) t d).trans
    (by unfold Dat.fetched Dat.blockOf blk2; rw [dat2_A]; try rfl)
theorem before2_9 (c : Dev nD) (t : Fin cfg2.N) (d) : (dat2 V c).before 9 t d = blk2 V c 9 t :=
  ((dat2 V c).before_in_eq_fetched 9 rfl (fun _ => rfl) (fun _ _ _ => rfl)
    (fun t => by rw [after2_9]; unfold Dat.blockOf blk2; rw [dat2_A]; try rfl) t d).trans
    (by unfold Dat.fetched Dat.blockOf blk2; rw [dat2_A]; try rfl)
theorem before2_10 (c : Dev nD) (t : Fin cfg2.N) (d) : (dat2 V c).before 10 t d = blk2 V c 10 t :=
  ((dat2 V c).before_in_eq_fetched 10 rfl (fun _ => rfl) (fun _ _ _ => rfl)
    (fun t => by rw [after2_10]; unfold Dat.blockOf blk2; rw [dat2_A]; try rfl) t d).trans
    (by unfold Dat.fetched Dat.blockOf blk2; rw [dat2_A]; try rfl)
theorem before2_11 (c : Dev nD) (t : Fin cfg2.N) (d) : (dat2 V c).before 11 t d = blk2 V c 11 t :=
  ((dat2 V c).before_in_eq_fetched 11 rfl (fun _ => rfl) (fun _ _ _ => rfl)
    (fun t => by rw [after2_11]; unfold Dat.blockOf blk2; rw [dat2_A]; try rfl) t d).trans
    (by unfold Dat.fetched Dat.blockOf blk2; rw [dat2_A]; try rfl)
theorem before2_12 (c : Dev nD) (t : Fin cfg2.N) (d) : (dat2 V c).before 12 t d = blk2 V c 12 t :=
  ((dat2 V c).before_in_eq_fetched 12 rfl (fun _ => rfl) (fun _ _ _ => rfl)
    (fun t => by rw [after2_12]; unfold Dat.blockOf blk2; rw [dat2_A]; try rfl) t d).trans
    (by unfold Dat.fetched Dat.blockOf blk2; rw [dat2_A]; try rfl)
theorem before2_13 (c : Dev nD) (t : Fin cfg2.N) (d) : (dat2 V c).before 13 t d = blk2 V c 13 t :=
  ((dat2 V c).before_in_eq_fetched 13 rfl (fun _ => rfl) (fun _ _ _ => rfl)
    (fun t => by rw [after2_13]; unfold Dat.blockOf blk2; rw [dat2_A]; try rfl) t d).trans
    (by unfold Dat.fetched Dat.blockOf blk2; rw [dat2_A]; try rfl)
theorem before2_14 (c : Dev nD) (t : Fin cfg2.N) (d) : (dat2 V c).before 14 t d = blk2 V c 14 t :=
  ((dat2 V c).before_in_eq_fetched 14 rfl (fun _ => rfl) (fun _ _ _ => rfl)
    (fun t => by rw [after2_14]; unfold Dat.blockOf blk2; rw [dat2_A]; try rfl) t d).trans
    (by unfold Dat.fetched Dat.blockOf blk2; rw [dat2_A]; try rfl)
theorem before2_15 (c : Dev nD) (t : Fin cfg2.N) (d) : (dat2 V c).before 15 t d = blk2 V c 15 t :=
  ((dat2 V c).before_in_eq_fetched 15 rfl (fun _ => rfl) (fun _ _ _ => rfl)
    (fun t => by rw [after2_15]; unfold Dat.blockOf blk2; rw [dat2_A]; try rfl) t d).trans
    (by unfold Dat.fetched Dat.blockOf blk2; rw [dat2_A]; try rfl)

theorem lt2 (t : Fin cfg2.N) : t.val < 32 := lt_of_lt_of_eq t.isLt (show cfg2.N = 32 from N_2)

/-- The first point is the one at which the body's condition holds. -/
theorem cond2 : ∀ t : Fin cfg2.N, (Scalar.cmpi .ne (Scalar.extui (Scalar.cmpi .eq (BitVec.ofNat 32 ((grid2.coords t) 0).val) 0#32) : BitVec 32) 0#32 = 1#1) ↔ t.val % 32 = 0 :=
  (fun t => by
    have ht : t.val < 32 := Nat.lt_of_lt_of_eq t.isLt N_2
    have e0 : (grid2.coords t 0).val = t.val / 1 % 32 := Pipeline.Grid.coords_val t 0 (by decide) rfl
    simp only [e0]
    word_cmp
   : ∀ t : Fin grid2.N, (Scalar.cmpi .ne (Scalar.extui (Scalar.cmpi .eq (BitVec.ofNat 32 ((grid2.coords t) 0).val) 0#32) : BitVec 32) 0#32 = 1#1) ↔ t.val % 32 = 0)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d))
    ∗ (∃ d, owns (c : Thread nD τ) (ms2_14 t) fullShare ((dat2 V c).before 14 t d))
    ∗ (∃ d, owns (c : Thread nD τ) (ms2_15 t) fullShare ((dat2 V c).before 15 t d))
    ∗ (∃ d, owns (c : Thread nD τ) (ms2_16 t) fullShare ((dat2 V c).before 16 t d))
    ∗ (∃ d, owns (c : Thread nD τ) (ms2_17 t) fullShare ((dat2 V c).before 17 t d))
    ∗ (∃ d, owns (c : Thread nD τ) (ms2_18 t) fullShare ((dat2 V c).before 18 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t
    ∗ (dat2 V c).leavesExact 13 t
    ∗ (dat2 V c).leavesExact 14 t
    ∗ (dat2 V c).leavesExact 15 t
    ∗ (dat2 V c).leavesExact 16 t
    ∗ (dat2 V c).leavesExact 17 t
    ∗ (dat2 V c).leavesExact 18 t)

set_option maxHeartbeats 4000000 in
/-- The body at any point. -/
theorem body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).owesAt () t.succ = (dat2 V c).owesAt () t.castSucc from rfl, dat2_castSucc, dat2_succ]
  simp only [before2_0, before2_1, before2_2, before2_3, before2_4, before2_5, before2_6, before2_7, before2_8, before2_9, before2_10, before2_11, before2_12, before2_13, before2_14, before2_15]
  unfold Phi2
  have hN := lt2 t
  by_cases h0 : t.val % 32 = 0
  · obtain rfl : t = pt2 0 := Fin.ext (by show t.val = 0 % 32; omega)
    iintro ⟨⟨⟨%X, %hX, HS0⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((run2_A c (grid2.coords (pt2 0)) _ _ _ _ _ _ _ _ _ _ _ _ _ _ _ _ _ _ _ _ _ _ _ _ _ _ _ _ _ _ _ _ _ _ _ _ _ _ _ _ ((cond2 _).mpr h0) (blk2 V c 0 (pt2 0)) (blk2 V c 1 (pt2 0)) (blk2 V c 2 (pt2 0)) (blk2 V c 3 (pt2 0)) (blk2 V c 4 (pt2 0)) (blk2 V c 5 (pt2 0)) (blk2 V c 6 (pt2 0)) (blk2 V c 7 (pt2 0)) (blk2 V c 8 (pt2 0)) (blk2 V c 9 (pt2 0)) (blk2 V c 10 (pt2 0)) (blk2 V c 11 (pt2 0)) (blk2 V c 12 (pt2 0)) (blk2 V c 13 (pt2 0)) (blk2 V c 14 (pt2 0)) (blk2 V c 15 (pt2 0))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [HS0]; · iexists _; iexact HS0
    iintro ⟨H0, H1, H2, H3, H4, H5, H6, H7, H8, H9, H10, H11, H12, H13, H14, H15, H16, H17, H18, HS0⟩
    isplitl [HS0 HR]
    · isplitl [HS0]
      · iexists _; isplitr; swap; · iexact HS0
        ipureintro; intro _; rfl
      iexact HR
    isplitl [Ho]; · iexact Ho
    isplitl [H0]; · iapply (Persist.hand_live (dat2 V c) 0 (pt2 0) rfl (after2_0 V c (pt2 0)).symm); iexact H0
    isplitl [H1]; · iapply (Persist.hand_live (dat2 V c) 1 (pt2 0) rfl (after2_1 V c (pt2 0)).symm); iexact H1
    isplitl [H2]; · iapply (Persist.hand_live (dat2 V c) 2 (pt2 0) rfl (after2_2 V c (pt2 0)).symm); iexact H2
    isplitl [H3]; · iapply (Persist.hand_live (dat2 V c) 3 (pt2 0) rfl (after2_3 V c (pt2 0)).symm); iexact H3
    isplitl [H4]; · iapply (Persist.hand_live (dat2 V c) 4 (pt2 0) rfl (after2_4 V c (pt2 0)).symm); iexact H4
    isplitl [H5]; · iapply (Persist.hand_live (dat2 V c) 5 (pt2 0) rfl (after2_5 V c (pt2 0)).symm); iexact H5
    isplitl [H6]; · iapply (Persist.hand_live (dat2 V c) 6 (pt2 0) rfl (after2_6 V c (pt2 0)).symm); iexact H6
    isplitl [H7]; · iapply (Persist.hand_live (dat2 V c) 7 (pt2 0) rfl (after2_7 V c (pt2 0)).symm); iexact H7
    isplitl [H8]; · iapply (Persist.hand_live (dat2 V c) 8 (pt2 0) rfl (after2_8 V c (pt2 0)).symm); iexact H8
    isplitl [H9]; · iapply (Persist.hand_live (dat2 V c) 9 (pt2 0) rfl (after2_9 V c (pt2 0)).symm); iexact H9
    isplitl [H10]; · iapply (Persist.hand_live (dat2 V c) 10 (pt2 0) rfl (after2_10 V c (pt2 0)).symm); iexact H10
    isplitl [H11]; · iapply (Persist.hand_live (dat2 V c) 11 (pt2 0) rfl (after2_11 V c (pt2 0)).symm); iexact H11
    isplitl [H12]; · iapply (Persist.hand_live (dat2 V c) 12 (pt2 0) rfl (after2_12 V c (pt2 0)).symm); iexact H12
    isplitl [H13]; · iapply (Persist.hand_live (dat2 V c) 13 (pt2 0) rfl (after2_13 V c (pt2 0)).symm); iexact H13
    isplitl [H14]; · iapply (Persist.hand_live (dat2 V c) 14 (pt2 0) rfl (after2_14 V c (pt2 0)).symm); iexact H14
    isplitl [H15]; · iapply (Persist.hand_live (dat2 V c) 15 (pt2 0) rfl (after2_15 V c (pt2 0)).symm); iexact H15
    isplitl [H16]; · iapply (Persist.hand_live (dat2 V c) 16 (pt2 0) rfl (after2_16 V c (pt2 0)).symm); iexact H16
    isplitl [H17]; · iapply (Persist.hand_live (dat2 V c) 17 (pt2 0) rfl (after2_17 V c (pt2 0)).symm); iexact H17
    iapply (Persist.hand_live (dat2 V c) 18 (pt2 0) rfl (after2_18 V c (pt2 0)).symm); iexact H18

  · iintro ⟨⟨⟨%X, %hX, HS0⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    obtain rfl := hX (by omega)
    iapply ((run2_B c (grid2.coords t) _ _ _ _ _ _ _ _ _ _ _ _ _ _ _ _ _ _ _ _ _ _ _ _ _ _ _ _ _ _ _ _ _ _ _ _ _ _ _ _ (fun h => h0 ((cond2 t).mp h)) (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (xbt2 V c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [HS0]; · iexact HS0
    iintro ⟨H0, H1, H2, H3, H4, H5, H6, H7, H8, H9, H10, H11, H12, H13, H14, H15, H16, H17, H18, HS0⟩
    isplitl [HS0 HR]
    · isplitl [HS0]
      · iexists _; isplitr; swap; · iexact HS0
        ipureintro; intro _; rfl
      iexact HR
    isplitl [Ho]; · iexact Ho
    isplitl [H0]; · iapply (Persist.hand_live (dat2 V c) 0 t rfl (after2_0 V c t).symm); iexact H0
    isplitl [H1]; · iapply (Persist.hand_live (dat2 V c) 1 t rfl (after2_1 V c t).symm); iexact H1
    isplitl [H2]; · iapply (Persist.hand_live (dat2 V c) 2 t rfl (after2_2 V c t).symm); iexact H2
    isplitl [H3]; · iapply (Persist.hand_live (dat2 V c) 3 t rfl (after2_3 V c t).symm); iexact H3
    isplitl [H4]; · iapply (Persist.hand_live (dat2 V c) 4 t rfl (after2_4 V c t).symm); iexact H4
    isplitl [H5]; · iapply (Persist.hand_live (dat2 V c) 5 t rfl (after2_5 V c t).symm); iexact H5
    isplitl [H6]; · iapply (Persist.hand_live (dat2 V c) 6 t rfl (after2_6 V c t).symm); iexact H6
    isplitl [H7]; · iapply (Persist.hand_live (dat2 V c) 7 t rfl (after2_7 V c t).symm); iexact H7
    isplitl [H8]; · iapply (Persist.hand_live (dat2 V c) 8 t rfl (after2_8 V c t).symm); iexact H8
    isplitl [H9]; · iapply (Persist.hand_live (dat2 V c) 9 t rfl (after2_9 V c t).symm); iexact H9
    isplitl [H10]; · iapply (Persist.hand_live (dat2 V c) 10 t rfl (after2_10 V c t).symm); iexact H10
    isplitl [H11]; · iapply (Persist.hand_live (dat2 V c) 11 t rfl (after2_11 V c t).symm); iexact H11
    isplitl [H12]; · iapply (Persist.hand_live (dat2 V c) 12 t rfl (after2_12 V c t).symm); iexact H12
    isplitl [H13]; · iapply (Persist.hand_live (dat2 V c) 13 t rfl (after2_13 V c t).symm); iexact H13
    isplitl [H14]; · iapply (Persist.hand_live (dat2 V c) 14 t rfl (after2_14 V c t).symm); iexact H14
    isplitl [H15]; · iapply (Persist.hand_live (dat2 V c) 15 t rfl (after2_15 V c t).symm); iexact H15
    isplitl [H16]; · iapply (Persist.hand_live (dat2 V c) 16 t rfl (after2_16 V c t).symm); iexact H16
    isplitl [H17]; · iapply (Persist.hand_live (dat2 V c) 17 t rfl (after2_17 V c t).symm); iexact H17
    iapply (Persist.hand_live (dat2 V c) 18 t rfl (after2_18 V c t).symm); iexact H18

/-- The body table's row at point `t`'s slots is the body. -/
theorem row2 (t : Fin cfg2.N) :
    defs₀ (F := F) .tc cfg2.body (cfg2.bodyArgs t (cfg2.slots t)) = bodyAt2 t := by
  unfold defs₀; rw [Defs.onTc_tc]

/-- The body obligation of the region, at every point. -/
theorem obligation2 (c : Dev nD) : BodyObligation (dat2 (F := F) V c) (defs₀ (F := F)) Variants.none () Set.univ := fun t => by
  rw [bigSep_W2, bigSep_W2, row2]
  exact triple_restated (body2 V c t) rfl .rfl fun _ => .rfl

end Cert.Kernel.Own

end
-- ==== Proof.Kernel.Segs.lean ====
/- The program as a list of segments: host stretches and kernel regions, each region with its record. -/
module

public import proofs.«01_k».proof.Proof.Kernel.Region1
public import proofs.«01_k».proof.Proof.Kernel.Region2
public import proofs.«01_k».proof.Proof.Gen.Kernel.Regions
public import Idealize.ShloMosaic.Lib.Pipeline.RegionArraysS

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation cellOf afterRegion)

variable {F : FTy → Type} [FloatOps F]

local notation "𝕄" => MT nD τ sig Unit (Elt F) ℕ (UR sig nD τ) ℕ

variable (m : (ℓ : Loc nD τ sig) → Buf (Elt F) ℓ)

/-! ## The buffers' contents between the items of the program -/

/-- A valuation per core, read at the TensorCore's references. -/
abbrev ent (W : Dev nD → Valuation τ sig (Elt F)) : Entry F := fun c b => W c (Proc.devRef .tc b)

def W0 (c : Dev nD) : Valuation τ sig (Elt F) := fun b => m (c, b)
def W1 (c : Dev nD) : Valuation τ sig (Elt F) := StableHlo.after hostOps0 (W0 m c)
def W2 (c : Dev nD) : Valuation τ sig (Elt F) := afterRegion (dat0 (ent (W1 m)) c) (W1 m c)
def W3 (c : Dev nD) : Valuation τ sig (Elt F) := StableHlo.after hostOps1 (W2 m c)
def W4 (c : Dev nD) : Valuation τ sig (Elt F) := afterRegion (dat1 (ent (W3 m)) c) (W3 m c)
def W5 (c : Dev nD) : Valuation τ sig (Elt F) := StableHlo.after hostOps2 (W4 m c)
def W6 (c : Dev nD) : Valuation τ sig (Elt F) := afterRegion (dat2 (ent (W5 m)) c) (W5 m c)
def W7 (c : Dev nD) : Valuation τ sig (Elt F) := StableHlo.after hostOps3 (W6 m c)

/-- The proof data of the three pipelines. -/
def pdats : (p : Fin 3) → (c : Dev nD) → Dat τ (Elt F) Unit ℕ (UR sig nD τ) ℕ (cfgs p) c
  | 0 => fun c => dat0 (ent (W1 m)) c
  | 1 => fun c => dat1 (ent (W3 m)) c
  | 2 => fun c => dat2 (ent (W5 m)) c

/-! ## The regions' invariants at their two ends -/

theorem in0 (V : Entry F) (c : Dev nD) :
    iprop(Pipeline.scopedRest (Ix := Unit) (Name := ℕ) (U := UR sig nD τ) (Lvl := ℕ) (Val := Elt F) spec0 c ∗ ∃ r, prngReg c r) ⊢ ((dat0 V c).Φ 0 : sProp 𝕄) := by
  rw [show (dat0 V c).Φ 0 = Phi0 V c 0 from by dsimp only [dat0]; rfl, scopedRest0_split]
  unfold Phi0
  iintro ⟨⟨⟨%f, Hf⟩, HR⟩, Hp⟩
  isplitl [Hf]
  · iexists f; isplitr; · ipureintro; intro h; exact absurd h (Nat.lt_irrefl 0)
    rw [owns_whole]; iexact Hf
  isplitl [HR]; · iexact HR
  iexact Hp
theorem out0 (V : Entry F) (c : Dev nD) :
    ((dat0 V c).Φ (Fin.last cfg0.N) : sProp 𝕄)
      ⊢ iprop(Pipeline.scopedRest (Ix := Unit) (Name := ℕ) (U := UR sig nD τ) (Lvl := ℕ) (Val := Elt F) spec0 c ∗ ∃ r, prngReg c r) := by
  rw [show (dat0 V c).Φ (Fin.last cfg0.N) = Phi0 V c cfg0.N from by dsimp only [dat0]; rfl, scopedRest0_split]
  unfold Phi0
  iintro ⟨⟨%X, -, HX⟩, HR, Hp⟩
  isplitl [HX HR]
  · isplitl [HX]
    · iexists X; rw [← owns_whole]; iexact HX
    iexact HR
  iexact Hp
theorem in2 (V : Entry F) (c : Dev nD) :
    iprop(Pipeline.scopedRest (Ix := Unit) (Name := ℕ) (U := UR sig nD τ) (Lvl := ℕ) (Val := Elt F) spec2 c ∗ ∃ r, prngReg c r) ⊢ ((dat2 V c).Φ 0 : sProp 𝕄) := by
  rw [show (dat2 V c).Φ 0 = Phi2 V c 0 from by dsimp only [dat2]; rfl, scopedRest2_split]
  unfold Phi2
  iintro ⟨⟨⟨%f, Hf⟩, HR⟩, Hp⟩
  isplitl [Hf]
  · iexists f; isplitr; · ipureintro; intro h; exact absurd h (Nat.lt_irrefl 0)
    rw [owns_whole]; iexact Hf
  isplitl [HR]; · iexact HR
  iexact Hp
theorem out2 (V : Entry F) (c : Dev nD) :
    ((dat2 V c).Φ (Fin.last cfg2.N) : sProp 𝕄)
      ⊢ iprop(Pipeline.scopedRest (Ix := Unit) (Name := ℕ) (U := UR sig nD τ) (Lvl := ℕ) (Val := Elt F) spec2 c ∗ ∃ r, prngReg c r) := by
  rw [show (dat2 V c).Φ (Fin.last cfg2.N) = Phi2 V c cfg2.N from by dsimp only [dat2]; rfl, scopedRest2_split]
  unfold Phi2
  iintro ⟨⟨%X, -, HX⟩, HR, Hp⟩
  isplitl [HX HR]
  · isplitl [HX]
    · iexists X; rw [← owns_whole]; iexact HX
    iexact HR
  iexact Hp
theorem in1 (V : Entry F) (c : Dev nD) :
    iprop(Pipeline.scopedRest (Ix := Unit) (Name := ℕ) (U := UR sig nD τ) (Lvl := ℕ) (Val := Elt F) spec1 c ∗ ∃ r, prngReg c r) ⊢ ((dat1 V c).Φ 0 : sProp 𝕄) := by
  rw [show (dat1 V c).Φ 0 = Phi1 V c 0 from by dsimp only [dat1]; rfl, scopedRest1_split]
  unfold Phi1
  iintro ⟨⟨⟨⟨%f, Hf⟩, ⟨%g, Hg⟩⟩, HR⟩, Hp⟩
  isplitl [Hf]
  · iexists f; isplitr; · ipureintro; intro k _ h; exact absurd h (Nat.not_lt_zero _)
    rw [owns_whole]; iexact Hf
  isplitl [Hg]
  · iexists g; isplitr; · ipureintro; intro k h; exact absurd h.symm (Nat.succ_ne_zero k)
    rw [owns_whole]; iexact Hg
  isplitl [HR]; · iexact HR
  iexact Hp
theorem out1 (V : Entry F) (c : Dev nD) :
    ((dat1 V c).Φ (Fin.last cfg1.N) : sProp 𝕄)
      ⊢ iprop(Pipeline.scopedRest (Ix := Unit) (Name := ℕ) (U := UR sig nD τ) (Lvl := ℕ) (Val := Elt F) spec1 c ∗ ∃ r, prngReg c r) := by
  rw [show (dat1 V c).Φ (Fin.last cfg1.N) = Phi1 V c cfg1.N from by dsimp only [dat1]; rfl, scopedRest1_split]
  unfold Phi1
  iintro ⟨⟨%X, -, HX⟩, ⟨%Y, -, HY⟩, HR, Hp⟩
  isplitl [HX HY HR]
  · isplitl [HX HY]
    · isplitl [HX]
      · iexists X; rw [← owns_whole]; iexact HX
      iexists Y; rw [← owns_whole]; iexact HY
    iexact HR
  iexact Hp

/-- Every array is held whole. -/
theorem share0 (V : Entry F) (c : Dev nD) (w : Fin cfg0.W) : (dat0 V c).share w = fullShare := by
  unfold Dat.share; split
  · rfl
  · dsimp only [dat0]
theorem share1 (V : Entry F) (c : Dev nD) (w : Fin cfg1.W) : (dat1 V c).share w = fullShare := by
  unfold Dat.share; split
  · rfl
  · dsimp only [dat1]
theorem share2 (V : Entry F) (c : Dev nD) (w : Fin cfg2.W) : (dat2 V c).share w = fullShare := by
  unfold Dat.share; split
  · rfl
  · dsimp only [dat2]

/-- The library's component of the user algebra is the whole of it. -/
abbrev EP : Emb (UR sig nD τ) (MT nD τ sig Unit (Elt F) ℕ (UR sig nD τ) ℕ) := emb₁

/-! ## The segments -/

/-- The one level at every cell of the TensorCores; nothing is owed at launch. -/
def lvls (g : GSem nD τ sig) : Finset Unit := if g.1.2 = .tc then Finset.univ else ∅

/-- What rides beside the buffers: the core owing nothing, and the generator register. -/
def rest (c : Dev nD) : sProp 𝕄 :=
  iprop((∃ Wd, owes (c : Thread nD τ) (0 : CellTallies nD τ sig Unit) Wd) ∗ (∃ r, prngReg c r) ∗ emp)

theorem cut (p : Fin 3) : Pipeline.LevelCut (pcfgs (F := F)) adm () lvls (fun _ _ => 0) p (fun _ => (0 : CellTallies nD τ sig Unit)) (fun _ : Dev nD => 0) where
  hι c w s := by unfold lvls; rw [if_pos rfl]; exact Finset.mem_univ _
  hιb c w s := Nat.le_refl 0
  hD c g i h := absurd h (Nat.lt_irrefl 0)

/-- The three regions' records. -/
def reg0 : RegionSeg (pcfgs (F := F)) adm (pdats m) () defs₀ Variants.none lvls (fun _ _ => 0) 0 :=
  RegionSeg.ofHeldIn (pcfgs (F := F)) adm (pdats m) () defs₀ Variants.none lvls (fun _ _ => 0) 0 (fun _ => 0) (Pipeline.ucRefs τ sig)
    (fun c => iprop(∃ r, prngReg c r)) (fun c => iprop(∃ r, prngReg c r)) launch0.toP rfl
    (fun c => (obligation0 (ent (W1 m)) c).loose) (fun _ _ => rfl) (fun _ => rfl) (fun c w => share0 (ent (W1 m)) c w)
    (fun c => in0 (ent (W1 m)) c) (fun c => out0 (ent (W1 m)) c) (fun _ => 0) (cut 0) (fun _ => iprop(emp)) (W1 m) (fun _ _ => rfl)
def reg1 : RegionSeg (pcfgs (F := F)) adm (pdats m) () defs₀ Variants.none lvls (fun _ _ => 0) 1 :=
  RegionSeg.ofHeldIn (pcfgs (F := F)) adm (pdats m) () defs₀ Variants.none lvls (fun _ _ => 0) 1 (fun _ => 0) (Pipeline.ucRefs τ sig)
    (fun c => iprop(∃ r, prngReg c r)) (fun c => iprop(∃ r, prngReg c r)) launch1.toP rfl
    (fun c => (obligation1 (ent (W3 m)) c).loose) (fun _ _ => rfl) (fun _ => rfl) (fun c w => share1 (ent (W3 m)) c w)
    (fun c => in1 (ent (W3 m)) c) (fun c => out1 (ent (W3 m)) c) (fun _ => 0) (cut 1) (fun _ => iprop(emp)) (W3 m) (fun _ _ => rfl)
def reg2 : RegionSeg (pcfgs (F := F)) adm (pdats m) () defs₀ Variants.none lvls (fun _ _ => 0) 2 :=
  RegionSeg.ofHeldIn (pcfgs (F := F)) adm (pdats m) () defs₀ Variants.none lvls (fun _ _ => 0) 2 (fun _ => 0) (Pipeline.ucRefs τ sig)
    (fun c => iprop(∃ r, prngReg c r)) (fun c => iprop(∃ r, prngReg c r)) launch2.toP rfl
    (fun c => (obligation2 (ent (W5 m)) c).loose) (fun _ _ => rfl) (fun _ => rfl) (fun c w => share2 (ent (W5 m)) c w)
    (fun c => in2 (ent (W5 m)) c) (fun c => out2 (ent (W5 m)) c) (fun _ => 0) (cut 2) (fun _ => iprop(emp)) (W5 m) (fun _ _ => rfl)

/-- The host stretches' records. -/
def hseg0 : HostSeg (Ix := Unit) (Name := ℕ) (U := UR sig nD τ) (Lvl := ℕ) (pcfgs (F := F)) defs₀ Variants.none lvls (fun _ _ => 0) :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) rest
def hseg1 : HostSeg (Ix := Unit) (Name := ℕ) (U := UR sig nD τ) (Lvl := ℕ) (pcfgs (F := F)) defs₀ Variants.none lvls (fun _ _ => 0) :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) rest
def hseg2 : HostSeg (Ix := Unit) (Name := ℕ) (U := UR sig nD τ) (Lvl := ℕ) (pcfgs (F := F)) defs₀ Variants.none lvls (fun _ _ => 0) :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) rest
def hseg3 : HostSeg (Ix := Unit) (Name := ℕ) (U := UR sig nD τ) (Lvl := ℕ) (pcfgs (F := F)) defs₀ Variants.none lvls (fun _ _ => 0) :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) rest

/-- The program as its segments. -/
abbrev segList (c : Dev nD) : List (Seg (pcfgs (F := F)) adm (pdats m) () defs₀ Variants.none lvls (fun _ _ => 0)) :=
  [.host (hseg0 m), .region (reg0 m), .host (hseg1 m), .region (reg1 m), .host (hseg2 m), .region (reg2 m), .host (hseg3 m)]

theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)
theorem sub2 : Pipeline.arrRefs (τ := τ) (pcfgs (F := F) 2).spec ⊆ Pipeline.ucRefs τ sig := Pipeline.arrRefs_sub_ucRefs spec2 (by decide)

end Cert.Kernel.Own

end
-- ==== Proof.Kernel.Whole.lean ====
/- The whole run: what every unscoped buffer holds when the program ends. -/
module

public import proofs.«01_k».proof.Proof.Kernel.Segs
public import proofs.«01_k».proof.Proof.Gen.Kernel.Regions
public import Idealize.ShloMosaic.Lib.Pipeline.RegionArraysS

@[expose] public section

set_option maxRecDepth 16384

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation cellOf afterRegion)

variable {F : FTy → Type} [FloatOps F]

local notation "𝕄" => MT nD τ sig Unit (Elt F) ℕ (UR sig nD τ) ℕ

variable (m : (ℓ : Loc nD τ sig) → Buf (Elt F) ℓ)

/-! ## Each region entered and left over the whole set of buffers -/

set_option backward.isDefEq.respectTransparency.types false in
theorem pre0 (c : Dev nD) : iprop(StableHlo.held (c.tc : Thread nD τ) (Pipeline.ucRefs τ sig) (W1 m c) ∗ rest c) ⊢ ((reg0 m).pre c : sProp 𝕄) := by
  unfold reg0 rest
  exact RegionSeg.ofHeldIn_pre (X := fun c => iprop(∃ r, prngReg c r)) (R := fun _ => iprop(emp)) (W := W1 m) (D := fun _ => 0) (S := Pipeline.ucRefs τ sig) (sub0 (F := F)) c
set_option backward.isDefEq.respectTransparency.types false in
theorem post0 (c : Dev nD) : ((reg0 m).post c : sProp 𝕄) ⊢ iprop(StableHlo.held (c.tc : Thread nD τ) (Pipeline.ucRefs τ sig) (W2 m c) ∗ rest c) := by
  unfold reg0 rest W2
  exact RegionSeg.ofHeldIn_post (X := fun c => iprop(∃ r, prngReg c r)) (Y := fun c => iprop(∃ r, prngReg c r)) (R := fun _ => iprop(emp)) (W := W1 m) (D := fun _ => 0) (S := Pipeline.ucRefs τ sig) (sub0 (F := F)) c
set_option backward.isDefEq.respectTransparency.types false in
theorem pre1 (c : Dev nD) : iprop(StableHlo.held (c.tc : Thread nD τ) (Pipeline.ucRefs τ sig) (W3 m c) ∗ rest c) ⊢ ((reg1 m).pre c : sProp 𝕄) := by
  unfold reg1 rest
  exact RegionSeg.ofHeldIn_pre (X := fun c => iprop(∃ r, prngReg c r)) (R := fun _ => iprop(emp)) (W := W3 m) (D := fun _ => 0) (S := Pipeline.ucRefs τ sig) (sub1 (F := F)) c
set_option backward.isDefEq.respectTransparency.types false in
theorem post1 (c : Dev nD) : ((reg1 m).post c : sProp 𝕄) ⊢ iprop(StableHlo.held (c.tc : Thread nD τ) (Pipeline.ucRefs τ sig) (W4 m c) ∗ rest c) := by
  unfold reg1 rest W4
  exact RegionSeg.ofHeldIn_post (X := fun c => iprop(∃ r, prngReg c r)) (Y := fun c => iprop(∃ r, prngReg c r)) (R := fun _ => iprop(emp)) (W := W3 m) (D := fun _ => 0) (S := Pipeline.ucRefs τ sig) (sub1 (F := F)) c
set_option backward.isDefEq.respectTransparency.types false in
theorem pre2 (c : Dev nD) : iprop(StableHlo.held (c.tc : Thread nD τ) (Pipeline.ucRefs τ sig) (W5 m c) ∗ rest c) ⊢ ((reg2 m).pre c : sProp 𝕄) := by
  unfold reg2 rest
  exact RegionSeg.ofHeldIn_pre (X := fun c => iprop(∃ r, prngReg c r)) (R := fun _ => iprop(emp)) (W := W5 m) (D := fun _ => 0) (S := Pipeline.ucRefs τ sig) (sub2 (F := F)) c
set_option backward.isDefEq.respectTransparency.types false in
theorem post2 (c : Dev nD) : ((reg2 m).post c : sProp 𝕄) ⊢ iprop(StableHlo.held (c.tc : Thread nD τ) (Pipeline.ucRefs τ sig) (W6 m c) ∗ rest c) := by
  unfold reg2 rest W6
  exact RegionSeg.ofHeldIn_post (X := fun c => iprop(∃ r, prngReg c r)) (Y := fun c => iprop(∃ r, prngReg c r)) (R := fun _ => iprop(emp)) (W := W5 m) (D := fun _ => 0) (S := Pipeline.ucRefs τ sig) (sub2 (F := F)) c

/-- At the end the generator register and what the core owes are let go. -/
theorem drop_rest (c : Dev nD) : (iprop(StableHlo.held (c : Thread nD τ) (Pipeline.ucRefs τ sig) (W7 m c) ∗ rest c) : sProp 𝕄)
    ⊢ iprop(StableHlo.held (c : Thread nD τ) (Pipeline.ucRefs τ sig) (W7 m c) ∗ ∃ Wd, owes (c : Thread nD τ) (0 : CellTallies nD τ sig Unit) Wd) := by
  unfold rest
  iintro ⟨Hh, HO, -, -⟩
  isplitl [Hh] <;> iassumption

set_option backward.isDefEq.respectTransparency.types false in
/-- Every weakly fair execution ends, every unscoped buffer then holding what the items leave in it, every counter at zero. -/
theorem run_whole (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = W7 m c (Proc.devRef .tc b))
      ∧ r.2.sem = fun _ => 0) := by
  refine Pipeline.θ_run_regions_kit_dev_sems (pcfgs (F := F)) adm (pdats m) () cellOf_inj EP defs₀ Variants.none lvls (fun _ _ => 0) m ρ main
    (segList m)
    (fun c Q => by
      rewrite [main_chain c, Seg.run_eq_chain,
        show (segList m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segList, Seg.pipes_host, Seg.pipes_region, Seg.pipes_nil]; decide)
    0 (fun g h => if_neg h) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (EP (F := F) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c))
    (Tₙ := fun c => StableHlo.held (c : Thread nD τ) (Pipeline.ucRefs τ sig) (W7 m c))
    (hch := fun c => ⟨.rfl, pre0 m c, post0 m c, pre1 m c, post1 m c, pre2 m c, post2 m c, drop_rest m c⟩)
    (hinit := by
      refine Pipeline.initEach lvls (fun _ _ => 0) fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
      unfold rest
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c.tc : Thread nD τ).1, b) = W7 m c b)
    (hfin := fun c s' => by
      unfold StableHlo.held
      iintro ⟨Hh, HSI⟩
      ihave Hr := (pointsTo_read_all (Pipeline.ucRefs τ sig) (fun b => ((c.tc : Thread nD τ).1, b)) (W7 m c) s') $$ [Hh HSI]
      · isplitl [Hh] <;> iassumption
      imodintro; iexact Hr)
    (hQ := fun _ h hz => ⟨fun c b hb => h c (Proc.devRef .tc b) (Pipeline.devRef_mem_ucRefs hb), funext fun g => hz g (.inr (regions_no_unscoped g.2))⟩)

end Cert.Kernel.Own

end
-- ==== Proof.Kernel.Frame.lean ====
/- The arguments at the end of the run: no item of the program writes one of them. -/
module

public import proofs.«01_k».proof.Proof.Kernel.Whole

@[expose] public section

set_option maxRecDepth 16384

noncomputable section

namespace Cert.Kernel.Own

open Cert.Kernel Cert.Kernel.Gen
open Idealize.ShloMosaic Idealize.ShloMosaic.TcCoe
open Idealize.SL.Sem
open Idealize.ShloMosaic.Pipeline (afterRegion)

variable {F : FTy → Type} [FloatOps F]
variable (m : (ℓ : Loc nD τ sig) → Buf (Elt F) ℓ)

/-! ## What each item leaves as it was -/

theorem W1_of (c : Dev nD) (r : Ref sig .tc) (h : r ∉ hostOps0_W) : W1 m c (Proc.devRef .tc r) = m ((c : Thread nD τ).loc r) :=
  StableHlo.after_of_writes_sub hostOps0 _ hostOps0_writes h
theorem W2_of (c : Dev nD) (r : Ref sig .tc) (h : ∀ w, Pipeline.arrRef spec0 w = r → (cfg0.win w).isOut = false) :
    W2 m c (Proc.devRef .tc r) = W1 m c (Proc.devRef .tc r) :=
  Pipeline.afterRegion_keeps (dat0 (ent (W1 m)) c) (W1 m c) launch0.win.arr_inj (fun w => dat0_A (ent (W1 m)) c w) r h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : ∀ w, Pipeline.arrRef spec1 w = r → (cfg1.win w).isOut = false) :
    W4 m c (Proc.devRef .tc r) = W3 m c (Proc.devRef .tc r) :=
  Pipeline.afterRegion_keeps (dat1 (ent (W3 m)) c) (W3 m c) launch1.win.arr_inj (fun w => dat1_A (ent (W3 m)) c w) r h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W6_of (c : Dev nD) (r : Ref sig .tc) (h : ∀ w, Pipeline.arrRef spec2 w = r → (cfg2.win w).isOut = false) :
    W6 m c (Proc.devRef .tc r) = W5 m c (Proc.devRef .tc r) :=
  Pipeline.afterRegion_keeps (dat2 (ent (W5 m)) c) (W5 m c) launch2.win.arr_inj (fun w => dat2_A (ent (W5 m)) c w) r h
theorem W7_of (c : Dev nD) (r : Ref sig .tc) (h : r ∉ hostOps3_W) : W7 m c (Proc.devRef .tc r) = W6 m c (Proc.devRef .tc r) :=
  StableHlo.after_of_writes_sub hostOps3 _ hostOps3_writes h

/-! ## The arguments -/

theorem W7_arg0 (c : Dev nD) : W7 m c (Proc.devRef .tc main_arg0) = m ((c : Thread nD τ).loc main_arg0) :=
  (W7_of m c main_arg0 (by decide)).trans <| (W6_of m c main_arg0 (by decide)).trans <| (W5_of m c main_arg0 (by decide)).trans <|
    (W4_of m c main_arg0 (by decide)).trans <| (W3_of m c main_arg0 (by decide)).trans <| (W2_of m c main_arg0 (by decide)).trans (W1_of m c main_arg0 (by decide))
theorem W7_arg1 (c : Dev nD) : W7 m c (Proc.devRef .tc main_arg1) = m ((c : Thread nD τ).loc main_arg1) :=
  (W7_of m c main_arg1 (by decide)).trans <| (W6_of m c main_arg1 (by decide)).trans <| (W5_of m c main_arg1 (by decide)).trans <|
    (W4_of m c main_arg1 (by decide)).trans <| (W3_of m c main_arg1 (by decide)).trans <| (W2_of m c main_arg1 (by decide)).trans (W1_of m c main_arg1 (by decide))
theorem W7_arg2 (c : Dev nD) : W7 m c (Proc.devRef .tc main_arg2) = m ((c : Thread nD τ).loc main_arg2) :=
  (W7_of m c main_arg2 (by decide)).trans <| (W6_of m c main_arg2 (by decide)).trans <| (W5_of m c main_arg2 (by decide)).trans <|
    (W4_of m c main_arg2 (by decide)).trans <| (W3_of m c main_arg2 (by decide)).trans <| (W2_of m c main_arg2 (by decide)).trans (W1_of m c main_arg2 (by decide))
theorem W7_arg3 (c : Dev nD) : W7 m c (Proc.devRef .tc main_arg3) = m ((c : Thread nD τ).loc main_arg3) :=
  (W7_of m c main_arg3 (by decide)).trans <| (W6_of m c main_arg3 (by decide)).trans <| (W5_of m c main_arg3 (by decide)).trans <|
    (W4_of m c main_arg3 (by decide)).trans <| (W3_of m c main_arg3 (by decide)).trans <| (W2_of m c main_arg3 (by decide)).trans (W1_of m c main_arg3 (by decide))
theorem W7_arg4 (c : Dev nD) : W7 m c (Proc.devRef .tc main_arg4) = m ((c : Thread nD τ).loc main_arg4) :=
  (W7_of m c main_arg4 (by decide)).trans <| (W6_of m c main_arg4 (by decide)).trans <| (W5_of m c main_arg4 (by decide)).trans <|
    (W4_of m c main_arg4 (by decide)).trans <| (W3_of m c main_arg4 (by decide)).trans <| (W2_of m c main_arg4 (by decide)).trans (W1_of m c main_arg4 (by decide))
theorem W7_arg5 (c : Dev nD) : W7 m c (Proc.devRef .tc main_arg5) = m ((c : Thread nD τ).loc main_arg5) :=
  (W7_of m c main_arg5 (by decide)).trans <| (W6_of m c main_arg5 (by decide)).trans <| (W5_of m c main_arg5 (by decide)).trans <|
    (W4_of m c main_arg5 (by decide)).trans <| (W3_of m c main_arg5 (by decide)).trans <| (W2_of m c main_arg5 (by decide)).trans (W1_of m c main_arg5 (by decide))
theorem W7_arg6 (c : Dev nD) : W7 m c (Proc.devRef .tc main_arg6) = m ((c : Thread nD τ).loc main_arg6) :=
  (W7_of m c main_arg6 (by decide)).trans <| (W6_of m c main_arg6 (by decide)).trans <| (W5_of m c main_arg6 (by decide)).trans <|
    (W4_of m c main_arg6 (by decide)).trans <| (W3_of m c main_arg6 (by decide)).trans <| (W2_of m c main_arg6 (by decide)).trans (W1_of m c main_arg6 (by decide))
theorem W7_arg7 (c : Dev nD) : W7 m c (Proc.devRef .tc main_arg7) = m ((c : Thread nD τ).loc main_arg7) :=
  (W7_of m c main_arg7 (by decide)).trans <| (W6_of m c main_arg7 (by decide)).trans <| (W5_of m c main_arg7 (by decide)).trans <|
    (W4_of m c main_arg7 (by decide)).trans <| (W3_of m c main_arg7 (by decide)).trans <| (W2_of m c main_arg7 (by decide)).trans (W1_of m c main_arg7 (by decide))
theorem W7_arg8 (c : Dev nD) : W7 m c (Proc.devRef .tc main_arg8) = m ((c : Thread nD τ).loc main_arg8) :=
  (W7_of m c main_arg8 (by decide)).trans <| (W6_of m c main_arg8 (by decide)).trans <| (W5_of m c main_arg8 (by decide)).trans <|
    (W4_of m c main_arg8 (by decide)).trans <| (W3_of m c main_arg8 (by decide)).trans <| (W2_of m c main_arg8 (by decide)).trans (W1_of m c main_arg8 (by decide))
theorem W7_arg9 (c : Dev nD) : W7 m c (Proc.devRef .tc main_arg9) = m ((c : Thread nD τ).loc main_arg9) :=
  (W7_of m c main_arg9 (by decide)).trans <| (W6_of m c main_arg9 (by decide)).trans <| (W5_of m c main_arg9 (by decide)).trans <|
    (W4_of m c main_arg9 (by decide)).trans <| (W3_of m c main_arg9 (by decide)).trans <| (W2_of m c main_arg9 (by decide)).trans (W1_of m c main_arg9 (by decide))
theorem W7_arg10 (c : Dev nD) : W7 m c (Proc.devRef .tc main_arg10) = m ((c : Thread nD τ).loc main_arg10) :=
  (W7_of m c main_arg10 (by decide)).trans <| (W6_of m c main_arg10 (by decide)).trans <| (W5_of m c main_arg10 (by decide)).trans <|
    (W4_of m c main_arg10 (by decide)).trans <| (W3_of m c main_arg10 (by decide)).trans <| (W2_of m c main_arg10 (by decide)).trans (W1_of m c main_arg10 (by decide))
theorem W7_arg11 (c : Dev nD) : W7 m c (Proc.devRef .tc main_arg11) = m ((c : Thread nD τ).loc main_arg11) :=
  (W7_of m c main_arg11 (by decide)).trans <| (W6_of m c main_arg11 (by decide)).trans <| (W5_of m c main_arg11 (by decide)).trans <|
    (W4_of m c main_arg11 (by decide)).trans <| (W3_of m c main_arg11 (by decide)).trans <| (W2_of m c main_arg11 (by decide)).trans (W1_of m c main_arg11 (by decide))

/-- Every execution ends, each argument as at launch, each counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h.1 c main_arg0 rfl).trans (W7_arg0 m c),
      (h.1 c main_arg1 rfl).trans (W7_arg1 m c),
      (h.1 c main_arg2 rfl).trans (W7_arg2 m c),
      (h.1 c main_arg3 rfl).trans (W7_arg3 m c),
      (h.1 c main_arg4 rfl).trans (W7_arg4 m c),
      (h.1 c main_arg5 rfl).trans (W7_arg5 m c),
      (h.1 c main_arg6 rfl).trans (W7_arg6 m c),
      (h.1 c main_arg7 rfl).trans (W7_arg7 m c),
      (h.1 c main_arg8 rfl).trans (W7_arg8 m c),
      (h.1 c main_arg9 rfl).trans (W7_arg9 m c),
      (h.1 c main_arg10 rfl).trans (W7_arg10 m c),
      (h.1 c main_arg11 rfl).trans (W7_arg11 m c)⟩, h.2⟩) (run_whole m ρ)

end Cert.Kernel.Own

end
-- ==== Proof.KernelIdeal.Run0.lean ====
/- The body of the gate and up kernel, run once: at the first grid point and at the others. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Lib.Whole
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At the first grid point. -/
theorem run0_A (c : Dev nD) (i : grid0.Coords) (arg1 : Memref sig .tc .vmem S256x2048 .bf16) (harg1 : arg1.IsWhole) (arg2 : Memref sig .tc .vmem S2048x256 .i8) (harg2 : arg2.IsWhole) (arg3 : Memref sig .tc .vmem S32x256 .f32) (harg3 : arg3.IsWhole) (arg4 : Memref sig .tc .vmem S2048x256 .f32) (harg4 : arg4.IsWhole) (arg5 : Memref sig .tc .vmem S2048x256 .i8) (harg5 : arg5.IsWhole) (arg6 : Memref sig .tc .vmem S32x256 .f32) (harg6 : arg6.IsWhole) (arg7 : Memref sig .tc .vmem S2048x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x2048 .bf16) (harg13 : arg13.IsWhole)
    (hc0 : k0_cond1 i = 1#1)
    (x0 : Vec F S256x2048 .bf16) (x1 : Vec F S2048x256 .i8) (x2 : Vec F S32x256 .f32) (x3 : Vec F S2048x256 .f32) (x4 : Vec F S2048x256 .i8) (x5 : Vec F S32x256 .f32) (x6 : Vec F S2048x256 .f32) :
      ∀ (E : Set ℕ) (Q : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay9 (k0_pay3 x0) (k0_pay6 x0) x3 x1 x2 : Vec F S256x256 .f32) ∗ owns (c : Thread nD τ) arg9 fullShare (k0_pay10 (k0_pay8 (k0_pay3 x0)) (k0_pay6 x0) x6 x4 x5 : Vec F S256x256 .f32) ∗ owns (c : Thread nD τ) arg10 fullShare (k0_pay5 x0 : Vec F S256x2048 .i8) ∗ owns (c : Thread nD τ) arg11 fullShare ((k0_pay3 x0) : Vec F S256x1 .f32) ∗ owns (c : Thread nD τ) arg12 fullShare (k0_pay1 (k0_pay11 (k0_pay8 (k0_pay3 x0)) (k0_pay9 (k0_pay3 x0) (k0_pay6 x0) x3 x1 x2) (k0_pay6 x0) x6 x4 x5) k0_pay7 : Vec F S256x1 .f32) ∗ owns (c : Thread nD τ) arg13 fullShare ((k0_pay6 x0) : Vec F S256x2048 .bf16)) -∗ Q ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) Q := by
    intro E Q
    simp only [cc0_gate_up_eq_skeleton]; unfold cc0_gate_up_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      unfold run0_A.sl.r_1 run0_A.sl.v5 run0_A.sl.v3 run0_A.sl.H10_1 run0_A.sl.H12_1
      simp only [Whole.read_writes, Whole.readAt_writes, Whole.readCov, Whole.readAt_unread]
    isplitl [H8]
    · iexists _; isplitr; swap; · iexact H8
      ipureintro
      unfold run0_A.sl.r run0_A.sl.v5 run0_A.sl.v3 run0_A.sl.H10_1 run0_A.sl.H12_1
      simp only [Whole.read_writes, Whole.readAt_writes, Whole.readCov, Whole.readAt_unread]
    isplitl [H9]
    · iexists _; isplitr; swap; · iexact H9
      ipureintro
      simp only [Whole.read_writes, Whole.readAt_writes, Whole.readCov, Whole.readAt_unread]
    isplitl [H10]
    · iexists _; isplitr; swap; · iexact H10
      ipureintro
      unfold run0_A.sl.H10_1
      simp only [Whole.read_writes, Whole.readAt_writes, Whole.readCov, Whole.readAt_unread]
    isplitl [H11]
    · iexists _; isplitr; swap; · iexact H11
      ipureintro
      unfold run0_A.sl.r_2 run0_A.sl.r_1 run0_A.sl.r run0_A.sl.v76 run0_A.sl.v5 run0_A.sl.v3 run0_A.sl.H10_1 run0_A.sl.H11_1 run0_A.sl.H12_1
      simp only [Whole.read_writes, Whole.readAt_writes, Whole.readCov, Whole.readAt_unread]
    iexists _; isplitr; swap; · iexact H12
    ipureintro
    unfold run0_A.sl.H12_1
    simp only [Whole.read_writes, Whole.readAt_writes, Whole.readCov, Whole.readAt_unread]

set_option maxHeartbeats 4000000 in
/-- At a later grid point. -/
theorem run0_B (c : Dev nD) (i : grid0.Coords) (arg1 : Memref sig .tc .vmem S256x2048 .bf16) (harg1 : arg1.IsWhole) (arg2 : Memref sig .tc .vmem S2048x256 .i8) (harg2 : arg2.IsWhole) (arg3 : Memref sig .tc .vmem S32x256 .f32) (harg3 : arg3.IsWhole) (arg4 : Memref sig .tc .vmem S2048x256 .f32) (harg4 : arg4.IsWhole) (arg5 : Memref sig .tc .vmem S2048x256 .i8) (harg5 : arg5.IsWhole) (arg6 : Memref sig .tc .vmem S32x256 .f32) (harg6 : arg6.IsWhole) (arg7 : Memref sig .tc .vmem S2048x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x2048 .bf16) (harg13 : arg13.IsWhole)
    (hc0 : ¬ k0_cond1 i = 1#1)
    (x0 : Vec F S256x2048 .bf16) (x1 : Vec F S2048x256 .i8) (x2 : Vec F S32x256 .f32) (x3 : Vec F S2048x256 .f32) (x4 : Vec F S2048x256 .i8) (x5 : Vec F S32x256 .f32) (x6 : Vec F S2048x256 .f32) (x9 : Vec F S256x2048 .i8) (x10 : Vec F S256x1 .f32) (x11 : Vec F S256x1 .f32) (x12 : Vec F S256x2048 .bf16) :
      ∀ (E : Set ℕ) (Q : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare x9 ∗ owns (c : Thread nD τ) arg11 fullShare x10 ∗ owns (c : Thread nD τ) arg12 fullShare x11 ∗ owns (c : Thread nD τ) arg13 fullShare x12
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay9 x10 x12 x3 x1 x2 : Vec F S256x256 .f32) ∗ owns (c : Thread nD τ) arg9 fullShare (k0_pay10 (k0_pay8 x10) x12 x6 x4 x5 : Vec F S256x256 .f32) ∗ owns (c : Thread nD τ) arg10 fullShare x9 ∗ owns (c : Thread nD τ) arg11 fullShare x10 ∗ owns (c : Thread nD τ) arg12 fullShare (k0_pay1 (k0_pay11 (k0_pay8 x10) (k0_pay9 x10 x12 x3 x1 x2) x12 x6 x4 x5) x11 : Vec F S256x1 .f32) ∗ owns (c : Thread nD τ) arg13 fullShare x12) -∗ Q ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10 arg11 harg11 arg12 harg12 arg13 harg13) Q := by
    intro E Q
    simp only [cc0_gate_up_eq_skeleton]; unfold cc0_gate_up_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro
      unfold run0_B.sl.r_1
      simp only [Whole.read_writes, Whole.readAt_writes, Whole.readCov, Whole.readAt_unread]
    isplitl [H8]
    · iexists _; isplitr; swap; · iexact H8
      ipureintro
      unfold run0_B.sl.r
      simp only [Whole.read_writes, Whole.readAt_writes, Whole.readCov, Whole.readAt_unread]
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro
      unfold run0_B.sl.r_2 run0_B.sl.r_1 run0_B.sl.r
      simp only [Whole.read_writes, Whole.readAt_writes, Whole.readCov, Whole.readAt_unread]
    iexists _; isplitr; · ipureintro; exact harg13.read_unread _
    iexact H12

end Cert.KernelIdeal.Own

end
-- ==== Proof.KernelIdeal.Region0.lean ====
/- The gate and up kernel as a region: what every buffer holds after every grid point, and the body at every point. -/
module

public import proofs.«01_k».proof.Proof.KernelIdeal.Run0
public import proofs.«01_k».proof.Proof.Lib.Persist
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffers' contents as the region finds them. -/
abbrev Entry (F : FTy → Type) : Type := (c : Dev nD) → (b : Ref sig .tc) → Buf (Elt F) ((c : Thread nD τ).loc b)

variable (V : Entry F)

/-- The grid point numbered `n`. -/
def pt0 (n : ℕ) : Fin cfg0.N := ⟨n % 32, lt_of_lt_of_eq (Nat.mod_lt n (by decide)) (show 32 = cfg0.N from N_0.symm)⟩

theorem pt0_val (t : Fin cfg0.N) : pt0 t.val = t :=
  Fin.ext (Nat.mod_eq_of_lt (lt_of_lt_of_eq t.isLt (show cfg0.N = 32 from N_0)))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0's staging buffer at point `t`. -/
abbrev ms0_0 (t : Fin cfg0.N) : Memref sig .tc .vmem S256x2048 .bf16 := win0_0.stage (cfg0.slots t 0)
/-- Window 1's staging buffer at point `t`. -/
abbrev ms0_1 (t : Fin cfg0.N) : Memref sig .tc .vmem S2048x256 .i8 := win0_1.stage (cfg0.slots t 1)
/-- Window 2's staging buffer at point `t`. -/
abbrev ms0_2 (t : Fin cfg0.N) : Memref sig .tc .vmem S32x256 .f32 := win0_2.stage (cfg0.slots t 2)
/-- Window 3's staging buffer at point `t`. -/
abbrev ms0_3 (t : Fin cfg0.N) : Memref sig .tc .vmem S2048x256 .f32 := win0_3.stage (cfg0.slots t 3)
/-- Window 4's staging buffer at point `t`. -/
abbrev ms0_4 (t : Fin cfg0.N) : Memref sig .tc .vmem S2048x256 .i8 := win0_4.stage (cfg0.slots t 4)
/-- Window 5's staging buffer at point `t`. -/
abbrev ms0_5 (t : Fin cfg0.N) : Memref sig .tc .vmem S32x256 .f32 := win0_5.stage (cfg0.slots t 5)
/-- Window 6's staging buffer at point `t`. -/
abbrev ms0_6 (t : Fin cfg0.N) : Memref sig .tc .vmem S2048x256 .f32 := win0_6.stage (cfg0.slots t 6)
/-- Window 7's staging buffer at point `t`. -/
abbrev ms0_7 (t : Fin cfg0.N) : Memref sig .tc .vmem S256x256 .f32 := win0_7.stage (cfg0.slots t 7)
/-- Window 8's staging buffer at point `t`. -/
abbrev ms0_8 (t : Fin cfg0.N) : Memref sig .tc .vmem S256x256 .f32 := win0_8.stage (cfg0.slots t 8)
/-- Window 9's staging buffer at point `t`. -/
abbrev ms0_9 (t : Fin cfg0.N) : Memref sig .tc .vmem S256x2048 .i8 := win0_9.stage (cfg0.slots t 9)
/-- Window 10's staging buffer at point `t`. -/
abbrev ms0_10 (t : Fin cfg0.N) : Memref sig .tc .vmem S256x1 .f32 := win0_10.stage (cfg0.slots t 10)
/-- Window 11's staging buffer at point `t`. -/
abbrev ms0_11 (t : Fin cfg0.N) : Memref sig .tc .vmem S256x1 .f32 := win0_11.stage (cfg0.slots t 11)
/-- The kernel's own buffer 0. -/
abbrev scM0_0 : Memref sig .tc .vmem S256x2048 .bf16 := Memref.whole cc0_scratch0

/-- The activation scales, the integer activations, and the activations the products use: stored at the first point. -/
def sx0 (c : Dev nD) : Vec F S256x1 .f32 := k0_pay3 (blk0 V c 0 (pt0 0))
def xq0 (c : Dev nD) : Vec F S256x2048 .i8 := k0_pay5 (blk0 V c 0 (pt0 0))
def xb0 (c : Dev nD) : Vec F S256x2048 .bf16 := k0_pay6 (blk0 V c 0 (pt0 0))

/-- The gate and the up block of a point. -/
def gg0 (c : Dev nD) (t : Fin cfg0.N) : Vec F S256x256 .f32 :=
  k0_pay9 (sx0 V c) (xb0 V c) (blk0 V c 3 t) (blk0 V c 1 t) (blk0 V c 2 t)
def uu0 (c : Dev nD) (t : Fin cfg0.N) : Vec F S256x256 .f32 :=
  k0_pay10 (k0_pay8 (sx0 V c)) (xb0 V c) (blk0 V c 6 t) (blk0 V c 4 t) (blk0 V c 5 t)

/-- One point's update of the running row maxima, and the maxima after point `n`. -/
def amStep0 (c : Dev nD) (t : Fin cfg0.N) (prev : Vec F S256x1 .f32) : Vec F S256x1 .f32 :=
  k0_pay1 (k0_pay11 (k0_pay8 (sx0 V c)) (gg0 V c t) (xb0 V c) (blk0 V c 6 t) (blk0 V c 4 t) (blk0 V c 5 t)) prev
def am0 (c : Dev nD) : ℕ → Vec F S256x1 .f32
  | 0 => amStep0 V c (pt0 0) k0_pay7
  | n + 1 => amStep0 V c (pt0 (n + 1)) (am0 c n)

/-- The body's invariant before point `n`: the kernel's own buffer, the activations once the first point has stored them. -/
def Phi0 (c : Dev nD) (n : ℕ) : sProp 𝕄 :=
  iprop((∃ X, ⌜0 < n → X = xb0 V c⌝ ∗ owns (c : Thread nD τ) scM0_0 fullShare X)
    ∗ Pipeline.scopedRestBut (Ix := Unit) (Name := ℕ) (U := UR sig nD τ) (Lvl := ℕ) (Val := Elt F) spec0 c [cc0_scratch0]
    ∗ ∃ r, prngReg c r)

/-- The proof data of the pipeline on core `c`: each input's buffer holds its block, each output's what the body leaves. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => gg0 V c t
    | ⟨8, _⟩ => uu0 V c t
    | ⟨9, _⟩ => xq0 V c
    | ⟨10, _⟩ => sx0 V c
    | ⟨11, _⟩ => am0 V c t.val
  Φ s := Phi0 V c s.val
  q _ := fullShare
  owed _ := 0

theorem dat0_A (c : Dev nD) (w : Fin cfg0.W) : (dat0 V c).A w = V c (Pipeline.arrRef spec0 w) := by dsimp only [dat0]
theorem dat0_castSucc (c : Dev nD) (t : Fin cfg0.N) : (dat0 V c).Φ t.castSucc = Phi0 V c t.val := by
  dsimp only [dat0]; exact Persist.at_castSucc (Phi0 V c) t
theorem dat0_succ (c : Dev nD) (t : Fin cfg0.N) : (dat0 V c).Φ t.succ = Phi0 V c (t.val + 1) := by
  dsimp only [dat0]; exact Persist.at_succ (Phi0 V c) t
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = gg0 V c t := by dsimp only [dat0]
theorem after0_8 (c : Dev nD) (t : Fin cfg0.N) : (dat0 V c).after 8 t = uu0 V c t := by dsimp only [dat0]
theorem after0_9 (c : Dev nD) (t : Fin cfg0.N) : (dat0 V c).after 9 t = xq0 V c := by dsimp only [dat0]
theorem after0_10 (c : Dev nD) (t : Fin cfg0.N) : (dat0 V c).after 10 t = sx0 V c := by dsimp only [dat0]
theorem after0_11 (c : Dev nD) (t : Fin cfg0.N) : (dat0 V c).after 11 t = am0 V c t.val := by dsimp only [dat0]
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [dat0_A]; try rfl) t d).trans
    (by unfold Dat.fetched Dat.blockOf blk0; rw [dat0_A]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [dat0_A]; try rfl) t d).trans
    (by unfold Dat.fetched Dat.blockOf blk0; rw [dat0_A]; try rfl)
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [dat0_A]; try rfl) t d).trans
    (by unfold Dat.fetched Dat.blockOf blk0; rw [dat0_A]; try rfl)
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [dat0_A]; try rfl) t d).trans
    (by unfold Dat.fetched Dat.blockOf blk0; rw [dat0_A]; try rfl)
theorem before0_5 (c : Dev nD) (t : Fin cfg0.N) (d) : (dat0 V c).before 5 t d = blk0 V c 5 t :=
  ((dat0 V c).before_in_eq_fetched 5 rfl (fun _ => rfl) (fun _ _ _ => rfl)
    (fun t => by rw [after0_5]; unfold Dat.blockOf blk0; rw [dat0_A]; try rfl) t d).trans
    (by unfold Dat.fetched Dat.blockOf blk0; rw [dat0_A]; try rfl)
theorem before0_6 (c : Dev nD) (t : Fin cfg0.N) (d) : (dat0 V c).before 6 t d = blk0 V c 6 t :=
  ((dat0 V c).before_in_eq_fetched 6 rfl (fun _ => rfl) (fun _ _ _ => rfl)
    (fun t => by rw [after0_6]; unfold Dat.blockOf blk0; rw [dat0_A]; try rfl) t d).trans
    (by unfold Dat.fetched Dat.blockOf blk0; rw [dat0_A]; try rfl)

/-- The first point is the one at which the body's condition holds. -/
theorem cond0 : ∀ t : Fin cfg0.N, k0_cond1 (grid0.coords t) = 1#1 ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [k0_cond1, e0]
    word_cmp
   : ∀ t : Fin grid0.N, k0_cond1 (grid0.coords t) = 1#1 ↔ t.val % 32 = 0)

theorem lt0 (t : Fin cfg0.N) : t.val < 32 := lt_of_lt_of_eq t.isLt (show cfg0.N = 32 from N_0)

theorem idle0_9 (t : Fin cfg0.N) : cfg0.idle 9 (cfg0.grid.coords t) = !(k0_cond1 (grid0.coords t) == 1#1) := rfl
theorem idle0_10 (t : Fin cfg0.N) : cfg0.idle 10 (cfg0.grid.coords t) = !(k0_cond1 (grid0.coords t) == 1#1) := rfl

theorem live0_first (t : Fin cfg0.N) (h : t.val % 32 = 0) : (!(k0_cond1 (grid0.coords t) == 1#1)) = false := by
  rw [(cond0 t).mpr h]; rfl
theorem idle0_later (t : Fin cfg0.N) (h : ¬ t.val % 32 = 0) : (!(k0_cond1 (grid0.coords t) == 1#1)) = true := by
  have : ¬ k0_cond1 (grid0.coords t) = 1#1 := fun e => h ((cond0 t).mp e)
  rw [beq_eq_false_iff_ne.mpr this]; rfl
theorem later_of_idle0 (t : Fin cfg0.N) (h : (!(k0_cond1 (grid0.coords t) == 1#1)) = true) : ¬ t.val % 32 = 0 := fun e => by
  rw [live0_first t e] at h; cases h

/-- The point before a later one. -/
theorem pred0 (t : Fin cfg0.N) (h : ¬ t.val % 32 = 0) : ∃ t' : Fin cfg0.N, t'.val + 1 = t.val :=
  ⟨⟨t.val - 1, Nat.lt_of_le_of_lt (Nat.sub_le _ _) t.isLt⟩, by show t.val - 1 + 1 = t.val; have := lt0 t; omega⟩

theorem noflush0_9 (t' t : Fin cfg0.N) (h : t'.val + 1 = t.val) : (cfg0.win 9).flush t' = false := by
  rw [← Bool.not_eq_true]; intro e; have := (flush0_9 t').mp e; have := lt0 t; omega
theorem noflush0_10 (t' t : Fin cfg0.N) (h : t'.val + 1 = t.val) : (cfg0.win 10).flush t' = false := by
  rw [← Bool.not_eq_true]; intro e; have := (flush0_10 t').mp e; have := lt0 t; omega
theorem noflush0_11 (t' t : Fin cfg0.N) (h : t'.val + 1 = t.val) : (cfg0.win 11).flush t' = false := by
  rw [← Bool.not_eq_true]; intro e; have := (flush0_11 t').mp e; have := lt0 t; omega

/-- At a later point the buffers of windows 9, 10 and 11 are found as the points before left them. -/
theorem found0_9 (c : Dev nD) (t : Fin cfg0.N) (h : ¬ t.val % 32 = 0) (d) : (dat0 V c).before 9 t d = xq0 V c :=
  (Persist.before_idle (dat0 V c) 9 (fun _ _ => rfl) (fun _ => rfl) (fun t hi => by
    obtain ⟨t', ht'⟩ := pred0 t (later_of_idle0 t hi)
    exact ⟨t', ht', by rw [after0_9, after0_9], noflush0_9 t' t ht'⟩) _ t rfl (idle0_later t h) d).trans (after0_9 V c t)
theorem found0_10 (c : Dev nD) (t : Fin cfg0.N) (h : ¬ t.val % 32 = 0) (d) : (dat0 V c).before 10 t d = sx0 V c :=
  (Persist.before_idle (dat0 V c) 10 (fun _ _ => rfl) (fun _ => rfl) (fun t hi => by
    obtain ⟨t', ht'⟩ := pred0 t (later_of_idle0 t hi)
    exact ⟨t', ht', by rw [after0_10, after0_10], noflush0_10 t' t ht'⟩) _ t rfl (idle0_later t h) d).trans (after0_10 V c t)
theorem found0_11 (c : Dev nD) (t : Fin cfg0.N) (n : ℕ) (hn : t.val = n + 1) (d) : (dat0 V c).before 11 t d = am0 V c n := by
  have hl := lt0 t
  obtain ⟨t', ht'⟩ := pred0 t (by omega)
  refine (Persist.before_of_live (dat0 V c) 11 (fun _ _ => rfl) t t' ht' rfl (noflush0_11 t' t ht') rfl d).trans ?_
  rw [after0_11, show t'.val = n by omega]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t)

set_option maxHeartbeats 4000000 in
/-- The body at any point. -/
theorem body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).owesAt () t.succ = (dat0 V c).owesAt () t.castSucc from rfl, dat0_castSucc, dat0_succ]
  simp only [before0_0, before0_1, before0_2, before0_3, before0_4, before0_5, before0_6]
  unfold Phi0
  have hN := lt0 t
  by_cases h0 : t.val % 32 = 0
  · obtain rfl : t = pt0 0 := Fin.ext (by show t.val = 0 % 32; omega)
    iintro ⟨⟨⟨%X, %hX, HS0⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((run0_A c (grid0.coords (pt0 0)) _ _ _ _ _ _ _ _ _ _ _ _ _ _ _ _ _ _ _ _ _ _ _ _ _ _ ((cond0 _).mpr h0) (blk0 V c 0 (pt0 0)) (blk0 V c 1 (pt0 0)) (blk0 V c 2 (pt0 0)) (blk0 V c 3 (pt0 0)) (blk0 V c 4 (pt0 0)) (blk0 V c 5 (pt0 0)) (blk0 V c 6 (pt0 0))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexists _; iexact HS0
    iintro ⟨H0, H1, H2, H3, H4, H5, H6, H7, H8, H9, H10, H11, HS0⟩
    isplitl [HS0 HR]
    · isplitl [HS0]
      · iexists _; isplitr; swap; · iexact HS0
        ipureintro; intro _; rfl
      iexact HR
    isplitl [Ho]; · iexact Ho
    isplitl [H0]; · iapply (Persist.hand_live (dat0 V c) 0 (pt0 0) rfl (after0_0 V c (pt0 0)).symm); iexact H0
    isplitl [H1]; · iapply (Persist.hand_live (dat0 V c) 1 (pt0 0) rfl (after0_1 V c (pt0 0)).symm); iexact H1
    isplitl [H2]; · iapply (Persist.hand_live (dat0 V c) 2 (pt0 0) rfl (after0_2 V c (pt0 0)).symm); iexact H2
    isplitl [H3]; · iapply (Persist.hand_live (dat0 V c) 3 (pt0 0) rfl (after0_3 V c (pt0 0)).symm); iexact H3
    isplitl [H4]; · iapply (Persist.hand_live (dat0 V c) 4 (pt0 0) rfl (after0_4 V c (pt0 0)).symm); iexact H4
    isplitl [H5]; · iapply (Persist.hand_live (dat0 V c) 5 (pt0 0) rfl (after0_5 V c (pt0 0)).symm); iexact H5
    isplitl [H6]; · iapply (Persist.hand_live (dat0 V c) 6 (pt0 0) rfl (after0_6 V c (pt0 0)).symm); iexact H6
    isplitl [H7]; · iapply (Persist.hand_live (dat0 V c) 7 (pt0 0) rfl (after0_7 V c _).symm); iexact H7
    isplitl [H8]; · iapply (Persist.hand_live (dat0 V c) 8 (pt0 0) rfl (after0_8 V c _).symm); iexact H8
    isplitl [H9]; · iapply (Persist.hand_live (dat0 V c) 9 (pt0 0) ((idle0_9 (pt0 0)).trans (live0_first (pt0 0) rfl)) (after0_9 V c _).symm); iexact H9
    isplitl [H10]; · iapply (Persist.hand_live (dat0 V c) 10 (pt0 0) ((idle0_10 (pt0 0)).trans (live0_first (pt0 0) rfl)) (after0_10 V c _).symm); iexact H10
    iapply (Persist.hand_live (dat0 V c) 11 (pt0 0) rfl (after0_11 V c _).symm); iexact H11

  · obtain ⟨n, hn⟩ : ∃ n, t.val = n + 1 := ⟨t.val - 1, by omega⟩
    simp only [found0_9 V c t h0, found0_10 V c t h0, found0_11 V c t n hn]
    have hlast : amStep0 V c t (am0 V c n) = (dat0 V c).after 11 t := by
      rw [after0_11, hn]; show _ = amStep0 V c (pt0 (n + 1)) (am0 V c n); rw [← hn, pt0_val]
    iintro ⟨⟨⟨%X, %hX, HS0⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    obtain rfl := hX (by omega)
    iapply ((run0_B c (grid0.coords t) _ _ _ _ _ _ _ _ _ _ _ _ _ _ _ _ _ _ _ _ _ _ _ _ _ _ (fun h => h0 ((cond0 t).mp h)) (blk0 V c 0 t) (blk0 V c 1 t) (blk0 V c 2 t) (blk0 V c 3 t) (blk0 V c 4 t) (blk0 V c 5 t) (blk0 V c 6 t) (xq0 V c) (sx0 V c) (am0 V c n) (xb0 V c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexact H10
    isplitl [H11]; · iexact H11
    isplitl [HS0]; · iexact HS0
    iintro ⟨H0, H1, H2, H3, H4, H5, H6, H7, H8, H9, H10, H11, HS0⟩
    isplitl [HS0 HR]
    · isplitl [HS0]
      · iexists _; isplitr; swap; · iexact HS0
        ipureintro; intro _; rfl
      iexact HR
    isplitl [Ho]; · iexact Ho
    isplitl [H0]; · iapply (Persist.hand_live (dat0 V c) 0 t rfl (after0_0 V c t).symm); iexact H0
    isplitl [H1]; · iapply (Persist.hand_live (dat0 V c) 1 t rfl (after0_1 V c t).symm); iexact H1
    isplitl [H2]; · iapply (Persist.hand_live (dat0 V c) 2 t rfl (after0_2 V c t).symm); iexact H2
    isplitl [H3]; · iapply (Persist.hand_live (dat0 V c) 3 t rfl (after0_3 V c t).symm); iexact H3
    isplitl [H4]; · iapply (Persist.hand_live (dat0 V c) 4 t rfl (after0_4 V c t).symm); iexact H4
    isplitl [H5]; · iapply (Persist.hand_live (dat0 V c) 5 t rfl (after0_5 V c t).symm); iexact H5
    isplitl [H6]; · iapply (Persist.hand_live (dat0 V c) 6 t rfl (after0_6 V c t).symm); iexact H6
    isplitl [H7]; · iapply (Persist.hand_live (dat0 V c) 7 t rfl (after0_7 V c t).symm); iexact H7
    isplitl [H8]; · iapply (Persist.hand_live (dat0 V c) 8 t rfl (after0_8 V c t).symm); iexact H8
    isplitl [H9]; · iapply (Persist.hand_idle (dat0 V c) 9 t ((idle0_9 t).trans (idle0_later t h0)) d9 (found0_9 V c t h0 d9) (after0_9 V c t).symm); iexact H9
    isplitl [H10]; · iapply (Persist.hand_idle (dat0 V c) 10 t ((idle0_10 t).trans (idle0_later t h0)) d10 (found0_10 V c t h0 d10) (after0_10 V c t).symm); iexact H10
    iapply (Persist.hand_live (dat0 V c) 11 t rfl hlast); iexact H11

/-- The body table's row at point `t`'s slots is the body. -/
theorem row0 (t : Fin cfg0.N) :
    defs₀ (F := F) .tc cfg0.body (cfg0.bodyArgs t (cfg0.slots t)) = bodyAt0 t := by
  unfold defs₀; rw [Defs.onTc_tc]

/-- The body obligation of the region, at every point. -/
theorem obligation0 (c : Dev nD) : BodyObligation (dat0 (F := F) V c) (defs₀ (F := F)) Variants.none () Set.univ := fun t => by
  rw [bigSep_W0, bigSep_W0, row0]
  exact triple_restated (body0 V c t) rfl .rfl fun _ => .rfl

end Cert.KernelIdeal.Own

end
-- ==== Proof.KernelIdeal.Dat1.lean ====
/- The down kernel as a region: what every buffer holds after every grid point, and the body at every point. -/
module

public import proofs.«01_k».proof.Proof.KernelIdeal.Region0
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Entry F)

/-- The grid point numbered `n`. -/
def pt1 (n : ℕ) : Fin cfg1.N := ⟨n % 32, lt_of_lt_of_eq (Nat.mod_lt n (by decide)) (show 32 = cfg1.N from N_1.symm)⟩

theorem pt1_val (t : Fin cfg1.N) : pt1 t.val = t :=
  Fin.ext (Nat.mod_eq_of_lt (lt_of_lt_of_eq t.isLt (show cfg1.N = 32 from N_1)))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's staging buffer at point `t`. -/
abbrev ms1_0 (t : Fin cfg1.N) : Memref sig .tc .vmem S256x2048 .f32 := win1_0.stage (cfg1.slots t 0)
/-- Window 1's staging buffer at point `t`. -/
abbrev ms1_1 (t : Fin cfg1.N) : Memref sig .tc .vmem S256x2048 .f32 := win1_1.stage (cfg1.slots t 1)
/-- Window 2's staging buffer at point `t`. -/
abbrev ms1_2 (t : Fin cfg1.N) : Memref sig .tc .vmem S256x1 .f32 := win1_2.stage (cfg1.slots t 2)
/-- Window 3's staging buffer at point `t`. -/
abbrev ms1_3 (t : Fin cfg1.N) : Memref sig .tc .vmem S256x256 .bf16 := win1_3.stage (cfg1.slots t 3)
/-- Window 4's staging buffer at point `t`. -/
abbrev ms1_4 (t : Fin cfg1.N) : Memref sig .tc .vmem S256x256 .bf16 := win1_4.stage (cfg1.slots t 4)
/-- Window 5's staging buffer at point `t`. -/
abbrev ms1_5 (t : Fin cfg1.N) : Memref sig .tc .vmem S2048x256 .i8 := win1_5.stage (cfg1.slots t 5)
/-- Window 6's staging buffer at point `t`. -/
abbrev ms1_6 (t : Fin cfg1.N) : Memref sig .tc .vmem S32x256 .f32 := win1_6.stage (cfg1.slots t 6)
/-- Window 7's staging buffer at point `t`. -/
abbrev ms1_7 (t : Fin cfg1.N) : Memref sig .tc .vmem S2048x256 .f32 := win1_7.stage (cfg1.slots t 7)
/-- Window 8's staging buffer at point `t`. -/
abbrev ms1_8 (t : Fin cfg1.N) : Memref sig .tc .vmem S256x2048 .i8 := win1_8.stage (cfg1.slots t 8)
/-- Window 9's staging buffer at point `t`. -/
abbrev ms1_9 (t : Fin cfg1.N) : Memref sig .tc .vmem S256x1 .f32 := win1_9.stage (cfg1.slots t 9)
/-- Window 10's staging buffer at point `t`. -/
abbrev ms1_10 (t : Fin cfg1.N) : Memref sig .tc .vmem S256x1 .f32 := win1_10.stage (cfg1.slots t 10)
/-- Window 11's staging buffer at point `t`. -/
abbrev ms1_11 (t : Fin cfg1.N) : Memref sig .tc .vmem S256x256 .bf16 := win1_11.stage (cfg1.slots t 11)
/-- Window 12's staging buffer at point `t`. -/
abbrev ms1_12 (t : Fin cfg1.N) : Memref sig .tc .vmem S256x256 .bf16 := win1_12.stage (cfg1.slots t 12)
/-- The kernel's own buffer 0. -/
abbrev scM1_0 : Memref sig .tc .vmem S4x256x2048 .bf16 := Memref.whole cc1_scratch0

/-- The kernel's own buffer 1. -/
abbrev scM1_1 : Memref sig .tc .vmem S256x256 .f32 := Memref.whole cc1_scratch1

theorem lt1 (t : Fin cfg1.N) : t.val < 32 := lt_of_lt_of_eq t.isLt (show cfg1.N = 32 from N_1)

/-- The quantised activation block the product uses, stored at point `k < 4`. -/
def pb1 (c : Dev nD) (k : ℕ) : Vec F S1x256x2048 .bf16 := k1_pay12 (blk1 V c 2 (pt1 k)) (blk1 V c 0 (pt1 k)) (blk1 V c 1 (pt1 k))

/-- One point's step of the product, and the product's sum after point `n` (started afresh at every fourth point). -/
def accStep1 (c : Dev nD) (t : Fin cfg1.N) (prev : Vec F S256x256 .f32) : Vec F S256x256 .f32 :=
  k1_pay1 prev (k1_pay14 (pb1 V c (t.val % 4))) (blk1 V c 5 t) (blk1 V c 6 t) (k1_pay15 (blk1 V c 7 t))
def acc1 (c : Dev nD) : ℕ → Vec F S256x256 .f32
  | 0 => accStep1 V c (pt1 0) k1_pay13
  | n + 1 => accStep1 V c (pt1 (n + 1)) (if (n + 1) % 4 = 0 then k1_pay13 else acc1 c n)

/-- The loss rows after point `n`. -/
def loss1 (c : Dev nD) : ℕ → Vec F S256x1 .f32
  | 0 => k1_pay9
  | n + 1 => if (n + 1) % 4 = 3 then
      k1_pay4 (k1_pay8 (blk1 V c 2 (pt1 (n + 1)))) (acc1 V c (n + 1)) (blk1 V c 3 (pt1 (n + 1))) (blk1 V c 4 (pt1 (n + 1))) (loss1 c n)
    else loss1 c n

/-- The integer activations last stored by point `n`, the activation scales, and the two output blocks of a point. -/
def aq1 (c : Dev nD) (n : ℕ) : Vec F S256x2048 .i8 := k1_pay11 (blk1 V c 2 (pt1 (min n 3))) (blk1 V c 0 (pt1 (min n 3))) (blk1 V c 1 (pt1 (min n 3)))
def sa1 (c : Dev nD) : Vec F S256x1 .f32 := k1_pay8 (blk1 V c 2 (pt1 0))
def dy1 (c : Dev nD) (t : Fin cfg1.N) : Vec F S256x256 .bf16 := k1_pay6 (k1_pay8 (blk1 V c 2 t)) (acc1 V c t.val) (blk1 V c 3 t) (blk1 V c 4 t)
def dys1 (c : Dev nD) (t : Fin cfg1.N) : Vec F S256x256 .bf16 := k1_pay7 (k1_pay8 (blk1 V c 2 t)) (acc1 V c t.val) (blk1 V c 3 t) (blk1 V c 4 t)

theorem acc1_first (c : Dev nD) (t : Fin cfg1.N) (h : t.val % 4 = 0) : acc1 V c t.val = accStep1 V c t k1_pay13 := by
  obtain ⟨n, hn⟩ := t
  cases n with
  | zero => rfl
  | succ n =>
    show accStep1 V c (pt1 (n + 1)) (if (n + 1) % 4 = 0 then k1_pay13 else acc1 V c n) = _
    rw [if_pos h, show pt1 (n + 1) = ⟨n + 1, hn⟩ from pt1_val ⟨n + 1, hn⟩]
theorem acc1_later (c : Dev nD) (t : Fin cfg1.N) (n : ℕ) (hn : t.val = n + 1) (h : ¬ t.val % 4 = 0) :
    acc1 V c t.val = accStep1 V c t (acc1 V c n) := by
  obtain ⟨m, hm⟩ := t
  obtain rfl : m = n + 1 := hn
  show accStep1 V c (pt1 (n + 1)) (if (n + 1) % 4 = 0 then k1_pay13 else acc1 V c n) = _
  rw [if_neg h, show pt1 (n + 1) = ⟨n + 1, hm⟩ from pt1_val ⟨n + 1, hm⟩]
theorem loss1_last (c : Dev nD) (t : Fin cfg1.N) (n : ℕ) (hn : t.val = n + 1) (h : t.val % 4 = 3) :
    loss1 V c t.val = k1_pay4 (k1_pay8 (blk1 V c 2 t)) (acc1 V c t.val) (blk1 V c 3 t) (blk1 V c 4 t) (loss1 V c n) := by
  obtain ⟨m, hm⟩ := t
  obtain rfl : m = n + 1 := hn
  show (if (n + 1) % 4 = 3 then k1_pay4 (k1_pay8 (blk1 V c 2 (pt1 (n + 1)))) (acc1 V c (n + 1)) (blk1 V c 3 (pt1 (n + 1))) (blk1 V c 4 (pt1 (n + 1))) (loss1 V c n) else loss1 V c n) = _
  rw [if_pos h, show pt1 (n + 1) = ⟨n + 1, hm⟩ from pt1_val ⟨n + 1, hm⟩]
theorem loss1_kept (c : Dev nD) (n m : ℕ) (hn : m = n + 1) (h : ¬ m % 4 = 3) : loss1 V c m = loss1 V c n := by
  subst hn; exact if_neg h

/-- A block stored at one of the first four points. -/
theorem pb1_point (c : Dev nD) (t : Fin cfg1.N) (h : t.val < 4) : k1_pay12 (blk1 V c 2 t) (blk1 V c 0 t) (blk1 V c 1 t) = pb1 V c (t.val % 4) := by
  unfold pb1; rw [Nat.mod_eq_of_lt h, pt1_val]

/-- The body's invariant before point `n`: the quantised blocks stored so far, and the product's sum. -/
def Phi1 (c : Dev nD) (n : ℕ) : sProp 𝕄 :=
  iprop((∃ X : Vec F S4x256x2048 .bf16, ⌜∀ k, k < 4 → k < n → VecWindow.window X (k1_off2 (grid1.coords (pt1 k))) S1x256x2048.size (k1_off2_inb (grid1.coords (pt1 k))) = pb1 V c k⌝
        ∗ owns (c : Thread nD τ) scM1_0 fullShare X)
    ∗ (∃ Y : Vec F S256x256 .f32, ⌜∀ m, n = m + 1 → Y = acc1 V c m⌝ ∗ owns (c : Thread nD τ) scM1_1 fullShare Y)
    ∗ Pipeline.scopedRestBut (Ix := Unit) (Name := ℕ) (U := UR sig nD τ) (Lvl := ℕ) (Val := Elt F) spec1 c [cc1_scratch0, cc1_scratch1]
    ∗ ∃ r, prngReg c r)

/-- The proof data of the pipeline on core `c`: each input's buffer holds its block, each output's what the body leaves. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => aq1 V c t.val
    | ⟨9, _⟩ => sa1 V c
    | ⟨10, _⟩ => loss1 V c t.val
    | ⟨11, _⟩ => dy1 V c t
    | ⟨12, _⟩ => dys1 V c t
  Φ s := Phi1 V c s.val
  q _ := fullShare
  owed _ := 0

theorem dat1_A (c : Dev nD) (w : Fin cfg1.W) : (dat1 V c).A w = V c (Pipeline.arrRef spec1 w) := by dsimp only [dat1]
theorem dat1_castSucc (c : Dev nD) (t : Fin cfg1.N) : (dat1 V c).Φ t.castSucc = Phi1 V c t.val := by
  dsimp only [dat1]; exact Persist.at_castSucc (Phi1 V c) t
theorem dat1_succ (c : Dev nD) (t : Fin cfg1.N) : (dat1 V c).Φ t.succ = Phi1 V c (t.val + 1) := by
  dsimp only [dat1]; exact Persist.at_succ (Phi1 V c) t
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = aq1 V c t.val := by dsimp only [dat1]
theorem after1_9 (c : Dev nD) (t : Fin cfg1.N) : (dat1 V c).after 9 t = sa1 V c := by dsimp only [dat1]
theorem after1_10 (c : Dev nD) (t : Fin cfg1.N) : (dat1 V c).after 10 t = loss1 V c t.val := by dsimp only [dat1]
theorem after1_11 (c : Dev nD) (t : Fin cfg1.N) : (dat1 V c).after 11 t = dy1 V c t := by dsimp only [dat1]
theorem after1_12 (c : Dev nD) (t : Fin cfg1.N) : (dat1 V c).after 12 t = dys1 V c t := by dsimp only [dat1]
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [dat1_A]; try rfl) t d).trans
    (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [dat1_A]; try rfl) t d).trans
    (by unfold Dat.fetched Dat.blockOf blk1; rw [dat1_A]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [dat1_A]; try rfl) t d).trans
    (by unfold Dat.fetched Dat.blockOf blk1; rw [dat1_A]; try rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [dat1_A]; try rfl) t d).trans
    (by unfold Dat.fetched Dat.blockOf blk1; rw [dat1_A]; try rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [dat1_A]; try rfl) t d).trans
    (by unfold Dat.fetched Dat.blockOf blk1; rw [dat1_A]; try rfl)
theorem before1_6 (c : Dev nD) (t : Fin cfg1.N) (d) : (dat1 V c).before 6 t d = blk1 V c 6 t :=
  ((dat1 V c).before_in_eq_fetched 6 rfl (fun _ => rfl) (fun _ _ _ => rfl)
    (fun t => by rw [after1_6]; unfold Dat.blockOf blk1; rw [dat1_A]; try rfl) t d).trans
    (by unfold Dat.fetched Dat.blockOf blk1; rw [dat1_A]; try rfl)
theorem before1_7 (c : Dev nD) (t : Fin cfg1.N) (d) : (dat1 V c).before 7 t d = blk1 V c 7 t :=
  ((dat1 V c).before_in_eq_fetched 7 rfl (fun _ => rfl) (fun _ _ _ => rfl)
    (fun t => by rw [after1_7]; unfold Dat.blockOf blk1; rw [dat1_A]; try rfl) t d).trans
    (by unfold Dat.fetched Dat.blockOf blk1; rw [dat1_A]; try rfl)

/-- Where the body's conditions hold. -/
theorem cond1_1 : ∀ t : Fin cfg1.N, (k1_cond1 (grid1.coords t) = 1#1) ↔ t.val = 0 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [k1_cond1, k1_cond2, k1_cond4, e0, e1]
    word_cmp
   : ∀ t : Fin grid1.N, (k1_cond1 (grid1.coords t) = 1#1) ↔ t.val = 0)

theorem cond1_2 : ∀ t : Fin cfg1.N, (k1_cond2 (grid1.coords t) = 1#1) ↔ t.val < 4 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [k1_cond1, k1_cond2, k1_cond4, e0, e1]
    word_cmp
   : ∀ t : Fin grid1.N, (k1_cond2 (grid1.coords t) = 1#1) ↔ t.val < 4)

theorem cond1_3 : ∀ t : Fin cfg1.N, (Scalar.cmpi .ne (Scalar.extui (Scalar.cmpi .eq (BitVec.ofNat 32 ((grid1.coords t) 1).val) 0#32) : BitVec 32) 0#32 = 1#1) ↔ t.val % 4 = 0 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [k1_cond1, k1_cond2, k1_cond4, e0, e1]
    word_cmp
   : ∀ t : Fin grid1.N, (Scalar.cmpi .ne (Scalar.extui (Scalar.cmpi .eq (BitVec.ofNat 32 ((grid1.coords t) 1).val) 0#32) : BitVec 32) 0#32 = 1#1) ↔ t.val % 4 = 0)

theorem cond1_4 : ∀ t : Fin cfg1.N, (k1_cond4 (grid1.coords t) = 1#1) ↔ t.val % 4 = 3 :=
  (fun t => by
    have ht : t.val < 32 := Nat.lt_of_lt_of_eq t.isLt N_1
    have e0 : (grid1.coords t 0).val = t.val / 4 % 8 := Pipeline.Grid.coords_val t 0 (by decide) rfl
    have e1 : (grid1.coords t 1).val = t.val / 1 % 4 := Pipeline.Grid.coords_val t 1 (by decide) rfl
    simp only [k1_cond1, k1_cond2, k1_cond4, e0, e1]
    word_cmp
   : ∀ t : Fin grid1.N, (k1_cond4 (grid1.coords t) = 1#1) ↔ t.val % 4 = 3)

theorem not_beq_true (x : BitVec 1) : (!(x == 1#1)) = true ↔ ¬ x = 1#1 := by simp
theorem not_beq_false (x : BitVec 1) : (!(x == 1#1)) = false ↔ x = 1#1 := by simp

theorem idle1_8 (t : Fin cfg1.N) : cfg1.idle 8 (cfg1.grid.coords t) = true ↔ ¬ t.val < 4 :=
  (show (!(k1_cond2 (grid1.coords t) == 1#1)) = true ↔ _ by rw [not_beq_true, cond1_2])
theorem idle1_9 (t : Fin cfg1.N) : cfg1.idle 9 (cfg1.grid.coords t) = true ↔ ¬ t.val = 0 :=
  (show (!(k1_cond1 (grid1.coords t) == 1#1)) = true ↔ _ by rw [not_beq_true, cond1_1])
theorem idle1_10 (t : Fin cfg1.N) : cfg1.idle 10 (cfg1.grid.coords t) = true ↔ ¬ t.val = 0 ∧ ¬ t.val % 4 = 3 :=
  (show (!(k1_cond1 (grid1.coords t) == 1#1) && !(k1_cond4 (grid1.coords t) == 1#1)) = true ↔ _ by
    rw [Bool.and_eq_true, not_beq_true, not_beq_true, cond1_1, cond1_4])
theorem idle1_11 (t : Fin cfg1.N) : cfg1.idle 11 (cfg1.grid.coords t) = true ↔ ¬ t.val % 4 = 3 :=
  (show (!(k1_cond4 (grid1.coords t) == 1#1)) = true ↔ _ by rw [not_beq_true, cond1_4])
theorem idle1_12 (t : Fin cfg1.N) : cfg1.idle 12 (cfg1.grid.coords t) = true ↔ ¬ t.val % 4 = 3 :=
  (show (!(k1_cond4 (grid1.coords t) == 1#1)) = true ↔ _ by rw [not_beq_true, cond1_4])
theorem live1_8 (t : Fin cfg1.N) (h : t.val < 4) : cfg1.idle 8 (cfg1.grid.coords t) = false := by
  rw [← Bool.not_eq_true, idle1_8]; omega
theorem live1_9 (t : Fin cfg1.N) (h : t.val = 0) : cfg1.idle 9 (cfg1.grid.coords t) = false := by
  rw [← Bool.not_eq_true, idle1_9]; omega
theorem live1_10 (t : Fin cfg1.N) (h : t.val = 0 ∨ t.val % 4 = 3) : cfg1.idle 10 (cfg1.grid.coords t) = false := by
  rw [← Bool.not_eq_true, idle1_10]; omega
theorem live1_11 (t : Fin cfg1.N) (h : t.val % 4 = 3) : cfg1.idle 11 (cfg1.grid.coords t) = false := by
  rw [← Bool.not_eq_true, idle1_11]; omega
theorem live1_12 (t : Fin cfg1.N) (h : t.val % 4 = 3) : cfg1.idle 12 (cfg1.grid.coords t) = false := by
  rw [← Bool.not_eq_true, idle1_12]; omega

/-- The point before a later one. -/
theorem pred1 (t : Fin cfg1.N) (h : ¬ t.val = 0) : ∃ t' : Fin cfg1.N, t'.val + 1 = t.val :=
  ⟨⟨t.val - 1, Nat.lt_of_le_of_lt (Nat.sub_le _ _) t.isLt⟩, by show t.val - 1 + 1 = t.val; have := lt1 t; omega⟩

/-- Window 8's block is not written back between the fourth point and the last. -/
theorem noflush1_8 : ∀ t : Fin cfg1.N, 3 ≤ t.val → t.val < 31 → (cfg1.win 8).flush t = false :=
  (by decide +kernel : ∀ t : Fin grid1.N, 3 ≤ t.val → t.val < 31 → win1_8.flush t = false)
theorem noflush1_9 (t' t : Fin cfg1.N) (h : t'.val + 1 = t.val) : (cfg1.win 9).flush t' = false := by
  rw [← Bool.not_eq_true]; intro e; have := (flush1_9 t').mp e; have := lt1 t; omega
theorem noflush1_10 (t' t : Fin cfg1.N) (h : t'.val + 1 = t.val) : (cfg1.win 10).flush t' = false := by
  rw [← Bool.not_eq_true]; intro e; have := (flush1_10 t').mp e; have := lt1 t; omega
theorem noflush1_11 (t : Fin cfg1.N) (h : ¬ t.val % 4 = 3) : (cfg1.win 11).flush t = false := by
  rw [← Bool.not_eq_true, flush1_11]; exact h
theorem noflush1_12 (t : Fin cfg1.N) (h : ¬ t.val % 4 = 3) : (cfg1.win 12).flush t = false := by
  rw [← Bool.not_eq_true, flush1_12]; exact h

/-- What later points find in the buffers of windows 8, 9 and 10. -/
theorem found1_8 (c : Dev nD) (t : Fin cfg1.N) (h : ¬ t.val < 4) (d) : (dat1 V c).before 8 t d = aq1 V c t.val :=
  (Persist.before_idle (dat1 V c) 8 (fun _ _ => rfl) (fun _ => rfl) (fun t hi => by
    have h4 := (idle1_8 t).mp hi
    obtain ⟨t', ht'⟩ := pred1 t (by omega)
    have hl := lt1 t
    exact ⟨t', ht', by rw [after1_8, after1_8]; unfold aq1; rw [show min t.val 3 = 3 by omega, show min t'.val 3 = 3 by omega],
      noflush1_8 t' (by omega) (by omega)⟩) _ t rfl ((idle1_8 t).mpr h) d).trans (after1_8 V c t)
theorem found1_9 (c : Dev nD) (t : Fin cfg1.N) (h : ¬ t.val = 0) (d) : (dat1 V c).before 9 t d = sa1 V c :=
  (Persist.before_idle (dat1 V c) 9 (fun _ _ => rfl) (fun _ => rfl) (fun t hi => by
    obtain ⟨t', ht'⟩ := pred1 t ((idle1_9 t).mp hi)
    exact ⟨t', ht', by rw [after1_9, after1_9], noflush1_9 t' t ht'⟩) _ t rfl ((idle1_9 t).mpr h) d).trans (after1_9 V c t)
theorem found1_10 (c : Dev nD) (t : Fin cfg1.N) (n : ℕ) (hn : t.val = n + 1) (d) : (dat1 V c).before 10 t d = loss1 V c n := by
  obtain ⟨t', ht'⟩ := pred1 t (by omega)
  refine (Persist.before_next (dat1 V c) 10 (fun _ _ => rfl) (fun _ => rfl) (fun t hi => by
    have h := (idle1_10 t).mp hi
    obtain ⟨t', ht'⟩ := pred1 t h.1
    exact ⟨t', ht', by rw [after1_10, after1_10]; exact loss1_kept V c t'.val t.val ht'.symm h.2, noflush1_10 t' t ht'⟩)
    t t' ht' (noflush1_10 t' t ht') d).trans ?_
  rw [after1_10, show t'.val = n by omega]

/-- The offsets of a point's block in the kernel's own buffer. -/
theorem off1_2 (t : Fin cfg1.N) : k1_off2 (grid1.coords t) = ![t.val % 4, 0, 0] := by
  have e1 : (grid1.coords t 1).val = t.val / 1 % 4 := Pipeline.Grid.coords_val t 1 (by decide) rfl
  rw [k1_off2_eq, e1, Nat.div_one]
theorem off1_1 (t : Fin cfg1.N) : k1_off1 (grid1.coords t) = ![t.val % 4, 0, 0] := by
  have e1 : (grid1.coords t 1).val = t.val / 1 % 4 := Pipeline.Grid.coords_val t 1 (by decide) rfl
  rw [k1_off1_eq, e1, Nat.div_one]

/-- After all four blocks are stored, the block a point reads is the one stored for it. -/
theorem block_read1 (c : Dev nD) (t : Fin cfg1.N) (X : Vec F S4x256x2048 .bf16) (h4 : ¬ t.val < 4)
    (hX : ∀ k, k < 4 → k < t.val → VecWindow.window X (k1_off2 (grid1.coords (pt1 k))) S1x256x2048.size (k1_off2_inb (grid1.coords (pt1 k))) = pb1 V c k) :
    VecWindow.window X (k1_off2 (grid1.coords t)) S1x256x2048.size (k1_off2_inb (grid1.coords t)) = pb1 V c (t.val % 4) := by
  have e : k1_off2 (grid1.coords t) = k1_off2 (grid1.coords (pt1 (t.val % 4))) := by
    rw [off1_2, off1_2, show (pt1 (t.val % 4)).val = t.val % 4 from Nat.mod_eq_of_lt (by omega), Nat.mod_mod]
  have h := hX (t.val % 4) (by omega) (by omega)
  rw [← h]
  exact Persist.window_congr X e _ _

/-- Storing a point's block keeps the blocks stored before it. -/
theorem block_stored1 (c : Dev nD) (t : Fin cfg1.N) (X : Vec F S4x256x2048 .bf16) (w : Vec F S1x256x2048 .bf16) (h4 : t.val < 4)
    (hw : w = pb1 V c (t.val % 4))
    (hX : ∀ k, k < 4 → k < t.val → VecWindow.window X (k1_off2 (grid1.coords (pt1 k))) S1x256x2048.size (k1_off2_inb (grid1.coords (pt1 k))) = pb1 V c k) :
    ∀ k, k < 4 → k < t.val + 1 → VecWindow.window (VecWindow.put X (k1_off1 (grid1.coords t)) S1x256x2048.size w)
      (k1_off2 (grid1.coords (pt1 k))) S1x256x2048.size (k1_off2_inb (grid1.coords (pt1 k))) = pb1 V c k := by
  intro k hk hkt
  by_cases e : k = t.val
  · subst e
    have e : k1_off2 (grid1.coords (pt1 t.val)) = k1_off1 (grid1.coords t) := by rw [pt1_val, off1_2, off1_1]
    have h1 := Persist.window_congr (VecWindow.put X (k1_off1 (grid1.coords t)) S1x256x2048.size w) e
      (k1_off2_inb _) (k1_off1_inb _ ((cond1_2 t).mpr h4))
    have h2 : pb1 V c t.val = w := by rw [hw, Nat.mod_eq_of_lt h4]
    rw [h2]
    exact h1.trans (VecWindow.window_put_same X _ _ _ w)
  · refine (VecWindow.window_put_of_disjoint X _ _ _ _ _ w 0 ?_).trans (hX k hk (by omega))
    rw [off1_1, off1_2]
    show k % 32 % 4 + 1 ≤ t.val % 4 ∨ t.val % 4 + 1 ≤ k % 32 % 4
    omega

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

end Cert.KernelIdeal.Own

end
-- ==== Proof.KernelIdeal.Row1.lean ====
/- The row of the down kernel's block buffer that a grid point has just stored. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Lib.Whole
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A load of the row just stored reads what was stored. -/
theorem readCov_row (v : View sig .tc .vmem S4x256x2048 .bf16) (i : grid1.Coords) (h : k1_cond2 i = 1#1)
    (w : Vec F S1x256x2048 .bf16) :
    v.readCov [(⟨Rect.unit (s := S4x256x2048) (k1_off1 i) (no_index S1x256x2048.size) (k1_off1_inb i h), w⟩ : View.Piece (Elt F) S4x256x2048 .bf16)]
      (Rect.unit (s := S4x256x2048) (k1_off2 i) (no_index S1x256x2048.size) (k1_off2_inb i)).toLoadRect = w :=
  Whole.readCov_part v (k1_off2_inb i) (k1_off1_inb i h) w [] rfl

end Cert.KernelIdeal.Own

end
-- ==== Proof.KernelIdeal.Run1A.lean ====
/- The body of the down kernel, run once, in the cases of its conditions (part AB). -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Lib.Whole
public import proofs.«01_k».proof.Proof.KernelIdeal.Row1
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At the first grid point. -/
theorem run1_A (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2048x256 .i8) (harg7 : arg7.IsWhole) (arg8 : Memref sig .tc .vmem S32x256 .f32) (harg8 : arg8.IsWhole) (arg9 : Memref sig .tc .vmem S2048x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S4x256x2048 .bf16) (harg15 : arg15.IsWhole) (arg16 : Memref sig .tc .vmem S256x256 .f32) (harg16 : arg16.IsWhole)
    (hc1 : k1_cond1 i = 1#1) (hc2 : k1_cond2 i = 1#1) (hc3 : (Scalar.cmpi .ne (Scalar.extui (Scalar.cmpi .eq (BitVec.ofNat 32 (i 1).val) 0#32) : BitVec 32) 0#32 = 1#1)) (hc4 : ¬ k1_cond4 i = 1#1)
    (x0 : Vec F S256x2048 .f32) (x1 : Vec F S256x2048 .f32) (x2 : Vec F S256x1 .f32) (x3 : Vec F S256x256 .bf16) (x4 : Vec F S256x256 .bf16) (x5 : Vec F S2048x256 .i8) (x6 : Vec F S32x256 .f32) (x7 : Vec F S2048x256 .f32) (x11 : Vec F S256x256 .bf16) (x12 : Vec F S256x256 .bf16) (x13 : Vec F S4x256x2048 .bf16) :
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x11 ∗ owns (c : Thread nD τ) arg14 fullShare x12 ∗ owns (c : Thread nD τ) arg15 fullShare x13 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay11 x2 x0 x1 : Vec F S256x2048 .i8) ∗ owns (c : Thread nD τ) arg11 fullShare (k1_pay8 x2 : Vec F S256x1 .f32) ∗ owns (c : Thread nD τ) arg12 fullShare (k1_pay9 : Vec F S256x1 .f32) ∗ owns (c : Thread nD τ) arg13 fullShare x11 ∗ owns (c : Thread nD τ) arg14 fullShare x12 ∗ owns (c : Thread nD τ) arg15 fullShare (VecWindow.put x13 (k1_off1 i) S1x256x2048.size (k1_pay12 x2 x0 x1) : Vec F S4x256x2048 .bf16) ∗ owns (c : Thread nD τ) arg16 fullShare (k1_pay1 k1_pay13 (k1_pay14 (k1_pay12 x2 x0 x1)) x5 x6 (k1_pay15 x7) : Vec F S256x256 .f32)) -∗ Q ⟨⟩))
          ⊢ wp frame (wpE (defs₀ (F := F)) Variants.none c none) E (cc1_down i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    intro E Q
    simp only [cc1_down_eq_skeleton]; unfold cc1_down_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%f13, %hf13, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hf11; obtain rfl := harg14.eq_unread hf12; obtain rfl := harg15.eq_unread hf13
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      simp only [Whole.read_writes, Whole.readAt_writes, Whole.readCov, Whole.readAt_unread, Whole.read_writes_part, readCov_row, Whole.readAt_part_unread]
    isplitl [H9]
    · iexists _; isplitr; swap; · iexact H9
      ipureintro
      simp only [Whole.read_writes, Whole.readAt_writes, Whole.readCov, Whole.readAt_unread, Whole.read_writes_part, readCov_row, Whole.readAt_part_unread]
    isplitl [H10]
    · iexists _; isplitr; swap; · iexact H10
      ipureintro
      simp only [Whole.read_writes, Whole.readAt_writes, Whole.readCov, Whole.readAt_unread, Whole.read_writes_part, readCov_row, Whole.readAt_part_unread]
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro
      unfold run1_A.sl.H13_1
      simp only [Whole.read_writes, Whole.readAt_writes, Whole.readCov, Whole.readAt_unread, Whole.read_writes_part, readCov_row, Whole.readAt_part_unread]
    iexists _; isplitr; swap; · iexact H14
    ipureintro
    unfold run1_A.sl.r_4 run1_A.sl.r_3 run1_A.sl.r_2 run1_A.sl.r_1 run1_A.sl.v21 run1_A.sl.v19 run1_A.sl.H13_1 run1_A.sl.H14_1
    simp only [Whole.read_writes, Whole.readAt_writes, Whole.readCov, Whole.readAt_unread, Whole.read_writes_part, readCov_row, Whole.readAt_part_unread]
    exact congrArg (fun z : Vec F S1x256x2048 .bf16 => k1_pay1 k1_pay13 (k1_pay14 z) x5 x6 (k1_pay15 x7)) (readCov_row _ i hc2 _)

set_option maxHeartbeats 4000000 in
/-- At a middle point of the first column block. -/
theorem run1_B (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2048x256 .i8) (harg7 : arg7.IsWhole) (arg8 : Memref sig .tc .vmem S32x256 .f32) (harg8 : arg8.IsWhole) (arg9 : Memref sig .tc .vmem S2048x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S4x256x2048 .bf16) (harg15 : arg15.IsWhole) (arg16 : Memref sig .tc .vmem S256x256 .f32) (harg16 : arg16.IsWhole)
    (hc1 : ¬ k1_cond1 i = 1#1) (hc2 : k1_cond2 i = 1#1) (hc3 : ¬ (Scalar.cmpi .ne (Scalar.extui (Scalar.cmpi .eq (BitVec.ofNat 32 (i 1).val) 0#32) : BitVec 32) 0#32 = 1#1)) (hc4 : ¬ k1_cond4 i = 1#1)
    (x0 : Vec F S256x2048 .f32) (x1 : Vec F S256x2048 .f32) (x2 : Vec F S256x1 .f32) (x3 : Vec F S256x256 .bf16) (x4 : Vec F S256x256 .bf16) (x5 : Vec F S2048x256 .i8) (x6 : Vec F S32x256 .f32) (x7 : Vec F S2048x256 .f32) (x9 : Vec F S256x1 .f32) (x10 : Vec F S256x1 .f32) (x11 : Vec F S256x256 .bf16) (x12 : Vec F S256x256 .bf16) (x13 : Vec F S4x256x2048 .bf16) (x14 : Vec F S256x256 .f32) :
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay11 x2 x0 x1 : Vec F S256x2048 .i8) ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (VecWindow.put x13 (k1_off1 i) S1x256x2048.size (k1_pay12 x2 x0 x1) : Vec F S4x256x2048 .bf16) ∗ owns (c : Thread nD τ) arg16 fullShare (k1_pay1 x14 (k1_pay14 (k1_pay12 x2 x0 x1)) x5 x6 (k1_pay15 x7) : Vec F S256x256 .f32)) -∗ Q ⟨⟩))
          ⊢ wp frame (wpE (defs₀ (F := F)) Variants.none c none) E (cc1_down i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    intro E Q
    simp only [cc1_down_eq_skeleton]; unfold cc1_down_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      simp only [Whole.read_writes, Whole.readAt_writes, Whole.readCov, Whole.readAt_unread, Whole.read_writes_part, readCov_row, Whole.readAt_part_unread]
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro
      unfold run1_B.sl.H13_1
      simp only [Whole.read_writes, Whole.readAt_writes, Whole.readCov, Whole.readAt_unread, Whole.read_writes_part, readCov_row, Whole.readAt_part_unread]
    iexists _; isplitr; swap; · iexact H14
    ipureintro
    unfold run1_B.sl.r_5 run1_B.sl.r_4 run1_B.sl.r_3 run1_B.sl.r_2 run1_B.sl.r_1 run1_B.sl.v21 run1_B.sl.H13_1
    simp only [Whole.read_writes, Whole.readAt_writes, Whole.readCov, Whole.readAt_unread, Whole.read_writes_part, readCov_row, Whole.readAt_part_unread]
    exact congrArg (fun z : Vec F S1x256x2048 .bf16 => k1_pay1 x14 (k1_pay14 z) x5 x6 (k1_pay15 x7)) (readCov_row _ i hc2 _)

end Cert.KernelIdeal.Own

end
-- ==== Proof.KernelIdeal.Run1C.lean ====
/- The body of the down kernel, run once, in the cases of its conditions (part CD). -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Lib.Whole
public import proofs.«01_k».proof.Proof.KernelIdeal.Row1
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At the last point of the first column block. -/
theorem run1_C (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2048x256 .i8) (harg7 : arg7.IsWhole) (arg8 : Memref sig .tc .vmem S32x256 .f32) (harg8 : arg8.IsWhole) (arg9 : Memref sig .tc .vmem S2048x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S4x256x2048 .bf16) (harg15 : arg15.IsWhole) (arg16 : Memref sig .tc .vmem S256x256 .f32) (harg16 : arg16.IsWhole)
    (hc1 : ¬ k1_cond1 i = 1#1) (hc2 : k1_cond2 i = 1#1) (hc3 : ¬ (Scalar.cmpi .ne (Scalar.extui (Scalar.cmpi .eq (BitVec.ofNat 32 (i 1).val) 0#32) : BitVec 32) 0#32 = 1#1)) (hc4 : k1_cond4 i = 1#1)
    (x0 : Vec F S256x2048 .f32) (x1 : Vec F S256x2048 .f32) (x2 : Vec F S256x1 .f32) (x3 : Vec F S256x256 .bf16) (x4 : Vec F S256x256 .bf16) (x5 : Vec F S2048x256 .i8) (x6 : Vec F S32x256 .f32) (x7 : Vec F S2048x256 .f32) (x9 : Vec F S256x1 .f32) (x10 : Vec F S256x1 .f32) (x13 : Vec F S4x256x2048 .bf16) (x14 : Vec F S256x256 .f32) :
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg15 fullShare x13 ∗ owns (c : Thread nD τ) arg16 fullShare x14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay11 x2 x0 x1 : Vec F S256x2048 .i8) ∗ owns (c : Thread nD τ) arg11 fullShare x9 ∗ owns (c : Thread nD τ) arg12 fullShare (k1_pay4 (k1_pay8 x2) (k1_pay1 x14 (k1_pay14 (k1_pay12 x2 x0 x1)) x5 x6 (k1_pay15 x7)) x3 x4 x10 : Vec F S256x1 .f32) ∗ owns (c : Thread nD τ) arg13 fullShare (k1_pay6 (k1_pay8 x2) (k1_pay1 x14 (k1_pay14 (k1_pay12 x2 x0 x1)) x5 x6 (k1_pay15 x7)) x3 x4 : Vec F S256x256 .bf16) ∗ owns (c : Thread nD τ) arg14 fullShare (k1_pay7 (k1_pay8 x2) (k1_pay1 x14 (k1_pay14 (k1_pay12 x2 x0 x1)) x5 x6 (k1_pay15 x7)) x3 x4 : Vec F S256x256 .bf16) ∗ owns (c : Thread nD τ) arg15 fullShare (VecWindow.put x13 (k1_off1 i) S1x256x2048.size (k1_pay12 x2 x0 x1) : Vec F S4x256x2048 .bf16) ∗ owns (c : Thread nD τ) arg16 fullShare (k1_pay1 x14 (k1_pay14 (k1_pay12 x2 x0 x1)) x5 x6 (k1_pay15 x7) : Vec F S256x256 .f32)) -∗ Q ⟨⟩))
          ⊢ wp frame (wpE (defs₀ (F := F)) Variants.none c none) E (cc1_down i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    intro E Q
    simp only [cc1_down_eq_skeleton]; unfold cc1_down_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%d11, %f11, -, H11⟩, ⟨%d12, %f12, -, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg15.eq_unread hf13; obtain rfl := harg16.eq_unread hf14
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      simp only [Whole.read_writes, Whole.readAt_writes, Whole.readCov, Whole.readAt_unread, Whole.read_writes_part, readCov_row, Whole.readAt_part_unread]
    isplitl [H9]
    · iexists _; isplitr; · ipureintro; exact harg11.read_unread _
      iexact H9
    isplitl [H10]
    · iexists _; isplitr; swap; · iexact H10
      ipureintro
      unfold run1_C.sl.r run1_C.sl.v60 run1_C.sl.H14_1 run1_C.sl.r_5 run1_C.sl.r_4 run1_C.sl.r_3 run1_C.sl.r_2 run1_C.sl.r_1 run1_C.sl.v21 run1_C.sl.H13_1
      simp only [Whole.read_writes, Whole.readAt_writes, Whole.readCov, Whole.readAt_unread, Whole.read_writes_part, readCov_row, Whole.readAt_part_unread]
      exact congrArg (fun z : Vec F S1x256x2048 .bf16 => k1_pay4 (k1_pay8 x2) (k1_pay1 x14 (k1_pay14 z) x5 x6 (k1_pay15 x7)) x3 x4 x10) (readCov_row _ i hc2 _)
    isplitl [H11]
    · iexists _; isplitr; swap; · iexact H11
      ipureintro
      unfold run1_C.sl.r run1_C.sl.v60 run1_C.sl.H14_1 run1_C.sl.r_5 run1_C.sl.r_4 run1_C.sl.r_3 run1_C.sl.r_2 run1_C.sl.r_1 run1_C.sl.v21 run1_C.sl.H13_1
      simp only [Whole.read_writes, Whole.readAt_writes, Whole.readCov, Whole.readAt_unread, Whole.read_writes_part, readCov_row, Whole.readAt_part_unread]
      exact congrArg (fun z : Vec F S1x256x2048 .bf16 => k1_pay6 (k1_pay8 x2) (k1_pay1 x14 (k1_pay14 z) x5 x6 (k1_pay15 x7)) x3 x4) (readCov_row _ i hc2 _)
    isplitl [H12]
    · iexists _; isplitr; swap; · iexact H12
      ipureintro
      unfold run1_C.sl.r run1_C.sl.v60 run1_C.sl.H14_1 run1_C.sl.r_5 run1_C.sl.r_4 run1_C.sl.r_3 run1_C.sl.r_2 run1_C.sl.r_1 run1_C.sl.v21 run1_C.sl.H13_1
      simp only [Whole.read_writes, Whole.readAt_writes, Whole.readCov, Whole.readAt_unread, Whole.read_writes_part, readCov_row, Whole.readAt_part_unread]
      exact congrArg (fun z : Vec F S1x256x2048 .bf16 => k1_pay7 (k1_pay8 x2) (k1_pay1 x14 (k1_pay14 z) x5 x6 (k1_pay15 x7)) x3 x4) (readCov_row _ i hc2 _)
    isplitl [H13]
    · iexists _; isplitr; swap; · iexact H13
      ipureintro
      unfold run1_C.sl.H13_1
      simp only [Whole.read_writes, Whole.readAt_writes, Whole.readCov, Whole.readAt_unread, Whole.read_writes_part, readCov_row, Whole.readAt_part_unread]
    iexists _; isplitr; swap; · iexact H14
    ipureintro
    unfold run1_C.sl.H14_1 run1_C.sl.r_5 run1_C.sl.r_4 run1_C.sl.r_3 run1_C.sl.r_2 run1_C.sl.r_1 run1_C.sl.v21 run1_C.sl.H13_1
    simp only [Whole.read_writes, Whole.readAt_writes, Whole.readCov, Whole.readAt_unread, Whole.read_writes_part, readCov_row, Whole.readAt_part_unread]
    exact congrArg (fun z : Vec F S1x256x2048 .bf16 => k1_pay1 x14 (k1_pay14 z) x5 x6 (k1_pay15 x7)) (readCov_row _ i hc2 _)

set_option maxHeartbeats 4000000 in
/-- At the first point of a later column block. -/
theorem run1_D (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2048x256 .i8) (harg7 : arg7.IsWhole) (arg8 : Memref sig .tc .vmem S32x256 .f32) (harg8 : arg8.IsWhole) (arg9 : Memref sig .tc .vmem S2048x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S4x256x2048 .bf16) (harg15 : arg15.IsWhole) (arg16 : Memref sig .tc .vmem S256x256 .f32) (harg16 : arg16.IsWhole)
    (hc1 : ¬ k1_cond1 i = 1#1) (hc2 : ¬ k1_cond2 i = 1#1) (hc3 : (Scalar.cmpi .ne (Scalar.extui (Scalar.cmpi .eq (BitVec.ofNat 32 (i 1).val) 0#32) : BitVec 32) 0#32 = 1#1)) (hc4 : ¬ k1_cond4 i = 1#1)
    (x0 : Vec F S256x2048 .f32) (x1 : Vec F S256x2048 .f32) (x2 : Vec F S256x1 .f32) (x3 : Vec F S256x256 .bf16) (x4 : Vec F S256x256 .bf16) (x5 : Vec F S2048x256 .i8) (x6 : Vec F S32x256 .f32) (x7 : Vec F S2048x256 .f32) (x8 : Vec F S256x2048 .i8) (x9 : Vec F S256x1 .f32) (x10 : Vec F S256x1 .f32) (x11 : Vec F S256x256 .bf16) (x12 : Vec F S256x256 .bf16) (x13 : Vec F S4x256x2048 .bf16) :
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k1_pay1 k1_pay13 (k1_pay14 (VecWindow.window x13 (k1_off2 i) S1x256x2048.size (k1_off2_inb i))) x5 x6 (k1_pay15 x7) : Vec F S256x256 .f32)) -∗ Q ⟨⟩))
          ⊢ wp frame (wpE (defs₀ (F := F)) Variants.none c none) E (cc1_down i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    intro E Q
    simp only [cc1_down_eq_skeleton]; unfold cc1_down_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    iexists _; isplitr; swap; · iexact H14
    ipureintro
    unfold run1_D.sl.r_4 run1_D.sl.r_3 run1_D.sl.r_2 run1_D.sl.r_1 run1_D.sl.v19 run1_D.sl.H14_1
    simp only [Whole.read_writes, Whole.readAt_writes, Whole.readCov, Whole.readAt_unread, Whole.read_writes_part, readCov_row, Whole.readAt_part_unread]

end Cert.KernelIdeal.Own

end
-- ==== Proof.KernelIdeal.Run1E.lean ====
/- The body of the down kernel, run once, in the cases of its conditions (part EG). -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Lib.Whole
public import proofs.«01_k».proof.Proof.KernelIdeal.Row1
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At a middle point of a later column block. -/
theorem run1_E (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2048x256 .i8) (harg7 : arg7.IsWhole) (arg8 : Memref sig .tc .vmem S32x256 .f32) (harg8 : arg8.IsWhole) (arg9 : Memref sig .tc .vmem S2048x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S4x256x2048 .bf16) (harg15 : arg15.IsWhole) (arg16 : Memref sig .tc .vmem S256x256 .f32) (harg16 : arg16.IsWhole)
    (hc1 : ¬ k1_cond1 i = 1#1) (hc2 : ¬ k1_cond2 i = 1#1) (hc3 : ¬ (Scalar.cmpi .ne (Scalar.extui (Scalar.cmpi .eq (BitVec.ofNat 32 (i 1).val) 0#32) : BitVec 32) 0#32 = 1#1)) (hc4 : ¬ k1_cond4 i = 1#1)
    (x0 : Vec F S256x2048 .f32) (x1 : Vec F S256x2048 .f32) (x2 : Vec F S256x1 .f32) (x3 : Vec F S256x256 .bf16) (x4 : Vec F S256x256 .bf16) (x5 : Vec F S2048x256 .i8) (x6 : Vec F S32x256 .f32) (x7 : Vec F S2048x256 .f32) (x8 : Vec F S256x2048 .i8) (x9 : Vec F S256x1 .f32) (x10 : Vec F S256x1 .f32) (x11 : Vec F S256x256 .bf16) (x12 : Vec F S256x256 .bf16) (x13 : Vec F S4x256x2048 .bf16) (x14 : Vec F S256x256 .f32) :
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k1_pay1 x14 (k1_pay14 (VecWindow.window x13 (k1_off2 i) S1x256x2048.size (k1_off2_inb i))) x5 x6 (k1_pay15 x7) : Vec F S256x256 .f32)) -∗ Q ⟨⟩))
          ⊢ wp frame (wpE (defs₀ (F := F)) Variants.none c none) E (cc1_down i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    intro E Q
    simp only [cc1_down_eq_skeleton]; unfold cc1_down_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    iexists _; isplitr; swap; · iexact H14
    ipureintro
    unfold run1_E.sl.r_5 run1_E.sl.r_4 run1_E.sl.r_3 run1_E.sl.r_2 run1_E.sl.r_1
    simp only [Whole.read_writes, Whole.readAt_writes, Whole.readCov, Whole.readAt_unread, Whole.read_writes_part, readCov_row, Whole.readAt_part_unread]

set_option maxHeartbeats 4000000 in
/-- At the last point of a later column block. -/
theorem run1_G (c : Dev nD) (i : grid1.Coords) (arg2 : Memref sig .tc .vmem S256x2048 .f32) (harg2 : arg2.IsWhole) (arg3 : Memref sig .tc .vmem S256x2048 .f32) (harg3 : arg3.IsWhole) (arg4 : Memref sig .tc .vmem S256x1 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S2048x256 .i8) (harg7 : arg7.IsWhole) (arg8 : Memref sig .tc .vmem S32x256 .f32) (harg8 : arg8.IsWhole) (arg9 : Memref sig .tc .vmem S2048x256 .f32) (harg9 : arg9.IsWhole) (arg10 : Memref sig .tc .vmem S256x2048 .i8) (harg10 : arg10.IsWhole) (arg11 : Memref sig .tc .vmem S256x1 .f32) (harg11 : arg11.IsWhole) (arg12 : Memref sig .tc .vmem S256x1 .f32) (harg12 : arg12.IsWhole) (arg13 : Memref sig .tc .vmem S256x256 .bf16) (harg13 : arg13.IsWhole) (arg14 : Memref sig .tc .vmem S256x256 .bf16) (harg14 : arg14.IsWhole) (arg15 : Memref sig .tc .vmem S4x256x2048 .bf16) (harg15 : arg15.IsWhole) (arg16 : Memref sig .tc .vmem S256x256 .f32) (harg16 : arg16.IsWhole)
    (hc1 : ¬ k1_cond1 i = 1#1) (hc2 : ¬ k1_cond2 i = 1#1) (hc3 : ¬ (Scalar.cmpi .ne (Scalar.extui (Scalar.cmpi .eq (BitVec.ofNat 32 (i 1).val) 0#32) : BitVec 32) 0#32 = 1#1)) (hc4 : k1_cond4 i = 1#1)
    (x0 : Vec F S256x2048 .f32) (x1 : Vec F S256x2048 .f32) (x2 : Vec F S256x1 .f32) (x3 : Vec F S256x256 .bf16) (x4 : Vec F S256x256 .bf16) (x5 : Vec F S2048x256 .i8) (x6 : Vec F S32x256 .f32) (x7 : Vec F S2048x256 .f32) (x8 : Vec F S256x2048 .i8) (x9 : Vec F S256x1 .f32) (x10 : Vec F S256x1 .f32) (x13 : Vec F S4x256x2048 .bf16) (x14 : Vec F S256x256 .f32) :
      ∀ (E : Set ℕ) (Q : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ owns (c : Thread nD τ) arg15 fullShare x13 ∗ owns (c : Thread nD τ) arg16 fullShare x14
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (k1_pay4 (k1_pay8 x2) (k1_pay1 x14 (k1_pay14 (VecWindow.window x13 (k1_off2 i) S1x256x2048.size (k1_off2_inb i))) x5 x6 (k1_pay15 x7)) x3 x4 x10 : Vec F S256x1 .f32) ∗ owns (c : Thread nD τ) arg13 fullShare (k1_pay6 (k1_pay8 x2) (k1_pay1 x14 (k1_pay14 (VecWindow.window x13 (k1_off2 i) S1x256x2048.size (k1_off2_inb i))) x5 x6 (k1_pay15 x7)) x3 x4 : Vec F S256x256 .bf16) ∗ owns (c : Thread nD τ) arg14 fullShare (k1_pay7 (k1_pay8 x2) (k1_pay1 x14 (k1_pay14 (VecWindow.window x13 (k1_off2 i) S1x256x2048.size (k1_off2_inb i))) x5 x6 (k1_pay15 x7)) x3 x4 : Vec F S256x256 .bf16) ∗ owns (c : Thread nD τ) arg15 fullShare x13 ∗ owns (c : Thread nD τ) arg16 fullShare (k1_pay1 x14 (k1_pay14 (VecWindow.window x13 (k1_off2 i) S1x256x2048.size (k1_off2_inb i))) x5 x6 (k1_pay15 x7) : Vec F S256x256 .f32)) -∗ Q ⟨⟩))
          ⊢ wp frame (wpE (defs₀ (F := F)) Variants.none c none) E (cc1_down i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    intro E Q
    simp only [cc1_down_eq_skeleton]; unfold cc1_down_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg15.eq_unread hf13; obtain rfl := harg16.eq_unread hf14
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; swap; · iexact H10
      ipureintro
      unfold run1_G.sl.r run1_G.sl.v60 run1_G.sl.H14_1 run1_G.sl.r_5 run1_G.sl.r_4 run1_G.sl.r_3 run1_G.sl.r_2 run1_G.sl.r_1
      simp only [Whole.read_writes, Whole.readAt_writes, Whole.readCov, Whole.readAt_unread, Whole.read_writes_part, readCov_row, Whole.readAt_part_unread]
    isplitl [H11]
    · iexists _; isplitr; swap; · iexact H11
      ipureintro
      unfold run1_G.sl.r run1_G.sl.v60 run1_G.sl.H14_1 run1_G.sl.r_5 run1_G.sl.r_4 run1_G.sl.r_3 run1_G.sl.r_2 run1_G.sl.r_1
      simp only [Whole.read_writes, Whole.readAt_writes, Whole.readCov, Whole.readAt_unread, Whole.read_writes_part, readCov_row, Whole.readAt_part_unread]
    isplitl [H12]
    · iexists _; isplitr; swap; · iexact H12
      ipureintro
      unfold run1_G.sl.r run1_G.sl.v60 run1_G.sl.H14_1 run1_G.sl.r_5 run1_G.sl.r_4 run1_G.sl.r_3 run1_G.sl.r_2 run1_G.sl.r_1
      simp only [Whole.read_writes, Whole.readAt_writes, Whole.readCov, Whole.readAt_unread, Whole.read_writes_part, readCov_row, Whole.readAt_part_unread]
    isplitl [H13]
    · iexists _; isplitr; · ipureintro; exact harg15.read_unread _
      iexact H13
    iexists _; isplitr; swap; · iexact H14
    ipureintro
    unfold run1_G.sl.H14_1 run1_G.sl.r_5 run1_G.sl.r_4 run1_G.sl.r_3 run1_G.sl.r_2 run1_G.sl.r_1
    simp only [Whole.read_writes, Whole.readAt_writes, Whole.readCov, Whole.readAt_unread, Whole.read_writes_part, readCov_row, Whole.readAt_part_unread]

end Cert.KernelIdeal.Own

end
-- ==== Proof.KernelIdeal.Region1.lean ====
/- The down kernel's body at every grid point, by the cases of its conditions. -/
module

public import proofs.«01_k».proof.Proof.KernelIdeal.Dat1
public import proofs.«01_k».proof.Proof.KernelIdeal.Run1A
public import proofs.«01_k».proof.Proof.KernelIdeal.Run1C
public import proofs.«01_k».proof.Proof.KernelIdeal.Run1E
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Entry F)

set_option maxHeartbeats 4000000 in
theorem body1_A (c : Dev nD) (t : Fin cfg1.N) (h0 : t.val = 0) (h4 : t.val < 4) (hk : t.val % 4 = 0) (h3 : ¬ t.val % 4 = 3) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl, dat1_castSucc, dat1_succ]
  simp only [before1_0, before1_1, before1_2, before1_3, before1_4, before1_5, before1_6, before1_7]
  unfold Phi1
  have hN := lt1 t
  iintro ⟨⟨⟨%X, %hX, HS0⟩, ⟨%Y, %hY, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have hab : (k1_pay12 (blk1 V c 2 t) (blk1 V c 0 t) (blk1 V c 1 t)) = pb1 V c (t.val % 4) := pb1_point V c t h4
  have eacc : k1_pay1 k1_pay13 (k1_pay14 (k1_pay12 (blk1 V c 2 t) (blk1 V c 0 t) (blk1 V c 1 t))) (blk1 V c 5 t) (blk1 V c 6 t) (k1_pay15 (blk1 V c 7 t)) = acc1 V c t.val := by
    rw [hab]; exact (acc1_first V c t hk).symm
  have e8 : k1_pay11 (blk1 V c 2 t) (blk1 V c 0 t) (blk1 V c 1 t) = (dat1 V c).after 8 t := by
    rw [after1_8]; unfold aq1; rw [show min t.val 3 = t.val by omega, pt1_val]
  have e9 : k1_pay8 (blk1 V c 2 t) = (dat1 V c).after 9 t := by
    rw [after1_9]; unfold sa1; rw [show pt1 0 = t from Fin.ext h0.symm]
  have e10 : k1_pay9 = (dat1 V c).after 10 t := by rw [after1_10, h0]; rfl
  have hl : t.val = 0 ∨ t.val % 4 = 3 := Or.inl h0
  iapply ((run1_A c (grid1.coords t) _ _ _ _ _ _ _ _ _ _ _ _ _ _ _ _ _ _ _ _ _ _ _ _ _ _ _ _ _ _ ((cond1_1 t).mpr h0) ((cond1_2 t).mpr h4) ((cond1_3 t).mpr hk) (fun h => h3 ((cond1_4 t).mp h)) (blk1 V c 0 t) (blk1 V c 1 t) (blk1 V c 2 t) (blk1 V c 3 t) (blk1 V c 4 t) (blk1 V c 5 t) (blk1 V c 6 t) (blk1 V c 7 t) ((dat1 V c).before 11 t d11) ((dat1 V c).before 12 t d12) X) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  isplitl [H12]; · iexact H12
  isplitl [HS0]; · iexact HS0
  isplitl [HS1]; · iexists _; iexact HS1
  iintro ⟨H0, H1, H2, H3, H4, H5, H6, H7, H8, H9, H10, H11, H12, HS0, HS1⟩
  isplitl [HS0 HS1 HR]
  · isplitl [HS0]
    · iexists _; isplitr; swap; · iexact HS0
      ipureintro; exact block_stored1 V c t X _ h4 hab hX
    isplitl [HS1]
    · iexists _; isplitr; swap; · iexact HS1
      ipureintro; intro m hm; obtain rfl : m = t.val := by omega
      exact eacc
    iexact HR
  isplitl [Ho]; · iexact Ho
  isplitl [H0]; · iapply (Persist.hand_live (dat1 V c) 0 t rfl (after1_0 V c t).symm); iexact H0
  isplitl [H1]; · iapply (Persist.hand_live (dat1 V c) 1 t rfl (after1_1 V c t).symm); iexact H1
  isplitl [H2]; · iapply (Persist.hand_live (dat1 V c) 2 t rfl (after1_2 V c t).symm); iexact H2
  isplitl [H3]; · iapply (Persist.hand_live (dat1 V c) 3 t rfl (after1_3 V c t).symm); iexact H3
  isplitl [H4]; · iapply (Persist.hand_live (dat1 V c) 4 t rfl (after1_4 V c t).symm); iexact H4
  isplitl [H5]; · iapply (Persist.hand_live (dat1 V c) 5 t rfl (after1_5 V c t).symm); iexact H5
  isplitl [H6]; · iapply (Persist.hand_live (dat1 V c) 6 t rfl (after1_6 V c t).symm); iexact H6
  isplitl [H7]; · iapply (Persist.hand_live (dat1 V c) 7 t rfl (after1_7 V c t).symm); iexact H7
  isplitl [H8]; · iapply (Persist.hand_live (dat1 V c) 8 t (live1_8 t h4) e8); iexact H8
  isplitl [H9]; · iapply (Persist.hand_live (dat1 V c) 9 t (live1_9 t h0) e9); iexact H9
  isplitl [H10]; · iapply (Persist.hand_live (dat1 V c) 10 t (live1_10 t hl) e10); iexact H10
  isplitl [H11]; · iapply (Persist.hand_found (dat1 V c) 11 t ((idle1_11 t).mpr h3) (noflush1_11 t h3) d11); iexact H11
  iapply (Persist.hand_found (dat1 V c) 12 t ((idle1_12 t).mpr h3) (noflush1_12 t h3) d12); iexact H12

set_option maxHeartbeats 4000000 in
theorem body1_B (c : Dev nD) (t : Fin cfg1.N) (h0 : ¬ t.val = 0) (h4 : t.val < 4) (hk : ¬ t.val % 4 = 0) (h3 : ¬ t.val % 4 = 3) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl, dat1_castSucc, dat1_succ]
  simp only [before1_0, before1_1, before1_2, before1_3, before1_4, before1_5, before1_6, before1_7]
  unfold Phi1
  have hN := lt1 t
  obtain ⟨n, hn⟩ : ∃ n, t.val = n + 1 := ⟨t.val - 1, by omega⟩
  simp only [found1_9 V c t h0, found1_10 V c t n hn]
  iintro ⟨⟨⟨%X, %hX, HS0⟩, ⟨%Y, %hY, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := hY n hn
  have hab : (k1_pay12 (blk1 V c 2 t) (blk1 V c 0 t) (blk1 V c 1 t)) = pb1 V c (t.val % 4) := pb1_point V c t h4
  have eacc : k1_pay1 (acc1 V c n) (k1_pay14 (k1_pay12 (blk1 V c 2 t) (blk1 V c 0 t) (blk1 V c 1 t))) (blk1 V c 5 t) (blk1 V c 6 t) (k1_pay15 (blk1 V c 7 t)) = acc1 V c t.val := by
    rw [hab]; exact (acc1_later V c t n hn hk).symm
  have e8 : k1_pay11 (blk1 V c 2 t) (blk1 V c 0 t) (blk1 V c 1 t) = (dat1 V c).after 8 t := by
    rw [after1_8]; unfold aq1; rw [show min t.val 3 = t.val by omega, pt1_val]
  iapply ((run1_B c (grid1.coords t) _ _ _ _ _ _ _ _ _ _ _ _ _ _ _ _ _ _ _ _ _ _ _ _ _ _ _ _ _ _ (fun h => h0 ((cond1_1 t).mp h)) ((cond1_2 t).mpr h4) (fun h => hk ((cond1_3 t).mp h)) (fun h => h3 ((cond1_4 t).mp h)) (blk1 V c 0 t) (blk1 V c 1 t) (blk1 V c 2 t) (blk1 V c 3 t) (blk1 V c 4 t) (blk1 V c 5 t) (blk1 V c 6 t) (blk1 V c 7 t) (sa1 V c) (loss1 V c n) ((dat1 V c).before 11 t d11) ((dat1 V c).before 12 t d12) X (acc1 V c n)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, H10, H11, H12, HS0, HS1⟩
  isplitl [HS0 HS1 HR]
  · isplitl [HS0]
    · iexists _; isplitr; swap; · iexact HS0
      ipureintro; exact block_stored1 V c t X _ h4 hab hX
    isplitl [HS1]
    · iexists _; isplitr; swap; · iexact HS1
      ipureintro; intro m hm; obtain rfl : m = t.val := by omega
      exact eacc
    iexact HR
  isplitl [Ho]; · iexact Ho
  isplitl [H0]; · iapply (Persist.hand_live (dat1 V c) 0 t rfl (after1_0 V c t).symm); iexact H0
  isplitl [H1]; · iapply (Persist.hand_live (dat1 V c) 1 t rfl (after1_1 V c t).symm); iexact H1
  isplitl [H2]; · iapply (Persist.hand_live (dat1 V c) 2 t rfl (after1_2 V c t).symm); iexact H2
  isplitl [H3]; · iapply (Persist.hand_live (dat1 V c) 3 t rfl (after1_3 V c t).symm); iexact H3
  isplitl [H4]; · iapply (Persist.hand_live (dat1 V c) 4 t rfl (after1_4 V c t).symm); iexact H4
  isplitl [H5]; · iapply (Persist.hand_live (dat1 V c) 5 t rfl (after1_5 V c t).symm); iexact H5
  isplitl [H6]; · iapply (Persist.hand_live (dat1 V c) 6 t rfl (after1_6 V c t).symm); iexact H6
  isplitl [H7]; · iapply (Persist.hand_live (dat1 V c) 7 t rfl (after1_7 V c t).symm); iexact H7
  isplitl [H8]; · iapply (Persist.hand_live (dat1 V c) 8 t (live1_8 t h4) e8); iexact H8
  isplitl [H9]; · iapply (Persist.hand_idle (dat1 V c) 9 t ((idle1_9 t).mpr h0) d9 (found1_9 V c t h0 d9) (after1_9 V c t).symm); iexact H9
  isplitl [H10]; · iapply (Persist.hand_idle (dat1 V c) 10 t ((idle1_10 t).mpr ⟨h0, h3⟩) d10 (found1_10 V c t n hn d10) ((loss1_kept V c n _ hn h3).symm.trans (after1_10 V c t).symm)); iexact H10
  isplitl [H11]; · iapply (Persist.hand_found (dat1 V c) 11 t ((idle1_11 t).mpr h3) (noflush1_11 t h3) d11); iexact H11
  iapply (Persist.hand_found (dat1 V c) 12 t ((idle1_12 t).mpr h3) (noflush1_12 t h3) d12); iexact H12

set_option maxHeartbeats 4000000 in
theorem body1_C (c : Dev nD) (t : Fin cfg1.N) (h0 : ¬ t.val = 0) (h4 : t.val < 4) (hk : ¬ t.val % 4 = 0) (h3 : t.val % 4 = 3) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl, dat1_castSucc, dat1_succ]
  simp only [before1_0, before1_1, before1_2, before1_3, before1_4, before1_5, before1_6, before1_7]
  unfold Phi1
  have hN := lt1 t
  obtain ⟨n, hn⟩ : ∃ n, t.val = n + 1 := ⟨t.val - 1, by omega⟩
  simp only [found1_9 V c t h0, found1_10 V c t n hn]
  iintro ⟨⟨⟨%X, %hX, HS0⟩, ⟨%Y, %hY, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := hY n hn
  have hab : (k1_pay12 (blk1 V c 2 t) (blk1 V c 0 t) (blk1 V c 1 t)) = pb1 V c (t.val % 4) := pb1_point V c t h4
  have eacc : k1_pay1 (acc1 V c n) (k1_pay14 (k1_pay12 (blk1 V c 2 t) (blk1 V c 0 t) (blk1 V c 1 t))) (blk1 V c 5 t) (blk1 V c 6 t) (k1_pay15 (blk1 V c 7 t)) = acc1 V c t.val := by
    rw [hab]; exact (acc1_later V c t n hn hk).symm
  have e8 : k1_pay11 (blk1 V c 2 t) (blk1 V c 0 t) (blk1 V c 1 t) = (dat1 V c).after 8 t := by
    rw [after1_8]; unfold aq1; rw [show min t.val 3 = t.val by omega, pt1_val]
  have e10 : k1_pay4 (k1_pay8 (blk1 V c 2 t)) (k1_pay1 (acc1 V c n) (k1_pay14 (k1_pay12 (blk1 V c 2 t) (blk1 V c 0 t) (blk1 V c 1 t))) (blk1 V c 5 t) (blk1 V c 6 t) (k1_pay15 (blk1 V c 7 t))) (blk1 V c 3 t) (blk1 V c 4 t) (loss1 V c n) = (dat1 V c).after 10 t := by
    rw [after1_10, eacc]; exact (loss1_last V c t n hn h3).symm
  have e11 : k1_pay6 (k1_pay8 (blk1 V c 2 t)) (k1_pay1 (acc1 V c n) (k1_pay14 (k1_pay12 (blk1 V c 2 t) (blk1 V c 0 t) (blk1 V c 1 t))) (blk1 V c 5 t) (blk1 V c 6 t) (k1_pay15 (blk1 V c 7 t))) (blk1 V c 3 t) (blk1 V c 4 t) = (dat1 V c).after 11 t := by
    rw [after1_11, eacc]; rfl
  have e12 : k1_pay7 (k1_pay8 (blk1 V c 2 t)) (k1_pay1 (acc1 V c n) (k1_pay14 (k1_pay12 (blk1 V c 2 t) (blk1 V c 0 t) (blk1 V c 1 t))) (blk1 V c 5 t) (blk1 V c 6 t) (k1_pay15 (blk1 V c 7 t))) (blk1 V c 3 t) (blk1 V c 4 t) = (dat1 V c).after 12 t := by
    rw [after1_12, eacc]; rfl
  have hl : t.val = 0 ∨ t.val % 4 = 3 := Or.inr h3
  iapply ((run1_C c (grid1.coords t) _ _ _ _ _ _ _ _ _ _ _ _ _ _ _ _ _ _ _ _ _ _ _ _ _ _ _ _ _ _ (fun h => h0 ((cond1_1 t).mp h)) ((cond1_2 t).mpr h4) (fun h => hk ((cond1_3 t).mp h)) ((cond1_4 t).mpr h3) (blk1 V c 0 t) (blk1 V c 1 t) (blk1 V c 2 t) (blk1 V c 3 t) (blk1 V c 4 t) (blk1 V c 5 t) (blk1 V c 6 t) (blk1 V c 7 t) (sa1 V c) (loss1 V c n) X (acc1 V c n)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 HR]
  · isplitl [HS0]
    · iexists _; isplitr; swap; · iexact HS0
      ipureintro; exact block_stored1 V c t X _ h4 hab hX
    isplitl [HS1]
    · iexists _; isplitr; swap; · iexact HS1
      ipureintro; intro m hm; obtain rfl : m = t.val := by omega
      exact eacc
    iexact HR
  isplitl [Ho]; · iexact Ho
  isplitl [H0]; · iapply (Persist.hand_live (dat1 V c) 0 t rfl (after1_0 V c t).symm); iexact H0
  isplitl [H1]; · iapply (Persist.hand_live (dat1 V c) 1 t rfl (after1_1 V c t).symm); iexact H1
  isplitl [H2]; · iapply (Persist.hand_live (dat1 V c) 2 t rfl (after1_2 V c t).symm); iexact H2
  isplitl [H3]; · iapply (Persist.hand_live (dat1 V c) 3 t rfl (after1_3 V c t).symm); iexact H3
  isplitl [H4]; · iapply (Persist.hand_live (dat1 V c) 4 t rfl (after1_4 V c t).symm); iexact H4
  isplitl [H5]; · iapply (Persist.hand_live (dat1 V c) 5 t rfl (after1_5 V c t).symm); iexact H5
  isplitl [H6]; · iapply (Persist.hand_live (dat1 V c) 6 t rfl (after1_6 V c t).symm); iexact H6
  isplitl [H7]; · iapply (Persist.hand_live (dat1 V c) 7 t rfl (after1_7 V c t).symm); iexact H7
  isplitl [H8]; · iapply (Persist.hand_live (dat1 V c) 8 t (live1_8 t h4) e8); iexact H8
  isplitl [H9]; · iapply (Persist.hand_idle (dat1 V c) 9 t ((idle1_9 t).mpr h0) d9 (found1_9 V c t h0 d9) (after1_9 V c t).symm); iexact H9
  isplitl [H10]; · iapply (Persist.hand_live (dat1 V c) 10 t (live1_10 t hl) e10); iexact H10
  isplitl [H11]; · iapply (Persist.hand_live (dat1 V c) 11 t (live1_11 t h3) e11); iexact H11
  iapply (Persist.hand_live (dat1 V c) 12 t (live1_12 t h3) e12); iexact H12

set_option maxHeartbeats 4000000 in
theorem body1_D (c : Dev nD) (t : Fin cfg1.N) (h0 : ¬ t.val = 0) (h4 : ¬ t.val < 4) (hk : t.val % 4 = 0) (h3 : ¬ t.val % 4 = 3) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl, dat1_castSucc, dat1_succ]
  simp only [before1_0, before1_1, before1_2, before1_3, before1_4, before1_5, before1_6, before1_7]
  unfold Phi1
  have hN := lt1 t
  obtain ⟨n, hn⟩ : ∃ n, t.val = n + 1 := ⟨t.val - 1, by omega⟩
  simp only [found1_8 V c t h4, found1_9 V c t h0, found1_10 V c t n hn]
  iintro ⟨⟨⟨%X, %hX, HS0⟩, ⟨%Y, %hY, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := hY n hn
  have hab : (VecWindow.window X (k1_off2 (grid1.coords t)) S1x256x2048.size (k1_off2_inb (grid1.coords t))) = pb1 V c (t.val % 4) := block_read1 V c t X h4 hX
  have eacc : k1_pay1 k1_pay13 (k1_pay14 (VecWindow.window X (k1_off2 (grid1.coords t)) S1x256x2048.size (k1_off2_inb (grid1.coords t)))) (blk1 V c 5 t) (blk1 V c 6 t) (k1_pay15 (blk1 V c 7 t)) = acc1 V c t.val := by
    rw [hab]; exact (acc1_first V c t hk).symm
  iapply ((run1_D c (grid1.coords t) _ _ _ _ _ _ _ _ _ _ _ _ _ _ _ _ _ _ _ _ _ _ _ _ _ _ _ _ _ _ (fun h => h0 ((cond1_1 t).mp h)) (fun h => h4 ((cond1_2 t).mp h)) ((cond1_3 t).mpr hk) (fun h => h3 ((cond1_4 t).mp h)) (blk1 V c 0 t) (blk1 V c 1 t) (blk1 V c 2 t) (blk1 V c 3 t) (blk1 V c 4 t) (blk1 V c 5 t) (blk1 V c 6 t) (blk1 V c 7 t) (aq1 V c t.val) (sa1 V c) (loss1 V c n) ((dat1 V c).before 11 t d11) ((dat1 V c).before 12 t d12) X) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexists _; iexact HS1
  iintro ⟨H0, H1, H2, H3, H4, H5, H6, H7, H8, H9, H10, H11, H12, HS0, HS1⟩
  isplitl [HS0 HS1 HR]
  · isplitl [HS0]
    · iexists _; isplitr; swap; · iexact HS0
      ipureintro; exact fun k hk _ => hX k hk (by omega)
    isplitl [HS1]
    · iexists _; isplitr; swap; · iexact HS1
      ipureintro; intro m hm; obtain rfl : m = t.val := by omega
      exact eacc
    iexact HR
  isplitl [Ho]; · iexact Ho
  isplitl [H0]; · iapply (Persist.hand_live (dat1 V c) 0 t rfl (after1_0 V c t).symm); iexact H0
  isplitl [H1]; · iapply (Persist.hand_live (dat1 V c) 1 t rfl (after1_1 V c t).symm); iexact H1
  isplitl [H2]; · iapply (Persist.hand_live (dat1 V c) 2 t rfl (after1_2 V c t).symm); iexact H2
  isplitl [H3]; · iapply (Persist.hand_live (dat1 V c) 3 t rfl (after1_3 V c t).symm); iexact H3
  isplitl [H4]; · iapply (Persist.hand_live (dat1 V c) 4 t rfl (after1_4 V c t).symm); iexact H4
  isplitl [H5]; · iapply (Persist.hand_live (dat1 V c) 5 t rfl (after1_5 V c t).symm); iexact H5
  isplitl [H6]; · iapply (Persist.hand_live (dat1 V c) 6 t rfl (after1_6 V c t).symm); iexact H6
  isplitl [H7]; · iapply (Persist.hand_live (dat1 V c) 7 t rfl (after1_7 V c t).symm); iexact H7
  isplitl [H8]; · iapply (Persist.hand_idle (dat1 V c) 8 t ((idle1_8 t).mpr h4) d8 (found1_8 V c t h4 d8) (after1_8 V c t).symm); iexact H8
  isplitl [H9]; · iapply (Persist.hand_idle (dat1 V c) 9 t ((idle1_9 t).mpr h0) d9 (found1_9 V c t h0 d9) (after1_9 V c t).symm); iexact H9
  isplitl [H10]; · iapply (Persist.hand_idle (dat1 V c) 10 t ((idle1_10 t).mpr ⟨h0, h3⟩) d10 (found1_10 V c t n hn d10) ((loss1_kept V c n _ hn h3).symm.trans (after1_10 V c t).symm)); iexact H10
  isplitl [H11]; · iapply (Persist.hand_found (dat1 V c) 11 t ((idle1_11 t).mpr h3) (noflush1_11 t h3) d11); iexact H11
  iapply (Persist.hand_found (dat1 V c) 12 t ((idle1_12 t).mpr h3) (noflush1_12 t h3) d12); iexact H12

set_option maxHeartbeats 4000000 in
theorem body1_E (c : Dev nD) (t : Fin cfg1.N) (h0 : ¬ t.val = 0) (h4 : ¬ t.val < 4) (hk : ¬ t.val % 4 = 0) (h3 : ¬ t.val % 4 = 3) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl, dat1_castSucc, dat1_succ]
  simp only [before1_0, before1_1, before1_2, before1_3, before1_4, before1_5, before1_6, before1_7]
  unfold Phi1
  have hN := lt1 t
  obtain ⟨n, hn⟩ : ∃ n, t.val = n + 1 := ⟨t.val - 1, by omega⟩
  simp only [found1_8 V c t h4, found1_9 V c t h0, found1_10 V c t n hn]
  iintro ⟨⟨⟨%X, %hX, HS0⟩, ⟨%Y, %hY, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := hY n hn
  have hab : (VecWindow.window X (k1_off2 (grid1.coords t)) S1x256x2048.size (k1_off2_inb (grid1.coords t))) = pb1 V c (t.val % 4) := block_read1 V c t X h4 hX
  have eacc : k1_pay1 (acc1 V c n) (k1_pay14 (VecWindow.window X (k1_off2 (grid1.coords t)) S1x256x2048.size (k1_off2_inb (grid1.coords t)))) (blk1 V c 5 t) (blk1 V c 6 t) (k1_pay15 (blk1 V c 7 t)) = acc1 V c t.val := by
    rw [hab]; exact (acc1_later V c t n hn hk).symm
  iapply ((run1_E c (grid1.coords t) _ _ _ _ _ _ _ _ _ _ _ _ _ _ _ _ _ _ _ _ _ _ _ _ _ _ _ _ _ _ (fun h => h0 ((cond1_1 t).mp h)) (fun h => h4 ((cond1_2 t).mp h)) (fun h => hk ((cond1_3 t).mp h)) (fun h => h3 ((cond1_4 t).mp h)) (blk1 V c 0 t) (blk1 V c 1 t) (blk1 V c 2 t) (blk1 V c 3 t) (blk1 V c 4 t) (blk1 V c 5 t) (blk1 V c 6 t) (blk1 V c 7 t) (aq1 V c t.val) (sa1 V c) (loss1 V c n) ((dat1 V c).before 11 t d11) ((dat1 V c).before 12 t d12) X (acc1 V c n)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, H10, H11, H12, HS0, HS1⟩
  isplitl [HS0 HS1 HR]
  · isplitl [HS0]
    · iexists _; isplitr; swap; · iexact HS0
      ipureintro; exact fun k hk _ => hX k hk (by omega)
    isplitl [HS1]
    · iexists _; isplitr; swap; · iexact HS1
      ipureintro; intro m hm; obtain rfl : m = t.val := by omega
      exact eacc
    iexact HR
  isplitl [Ho]; · iexact Ho
  isplitl [H0]; · iapply (Persist.hand_live (dat1 V c) 0 t rfl (after1_0 V c t).symm); iexact H0
  isplitl [H1]; · iapply (Persist.hand_live (dat1 V c) 1 t rfl (after1_1 V c t).symm); iexact H1
  isplitl [H2]; · iapply (Persist.hand_live (dat1 V c) 2 t rfl (after1_2 V c t).symm); iexact H2
  isplitl [H3]; · iapply (Persist.hand_live (dat1 V c) 3 t rfl (after1_3 V c t).symm); iexact H3
  isplitl [H4]; · iapply (Persist.hand_live (dat1 V c) 4 t rfl (after1_4 V c t).symm); iexact H4
  isplitl [H5]; · iapply (Persist.hand_live (dat1 V c) 5 t rfl (after1_5 V c t).symm); iexact H5
  isplitl [H6]; · iapply (Persist.hand_live (dat1 V c) 6 t rfl (after1_6 V c t).symm); iexact H6
  isplitl [H7]; · iapply (Persist.hand_live (dat1 V c) 7 t rfl (after1_7 V c t).symm); iexact H7
  isplitl [H8]; · iapply (Persist.hand_idle (dat1 V c) 8 t ((idle1_8 t).mpr h4) d8 (found1_8 V c t h4 d8) (after1_8 V c t).symm); iexact H8
  isplitl [H9]; · iapply (Persist.hand_idle (dat1 V c) 9 t ((idle1_9 t).mpr h0) d9 (found1_9 V c t h0 d9) (after1_9 V c t).symm); iexact H9
  isplitl [H10]; · iapply (Persist.hand_idle (dat1 V c) 10 t ((idle1_10 t).mpr ⟨h0, h3⟩) d10 (found1_10 V c t n hn d10) ((loss1_kept V c n _ hn h3).symm.trans (after1_10 V c t).symm)); iexact H10
  isplitl [H11]; · iapply (Persist.hand_found (dat1 V c) 11 t ((idle1_11 t).mpr h3) (noflush1_11 t h3) d11); iexact H11
  iapply (Persist.hand_found (dat1 V c) 12 t ((idle1_12 t).mpr h3) (noflush1_12 t h3) d12); iexact H12

set_option maxHeartbeats 4000000 in
theorem body1_G (c : Dev nD) (t : Fin cfg1.N) (h0 : ¬ t.val = 0) (h4 : ¬ t.val < 4) (hk : ¬ t.val % 4 = 0) (h3 : t.val % 4 = 3) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl, dat1_castSucc, dat1_succ]
  simp only [before1_0, before1_1, before1_2, before1_3, before1_4, before1_5, before1_6, before1_7]
  unfold Phi1
  have hN := lt1 t
  obtain ⟨n, hn⟩ : ∃ n, t.val = n + 1 := ⟨t.val - 1, by omega⟩
  simp only [found1_8 V c t h4, found1_9 V c t h0, found1_10 V c t n hn]
  iintro ⟨⟨⟨%X, %hX, HS0⟩, ⟨%Y, %hY, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  obtain rfl := hY n hn
  have hab : (VecWindow.window X (k1_off2 (grid1.coords t)) S1x256x2048.size (k1_off2_inb (grid1.coords t))) = pb1 V c (t.val % 4) := block_read1 V c t X h4 hX
  have eacc : k1_pay1 (acc1 V c n) (k1_pay14 (VecWindow.window X (k1_off2 (grid1.coords t)) S1x256x2048.size (k1_off2_inb (grid1.coords t)))) (blk1 V c 5 t) (blk1 V c 6 t) (k1_pay15 (blk1 V c 7 t)) = acc1 V c t.val := by
    rw [hab]; exact (acc1_later V c t n hn hk).symm
  have e10 : k1_pay4 (k1_pay8 (blk1 V c 2 t)) (k1_pay1 (acc1 V c n) (k1_pay14 (VecWindow.window X (k1_off2 (grid1.coords t)) S1x256x2048.size (k1_off2_inb (grid1.coords t)))) (blk1 V c 5 t) (blk1 V c 6 t) (k1_pay15 (blk1 V c 7 t))) (blk1 V c 3 t) (blk1 V c 4 t) (loss1 V c n) = (dat1 V c).after 10 t := by
    rw [after1_10, eacc]; exact (loss1_last V c t n hn h3).symm
  have e11 : k1_pay6 (k1_pay8 (blk1 V c 2 t)) (k1_pay1 (acc1 V c n) (k1_pay14 (VecWindow.window X (k1_off2 (grid1.coords t)) S1x256x2048.size (k1_off2_inb (grid1.coords t)))) (blk1 V c 5 t) (blk1 V c 6 t) (k1_pay15 (blk1 V c 7 t))) (blk1 V c 3 t) (blk1 V c 4 t) = (dat1 V c).after 11 t := by
    rw [after1_11, eacc]; rfl
  have e12 : k1_pay7 (k1_pay8 (blk1 V c 2 t)) (k1_pay1 (acc1 V c n) (k1_pay14 (VecWindow.window X (k1_off2 (grid1.coords t)) S1x256x2048.size (k1_off2_inb (grid1.coords t)))) (blk1 V c 5 t) (blk1 V c 6 t) (k1_pay15 (blk1 V c 7 t))) (blk1 V c 3 t) (blk1 V c 4 t) = (dat1 V c).after 12 t := by
    rw [after1_12, eacc]; rfl
  have hl : t.val = 0 ∨ t.val % 4 = 3 := Or.inr h3
  iapply ((run1_G c (grid1.coords t) _ _ _ _ _ _ _ _ _ _ _ _ _ _ _ _ _ _ _ _ _ _ _ _ _ _ _ _ _ _ (fun h => h0 ((cond1_1 t).mp h)) (fun h => h4 ((cond1_2 t).mp h)) (fun h => hk ((cond1_3 t).mp h)) ((cond1_4 t).mpr h3) (blk1 V c 0 t) (blk1 V c 1 t) (blk1 V c 2 t) (blk1 V c 3 t) (blk1 V c 4 t) (blk1 V c 5 t) (blk1 V c 6 t) (blk1 V c 7 t) (aq1 V c t.val) (sa1 V c) (loss1 V c n) X (acc1 V c n)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [HS0]; · iexact HS0
  isplitl [HS1]; · iexact HS1
  iintro ⟨H0, H1, H2, H3, H4, H5, H6, H7, H8, H9, H10, H11, H12, HS0, HS1⟩
  isplitl [HS0 HS1 HR]
  · isplitl [HS0]
    · iexists _; isplitr; swap; · iexact HS0
      ipureintro; exact fun k hk _ => hX k hk (by omega)
    isplitl [HS1]
    · iexists _; isplitr; swap; · iexact HS1
      ipureintro; intro m hm; obtain rfl : m = t.val := by omega
      exact eacc
    iexact HR
  isplitl [Ho]; · iexact Ho
  isplitl [H0]; · iapply (Persist.hand_live (dat1 V c) 0 t rfl (after1_0 V c t).symm); iexact H0
  isplitl [H1]; · iapply (Persist.hand_live (dat1 V c) 1 t rfl (after1_1 V c t).symm); iexact H1
  isplitl [H2]; · iapply (Persist.hand_live (dat1 V c) 2 t rfl (after1_2 V c t).symm); iexact H2
  isplitl [H3]; · iapply (Persist.hand_live (dat1 V c) 3 t rfl (after1_3 V c t).symm); iexact H3
  isplitl [H4]; · iapply (Persist.hand_live (dat1 V c) 4 t rfl (after1_4 V c t).symm); iexact H4
  isplitl [H5]; · iapply (Persist.hand_live (dat1 V c) 5 t rfl (after1_5 V c t).symm); iexact H5
  isplitl [H6]; · iapply (Persist.hand_live (dat1 V c) 6 t rfl (after1_6 V c t).symm); iexact H6
  isplitl [H7]; · iapply (Persist.hand_live (dat1 V c) 7 t rfl (after1_7 V c t).symm); iexact H7
  isplitl [H8]; · iapply (Persist.hand_idle (dat1 V c) 8 t ((idle1_8 t).mpr h4) d8 (found1_8 V c t h4 d8) (after1_8 V c t).symm); iexact H8
  isplitl [H9]; · iapply (Persist.hand_idle (dat1 V c) 9 t ((idle1_9 t).mpr h0) d9 (found1_9 V c t h0 d9) (after1_9 V c t).symm); iexact H9
  isplitl [H10]; · iapply (Persist.hand_live (dat1 V c) 10 t (live1_10 t hl) e10); iexact H10
  isplitl [H11]; · iapply (Persist.hand_live (dat1 V c) 11 t (live1_11 t h3) e11); iexact H11
  iapply (Persist.hand_live (dat1 V c) 12 t (live1_12 t h3) e12); iexact H12

/-- The body at any point. -/
theorem body1 (c : Dev nD) (t : Fin cfg1.N) :
    bodyPre1 V c t ⊢ wp frame (wpE (defs₀ (F := F)) Variants.none c none) Set.univ (bodyAt1 t) (fun _ => bodyPost1 V c t) := by
  by_cases h4 : t.val < 4
  · by_cases h0 : t.val = 0
    · exact body1_A V c t h0 h4 (by omega) (by omega)
    · by_cases h3 : t.val % 4 = 3
      · exact body1_C V c t h0 h4 (by omega) h3
      · exact body1_B V c t h0 h4 (by omega) h3
  · by_cases hk : t.val % 4 = 0
    · exact body1_D V c t (by omega) h4 hk (by omega)
    · by_cases h3 : t.val % 4 = 3
      · exact body1_G V c t (by omega) h4 hk h3
      · exact body1_E V c t (by omega) h4 hk h3

/-- The body table's row at point `t`'s slots is the body. -/
theorem row1 (t : Fin cfg1.N) :
    defs₀ (F := F) .tc cfg1.body (cfg1.bodyArgs t (cfg1.slots t)) = bodyAt1 t := by
  unfold defs₀; rw [Defs.onTc_tc]

/-- The body obligation of the region, at every point. -/
theorem obligation1 (c : Dev nD) : BodyObligation (dat1 (F := F) V c) (defs₀ (F := F)) Variants.none () Set.univ := fun t => by
  rw [bigSep_W1, bigSep_W1, row1]
  exact triple_restated (body1 V c t) rfl .rfl fun _ => .rfl

end Cert.KernelIdeal.Own

end
-- ==== Proof.KernelIdeal.Run2A.lean ====
/- The body of the backward kernel, run once, at the first grid point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Lib.Whole
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At the first grid point. -/
theorem run2_A (c : Dev nD) (i : grid2.Coords) (arg1 : Memref sig .tc .vmem S256x2048 .i8) (harg1 : arg1.IsWhole) (arg2 : Memref sig .tc .vmem S256x1 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .i8) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S2048x256 .i8) (harg8 : arg8.IsWhole) (arg9 : Memref sig .tc .vmem S32x256 .f32) (harg9 : arg9.IsWhole) (arg10 : Memref sig .tc .vmem S2048x256 .f32) (harg10 : arg10.IsWhole) (arg11 : Memref sig .tc .vmem S2048x256 .i8) (harg11 : arg11.IsWhole) (arg12 : Memref sig .tc .vmem S32x256 .f32) (harg12 : arg12.IsWhole) (arg13 : Memref sig .tc .vmem S2048x256 .f32) (harg13 : arg13.IsWhole) (arg14 : Memref sig .tc .vmem S256x2048 .i8) (harg14 : arg14.IsWhole) (arg15 : Memref sig .tc .vmem S1x4x2048 .f32) (harg15 : arg15.IsWhole) (arg16 : Memref sig .tc .vmem S256x2048 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S256x2048 .f32) (harg19 : arg19.IsWhole) (arg20 : Memref sig .tc .vmem S2048x256 .bf16) (harg20 : arg20.IsWhole)
    (hc0 : Scalar.cmpi .ne (Scalar.extui (Scalar.cmpi .eq (BitVec.ofNat 32 (i 0).val) 0#32) : BitVec 32) 0#32 = 1#1)
    (x0 : Vec F S256x2048 .i8) (x1 : Vec F S256x1 .f32) (x2 : Vec F S256x256 .f32) (x3 : Vec F S256x256 .f32) (x4 : Vec F S256x256 .i8) (x5 : Vec F S256x2048 .bf16) (x6 : Vec F S256x2048 .bf16) (x7 : Vec F S2048x256 .i8) (x8 : Vec F S32x256 .f32) (x9 : Vec F S2048x256 .f32) (x10 : Vec F S2048x256 .i8) (x11 : Vec F S32x256 .f32) (x12 : Vec F S2048x256 .f32) (x13 : Vec F S256x2048 .i8) (x14 : Vec F S1x4x2048 .f32) (x15 : Vec F S256x2048 .f32) :
      ∀ (E : Set ℕ) (Q : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (k2_pay12 (k2_pay10 x9 x7) (k2_pay11 (k2_pay3 x15 x5 x13 x14) (k2_pay5 x1) (k2_pay6 x2) (k2_pay7 x2) x3 (k2_pay1 x0) x9 x8) (Scalar.ofBits .f32 0x00000000#32) : Vec F S2048x256 .f32) ∗ owns (c : Thread nD τ) arg18 fullShare (k2_pay13 (k2_pay5 x1) (k2_pay8 (k2_pay3 x15 x5 x13 x14) (k2_pay6 x2) (k2_pay7 x2)) (k2_pay1 x0) x12 x10 x11 : Vec F S2048x256 .f32) ∗ owns (c : Thread nD τ) arg19 fullShare (k2_pay4 (k2_pay2 x15) x4 x6 x13 x14 : Vec F S256x2048 .f32) ∗ owns (c : Thread nD τ) arg20 fullShare (k2_pay1 x0 : Vec F S2048x256 .bf16)) -∗ Q ⟨⟩))
          ⊢ wp frame (wpE (defs₀ (F := F)) Variants.none c none) E (cc2_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
    intro E Q
    simp only [cc2_backward_eq_skeleton]; unfold cc2_backward_skel
    simp only [k2_part1_eq_skeleton, k2_part2_eq_skeleton, k2_part3_eq_skeleton, k2_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; swap; · iexact H16
      ipureintro
      unfold run2_A.sl.cst_55 run2_A.sl.r_9 run2_A.sl.r_8 run2_A.sl.r_6 run2_A.sl.r_5 run2_A.sl.r_4 run2_A.sl.r_3 run2_A.sl.r_1 run2_A.sl.v85 run2_A.sl.H19_1
      simp only [Whole.read_writes, Whole.readAt_writes, Whole.readCov, Whole.readAt_unread]
    isplitl [H17]
    · iexists _; isplitr; swap; · iexact H17
      ipureintro
      unfold run2_A.sl.r_10 run2_A.sl.r_7 run2_A.sl.r_5 run2_A.sl.r_4 run2_A.sl.r_3 run2_A.sl.r_1 run2_A.sl.v85 run2_A.sl.H19_1
      simp only [Whole.read_writes, Whole.readAt_writes, Whole.readCov, Whole.readAt_unread]
    isplitl [H18]
    · iexists _; isplitr; swap; · iexact H18
      ipureintro
      unfold run2_A.sl.r_2 run2_A.sl.r
      simp only [Whole.read_writes, Whole.readAt_writes, Whole.readCov, Whole.readAt_unread]
    iexists _; isplitr; swap; · iexact H19
    ipureintro
    unfold run2_A.sl.H19_1
    simp only [Whole.read_writes, Whole.readAt_writes, Whole.readCov, Whole.readAt_unread]

end Cert.KernelIdeal.Own

end
-- ==== Proof.KernelIdeal.Run2B.lean ====
/- The body of the backward kernel, run once, at a later grid point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Lib.Whole
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At a later grid point. -/
theorem run2_B (c : Dev nD) (i : grid2.Coords) (arg1 : Memref sig .tc .vmem S256x2048 .i8) (harg1 : arg1.IsWhole) (arg2 : Memref sig .tc .vmem S256x1 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S256x256 .i8) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S2048x256 .i8) (harg8 : arg8.IsWhole) (arg9 : Memref sig .tc .vmem S32x256 .f32) (harg9 : arg9.IsWhole) (arg10 : Memref sig .tc .vmem S2048x256 .f32) (harg10 : arg10.IsWhole) (arg11 : Memref sig .tc .vmem S2048x256 .i8) (harg11 : arg11.IsWhole) (arg12 : Memref sig .tc .vmem S32x256 .f32) (harg12 : arg12.IsWhole) (arg13 : Memref sig .tc .vmem S2048x256 .f32) (harg13 : arg13.IsWhole) (arg14 : Memref sig .tc .vmem S256x2048 .i8) (harg14 : arg14.IsWhole) (arg15 : Memref sig .tc .vmem S1x4x2048 .f32) (harg15 : arg15.IsWhole) (arg16 : Memref sig .tc .vmem S256x2048 .f32) (harg16 : arg16.IsWhole) (arg17 : Memref sig .tc .vmem S2048x256 .f32) (harg17 : arg17.IsWhole) (arg18 : Memref sig .tc .vmem S2048x256 .f32) (harg18 : arg18.IsWhole) (arg19 : Memref sig .tc .vmem S256x2048 .f32) (harg19 : arg19.IsWhole) (arg20 : Memref sig .tc .vmem S2048x256 .bf16) (harg20 : arg20.IsWhole)
    (hc0 : ¬ (Scalar.cmpi .ne (Scalar.extui (Scalar.cmpi .eq (BitVec.ofNat 32 (i 0).val) 0#32) : BitVec 32) 0#32 = 1#1))
    (x0 : Vec F S256x2048 .i8) (x1 : Vec F S256x1 .f32) (x2 : Vec F S256x256 .f32) (x3 : Vec F S256x256 .f32) (x4 : Vec F S256x256 .i8) (x5 : Vec F S256x2048 .bf16) (x6 : Vec F S256x2048 .bf16) (x7 : Vec F S2048x256 .i8) (x8 : Vec F S32x256 .f32) (x9 : Vec F S2048x256 .f32) (x10 : Vec F S2048x256 .i8) (x11 : Vec F S32x256 .f32) (x12 : Vec F S2048x256 .f32) (x13 : Vec F S256x2048 .i8) (x14 : Vec F S1x4x2048 .f32) (x15 : Vec F S256x2048 .f32) (x19 : Vec F S2048x256 .bf16) :
      ∀ (E : Set ℕ) (Q : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare x19
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (k2_pay12 (k2_pay10 x9 x7) (k2_pay11 (k2_pay3 x15 x5 x13 x14) (k2_pay5 x1) (k2_pay6 x2) (k2_pay7 x2) x3 x19 x9 x8) (Scalar.ofBits .f32 0x00000000#32) : Vec F S2048x256 .f32) ∗ owns (c : Thread nD τ) arg18 fullShare (k2_pay13 (k2_pay5 x1) (k2_pay8 (k2_pay3 x15 x5 x13 x14) (k2_pay6 x2) (k2_pay7 x2)) x19 x12 x10 x11 : Vec F S2048x256 .f32) ∗ owns (c : Thread nD τ) arg19 fullShare (k2_pay4 (k2_pay2 x15) x4 x6 x13 x14 : Vec F S256x2048 .f32) ∗ owns (c : Thread nD τ) arg20 fullShare x19) -∗ Q ⟨⟩))
          ⊢ wp frame (wpE (defs₀ (F := F)) Variants.none c none) E (cc2_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) Q := by
    intro E Q
    simp only [cc2_backward_eq_skeleton]; unfold cc2_backward_skel
    simp only [k2_part1_eq_skeleton, k2_part2_eq_skeleton, k2_part3_eq_skeleton, k2_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg20.eq_unread hf19
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; swap; · iexact H16
      ipureintro
      unfold run2_B.sl.cst_55 run2_B.sl.r_9 run2_B.sl.r_8 run2_B.sl.r_6 run2_B.sl.r_5 run2_B.sl.r_4 run2_B.sl.r_3 run2_B.sl.r_1
      simp only [Whole.read_writes, Whole.readAt_writes, Whole.readCov, Whole.readAt_unread]
    isplitl [H17]
    · iexists _; isplitr; swap; · iexact H17
      ipureintro
      unfold run2_B.sl.r_10 run2_B.sl.r_7 run2_B.sl.r_5 run2_B.sl.r_4 run2_B.sl.r_3 run2_B.sl.r_1
      simp only [Whole.read_writes, Whole.readAt_writes, Whole.readCov, Whole.readAt_unread]
    isplitl [H18]
    · iexists _; isplitr; swap; · iexact H18
      ipureintro
      unfold run2_B.sl.r_2 run2_B.sl.r
      simp only [Whole.read_writes, Whole.readAt_writes, Whole.readCov, Whole.readAt_unread]
    iexists _; isplitr; · ipureintro; exact harg20.read_unread _
    iexact H19

end Cert.KernelIdeal.Own

end
-- ==== Proof.KernelIdeal.Region2.lean ====
/- The backward kernel as a region: what every buffer holds after every grid point, and the body at every point. -/
module

public import proofs.«01_k».proof.Proof.KernelIdeal.Region0
public import proofs.«01_k».proof.Proof.KernelIdeal.Run2A
public import proofs.«01_k».proof.Proof.KernelIdeal.Run2B
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Entry F)

/-- The grid point numbered `n`. -/
def pt2 (n : ℕ) : Fin cfg2.N := ⟨n % 32, lt_of_lt_of_eq (Nat.mod_lt n (by decide)) (show 32 = cfg2.N from N_2.symm)⟩

theorem pt2_val (t : Fin cfg2.N) : pt2 t.val = t :=
  Fin.ext (Nat.mod_eq_of_lt (lt_of_lt_of_eq t.isLt (show cfg2.N = 32 from N_2)))

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0's staging buffer at point `t`. -/
abbrev ms2_0 (t : Fin cfg2.N) : Memref sig .tc .vmem S256x2048 .i8 := win2_0.stage (cfg2.slots t 0)
/-- Window 1's staging buffer at point `t`. -/
abbrev ms2_1 (t : Fin cfg2.N) : Memref sig .tc .vmem S256x1 .f32 := win2_1.stage (cfg2.slots t 1)
/-- Window 2's staging buffer at point `t`. -/
abbrev ms2_2 (t : Fin cfg2.N) : Memref sig .tc .vmem S256x256 .f32 := win2_2.stage (cfg2.slots t 2)
/-- Window 3's staging buffer at point `t`. -/
abbrev ms2_3 (t : Fin cfg2.N) : Memref sig .tc .vmem S256x256 .f32 := win2_3.stage (cfg2.slots t 3)
/-- Window 4's staging buffer at point `t`. -/
abbrev ms2_4 (t : Fin cfg2.N) : Memref sig .tc .vmem S256x256 .i8 := win2_4.stage (cfg2.slots t 4)
/-- Window 5's staging buffer at point `t`. -/
abbrev ms2_5 (t : Fin cfg2.N) : Memref sig .tc .vmem S256x2048 .bf16 := win2_5.stage (cfg2.slots t 5)
/-- Window 6's staging buffer at point `t`. -/
abbrev ms2_6 (t : Fin cfg2.N) : Memref sig .tc .vmem S256x2048 .bf16 := win2_6.stage (cfg2.slots t 6)
/-- Window 7's staging buffer at point `t`. -/
abbrev ms2_7 (t : Fin cfg2.N) : Memref sig .tc .vmem S2048x256 .i8 := win2_7.stage (cfg2.slots t 7)
/-- Window 8's staging buffer at point `t`. -/
abbrev ms2_8 (t : Fin cfg2.N) : Memref sig .tc .vmem S32x256 .f32 := win2_8.stage (cfg2.slots t 8)
/-- Window 9's staging buffer at point `t`. -/
abbrev ms2_9 (t : Fin cfg2.N) : Memref sig .tc .vmem S2048x256 .f32 := win2_9.stage (cfg2.slots t 9)
/-- Window 10's staging buffer at point `t`. -/
abbrev ms2_10 (t : Fin cfg2.N) : Memref sig .tc .vmem S2048x256 .i8 := win2_10.stage (cfg2.slots t 10)
/-- Window 11's staging buffer at point `t`. -/
abbrev ms2_11 (t : Fin cfg2.N) : Memref sig .tc .vmem S32x256 .f32 := win2_11.stage (cfg2.slots t 11)
/-- Window 12's staging buffer at point `t`. -/
abbrev ms2_12 (t : Fin cfg2.N) : Memref sig .tc .vmem S2048x256 .f32 := win2_12.stage (cfg2.slots t 12)
/-- Window 13's staging buffer at point `t`. -/
abbrev ms2_13 (t : Fin cfg2.N) : Memref sig .tc .vmem S256x2048 .i8 := win2_13.stage (cfg2.slots t 13)
/-- Window 14's staging buffer at point `t`. -/
abbrev ms2_14 (t : Fin cfg2.N) : Memref sig .tc .vmem S1x4x2048 .f32 := win2_14.stage (cfg2.slots t 14)
/-- Window 15's staging buffer at point `t`. -/
abbrev ms2_15 (t : Fin cfg2.N) : Memref sig .tc .vmem S256x2048 .f32 := win2_15.stage (cfg2.slots t 15)
/-- Window 16's staging buffer at point `t`. -/
abbrev ms2_16 (t : Fin cfg2.N) : Memref sig .tc .vmem S2048x256 .f32 := win2_16.stage (cfg2.slots t 16)
/-- Window 17's staging buffer at point `t`. -/
abbrev ms2_17 (t : Fin cfg2.N) : Memref sig .tc .vmem S2048x256 .f32 := win2_17.stage (cfg2.slots t 17)
/-- Window 18's staging buffer at point `t`. -/
abbrev ms2_18 (t : Fin cfg2.N) : Memref sig .tc .vmem S256x2048 .f32 := win2_18.stage (cfg2.slots t 18)
/-- The kernel's own buffer 0. -/
abbrev scM2_0 : Memref sig .tc .vmem S2048x256 .bf16 := Memref.whole cc2_scratch0

/-- The transposed activations the products use: stored at the first point. -/
def xbt2 (c : Dev nD) : Vec F S2048x256 .bf16 := k2_pay1 (blk2 V c 0 (pt2 0))

/-- The three gradient blocks of a point. -/
def dvg2 (c : Dev nD) (t : Fin cfg2.N) : Vec F S2048x256 .f32 :=
  k2_pay12 (k2_pay10 (blk2 V c 9 t) (blk2 V c 7 t)) (k2_pay11 (k2_pay3 (blk2 V c 15 t) (blk2 V c 5 t) (blk2 V c 13 t) (blk2 V c 14 t)) (k2_pay5 (blk2 V c 1 t)) (k2_pay6 (blk2 V c 2 t)) (k2_pay7 (blk2 V c 2 t)) (blk2 V c 3 t) (xbt2 V c) (blk2 V c 9 t) (blk2 V c 8 t)) (Scalar.ofBits .f32 0x00000000#32)
def dvu2 (c : Dev nD) (t : Fin cfg2.N) : Vec F S2048x256 .f32 :=
  k2_pay13 (k2_pay5 (blk2 V c 1 t)) (k2_pay8 (k2_pay3 (blk2 V c 15 t) (blk2 V c 5 t) (blk2 V c 13 t) (blk2 V c 14 t)) (k2_pay6 (blk2 V c 2 t)) (k2_pay7 (blk2 V c 2 t))) (xbt2 V c) (blk2 V c 12 t) (blk2 V c 10 t) (blk2 V c 11 t)
def dvd2 (c : Dev nD) (t : Fin cfg2.N) : Vec F S256x2048 .f32 :=
  k2_pay4 (k2_pay2 (blk2 V c 15 t)) (blk2 V c 4 t) (blk2 V c 6 t) (blk2 V c 13 t) (blk2 V c 14 t)

/-- The body's invariant before point `n`: the kernel's own buffer, the activations once the first point has stored them. -/
def Phi2 (c : Dev nD) (n : ℕ) : sProp 𝕄 :=
  iprop((∃ X, ⌜0 < n → X = xbt2 V c⌝ ∗ owns (c : Thread nD τ) scM2_0 fullShare X)
    ∗ Pipeline.scopedRestBut (Ix := Unit) (Name := ℕ) (U := UR sig nD τ) (Lvl := ℕ) (Val := Elt F) spec2 c [cc2_scratch0]
    ∗ ∃ r, prngReg c r)

/-- The proof data of the pipeline on core `c`: each input's buffer holds its block, each output's what the body leaves. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => blk2 V c 10 t
    | ⟨11, _⟩ => blk2 V c 11 t
    | ⟨12, _⟩ => blk2 V c 12 t
    | ⟨13, _⟩ => blk2 V c 13 t
    | ⟨14, _⟩ => blk2 V c 14 t
    | ⟨15, _⟩ => blk2 V c 15 t
    | ⟨16, _⟩ => dvg2 V c t
    | ⟨17, _⟩ => dvu2 V c t
    | ⟨18, _⟩ => dvd2 V c t
    | ⟨_ + 19, h⟩ => absurd h (Nat.not_lt.2 (Nat.le_add_left _ _))
  Φ s := Phi2 V c s.val
  q _ := fullShare
  owed _ := 0

theorem dat2_A (c : Dev nD) (w : Fin cfg2.W) : (dat2 V c).A w = V c (Pipeline.arrRef spec2 w) := by dsimp only [dat2]
theorem dat2_castSucc (c : Dev nD) (t : Fin cfg2.N) : (dat2 V c).Φ t.castSucc = Phi2 V c t.val := by
  dsimp only [dat2]; exact Persist.at_castSucc (Phi2 V c) t
theorem dat2_succ (c : Dev nD) (t : Fin cfg2.N) : (dat2 V c).Φ t.succ = Phi2 V c (t.val + 1) := by
  dsimp only [dat2]; exact Persist.at_succ (Phi2 V c) t
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = blk2 V c 3 t := by dsimp only [dat2]
theorem after2_4 (c : Dev nD) (t : Fin cfg2.N) : (dat2 V c).after 4 t = blk2 V c 4 t := by dsimp only [dat2]
theorem after2_5 (c : Dev nD) (t : Fin cfg2.N) : (dat2 V c).after 5 t = blk2 V c 5 t := by dsimp only [dat2]
theorem after2_6 (c : Dev nD) (t : Fin cfg2.N) : (dat2 V c).after 6 t = blk2 V c 6 t := by dsimp only [dat2]
theorem after2_7 (c : Dev nD) (t : Fin cfg2.N) : (dat2 V c).after 7 t = blk2 V c 7 t := by dsimp only [dat2]
theorem after2_8 (c : Dev nD) (t : Fin cfg2.N) : (dat2 V c).after 8 t = blk2 V c 8 t := by dsimp only [dat2]
theorem after2_9 (c : Dev nD) (t : Fin cfg2.N) : (dat2 V c).after 9 t = blk2 V c 9 t := by dsimp only [dat2]
theorem after2_10 (c : Dev nD) (t : Fin cfg2.N) : (dat2 V c).after 10 t = blk2 V c 10 t := by dsimp only [dat2]
theorem after2_11 (c : Dev nD) (t : Fin cfg2.N) : (dat2 V c).after 11 t = blk2 V c 11 t := by dsimp only [dat2]
theorem after2_12 (c : Dev nD) (t : Fin cfg2.N) : (dat2 V c).after 12 t = blk2 V c 12 t := by dsimp only [dat2]
theorem after2_13 (c : Dev nD) (t : Fin cfg2.N) : (dat2 V c).after 13 t = blk2 V c 13 t := by dsimp only [dat2]
theorem after2_14 (c : Dev nD) (t : Fin cfg2.N) : (dat2 V c).after 14 t = blk2 V c 14 t := by dsimp only [dat2]
theorem after2_15 (c : Dev nD) (t : Fin cfg2.N) : (dat2 V c).after 15 t = blk2 V c 15 t := by dsimp only [dat2]
theorem after2_16 (c : Dev nD) (t : Fin cfg2.N) : (dat2 V c).after 16 t = dvg2 V c t := by dsimp only [dat2]
theorem after2_17 (c : Dev nD) (t : Fin cfg2.N) : (dat2 V c).after 17 t = dvu2 V c t := by dsimp only [dat2]
theorem after2_18 (c : Dev nD) (t : Fin cfg2.N) : (dat2 V c).after 18 t = dvd2 V c t := by dsimp only [dat2]
theorem before2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [dat2_A]; try rfl) t d).trans
    (by unfold Dat.fetched Dat.blockOf blk2; rw [dat2_A]; try rfl)
theorem before2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [dat2_A]; try rfl) t d).trans
    (by unfold Dat.fetched Dat.blockOf blk2; rw [dat2_A]; try rfl)
theorem before2_2 (c : Dev nD) (t : Fin cfg2.N) (d) : (dat2 V c).before 2 t d = blk2 V c 2 t :=
  ((dat2 V c).before_in_eq_fetched 2 rfl (fun _ => rfl) (fun _ _ _ => rfl)
    (fun t => by rw [after2_2]; unfold Dat.blockOf blk2; rw [dat2_A]; try rfl) t d).trans
    (by unfold Dat.fetched Dat.blockOf blk2; rw [dat2_A]; try rfl)
theorem before2_3 (c : Dev nD) (t : Fin cfg2.N) (d) : (dat2 V c).before 3 t d = blk2 V c 3 t :=
  ((dat2 V c).before_in_eq_fetched 3 rfl (fun _ => rfl) (fun _ _ _ => rfl)
    (fun t => by rw [after2_3]; unfold Dat.blockOf blk2; rw [dat2_A]; try rfl) t d).trans
    (by unfold Dat.fetched Dat.blockOf blk2; rw [dat2_A]; try rfl)
theorem before2_4 (c : Dev nD) (t : Fin cfg2.N) (d) : (dat2 V c).before 4 t d = blk2 V c 4 t :=
  ((dat2 V c).before_in_eq_fetched 4 rfl (fun _ => rfl) (fun _ _ _ => rfl)
    (fun t => by rw [after2_4]; unfold Dat.blockOf blk2; rw [dat2_A]; try rfl) t d).trans
    (by unfold Dat.fetched Dat.blockOf blk2; rw [dat2_A]; try rfl)
theorem before2_5 (c : Dev nD) (t : Fin cfg2.N) (d) : (dat2 V c).before 5 t d = blk2 V c 5 t :=
  ((dat2 V c).before_in_eq_fetched 5 rfl (fun _ => rfl) (fun _ _ _ => rfl)
    (fun t => by rw [after2_5]; unfold Dat.blockOf blk2; rw [dat2_A]; try rfl) t d).trans
    (by unfold Dat.fetched Dat.blockOf blk2; rw [dat2_A]; try rfl)
theorem before2_6 (c : Dev nD) (t : Fin cfg2.N) (d) : (dat2 V c).before 6 t d = blk2 V c 6 t :=
  ((dat2 V c).before_in_eq_fetched 6 rfl (fun _ => rfl) (fun _ _ _ => rfl)
    (fun t => by rw [after2_6]; unfold Dat.blockOf blk2; rw [dat2_A]; try rfl) t d).trans
    (by unfold Dat.fetched Dat.blockOf blk2; rw [dat2_A]; try rfl)
theorem before2_7 (c : Dev nD) (t : Fin cfg2.N) (d) : (dat2 V c).before 7 t d = blk2 V c 7 t :=
  ((dat2 V c).before_in_eq_fetched 7 rfl (fun _ => rfl) (fun _ _ _ => rfl)
    (fun t => by rw [after2_7]; unfold Dat.blockOf blk2; rw [dat2_A]; try rfl) t d).trans
    (by unfold Dat.fetched Dat.blockOf blk2; rw [dat2_A]; try rfl)
theorem before2_8 (c : Dev nD) (t : Fin cfg2.N) (d) : (dat2 V c).before 8 t d = blk2 V c 8 t :=
  ((dat2 V c).before_in_eq_fetched 8 rfl (fun _ => rfl) (fun _ _ _ => rfl)
    (fun t => by rw [after2_8]; unfold Dat.blockOf blk2; rw [dat2_A]; try rfl) t d).trans
    (by unfold Dat.fetched Dat.blockOf blk2; rw [dat2_A]; try rfl)
theorem before2_9 (c : Dev nD) (t : Fin cfg2.N) (d) : (dat2 V c).before 9 t d = blk2 V c 9 t :=
  ((dat2 V c).before_in_eq_fetched 9 rfl (fun _ => rfl) (fun _ _ _ => rfl)
    (fun t => by rw [after2_9]; unfold Dat.blockOf blk2; rw [dat2_A]; try rfl) t d).trans
    (by unfold Dat.fetched Dat.blockOf blk2; rw [dat2_A]; try rfl)
theorem before2_10 (c : Dev nD) (t : Fin cfg2.N) (d) : (dat2 V c).before 10 t d = blk2 V c 10 t :=
  ((dat2 V c).before_in_eq_fetched 10 rfl (fun _ => rfl) (fun _ _ _ => rfl)
    (fun t => by rw [after2_10]; unfold Dat.blockOf blk2; rw [dat2_A]; try rfl) t d).trans
    (by unfold Dat.fetched Dat.blockOf blk2; rw [dat2_A]; try rfl)
theorem before2_11 (c : Dev nD) (t : Fin cfg2.N) (d) : (dat2 V c).before 11 t d = blk2 V c 11 t :=
  ((dat2 V c).before_in_eq_fetched 11 rfl (fun _ => rfl) (fun _ _ _ => rfl)
    (fun t => by rw [after2_11]; unfold Dat.blockOf blk2; rw [dat2_A]; try rfl) t d).trans
    (by unfold Dat.fetched Dat.blockOf blk2; rw [dat2_A]; try rfl)
theorem before2_12 (c : Dev nD) (t : Fin cfg2.N) (d) : (dat2 V c).before 12 t d = blk2 V c 12 t :=
  ((dat2 V c).before_in_eq_fetched 12 rfl (fun _ => rfl) (fun _ _ _ => rfl)
    (fun t => by rw [after2_12]; unfold Dat.blockOf blk2; rw [dat2_A]; try rfl) t d).trans
    (by unfold Dat.fetched Dat.blockOf blk2; rw [dat2_A]; try rfl)
theorem before2_13 (c : Dev nD) (t : Fin cfg2.N) (d) : (dat2 V c).before 13 t d = blk2 V c 13 t :=
  ((dat2 V c).before_in_eq_fetched 13 rfl (fun _ => rfl) (fun _ _ _ => rfl)
    (fun t => by rw [after2_13]; unfold Dat.blockOf blk2; rw [dat2_A]; try rfl) t d).trans
    (by unfold Dat.fetched Dat.blockOf blk2; rw [dat2_A]; try rfl)
theorem before2_14 (c : Dev nD) (t : Fin cfg2.N) (d) : (dat2 V c).before 14 t d = blk2 V c 14 t :=
  ((dat2 V c).before_in_eq_fetched 14 rfl (fun _ => rfl) (fun _ _ _ => rfl)
    (fun t => by rw [after2_14]; unfold Dat.blockOf blk2; rw [dat2_A]; try rfl) t d).trans
    (by unfold Dat.fetched Dat.blockOf blk2; rw [dat2_A]; try rfl)
theorem before2_15 (c : Dev nD) (t : Fin cfg2.N) (d) : (dat2 V c).before 15 t d = blk2 V c 15 t :=
  ((dat2 V c).before_in_eq_fetched 15 rfl (fun _ => rfl) (fun _ _ _ => rfl)
    (fun t => by rw [after2_15]; unfold Dat.blockOf blk2; rw [dat2_A]; try rfl) t d).trans
    (by unfold Dat.fetched Dat.blockOf blk2; rw [dat2_A]; try rfl)

theorem lt2 (t : Fin cfg2.N) : t.val < 32 := lt_of_lt_of_eq t.isLt (show cfg2.N = 32 from N_2)

/-- The first point is the one at which the body's condition holds. -/
theorem cond2 : ∀ t : Fin cfg2.N, (Scalar.cmpi .ne (Scalar.extui (Scalar.cmpi .eq (BitVec.ofNat 32 ((grid2.coords t) 0).val) 0#32) : BitVec 32) 0#32 = 1#1) ↔ t.val % 32 = 0 :=
  (fun t => by
    have ht : t.val < 32 := Nat.lt_of_lt_of_eq t.isLt N_2
    have e0 : (grid2.coords t 0).val = t.val / 1 % 32 := Pipeline.Grid.coords_val t 0 (by decide) rfl
    simp only [e0]
    word_cmp
   : ∀ t : Fin grid2.N, (Scalar.cmpi .ne (Scalar.extui (Scalar.cmpi .eq (BitVec.ofNat 32 ((grid2.coords t) 0).val) 0#32) : BitVec 32) 0#32 = 1#1) ↔ t.val % 32 = 0)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d))
    ∗ (∃ d, owns (c : Thread nD τ) (ms2_14 t) fullShare ((dat2 V c).before 14 t d))
    ∗ (∃ d, owns (c : Thread nD τ) (ms2_15 t) fullShare ((dat2 V c).before 15 t d))
    ∗ (∃ d, owns (c : Thread nD τ) (ms2_16 t) fullShare ((dat2 V c).before 16 t d))
    ∗ (∃ d, owns (c : Thread nD τ) (ms2_17 t) fullShare ((dat2 V c).before 17 t d))
    ∗ (∃ d, owns (c : Thread nD τ) (ms2_18 t) fullShare ((dat2 V c).before 18 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t
    ∗ (dat2 V c).leavesExact 11 t
    ∗ (dat2 V c).leavesExact 12 t
    ∗ (dat2 V c).leavesExact 13 t
    ∗ (dat2 V c).leavesExact 14 t
    ∗ (dat2 V c).leavesExact 15 t
    ∗ (dat2 V c).leavesExact 16 t
    ∗ (dat2 V c).leavesExact 17 t
    ∗ (dat2 V c).leavesExact 18 t)

set_option maxHeartbeats 4000000 in
/-- The body at any point. -/
theorem body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).owesAt () t.succ = (dat2 V c).owesAt () t.castSucc from rfl, dat2_castSucc, dat2_succ]
  simp only [before2_0, before2_1, before2_2, before2_3, before2_4, before2_5, before2_6, before2_7, before2_8, before2_9, before2_10, before2_11, before2_12, before2_13, before2_14, before2_15]
  unfold Phi2
  have hN := lt2 t
  by_cases h0 : t.val % 32 = 0
  · obtain rfl : t = pt2 0 := Fin.ext (by show t.val = 0 % 32; omega)
    iintro ⟨⟨⟨%X, %hX, HS0⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((run2_A c (grid2.coords (pt2 0)) _ _ _ _ _ _ _ _ _ _ _ _ _ _ _ _ _ _ _ _ _ _ _ _ _ _ _ _ _ _ _ _ _ _ _ _ _ _ _ _ ((cond2 _).mpr h0) (blk2 V c 0 (pt2 0)) (blk2 V c 1 (pt2 0)) (blk2 V c 2 (pt2 0)) (blk2 V c 3 (pt2 0)) (blk2 V c 4 (pt2 0)) (blk2 V c 5 (pt2 0)) (blk2 V c 6 (pt2 0)) (blk2 V c 7 (pt2 0)) (blk2 V c 8 (pt2 0)) (blk2 V c 9 (pt2 0)) (blk2 V c 10 (pt2 0)) (blk2 V c 11 (pt2 0)) (blk2 V c 12 (pt2 0)) (blk2 V c 13 (pt2 0)) (blk2 V c 14 (pt2 0)) (blk2 V c 15 (pt2 0))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [HS0]; · iexists _; iexact HS0
    iintro ⟨H0, H1, H2, H3, H4, H5, H6, H7, H8, H9, H10, H11, H12, H13, H14, H15, H16, H17, H18, HS0⟩
    isplitl [HS0 HR]
    · isplitl [HS0]
      · iexists _; isplitr; swap; · iexact HS0
        ipureintro; intro _; rfl
      iexact HR
    isplitl [Ho]; · iexact Ho
    isplitl [H0]; · iapply (Persist.hand_live (dat2 V c) 0 (pt2 0) rfl (after2_0 V c (pt2 0)).symm); iexact H0
    isplitl [H1]; · iapply (Persist.hand_live (dat2 V c) 1 (pt2 0) rfl (after2_1 V c (pt2 0)).symm); iexact H1
    isplitl [H2]; · iapply (Persist.hand_live (dat2 V c) 2 (pt2 0) rfl (after2_2 V c (pt2 0)).symm); iexact H2
    isplitl [H3]; · iapply (Persist.hand_live (dat2 V c) 3 (pt2 0) rfl (after2_3 V c (pt2 0)).symm); iexact H3
    isplitl [H4]; · iapply (Persist.hand_live (dat2 V c) 4 (pt2 0) rfl (after2_4 V c (pt2 0)).symm); iexact H4
    isplitl [H5]; · iapply (Persist.hand_live (dat2 V c) 5 (pt2 0) rfl (after2_5 V c (pt2 0)).symm); iexact H5
    isplitl [H6]; · iapply (Persist.hand_live (dat2 V c) 6 (pt2 0) rfl (after2_6 V c (pt2 0)).symm); iexact H6
    isplitl [H7]; · iapply (Persist.hand_live (dat2 V c) 7 (pt2 0) rfl (after2_7 V c (pt2 0)).symm); iexact H7
    isplitl [H8]; · iapply (Persist.hand_live (dat2 V c) 8 (pt2 0) rfl (after2_8 V c (pt2 0)).symm); iexact H8
    isplitl [H9]; · iapply (Persist.hand_live (dat2 V c) 9 (pt2 0) rfl (after2_9 V c (pt2 0)).symm); iexact H9
    isplitl [H10]; · iapply (Persist.hand_live (dat2 V c) 10 (pt2 0) rfl (after2_10 V c (pt2 0)).symm); iexact H10
    isplitl [H11]; · iapply (Persist.hand_live (dat2 V c) 11 (pt2 0) rfl (after2_11 V c (pt2 0)).symm); iexact H11
    isplitl [H12]; · iapply (Persist.hand_live (dat2 V c) 12 (pt2 0) rfl (after2_12 V c (pt2 0)).symm); iexact H12
    isplitl [H13]; · iapply (Persist.hand_live (dat2 V c) 13 (pt2 0) rfl (after2_13 V c (pt2 0)).symm); iexact H13
    isplitl [H14]; · iapply (Persist.hand_live (dat2 V c) 14 (pt2 0) rfl (after2_14 V c (pt2 0)).symm); iexact H14
    isplitl [H15]; · iapply (Persist.hand_live (dat2 V c) 15 (pt2 0) rfl (after2_15 V c (pt2 0)).symm); iexact H15
    isplitl [H16]; · iapply (Persist.hand_live (dat2 V c) 16 (pt2 0) rfl (after2_16 V c (pt2 0)).symm); iexact H16
    isplitl [H17]; · iapply (Persist.hand_live (dat2 V c) 17 (pt2 0) rfl (after2_17 V c (pt2 0)).symm); iexact H17
    iapply (Persist.hand_live (dat2 V c) 18 (pt2 0) rfl (after2_18 V c (pt2 0)).symm); iexact H18

  · iintro ⟨⟨⟨%X, %hX, HS0⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    obtain rfl := hX (by omega)
    iapply ((run2_B c (grid2.coords t) _ _ _ _ _ _ _ _ _ _ _ _ _ _ _ _ _ _ _ _ _ _ _ _ _ _ _ _ _ _ _ _ _ _ _ _ _ _ _ _ (fun h => h0 ((cond2 t).mp h)) (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (xbt2 V c)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [HS0]; · iexact HS0
    iintro ⟨H0, H1, H2, H3, H4, H5, H6, H7, H8, H9, H10, H11, H12, H13, H14, H15, H16, H17, H18, HS0⟩
    isplitl [HS0 HR]
    · isplitl [HS0]
      · iexists _; isplitr; swap; · iexact HS0
        ipureintro; intro _; rfl
      iexact HR
    isplitl [Ho]; · iexact Ho
    isplitl [H0]; · iapply (Persist.hand_live (dat2 V c) 0 t rfl (after2_0 V c t).symm); iexact H0
    isplitl [H1]; · iapply (Persist.hand_live (dat2 V c) 1 t rfl (after2_1 V c t).symm); iexact H1
    isplitl [H2]; · iapply (Persist.hand_live (dat2 V c) 2 t rfl (after2_2 V c t).symm); iexact H2
    isplitl [H3]; · iapply (Persist.hand_live (dat2 V c) 3 t rfl (after2_3 V c t).symm); iexact H3
    isplitl [H4]; · iapply (Persist.hand_live (dat2 V c) 4 t rfl (after2_4 V c t).symm); iexact H4
    isplitl [H5]; · iapply (Persist.hand_live (dat2 V c) 5 t rfl (after2_5 V c t).symm); iexact H5
    isplitl [H6]; · iapply (Persist.hand_live (dat2 V c) 6 t rfl (after2_6 V c t).symm); iexact H6
    isplitl [H7]; · iapply (Persist.hand_live (dat2 V c) 7 t rfl (after2_7 V c t).symm); iexact H7
    isplitl [H8]; · iapply (Persist.hand_live (dat2 V c) 8 t rfl (after2_8 V c t).symm); iexact H8
    isplitl [H9]; · iapply (Persist.hand_live (dat2 V c) 9 t rfl (after2_9 V c t).symm); iexact H9
    isplitl [H10]; · iapply (Persist.hand_live (dat2 V c) 10 t rfl (after2_10 V c t).symm); iexact H10
    isplitl [H11]; · iapply (Persist.hand_live (dat2 V c) 11 t rfl (after2_11 V c t).symm); iexact H11
    isplitl [H12]; · iapply (Persist.hand_live (dat2 V c) 12 t rfl (after2_12 V c t).symm); iexact H12
    isplitl [H13]; · iapply (Persist.hand_live (dat2 V c) 13 t rfl (after2_13 V c t).symm); iexact H13
    isplitl [H14]; · iapply (Persist.hand_live (dat2 V c) 14 t rfl (after2_14 V c t).symm); iexact H14
    isplitl [H15]; · iapply (Persist.hand_live (dat2 V c) 15 t rfl (after2_15 V c t).symm); iexact H15
    isplitl [H16]; · iapply (Persist.hand_live (dat2 V c) 16 t rfl (after2_16 V c t).symm); iexact H16
    isplitl [H17]; · iapply (Persist.hand_live (dat2 V c) 17 t rfl (after2_17 V c t).symm); iexact H17
    iapply (Persist.hand_live (dat2 V c) 18 t rfl (after2_18 V c t).symm); iexact H18

/-- The body table's row at point `t`'s slots is the body. -/
theorem row2 (t : Fin cfg2.N) :
    defs₀ (F := F) .tc cfg2.body (cfg2.bodyArgs t (cfg2.slots t)) = bodyAt2 t := by
  unfold defs₀; rw [Defs.onTc_tc]

/-- The body obligation of the region, at every point. -/
theorem obligation2 (c : Dev nD) : BodyObligation (dat2 (F := F) V c) (defs₀ (F := F)) Variants.none () Set.univ := fun t => by
  rw [bigSep_W2, bigSep_W2, row2]
  exact triple_restated (body2 V c t) rfl .rfl fun _ => .rfl

end Cert.KernelIdeal.Own

end
-- ==== Proof.KernelIdeal.Segs.lean ====
/- The program as a list of segments: host stretches and kernel regions, each region with its record. -/
module

public import proofs.«01_k».proof.Proof.KernelIdeal.Region1
public import proofs.«01_k».proof.Proof.KernelIdeal.Region2
public import proofs.«01_k».proof.Proof.Gen.KernelIdeal.Regions
public import Idealize.ShloMosaic.Lib.Pipeline.RegionArraysS

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation cellOf afterRegion)

variable {F : FTy → Type} [FloatOps F] [Named F]

local notation "𝕄" => MT nD τ sig Unit (Elt F) ℕ (UR sig nD τ) ℕ

variable (m : (ℓ : Loc nD τ sig) → Buf (Elt F) ℓ)

/-! ## The buffers' contents between the items of the program -/

/-- A valuation per core, read at the TensorCore's references. -/
abbrev ent (W : Dev nD → Valuation τ sig (Elt F)) : Entry F := fun c b => W c (Proc.devRef .tc b)

def W0 (c : Dev nD) : Valuation τ sig (Elt F) := fun b => m (c, b)
def W1 (c : Dev nD) : Valuation τ sig (Elt F) := StableHlo.after hostOps0 (W0 m c)
def W2 (c : Dev nD) : Valuation τ sig (Elt F) := afterRegion (dat0 (ent (W1 m)) c) (W1 m c)
def W3 (c : Dev nD) : Valuation τ sig (Elt F) := StableHlo.after hostOps1 (W2 m c)
def W4 (c : Dev nD) : Valuation τ sig (Elt F) := afterRegion (dat1 (ent (W3 m)) c) (W3 m c)
def W5 (c : Dev nD) : Valuation τ sig (Elt F) := StableHlo.after hostOps2 (W4 m c)
def W6 (c : Dev nD) : Valuation τ sig (Elt F) := afterRegion (dat2 (ent (W5 m)) c) (W5 m c)
def W7 (c : Dev nD) : Valuation τ sig (Elt F) := StableHlo.after hostOps3 (W6 m c)

/-- The proof data of the three pipelines. -/
def pdats : (p : Fin 3) → (c : Dev nD) → Dat τ (Elt F) Unit ℕ (UR sig nD τ) ℕ (cfgs p) c
  | 0 => fun c => dat0 (ent (W1 m)) c
  | 1 => fun c => dat1 (ent (W3 m)) c
  | 2 => fun c => dat2 (ent (W5 m)) c

/-! ## The regions' invariants at their two ends -/

theorem in0 (V : Entry F) (c : Dev nD) :
    iprop(Pipeline.scopedRest (Ix := Unit) (Name := ℕ) (U := UR sig nD τ) (Lvl := ℕ) (Val := Elt F) spec0 c ∗ ∃ r, prngReg c r) ⊢ ((dat0 V c).Φ 0 : sProp 𝕄) := by
  rw [show (dat0 V c).Φ 0 = Phi0 V c 0 from by dsimp only [dat0]; rfl, scopedRest0_split]
  unfold Phi0
  iintro ⟨⟨⟨%f, Hf⟩, HR⟩, Hp⟩
  isplitl [Hf]
  · iexists f; isplitr; · ipureintro; intro h; exact absurd h (Nat.lt_irrefl 0)
    rw [owns_whole]; iexact Hf
  isplitl [HR]; · iexact HR
  iexact Hp
theorem out0 (V : Entry F) (c : Dev nD) :
    ((dat0 V c).Φ (Fin.last cfg0.N) : sProp 𝕄)
      ⊢ iprop(Pipeline.scopedRest (Ix := Unit) (Name := ℕ) (U := UR sig nD τ) (Lvl := ℕ) (Val := Elt F) spec0 c ∗ ∃ r, prngReg c r) := by
  rw [show (dat0 V c).Φ (Fin.last cfg0.N) = Phi0 V c cfg0.N from by dsimp only [dat0]; rfl, scopedRest0_split]
  unfold Phi0
  iintro ⟨⟨%X, -, HX⟩, HR, Hp⟩
  isplitl [HX HR]
  · isplitl [HX]
    · iexists X; rw [← owns_whole]; iexact HX
    iexact HR
  iexact Hp
theorem in2 (V : Entry F) (c : Dev nD) :
    iprop(Pipeline.scopedRest (Ix := Unit) (Name := ℕ) (U := UR sig nD τ) (Lvl := ℕ) (Val := Elt F) spec2 c ∗ ∃ r, prngReg c r) ⊢ ((dat2 V c).Φ 0 : sProp 𝕄) := by
  rw [show (dat2 V c).Φ 0 = Phi2 V c 0 from by dsimp only [dat2]; rfl, scopedRest2_split]
  unfold Phi2
  iintro ⟨⟨⟨%f, Hf⟩, HR⟩, Hp⟩
  isplitl [Hf]
  · iexists f; isplitr; · ipureintro; intro h; exact absurd h (Nat.lt_irrefl 0)
    rw [owns_whole]; iexact Hf
  isplitl [HR]; · iexact HR
  iexact Hp
theorem out2 (V : Entry F) (c : Dev nD) :
    ((dat2 V c).Φ (Fin.last cfg2.N) : sProp 𝕄)
      ⊢ iprop(Pipeline.scopedRest (Ix := Unit) (Name := ℕ) (U := UR sig nD τ) (Lvl := ℕ) (Val := Elt F) spec2 c ∗ ∃ r, prngReg c r) := by
  rw [show (dat2 V c).Φ (Fin.last cfg2.N) = Phi2 V c cfg2.N from by dsimp only [dat2]; rfl, scopedRest2_split]
  unfold Phi2
  iintro ⟨⟨%X, -, HX⟩, HR, Hp⟩
  isplitl [HX HR]
  · isplitl [HX]
    · iexists X; rw [← owns_whole]; iexact HX
    iexact HR
  iexact Hp
theorem in1 (V : Entry F) (c : Dev nD) :
    iprop(Pipeline.scopedRest (Ix := Unit) (Name := ℕ) (U := UR sig nD τ) (Lvl := ℕ) (Val := Elt F) spec1 c ∗ ∃ r, prngReg c r) ⊢ ((dat1 V c).Φ 0 : sProp 𝕄) := by
  rw [show (dat1 V c).Φ 0 = Phi1 V c 0 from by dsimp only [dat1]; rfl, scopedRest1_split]
  unfold Phi1
  iintro ⟨⟨⟨⟨%f, Hf⟩, ⟨%g, Hg⟩⟩, HR⟩, Hp⟩
  isplitl [Hf]
  · iexists f; isplitr; · ipureintro; intro k _ h; exact absurd h (Nat.not_lt_zero _)
    rw [owns_whole]; iexact Hf
  isplitl [Hg]
  · iexists g; isplitr; · ipureintro; intro k h; exact absurd h.symm (Nat.succ_ne_zero k)
    rw [owns_whole]; iexact Hg
  isplitl [HR]; · iexact HR
  iexact Hp
theorem out1 (V : Entry F) (c : Dev nD) :
    ((dat1 V c).Φ (Fin.last cfg1.N) : sProp 𝕄)
      ⊢ iprop(Pipeline.scopedRest (Ix := Unit) (Name := ℕ) (U := UR sig nD τ) (Lvl := ℕ) (Val := Elt F) spec1 c ∗ ∃ r, prngReg c r) := by
  rw [show (dat1 V c).Φ (Fin.last cfg1.N) = Phi1 V c cfg1.N from by dsimp only [dat1]; rfl, scopedRest1_split]
  unfold Phi1
  iintro ⟨⟨%X, -, HX⟩, ⟨%Y, -, HY⟩, HR, Hp⟩
  isplitl [HX HY HR]
  · isplitl [HX HY]
    · isplitl [HX]
      · iexists X; rw [← owns_whole]; iexact HX
      iexists Y; rw [← owns_whole]; iexact HY
    iexact HR
  iexact Hp

/-- Every array is held whole. -/
theorem share0 (V : Entry F) (c : Dev nD) (w : Fin cfg0.W) : (dat0 V c).share w = fullShare := by
  unfold Dat.share; split
  · rfl
  · dsimp only [dat0]
theorem share1 (V : Entry F) (c : Dev nD) (w : Fin cfg1.W) : (dat1 V c).share w = fullShare := by
  unfold Dat.share; split
  · rfl
  · dsimp only [dat1]
theorem share2 (V : Entry F) (c : Dev nD) (w : Fin cfg2.W) : (dat2 V c).share w = fullShare := by
  unfold Dat.share; split
  · rfl
  · dsimp only [dat2]

/-- The library's component of the user algebra is the whole of it. -/
abbrev EP : Emb (UR sig nD τ) (MT nD τ sig Unit (Elt F) ℕ (UR sig nD τ) ℕ) := emb₁

/-! ## The segments -/

/-- The one level at every cell of the TensorCores; nothing is owed at launch. -/
def lvls (g : GSem nD τ sig) : Finset Unit := if g.1.2 = .tc then Finset.univ else ∅

/-- What rides beside the buffers: the core owing nothing, and the generator register. -/
def rest (c : Dev nD) : sProp 𝕄 :=
  iprop((∃ Wd, owes (c : Thread nD τ) (0 : CellTallies nD τ sig Unit) Wd) ∗ (∃ r, prngReg c r) ∗ emp)

theorem cut (p : Fin 3) : Pipeline.LevelCut (pcfgs (F := F)) adm () lvls (fun _ _ => 0) p (fun _ => (0 : CellTallies nD τ sig Unit)) (fun _ : Dev nD => 0) where
  hι c w s := by unfold lvls; rw [if_pos rfl]; exact Finset.mem_univ _
  hιb c w s := Nat.le_refl 0
  hD c g i h := absurd h (Nat.lt_irrefl 0)

/-- The three regions' records. -/
def reg0 : RegionSeg (pcfgs (F := F)) adm (pdats m) () defs₀ Variants.none lvls (fun _ _ => 0) 0 :=
  RegionSeg.ofHeldIn (pcfgs (F := F)) adm (pdats m) () defs₀ Variants.none lvls (fun _ _ => 0) 0 (fun _ => 0) (Pipeline.ucRefs τ sig)
    (fun c => iprop(∃ r, prngReg c r)) (fun c => iprop(∃ r, prngReg c r)) launch0.toP rfl
    (fun c => (obligation0 (ent (W1 m)) c).loose) (fun _ _ => rfl) (fun _ => rfl) (fun c w => share0 (ent (W1 m)) c w)
    (fun c => in0 (ent (W1 m)) c) (fun c => out0 (ent (W1 m)) c) (fun _ => 0) (cut 0) (fun _ => iprop(emp)) (W1 m) (fun _ _ => rfl)
def reg1 : RegionSeg (pcfgs (F := F)) adm (pdats m) () defs₀ Variants.none lvls (fun _ _ => 0) 1 :=
  RegionSeg.ofHeldIn (pcfgs (F := F)) adm (pdats m) () defs₀ Variants.none lvls (fun _ _ => 0) 1 (fun _ => 0) (Pipeline.ucRefs τ sig)
    (fun c => iprop(∃ r, prngReg c r)) (fun c => iprop(∃ r, prngReg c r)) launch1.toP rfl
    (fun c => (obligation1 (ent (W3 m)) c).loose) (fun _ _ => rfl) (fun _ => rfl) (fun c w => share1 (ent (W3 m)) c w)
    (fun c => in1 (ent (W3 m)) c) (fun c => out1 (ent (W3 m)) c) (fun _ => 0) (cut 1) (fun _ => iprop(emp)) (W3 m) (fun _ _ => rfl)
def reg2 : RegionSeg (pcfgs (F := F)) adm (pdats m) () defs₀ Variants.none lvls (fun _ _ => 0) 2 :=
  RegionSeg.ofHeldIn (pcfgs (F := F)) adm (pdats m) () defs₀ Variants.none lvls (fun _ _ => 0) 2 (fun _ => 0) (Pipeline.ucRefs τ sig)
    (fun c => iprop(∃ r, prngReg c r)) (fun c => iprop(∃ r, prngReg c r)) launch2.toP rfl
    (fun c => (obligation2 (ent (W5 m)) c).loose) (fun _ _ => rfl) (fun _ => rfl) (fun c w => share2 (ent (W5 m)) c w)
    (fun c => in2 (ent (W5 m)) c) (fun c => out2 (ent (W5 m)) c) (fun _ => 0) (cut 2) (fun _ => iprop(emp)) (W5 m) (fun _ _ => rfl)

/-- The host stretches' records. -/
def hseg0 : HostSeg (Ix := Unit) (Name := ℕ) (U := UR sig nD τ) (Lvl := ℕ) (pcfgs (F := F)) defs₀ Variants.none lvls (fun _ _ => 0) :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) rest
def hseg1 : HostSeg (Ix := Unit) (Name := ℕ) (U := UR sig nD τ) (Lvl := ℕ) (pcfgs (F := F)) defs₀ Variants.none lvls (fun _ _ => 0) :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) rest
def hseg2 : HostSeg (Ix := Unit) (Name := ℕ) (U := UR sig nD τ) (Lvl := ℕ) (pcfgs (F := F)) defs₀ Variants.none lvls (fun _ _ => 0) :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) rest
def hseg3 : HostSeg (Ix := Unit) (Name := ℕ) (U := UR sig nD τ) (Lvl := ℕ) (pcfgs (F := F)) defs₀ Variants.none lvls (fun _ _ => 0) :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) rest

/-- The program as its segments. -/
abbrev segList (c : Dev nD) : List (Seg (pcfgs (F := F)) adm (pdats m) () defs₀ Variants.none lvls (fun _ _ => 0)) :=
  [.host (hseg0 m), .region (reg0 m), .host (hseg1 m), .region (reg1 m), .host (hseg2 m), .region (reg2 m), .host (hseg3 m)]

theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)
theorem sub2 : Pipeline.arrRefs (τ := τ) (pcfgs (F := F) 2).spec ⊆ Pipeline.ucRefs τ sig := Pipeline.arrRefs_sub_ucRefs spec2 (by decide)

end Cert.KernelIdeal.Own

end
-- ==== Proof.KernelIdeal.Whole.lean ====
/- The whole run: what every unscoped buffer holds when the program ends. -/
module

public import proofs.«01_k».proof.Proof.KernelIdeal.Segs
public import proofs.«01_k».proof.Proof.Gen.KernelIdeal.Regions
public import Idealize.ShloMosaic.Lib.Pipeline.RegionArraysS

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation cellOf afterRegion)

variable {F : FTy → Type} [FloatOps F] [Named F]

local notation "𝕄" => MT nD τ sig Unit (Elt F) ℕ (UR sig nD τ) ℕ

variable (m : (ℓ : Loc nD τ sig) → Buf (Elt F) ℓ)

/-! ## Each region entered and left over the whole set of buffers -/

set_option backward.isDefEq.respectTransparency.types false in
theorem pre0 (c : Dev nD) : iprop(StableHlo.held (c.tc : Thread nD τ) (Pipeline.ucRefs τ sig) (W1 m c) ∗ rest c) ⊢ ((reg0 m).pre c : sProp 𝕄) := by
  unfold reg0 rest
  exact RegionSeg.ofHeldIn_pre (X := fun c => iprop(∃ r, prngReg c r)) (R := fun _ => iprop(emp)) (W := W1 m) (D := fun _ => 0) (S := Pipeline.ucRefs τ sig) (sub0 (F := F)) c
set_option backward.isDefEq.respectTransparency.types false in
theorem post0 (c : Dev nD) : ((reg0 m).post c : sProp 𝕄) ⊢ iprop(StableHlo.held (c.tc : Thread nD τ) (Pipeline.ucRefs τ sig) (W2 m c) ∗ rest c) := by
  unfold reg0 rest W2
  exact RegionSeg.ofHeldIn_post (X := fun c => iprop(∃ r, prngReg c r)) (Y := fun c => iprop(∃ r, prngReg c r)) (R := fun _ => iprop(emp)) (W := W1 m) (D := fun _ => 0) (S := Pipeline.ucRefs τ sig) (sub0 (F := F)) c
set_option backward.isDefEq.respectTransparency.types false in
theorem pre1 (c : Dev nD) : iprop(StableHlo.held (c.tc : Thread nD τ) (Pipeline.ucRefs τ sig) (W3 m c) ∗ rest c) ⊢ ((reg1 m).pre c : sProp 𝕄) := by
  unfold reg1 rest
  exact RegionSeg.ofHeldIn_pre (X := fun c => iprop(∃ r, prngReg c r)) (R := fun _ => iprop(emp)) (W := W3 m) (D := fun _ => 0) (S := Pipeline.ucRefs τ sig) (sub1 (F := F)) c
set_option backward.isDefEq.respectTransparency.types false in
theorem post1 (c : Dev nD) : ((reg1 m).post c : sProp 𝕄) ⊢ iprop(StableHlo.held (c.tc : Thread nD τ) (Pipeline.ucRefs τ sig) (W4 m c) ∗ rest c) := by
  unfold reg1 rest W4
  exact RegionSeg.ofHeldIn_post (X := fun c => iprop(∃ r, prngReg c r)) (Y := fun c => iprop(∃ r, prngReg c r)) (R := fun _ => iprop(emp)) (W := W3 m) (D := fun _ => 0) (S := Pipeline.ucRefs τ sig) (sub1 (F := F)) c
set_option backward.isDefEq.respectTransparency.types false in
theorem pre2 (c : Dev nD) : iprop(StableHlo.held (c.tc : Thread nD τ) (Pipeline.ucRefs τ sig) (W5 m c) ∗ rest c) ⊢ ((reg2 m).pre c : sProp 𝕄) := by
  unfold reg2 rest
  exact RegionSeg.ofHeldIn_pre (X := fun c => iprop(∃ r, prngReg c r)) (R := fun _ => iprop(emp)) (W := W5 m) (D := fun _ => 0) (S := Pipeline.ucRefs τ sig) (sub2 (F := F)) c
set_option backward.isDefEq.respectTransparency.types false in
theorem post2 (c : Dev nD) : ((reg2 m).post c : sProp 𝕄) ⊢ iprop(StableHlo.held (c.tc : Thread nD τ) (Pipeline.ucRefs τ sig) (W6 m c) ∗ rest c) := by
  unfold reg2 rest W6
  exact RegionSeg.ofHeldIn_post (X := fun c => iprop(∃ r, prngReg c r)) (Y := fun c => iprop(∃ r, prngReg c r)) (R := fun _ => iprop(emp)) (W := W5 m) (D := fun _ => 0) (S := Pipeline.ucRefs τ sig) (sub2 (F := F)) c

/-- At the end the generator register and what the core owes are let go. -/
theorem drop_rest (c : Dev nD) : (iprop(StableHlo.held (c : Thread nD τ) (Pipeline.ucRefs τ sig) (W7 m c) ∗ rest c) : sProp 𝕄)
    ⊢ iprop(StableHlo.held (c : Thread nD τ) (Pipeline.ucRefs τ sig) (W7 m c) ∗ ∃ Wd, owes (c : Thread nD τ) (0 : CellTallies nD τ sig Unit) Wd) := by
  unfold rest
  iintro ⟨Hh, HO, -, -⟩
  isplitl [Hh] <;> iassumption

set_option backward.isDefEq.respectTransparency.types false in
/-- Every weakly fair execution ends, every unscoped buffer then holding what the items leave in it, every counter at zero. -/
theorem run_whole (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = W7 m c (Proc.devRef .tc b))
      ∧ r.2.sem = fun _ => 0) := by
  refine Pipeline.θ_run_regions_kit_dev_sems (pcfgs (F := F)) adm (pdats m) () cellOf_inj EP defs₀ Variants.none lvls (fun _ _ => 0) m ρ main
    (segList m)
    (fun c Q => by
      rewrite [main_chain c, Seg.run_eq_chain,
        show (segList m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segList, Seg.pipes_host, Seg.pipes_region, Seg.pipes_nil]; decide)
    0 (fun g h => if_neg h) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (EP (F := F) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c))
    (Tₙ := fun c => StableHlo.held (c : Thread nD τ) (Pipeline.ucRefs τ sig) (W7 m c))
    (hch := fun c => ⟨.rfl, pre0 m c, post0 m c, pre1 m c, post1 m c, pre2 m c, post2 m c, drop_rest m c⟩)
    (hinit := by
      refine Pipeline.initEach lvls (fun _ _ => 0) fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
      unfold rest
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c.tc : Thread nD τ).1, b) = W7 m c b)
    (hfin := fun c s' => by
      unfold StableHlo.held
      iintro ⟨Hh, HSI⟩
      ihave Hr := (pointsTo_read_all (Pipeline.ucRefs τ sig) (fun b => ((c.tc : Thread nD τ).1, b)) (W7 m c) s') $$ [Hh HSI]
      · isplitl [Hh] <;> iassumption
      imodintro; iexact Hr)
    (hQ := fun _ h hz => ⟨fun c b hb => h c (Proc.devRef .tc b) (Pipeline.devRef_mem_ucRefs hb), funext fun g => hz g (.inr (regions_no_unscoped g.2))⟩)

end Cert.KernelIdeal.Own

end
-- ==== Proof.KernelIdeal.Frame.lean ====
/- The arguments at the end of the run: no item of the program writes one of them. -/
module

public import proofs.«01_k».proof.Proof.KernelIdeal.Whole

@[expose] public section

set_option maxRecDepth 16384

noncomputable section

namespace Cert.KernelIdeal.Own

open Cert.KernelIdeal Cert.KernelIdeal.Gen
open Idealize.ShloMosaic Idealize.ShloMosaic.TcCoe
open Idealize.SL.Sem
open Idealize.ShloMosaic.Pipeline (afterRegion)

variable {F : FTy → Type} [FloatOps F] [Named F]
variable (m : (ℓ : Loc nD τ sig) → Buf (Elt F) ℓ)

/-! ## What each item leaves as it was -/

theorem W1_of (c : Dev nD) (r : Ref sig .tc) (h : r ∉ hostOps0_W) : W1 m c (Proc.devRef .tc r) = m ((c : Thread nD τ).loc r) :=
  StableHlo.after_of_writes_sub hostOps0 _ hostOps0_writes h
theorem W2_of (c : Dev nD) (r : Ref sig .tc) (h : ∀ w, Pipeline.arrRef spec0 w = r → (cfg0.win w).isOut = false) :
    W2 m c (Proc.devRef .tc r) = W1 m c (Proc.devRef .tc r) :=
  Pipeline.afterRegion_keeps (dat0 (ent (W1 m)) c) (W1 m c) launch0.win.arr_inj (fun w => dat0_A (ent (W1 m)) c w) r h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : ∀ w, Pipeline.arrRef spec1 w = r → (cfg1.win w).isOut = false) :
    W4 m c (Proc.devRef .tc r) = W3 m c (Proc.devRef .tc r) :=
  Pipeline.afterRegion_keeps (dat1 (ent (W3 m)) c) (W3 m c) launch1.win.arr_inj (fun w => dat1_A (ent (W3 m)) c w) r h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W6_of (c : Dev nD) (r : Ref sig .tc) (h : ∀ w, Pipeline.arrRef spec2 w = r → (cfg2.win w).isOut = false) :
    W6 m c (Proc.devRef .tc r) = W5 m c (Proc.devRef .tc r) :=
  Pipeline.afterRegion_keeps (dat2 (ent (W5 m)) c) (W5 m c) launch2.win.arr_inj (fun w => dat2_A (ent (W5 m)) c w) r h
theorem W7_of (c : Dev nD) (r : Ref sig .tc) (h : r ∉ hostOps3_W) : W7 m c (Proc.devRef .tc r) = W6 m c (Proc.devRef .tc r) :=
  StableHlo.after_of_writes_sub hostOps3 _ hostOps3_writes h

/-! ## The arguments -/

theorem W7_arg0 (c : Dev nD) : W7 m c (Proc.devRef .tc main_arg0) = m ((c : Thread nD τ).loc main_arg0) :=
  (W7_of m c main_arg0 (by decide)).trans <| (W6_of m c main_arg0 (by decide)).trans <| (W5_of m c main_arg0 (by decide)).trans <|
    (W4_of m c main_arg0 (by decide)).trans <| (W3_of m c main_arg0 (by decide)).trans <| (W2_of m c main_arg0 (by decide)).trans (W1_of m c main_arg0 (by decide))
theorem W7_arg1 (c : Dev nD) : W7 m c (Proc.devRef .tc main_arg1) = m ((c : Thread nD τ).loc main_arg1) :=
  (W7_of m c main_arg1 (by decide)).trans <| (W6_of m c main_arg1 (by decide)).trans <| (W5_of m c main_arg1 (by decide)).trans <|
    (W4_of m c main_arg1 (by decide)).trans <| (W3_of m c main_arg1 (by decide)).trans <| (W2_of m c main_arg1 (by decide)).trans (W1_of m c main_arg1 (by decide))
theorem W7_arg2 (c : Dev nD) : W7 m c (Proc.devRef .tc main_arg2) = m ((c : Thread nD τ).loc main_arg2) :=
  (W7_of m c main_arg2 (by decide)).trans <| (W6_of m c main_arg2 (by decide)).trans <| (W5_of m c main_arg2 (by decide)).trans <|
    (W4_of m c main_arg2 (by decide)).trans <| (W3_of m c main_arg2 (by decide)).trans <| (W2_of m c main_arg2 (by decide)).trans (W1_of m c main_arg2 (by decide))
theorem W7_arg3 (c : Dev nD) : W7 m c (Proc.devRef .tc main_arg3) = m ((c : Thread nD τ).loc main_arg3) :=
  (W7_of m c main_arg3 (by decide)).trans <| (W6_of m c main_arg3 (by decide)).trans <| (W5_of m c main_arg3 (by decide)).trans <|
    (W4_of m c main_arg3 (by decide)).trans <| (W3_of m c main_arg3 (by decide)).trans <| (W2_of m c main_arg3 (by decide)).trans (W1_of m c main_arg3 (by decide))
theorem W7_arg4 (c : Dev nD) : W7 m c (Proc.devRef .tc main_arg4) = m ((c : Thread nD τ).loc main_arg4) :=
  (W7_of m c main_arg4 (by decide)).trans <| (W6_of m c main_arg4 (by decide)).trans <| (W5_of m c main_arg4 (by decide)).trans <|
    (W4_of m c main_arg4 (by decide)).trans <| (W3_of m c main_arg4 (by decide)).trans <| (W2_of m c main_arg4 (by decide)).trans (W1_of m c main_arg4 (by decide))
theorem W7_arg5 (c : Dev nD) : W7 m c (Proc.devRef .tc main_arg5) = m ((c : Thread nD τ).loc main_arg5) :=
  (W7_of m c main_arg5 (by decide)).trans <| (W6_of m c main_arg5 (by decide)).trans <| (W5_of m c main_arg5 (by decide)).trans <|
    (W4_of m c main_arg5 (by decide)).trans <| (W3_of m c main_arg5 (by decide)).trans <| (W2_of m c main_arg5 (by decide)).trans (W1_of m c main_arg5 (by decide))
theorem W7_arg6 (c : Dev nD) : W7 m c (Proc.devRef .tc main_arg6) = m ((c : Thread nD τ).loc main_arg6) :=
  (W7_of m c main_arg6 (by decide)).trans <| (W6_of m c main_arg6 (by decide)).trans <| (W5_of m c main_arg6 (by decide)).trans <|
    (W4_of m c main_arg6 (by decide)).trans <| (W3_of m c main_arg6 (by decide)).trans <| (W2_of m c main_arg6 (by decide)).trans (W1_of m c main_arg6 (by decide))
theorem W7_arg7 (c : Dev nD) : W7 m c (Proc.devRef .tc main_arg7) = m ((c : Thread nD τ).loc main_arg7) :=
  (W7_of m c main_arg7 (by decide)).trans <| (W6_of m c main_arg7 (by decide)).trans <| (W5_of m c main_arg7 (by decide)).trans <|
    (W4_of m c main_arg7 (by decide)).trans <| (W3_of m c main_arg7 (by decide)).trans <| (W2_of m c main_arg7 (by decide)).trans (W1_of m c main_arg7 (by decide))
theorem W7_arg8 (c : Dev nD) : W7 m c (Proc.devRef .tc main_arg8) = m ((c : Thread nD τ).loc main_arg8) :=
  (W7_of m c main_arg8 (by decide)).trans <| (W6_of m c main_arg8 (by decide)).trans <| (W5_of m c main_arg8 (by decide)).trans <|
    (W4_of m c main_arg8 (by decide)).trans <| (W3_of m c main_arg8 (by decide)).trans <| (W2_of m c main_arg8 (by decide)).trans (W1_of m c main_arg8 (by decide))
theorem W7_arg9 (c : Dev nD) : W7 m c (Proc.devRef .tc main_arg9) = m ((c : Thread nD τ).loc main_arg9) :=
  (W7_of m c main_arg9 (by decide)).trans <| (W6_of m c main_arg9 (by decide)).trans <| (W5_of m c main_arg9 (by decide)).trans <|
    (W4_of m c main_arg9 (by decide)).trans <| (W3_of m c main_arg9 (by decide)).trans <| (W2_of m c main_arg9 (by decide)).trans (W1_of m c main_arg9 (by decide))
theorem W7_arg10 (c : Dev nD) : W7 m c (Proc.devRef .tc main_arg10) = m ((c : Thread nD τ).loc main_arg10) :=
  (W7_of m c main_arg10 (by decide)).trans <| (W6_of m c main_arg10 (by decide)).trans <| (W5_of m c main_arg10 (by decide)).trans <|
    (W4_of m c main_arg10 (by decide)).trans <| (W3_of m c main_arg10 (by decide)).trans <| (W2_of m c main_arg10 (by decide)).trans (W1_of m c main_arg10 (by decide))
theorem W7_arg11 (c : Dev nD) : W7 m c (Proc.devRef .tc main_arg11) = m ((c : Thread nD τ).loc main_arg11) :=
  (W7_of m c main_arg11 (by decide)).trans <| (W6_of m c main_arg11 (by decide)).trans <| (W5_of m c main_arg11 (by decide)).trans <|
    (W4_of m c main_arg11 (by decide)).trans <| (W3_of m c main_arg11 (by decide)).trans <| (W2_of m c main_arg11 (by decide)).trans (W1_of m c main_arg11 (by decide))

/-- Every execution ends, each argument as at launch, each counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨(h.1 c main_arg0 rfl).trans (W7_arg0 m c),
      (h.1 c main_arg1 rfl).trans (W7_arg1 m c),
      (h.1 c main_arg2 rfl).trans (W7_arg2 m c),
      (h.1 c main_arg3 rfl).trans (W7_arg3 m c),
      (h.1 c main_arg4 rfl).trans (W7_arg4 m c),
      (h.1 c main_arg5 rfl).trans (W7_arg5 m c),
      (h.1 c main_arg6 rfl).trans (W7_arg6 m c),
      (h.1 c main_arg7 rfl).trans (W7_arg7 m c),
      (h.1 c main_arg8 rfl).trans (W7_arg8 m c),
      (h.1 c main_arg9 rfl).trans (W7_arg9 m c),
      (h.1 c main_arg10 rfl).trans (W7_arg10 m c),
      (h.1 c main_arg11 rfl).trans (W7_arg11 m c)⟩, h.2⟩) (run_whole m ρ)

end Cert.KernelIdeal.Own

end
-- ==== Proof.Preserves.lean ====
/- The three named constants: each literal of the kernel is the name's value, rounded. -/
module

public import proofs.«01_k».proof.Defs
public import proofs.«01_k».proof.Proof.Gen.Kernel
public import proofs.«01_k».proof.Proof.Gen.KernelIdeal

@[expose] public section

noncomputable section

namespace Cert.Proof

open Idealize.ShloMosaic

theorem preserves : Cert.preserves_Kernel_KernelIdeal :=
  ⟨IdealRules.named_const.statement Cert.KernelIdeal.κ "c3_5" .f32 0x3F19999A#32 ((3 / 5 : ℝ) : EReal) rfl,
   IdealRules.named_const.statement Cert.KernelIdeal.κ "c25_36" .f32 0x3F31C71C#32 ((25 / 36 : ℝ) : EReal) rfl,
   IdealRules.named_const.statement Cert.KernelIdeal.κ "c3_10" .f32 0x3E99999A#32 ((3 / 10 : ℝ) : EReal) rfl⟩

end Cert.Proof

end
-- ==== Proof.Value.Spec.lean ====
/- The mathematics of the step over the extended reals, array by array: what both programs are shown to compute. -/
module

public import Idealize.ShloMosaic.Lib.Pointwise

@[expose] public section

noncomputable section

namespace Cert.Spec

open Idealize.ShloMosaic

/-! ## Constants and scalars -/

abbrev cm8 : EReal := Ideal.ofBits FTy.f32 3238002688#32
abbrev c7 : EReal := Ideal.ofBits FTy.f32 1088421888#32
abbrev c127 : EReal := Ideal.ofBits FTy.f32 0x42FE0000#32
abbrev cm127 : EReal := Ideal.ofBits FTy.f32 0xC2FE0000#32
abbrev cInvT : EReal := Ideal.ofBits FTy.f32 998244352#32
abbrev c2 : EReal := Ideal.ofBits FTy.f32 1073741824#32
/-- An integer as a value. -/
abbrev ival (b : BitVec 8) : EReal := FloatOps.sitofp (F := Ideal) FTy.f32 b

/-- The stretched sigmoid of a rounding variable. -/
def hr (v : EReal) : EReal := Ideal.logistic v * ((6 / 5 : ℝ) : EReal) + ((-1 / 10 : ℝ) : EReal)
/-- The soft-rounded code before it is clipped. -/
def pre (fl : BitVec 8) (v : EReal) : EReal := ival fl + min 1 (max 0 (hr v))
/-- A weight: the clipped code times its group's scale. -/
def wt (fl : BitVec 8) (s v : EReal) : EReal := min c7 (max cm8 (pre fl v)) * s
/-- The largest magnitude in a row. -/
def rowmax {n : ℕ} (f : Fin n → EReal) : EReal := Finset.univ.fold max (Ideal.ofBits FTy.f32 0xFF800000#32) (fun k => FloatOps.absf (F := Ideal) (φ := FTy.f32) (f k))
/-- A row's scale, from its largest magnitude. -/
def qs (a : EReal) : EReal := if 0 < a then Ideal.div a c127 else 1
/-- A value's code at a scale, as a number. -/
def zc (z s : EReal) : EReal := min c127 (max cm127 (Ideal.liftRound Ideal.roundHalfEven (Ideal.div z s)))
/-- Where the gradient of a rounding variable passes. -/
def mask (fl : BitVec 8) (v : EReal) : EReal :=
  FloatOps.sitofp (F := Ideal) FTy.f32 (BitVec.setWidth 32
    (IntOp.andi (IntOp.andi (IntOp.andi (BitVec.ofBool (decide (cm8 ≤ pre fl v))) (BitVec.ofBool (decide (pre fl v ≤ c7))))
      (BitVec.ofBool (decide (0 < hr v)))) (BitVec.ofBool (decide (hr v < 1)))))
/-- The gradient of a rounding variable, from the gradient of its weight before scaling. -/
def dvf (q : EReal) (fl : BitVec 8) (s v : EReal) : EReal :=
  q * s * mask fl v * ((6 / 5 : ℝ) : EReal) * Ideal.logistic v * (1 - Ideal.logistic v)

/-! ## The arrays -/

/-- The arguments. -/
structure In where
  x : Fin 256 → Fin 2048 → EReal
  y : Fin 256 → Fin 2048 → EReal
  g : Fin 256 → Fin 2048 → EReal
  fg : Fin 2048 → Fin 8192 → BitVec 8
  sg : Fin 32 → Fin 8192 → EReal
  vg : Fin 2048 → Fin 8192 → EReal
  fu : Fin 2048 → Fin 8192 → BitVec 8
  su : Fin 32 → Fin 8192 → EReal
  vu : Fin 2048 → Fin 8192 → EReal
  fd : Fin 8192 → Fin 2048 → BitVec 8
  sd : Fin 128 → Fin 2048 → EReal
  vd : Fin 8192 → Fin 2048 → EReal

variable (I : In)

/-- The group of an input row of a 2048-row weight. -/
abbrev gp (d : Fin 2048) : Fin 32 := ⟨d.val / 64, by omega⟩
/-- The group of an input row of an 8192-row weight. -/
abbrev gq (k : Fin 8192) : Fin 128 := ⟨k.val / 64, by omega⟩

def wg (d : Fin 2048) (f : Fin 8192) : EReal := wt (I.fg d f) (I.sg (gp d) f) (I.vg d f)
def wu (d : Fin 2048) (f : Fin 8192) : EReal := wt (I.fu d f) (I.su (gp d) f) (I.vu d f)
def wd (k : Fin 8192) (n : Fin 2048) : EReal := wt (I.fd k n) (I.sd (gq k) n) (I.vd k n)
def sx (r : Fin 256) : EReal := qs (rowmax (I.x r))
def xc (r : Fin 256) (d : Fin 2048) : EReal := zc (I.x r d) (sx I r)
def G (r : Fin 256) (f : Fin 8192) : EReal := (∑ d, xc I r d * wg I d f) * sx I r
def U (r : Fin 256) (f : Fin 8192) : EReal := (∑ d, xc I r d * wu I d f) * sx I r
def A (r : Fin 256) (f : Fin 8192) : EReal := G I r f * Ideal.logistic (G I r f) * U I r f
def am (r : Fin 256) : EReal := rowmax (A I r)
def sa (r : Fin 256) : EReal := qs (am I r)
def ac (r : Fin 256) (f : Fin 8192) : EReal := zc (A I r f) (sa I r)
def Y (r : Fin 256) (n : Fin 2048) : EReal := (∑ k, ac I r k * wd I k n) * sa I r
def E (r : Fin 256) (n : Fin 2048) : EReal := Y I r n - I.y r n
def g2 (r : Fin 256) (n : Fin 2048) : EReal := I.g r n * I.g r n
def loss (r : Fin 256) : EReal := (∑ n, g2 I r n * E I r n * E I r n) * cInvT
def dY (r : Fin 256) (n : Fin 2048) : EReal := c2 * g2 I r n * E I r n * cInvT
def dys (r : Fin 256) (n : Fin 2048) : EReal := dY I r n * sa I r
def dA (r : Fin 256) (k : Fin 8192) : EReal := ∑ n, dY I r n * wd I k n
def dGs (r : Fin 256) (f : Fin 8192) : EReal :=
  dA I r f * U I r f * Ideal.logistic (G I r f) * (1 + G I r f * (1 - Ideal.logistic (G I r f))) * sx I r
def dUs (r : Fin 256) (f : Fin 8192) : EReal := dA I r f * (G I r f * Ideal.logistic (G I r f)) * sx I r
def dvg (d : Fin 2048) (f : Fin 8192) : EReal := dvf (∑ t, xc I t d * dGs I t f) (I.fg d f) (I.sg (gp d) f) (I.vg d f)
def dvu (d : Fin 2048) (f : Fin 8192) : EReal := dvf (∑ t, xc I t d * dUs I t f) (I.fu d f) (I.su (gp d) f) (I.vu d f)
def dvd (k : Fin 8192) (n : Fin 2048) : EReal := dvf (∑ t, ac I t k * dys I t n) (I.fd k n) (I.sd (gq k) n) (I.vd k n)
/-- The codes as bytes. -/
def xq (r : Fin 256) (d : Fin 2048) : BitVec 8 := FloatOps.fptosi (F := Ideal) (φ := FTy.f32) 8 (xc I r d)
def aq (r : Fin 256) (f : Fin 8192) : BitVec 8 := FloatOps.fptosi (F := Ideal) (φ := FTy.f32) 8 (ac I r f)

end Cert.Spec

end
-- ==== Proof.Value.Scalars.lean ====
/- Facts about the scalars of the step: constants, the two spellings of the soft rounding, codes and their round trip. -/
module

public import proofs.«01_k».proof.Proof.Value.Spec

@[expose] public section

noncomputable section

namespace Cert.Spec

open Idealize.ShloMosaic

theorem half_val : Ideal.ofBits FTy.f32 0x3F000000#32 = ((1 / 2 : ℝ) : EReal) := by
  simp [Ideal.ofBits, Ideal.ieee, -EReal.coe_mul]; norm_num
theorem c7_val : c7 = ((7 : ℝ) : EReal) := by simp [c7, Ideal.ofBits, Ideal.ieee, -EReal.coe_mul]; norm_num
theorem cm8_val : cm8 = ((-8 : ℝ) : EReal) := by simp [cm8, Ideal.ofBits, Ideal.ieee, -EReal.coe_mul]; norm_num
theorem c127_val : c127 = ((127 : ℝ) : EReal) := by simp [c127, Ideal.ofBits, Ideal.ieee, -EReal.coe_mul]; norm_num
theorem cm127_val : cm127 = ((-127 : ℝ) : EReal) := by simp [cm127, Ideal.ofBits, Ideal.ieee, -EReal.coe_mul]; norm_num
theorem cInvT_val : cInvT = ((1 / 256 : ℝ) : EReal) := by simp [cInvT, Ideal.ofBits, Ideal.ieee, -EReal.coe_mul]; norm_num
theorem ninf_val : Ideal.ofBits FTy.f32 0xFF800000#32 = ⊥ := by simp [Ideal.ofBits, Ideal.ieee]

/-- The half-angle identity of the sigmoid. -/
theorem logistic_tanh (r : ℝ) : (1 + Real.exp (-r))⁻¹ = 1 / 2 + 1 / 2 * Real.tanh (1 / 2 * r) := by
  have e : Real.exp (-r) = Real.exp (-(1 / 2 * r)) / Real.exp (1 / 2 * r) := by
    rw [← Real.exp_sub]; congr 1; ring
  rw [Real.tanh_eq_sinh_div_cosh, Real.sinh_eq, Real.cosh_eq, e]
  have h1 := Real.exp_pos (1 / 2 * r)
  have h2 := Real.exp_pos (-(1 / 2 * r))
  field_simp
  ring

/-- The stretched sigmoid through the half-angle tangent, at every value. -/
theorem hr_half (v : EReal) : Ideal.ofBits FTy.f32 0x3F000000#32 + ((3 / 5 : ℝ) : EReal) * Ideal.tanh (Ideal.ofBits FTy.f32 0x3F000000#32 * v) = hr v := by
  rw [half_val, hr]
  induction v with
  | bot =>
    rw [EReal.coe_mul_bot_of_pos (by norm_num), Ideal.tanh_bot, Ideal.logistic_bot, zero_mul, zero_add, show (-1 : EReal) = ((-1 : ℝ) : EReal) from rfl]
    rw [← EReal.coe_mul, ← EReal.coe_add]; norm_num
  | top =>
    rw [EReal.coe_mul_top_of_pos (by norm_num), Ideal.tanh_top, Ideal.logistic_top, mul_one, one_mul]
    rw [← EReal.coe_add, ← EReal.coe_add]; norm_num
  | coe r =>
    rw [← EReal.coe_mul, Ideal.tanh_coe, Ideal.logistic_coe, ← EReal.coe_mul, ← EReal.coe_mul, ← EReal.coe_add, ← EReal.coe_add, logistic_tanh]
    congr 1; ring

/-- A code is one of the integers from −127 to 127. -/
theorem zc_int (z s : EReal) : ∃ n : ℤ, -127 ≤ n ∧ n ≤ 127 ∧ zc z s = ((n : ℝ) : EReal) := by
  unfold zc
  rw [c127_val, cm127_val]
  induction Ideal.div z s with
  | bot => exact ⟨-127, by norm_num, by norm_num, by
      show min ((127 : ℝ) : EReal) (max ((-127 : ℝ) : EReal) ⊥) = _
      rw [max_eq_left bot_le, min_eq_right (EReal.coe_le_coe_iff.mpr (by norm_num))]; norm_num⟩
  | top => exact ⟨127, by norm_num, by norm_num, by
      show min ((127 : ℝ) : EReal) (max ((-127 : ℝ) : EReal) ⊤) = _
      rw [max_eq_right le_top, min_eq_left le_top]; norm_num⟩
  | coe r =>
    refine ⟨min 127 (max (-127) (Ideal.roundHalfEven r)), by omega, by omega, ?_⟩
    simp only [Ideal.liftRound]
    push_cast
    rfl

/-- A code read back from its byte is itself. -/
theorem code_trip (z s : EReal) : ival (FloatOps.fptosi (F := Ideal) (φ := FTy.f32) 8 (zc z s)) = zc z s := by
  obtain ⟨n, h1, h2, h⟩ := zc_int z s
  rw [h]
  have e : FloatOps.fptosi (F := Ideal) (φ := FTy.f32) 8 ((n : ℝ) : EReal) = BitVec.ofInt 8 n := by
    show BitVec.ofInt 8 (max (-(2 ^ 7 : ℕ)) (min ((2 ^ 7 : ℕ) - 1) (if (0 : ℝ) ≤ (n : ℝ) then ⌊(n : ℝ)⌋ else ⌈(n : ℝ)⌉))) = _
    rw [Int.floor_intCast, Int.ceil_intCast, ite_self]
    congr 1
    norm_num
    omega
  rw [e]
  show ((((BitVec.ofInt 8 n).toInt : ℤ) : ℝ) : EReal) = _
  rw [BitVec.toInt_ofInt]
  congr 2
  have : Int.bmod n (2 ^ 8) = n := by rw [Int.bmod_eq_of_le] <;> omega
  exact this

theorem ival_bf (b : BitVec 8) : FloatOps.sitofp (F := Ideal) FTy.bf16 b = ival b := rfl

end Cert.Spec

end
-- ==== Proof.Value.KerRead0.lean ====
/- The gate/up stage's payloads, read entry by entry. -/
module

public import proofs.«01_k».proof.Proof.Gen.KernelIdeal.Skeleton
public import proofs.«01_k».proof.Proof.Value.Scalars

@[expose] public section

set_option maxRecDepth 16384

noncomputable section

namespace Cert.KernelIdeal.Read

open Cert.KernelIdeal Cert.KernelIdeal.Gen Cert.Spec
open Idealize.ShloMosaic Idealize.ShloMosaic.TcCoe Idealize.SL.Sem

theorem named_c3_5 : Named.named (F := Ideal) κ "c3_5" (φ := .f32) 1058642330#32 = ((3 / 5 : ℝ) : EReal) :=
  IdealRules.named_const.ideal_named_scalar _ _ _ _ rfl

section
variable (v : Vec Ideal S256x2048 .bf16) (f : Fin 256 → Fin 2048 → EReal) (h : ∀ r c, v (ix2 r c) = f r c)
include h
theorem a2 (r c) : k0_pay2 v (ix2 r c) = f r c := by pointwise [k0_pay2]; exact h r c
theorem a3 (r) : k0_pay3 v (ix2 r 0) = qs (rowmax (f r)) := by
  unfold k0_pay3; have h' := a2 v f h; revert h'; generalize k0_pay2 v = z; intro h'
  pointwise []; simp only [h', rowmax, qs]; rfl
theorem a4 (r c) : k0_pay4 v (ix2 r c) = zc (f r c) (qs (rowmax (f r))) := by
  unfold k0_pay4; have h' := a2 v f h; have h'' := a3 v f h; revert h' h''; generalize k0_pay2 v = z; generalize k0_pay3 v = z'; intro h' h''
  pointwise []; simp only [h', h'', zc]
theorem a5 (r c) : k0_pay5 v (ix2 r c) = FloatOps.fptosi (F := Ideal) (φ := FTy.f32) 8 (zc (f r c) (qs (rowmax (f r)))) := by
  unfold k0_pay5; have h' := a4 v f h; revert h'; generalize k0_pay4 v = z; intro h'
  pointwise []; simp only [h']
theorem a6 (r c) : k0_pay6 v (ix2 r c) = zc (f r c) (qs (rowmax (f r))) := by
  unfold k0_pay6; have h' := a4 v f h; revert h'; generalize k0_pay4 v = z; intro h'
  pointwise []; simp only [h']
end

theorem a8 (v : Vec Ideal S256x1 .f32) (r) : k0_pay8 v (ix2 r 0) = v (ix2 r 0) := by pointwise [k0_pay8]
theorem a7 (r) : k0_pay7 (F := Ideal) (ix2 r 0) = 0 := by pointwise [k0_pay7]

theorem a9 (v3 : Vec Ideal S256x1 .f32) (v5 : Vec Ideal S256x2048 .bf16) (v6 : Vec Ideal S2048x256 .f32) (v10 : Vec Ideal S2048x256 .i8) (v11 : Vec Ideal S32x256 .f32) (r c) :
    k0_pay9 v3 v5 v6 v10 v11 (ix2 r c) = (∑ d, v5 (ix2 r d) * wt (v10 (ix2 d c)) (v11 (ix2 (gp d) c)) (v6 (ix2 d c))) * v3 (ix2 r 0) := by
  unfold k0_pay9; have h := a8 v3 r; revert h; generalize k0_pay8 v3 = z; intro h
  pointwise []; simp only [h, named_c3_5, hr_half, wt, pre]
theorem a10 (v3 : FVec Ideal S256x1 .f32) (v5 : Vec Ideal S256x2048 .bf16) (v6 : Vec Ideal S2048x256 .f32) (v10 : Vec Ideal S2048x256 .i8) (v11 : Vec Ideal S32x256 .f32) (r c) :
    k0_pay10 v3 v5 v6 v10 v11 (ix2 r c) = (∑ d, v5 (ix2 r d) * wt (v10 (ix2 d c)) (v11 (ix2 (gp d) c)) (v6 (ix2 d c))) * v3 (ix2 r 0) := by
  pointwise [k0_pay10]; simp only [named_c3_5, hr_half, wt, pre]
theorem a11 (v4 : FVec Ideal S256x1 .f32) (v37 : FVec Ideal S256x256 .f32) (v38 : Vec Ideal S256x2048 .bf16) (v39 : Vec Ideal S2048x256 .f32) (v43 : Vec Ideal S2048x256 .i8) (v44 : Vec Ideal S32x256 .f32) (r c) :
    k0_pay11 v4 v37 v38 v39 v43 v44 (ix2 r c) = v37 (ix2 r c) * Ideal.logistic (v37 (ix2 r c)) * k0_pay10 v4 v38 v39 v43 v44 (ix2 r c) := by
  unfold k0_pay11; generalize k0_pay10 v4 v38 v39 v43 v44 = z
  pointwise []
theorem a1 (v75 : FVec Ideal S256x256 .f32) (v76 : Vec Ideal S256x1 .f32) (r) :
    k0_pay1 v75 v76 (ix2 r 0) = max (v76 (ix2 r 0)) (rowmax fun c : Fin 256 => v75 (ix2 r c)) := by
  pointwise [k0_pay1]; simp only [rowmax]

end Cert.KernelIdeal.Read

end
-- ==== Proof.Value.RowMax.lean ====
/- A row's largest magnitude, and the constant the loss is divided by. -/
module

public import proofs.«01_k».proof.Proof.Value.Scalars

@[expose] public section

set_option maxRecDepth 16384

noncomputable section

namespace Cert.Spec

open Idealize.ShloMosaic

theorem absf_nonneg (a : EReal) : 0 ≤ FloatOps.absf (F := Ideal) (φ := FTy.f32) a := by
  show 0 ≤ max a (-a)
  rcases le_total 0 a with h | h
  · exact le_max_of_le_left h
  · exact le_max_of_le_right (EReal.neg_nonneg.mpr h)

/-- A row's largest magnitude is the least bound of its magnitudes. -/
theorem rowmax_le {n : ℕ} (f : Fin n → EReal) (z : EReal) : rowmax f ≤ z ↔ ∀ k, FloatOps.absf (F := Ideal) (φ := FTy.f32) (f k) ≤ z := by
  rw [rowmax, Finset.fold_max_le, ninf_val]
  simp

/-- Dividing by the number of rows distributes over a sum. -/
theorem add_cInvT (a b : EReal) : (a + b) * cInvT = a * cInvT + b * cInvT := by
  rw [cInvT_val]
  exact EReal.right_distrib_of_nonneg_of_ne_top (EReal.coe_nonneg.mpr (by norm_num)) (EReal.coe_ne_top _) a b

end Cert.Spec

end
-- ==== Proof.Value.KerBlk0.lean ====
/- The gate/up stage's input blocks, read off the arguments. -/
module

public import proofs.«01_k».proof.Proof.Value.Spec
public import proofs.«01_k».proof.Proof.KernelIdeal.Region0
public import Idealize.ShloMosaic.Lib.Pipeline.ValueKit

@[expose] public section

set_option maxRecDepth 16384

noncomputable section

namespace Cert.KernelIdeal.Val

open Cert.KernelIdeal Cert.KernelIdeal.Gen Cert.KernelIdeal.Own Cert.Spec
open Idealize.ShloMosaic Idealize.ShloMosaic.TcCoe Idealize.SL.Sem

/-- A function of two coordinates as an array. -/
abbrev arr2 {a b : ℕ} {α : Type} (f : Fin a → Fin b → α) : (⟨2, ![a, b]⟩ : Shape).Idx → α := fun i => f (i 0) (i 1)

/-- A column of the whole array, from a column of block `t`. -/
abbrev col (t : Fin cfg0.N) (k : Fin 256) : Fin 8192 := ⟨t.val * 256 + k.val, by have h := t.isLt; have e : cfg0.N = 32 := N_0; omega⟩

theorem pt0_eq (n : ℕ) (hn : n < 32) : (pt0 n).val = n := Nat.mod_eq_of_lt hn

/-- A statement about every column of a block, by the columns' numbers. -/
theorem cols_block (n : ℕ) (hn : n < 32) (p : Fin 8192 → Prop) : (∀ k : Fin 256, p (col (pt0 n) k)) ↔ ∀ j : Fin 8192, n * 256 ≤ j.val → j.val < (n + 1) * 256 → p j := by
  have hp := pt0_eq n hn
  constructor
  · intro hk j h1 h2
    have e : col (pt0 n) ⟨j.val - n * 256, by omega⟩ = j := by
      apply Fin.ext
      simp only [hp]
      omega
    rw [← e]
    exact hk _
  · intro hj k
    refine hj _ ?_ ?_
    · simp only [hp]; omega
    · simp only [hp]; have := k.isLt; omega

variable (V : Entry Ideal) (c : Dev nD) (I : In)

/-- The stage's input arrays as it finds them. -/
structure Ent0 : Prop where
  x : ∀ a b, V c main_v0 (ix2 a b) = I.x a b
  fg : ∀ a b, V c main_arg3 (ix2 a b) = I.fg a b
  sg : ∀ a b, V c main_arg4 (ix2 a b) = I.sg a b
  vg : ∀ a b, V c main_arg5 (ix2 a b) = I.vg a b
  fu : ∀ a b, V c main_arg6 (ix2 a b) = I.fu a b
  su : ∀ a b, V c main_arg7 (ix2 a b) = I.su a b
  vu : ∀ a b, V c main_arg8 (ix2 a b) = I.vu a b
theorem idx0_0 : ∀ t : Fin cfg0.N, win0_0.index t = ![0, 0] := (by decide +kernel : ∀ t : Fin grid0.N, _)
theorem idx0_1 : ∀ t : Fin cfg0.N, win0_1.index t = ![0, t.val] := (by decide +kernel : ∀ t : Fin grid0.N, _)
theorem idx0_2 : ∀ t : Fin cfg0.N, win0_2.index t = ![0, t.val] := (by decide +kernel : ∀ t : Fin grid0.N, _)
theorem idx0_3 : ∀ t : Fin cfg0.N, win0_3.index t = ![0, t.val] := (by decide +kernel : ∀ t : Fin grid0.N, _)
theorem idx0_4 : ∀ t : Fin cfg0.N, win0_4.index t = ![0, t.val] := (by decide +kernel : ∀ t : Fin grid0.N, _)
theorem idx0_5 : ∀ t : Fin cfg0.N, win0_5.index t = ![0, t.val] := (by decide +kernel : ∀ t : Fin grid0.N, _)
theorem idx0_6 : ∀ t : Fin cfg0.N, win0_6.index t = ![0, t.val] := (by decide +kernel : ∀ t : Fin grid0.N, _)
theorem idx0_7 : ∀ t : Fin cfg0.N, win0_7.index t = ![0, t.val] := (by decide +kernel : ∀ t : Fin grid0.N, _)
theorem idx0_8 : ∀ t : Fin cfg0.N, win0_8.index t = ![0, t.val] := (by decide +kernel : ∀ t : Fin grid0.N, _)
theorem idx0_9 : ∀ t : Fin cfg0.N, win0_9.index t = ![0, 0] := (by decide +kernel : ∀ t : Fin grid0.N, _)
theorem idx0_10 : ∀ t : Fin cfg0.N, win0_10.index t = ![0, 0] := (by decide +kernel : ∀ t : Fin grid0.N, _)
theorem idx0_11 : ∀ t : Fin cfg0.N, win0_11.index t = ![0, 0] := (by decide +kernel : ∀ t : Fin grid0.N, _)

variable {V c I} (h : Ent0 V c I)
include h

theorem bx (t r d) : blk0 V c 0 t (ix2 r d) = I.x r d := by
  rw [← h.x]
  have e : blk0 V c 0 t = V c main_v0 := by blk_ext! [blk0, idx0_0 t]
  rw [e]
theorem bfg (t d k) : blk0 V c 1 t (ix2 d k) = I.fg d (col t k) := by
  rw [← h.fg]
  blk_ext [blk0, idx0_1 t]
theorem bsg (t d k) : blk0 V c 2 t (ix2 d k) = I.sg d (col t k) := by
  rw [← h.sg]
  blk_ext [blk0, idx0_2 t]
theorem bvg (t d k) : blk0 V c 3 t (ix2 d k) = I.vg d (col t k) := by
  rw [← h.vg]
  blk_ext [blk0, idx0_3 t]
theorem bfu (t d k) : blk0 V c 4 t (ix2 d k) = I.fu d (col t k) := by
  rw [← h.fu]
  blk_ext [blk0, idx0_4 t]
theorem bsu (t d k) : blk0 V c 5 t (ix2 d k) = I.su d (col t k) := by
  rw [← h.su]
  blk_ext [blk0, idx0_5 t]
theorem bvu (t d k) : blk0 V c 6 t (ix2 d k) = I.vu d (col t k) := by
  rw [← h.vu]
  blk_ext [blk0, idx0_6 t]

end Cert.KernelIdeal.Val

end
-- ==== Proof.Value.KerVal0.lean ====
/- The gate/up stage's arrays: what the stage leaves in each of its output arrays. -/
module

public import proofs.«01_k».proof.Proof.Value.KerRead0
public import proofs.«01_k».proof.Proof.Value.RowMax
public import proofs.«01_k».proof.Proof.Value.KerBlk0
public import Idealize.ShloMosaic.Lib.Pipeline.ValueKit

@[expose] public section

set_option maxRecDepth 16384

noncomputable section

namespace Cert.KernelIdeal.Val

open Cert.KernelIdeal Cert.KernelIdeal.Gen Cert.KernelIdeal.Own Cert.KernelIdeal.Read Cert.Spec
open Idealize.ShloMosaic Idealize.ShloMosaic.TcCoe Idealize.SL.Sem

variable {V : Entry Ideal} {c : Dev nD} {I : In} (h : Ent0 V c I)
include h

theorem sx0_eq (r) : sx0 V c (ix2 r 0) = sx I r := a3 _ I.x (bx h (pt0 0)) r
theorem xb0_eq (r d) : xb0 V c (ix2 r d) = xc I r d := a6 _ I.x (bx h (pt0 0)) r d
theorem xq0_eq (r d) : xq0 V c (ix2 r d) = xq I r d := a5 _ I.x (bx h (pt0 0)) r d
theorem gg0_eq (t r k) : gg0 V c t (ix2 r k) = G I r (col t k) := by
  rw [gg0, a9]
  simp only [xb0_eq h, sx0_eq h, bfg h, bsg h, bvg h]
  rfl
theorem up_eq (t r k) : k0_pay10 (k0_pay8 (sx0 V c)) (xb0 V c) (blk0 V c 6 t) (blk0 V c 4 t) (blk0 V c 5 t) (ix2 r k) = U I r (col t k) := by
  rw [a10, a8]
  simp only [xb0_eq h, sx0_eq h, bfu h, bsu h, bvu h]
  rfl
theorem uu0_eq (t r k) : uu0 V c t (ix2 r k) = U I r (col t k) := up_eq h t r k
theorem act_eq (t r k) : k0_pay11 (k0_pay8 (sx0 V c)) (gg0 V c t) (xb0 V c) (blk0 V c 6 t) (blk0 V c 4 t) (blk0 V c 5 t) (ix2 r k) = A I r (col t k) := by
  rw [a11, up_eq h, gg0_eq h]
  rfl
theorem amStep0_eq (t prev r) : amStep0 V c t prev (ix2 r 0) = max (prev (ix2 r 0)) (rowmax fun k : Fin 256 => A I r (col t k)) := by
  rw [amStep0, a1]
  simp only [act_eq h]

/-- One point's update, by its bounds. -/
theorem amStep_le (n : ℕ) (hn : n < 32) (prev r z) : amStep0 V c (pt0 n) prev (ix2 r 0) ≤ z ↔
    prev (ix2 r 0) ≤ z ∧ ∀ j : Fin 8192, n * 256 ≤ j.val → j.val < (n + 1) * 256 → FloatOps.absf (F := Ideal) (φ := FTy.f32) (A I r j) ≤ z := by
  rw [amStep0_eq h, max_le_iff, rowmax_le]
  exact and_congr_right fun _ => cols_block n hn fun j => FloatOps.absf (F := Ideal) (φ := FTy.f32) (A I r j) ≤ z

omit h in
/-- A statement about the numbers below `b`, from those below `a` and those between. -/
theorem upto_step {m : ℕ} (q : Fin m → Prop) (a b : ℕ) (hab : a ≤ b) :
    ((∀ j : Fin m, j.val < a → q j) ∧ ∀ j : Fin m, a ≤ j.val → j.val < b → q j) ↔ ∀ j : Fin m, j.val < b → q j := by
  constructor
  · intro hk j hj
    rcases Nat.lt_or_ge j.val a with hc | hc
    · exact hk.1 j hc
    · exact hk.2 j hc hj
  · intro hk
    exact ⟨fun j hj => hk j (lt_of_lt_of_le hj hab), fun j _ hj => hk j hj⟩
omit h in
theorem upto_first {m : ℕ} (q : Fin m → Prop) (a b : ℕ) (ha : a = 0) :
    (∀ j : Fin m, a ≤ j.val → j.val < b → q j) ↔ ∀ j : Fin m, j.val < b → q j := by
  subst ha
  exact ⟨fun hk j hj => hk j (Nat.zero_le _) hj, fun hk j _ hj => hk j hj⟩

/-- The running maximum after point `n` is the least bound of the magnitudes of the columns passed. -/
theorem am0_le (r : Fin 256) (z : EReal) (n : ℕ) (hn : n < 32) : am0 V c n (ix2 r 0) ≤ z ↔ 0 ≤ z ∧ ∀ j : Fin 8192, j.val < (n + 1) * 256 → FloatOps.absf (F := Ideal) (φ := FTy.f32) (A I r j) ≤ z := by
  have hs := fun n hn prev => amStep_le h n hn prev r z
  have ⟨p, hp⟩ : ∃ p : Fin 8192 → EReal, ∀ j, FloatOps.absf (F := Ideal) (φ := FTy.f32) (A I r j) = p j := ⟨_, fun _ => rfl⟩
  simp only [hp] at hs ⊢
  induction n with
  | zero =>
    have e : am0 V c 0 = amStep0 V c (pt0 0) (k0_pay7 (F := Ideal)) := by rw [am0]
    rw [e, hs 0 hn, a7]
    exact and_congr_right fun _ => upto_first (fun j => p j ≤ z) (0 * 256) ((0 + 1) * 256) (by omega)
  | succ n ih =>
    have e : am0 V c (n + 1) = amStep0 V c (pt0 (n + 1)) (am0 V c n) := by rw [am0]
    have ih' := ih (by omega)
    rw [e]
    refine (hs (n + 1) hn _).trans ((and_congr ih' Iff.rfl).trans ?_)
    rw [and_assoc]
    exact and_congr_right fun _ => upto_step (fun j => p j ≤ z) ((n + 1) * 256) ((n + 1 + 1) * 256) (by omega)

theorem am0_eq (r) : am0 V c 31 (ix2 r 0) = am I r := by
  refine eq_of_forall_ge_iff fun z => ?_
  rw [am0_le h r z 31 (by omega), am, rowmax_le]
  exact ⟨fun hz j => hz.2 j (by omega), fun hz => ⟨(absf_nonneg _).trans (hz 0), fun j _ => hz j⟩⟩

end Cert.KernelIdeal.Val

end
-- ==== Proof.Value.KerArr0.lean ====
/- The arrays the gate/up stage leaves. -/
module

public import proofs.«01_k».proof.Proof.Value.KerVal0

@[expose] public section

set_option maxRecDepth 16384

noncomputable section

namespace Cert.KernelIdeal.Val

open Cert.KernelIdeal Cert.KernelIdeal.Gen Cert.KernelIdeal.Own Cert.KernelIdeal.Read Cert.Spec
open Idealize.ShloMosaic Idealize.ShloMosaic.TcCoe Idealize.SL.Sem

variable {V : Entry Ideal} {c : Dev nD} {I : In} (h : Ent0 V c I)
include h

theorem R7 : (dat0 V c).arrAt 7 cfg0.N = fun i => G I (i 0) (i 1) := by
  refine (dat0 V c).arrAt_eq_of_covers 7 _ (by decide +kernel) fun t hf y => ?_
  blk_simp
  rw [after0_7]
  have key : ∀ i : S256x256.Idx, gg0 V c t i = arr2 (G I) ((win0_7.blk t).view.emb i) := by
    intro i
    obtain ⟨r, k, rfl⟩ : ∃ r k, i = ix2 r k := ⟨i 0, i 1, by idx_vars i⟩
    rw [gg0_eq h]
    generalize G I = f
    show arr2 f (ix2 r (col t k)) = _
    generalize arr2 f = f'
    blk_ext [idx0_7 t]
  exact key y

theorem R8 : (dat0 V c).arrAt 8 cfg0.N = fun i => U I (i 0) (i 1) := by
  refine (dat0 V c).arrAt_eq_of_covers 8 _ (by decide +kernel) fun t hf y => ?_
  blk_simp
  rw [after0_8]
  have key : ∀ i : S256x256.Idx, uu0 V c t i = arr2 (U I) ((win0_8.blk t).view.emb i) := by
    intro i
    obtain ⟨r, k, rfl⟩ : ∃ r k, i = ix2 r k := ⟨i 0, i 1, by idx_vars i⟩
    rw [uu0_eq h]
    generalize U I = f
    show arr2 f (ix2 r (col t k)) = _
    generalize arr2 f = f'
    blk_ext [idx0_8 t]
  exact key y

theorem R9 : (dat0 V c).arrAt 9 cfg0.N = fun i => xq I (i 0) (i 1) := by
  refine (dat0 V c).arrAt_eq_of_after_last 9 (pt0 31) (by decide +kernel) _ fun j => ?_
  blk_simp
  rw [after0_9]
  have key : ∀ i : S256x2048.Idx, xq0 V c i = xq I (i 0) (i 1) := by
    intro i
    obtain ⟨r, k, rfl⟩ : ∃ r k, i = ix2 r k := ⟨i 0, i 1, by idx_vars i⟩
    exact xq0_eq h r k
  exact key j

theorem R10 : (dat0 V c).arrAt 10 cfg0.N = fun i => sx I (i 0) := by
  refine (dat0 V c).arrAt_eq_of_after_last 10 (pt0 31) (by decide +kernel) _ fun j => ?_
  blk_simp
  rw [after0_10]
  have key : ∀ i : S256x1.Idx, sx0 V c i = sx I (i 0) := by
    intro i
    obtain ⟨r, k, rfl⟩ : ∃ r k, i = ix2 r k := ⟨i 0, i 1, by idx_vars i⟩
    obtain rfl : k = 0 := Subsingleton.elim _ _
    exact sx0_eq h r
  exact key j

theorem R11 : (dat0 V c).arrAt 11 cfg0.N = fun i => am I (i 0) := by
  refine (dat0 V c).arrAt_eq_of_after_last 11 (pt0 31) (by decide +kernel) _ fun j => ?_
  blk_simp
  rw [after0_11]
  have key : ∀ i : S256x1.Idx, am0 V c (pt0 31).val i = am I (i 0) := by
    intro i
    obtain ⟨r, k, rfl⟩ : ∃ r k, i = ix2 r k := ⟨i 0, i 1, by idx_vars i⟩
    obtain rfl : k = 0 := Subsingleton.elim _ _
    exact am0_eq h r
  exact key j

end Cert.KernelIdeal.Val

end
-- ==== Proof.Value.KerRead1.lean ====
/- The down stage's payloads, read entry by entry. -/
module

public import proofs.«01_k».proof.Proof.Value.KerRead0

@[expose] public section

set_option maxRecDepth 16384

noncomputable section

namespace Cert.KernelIdeal.Read

open Cert.KernelIdeal Cert.KernelIdeal.Gen Cert.Spec
open Idealize.ShloMosaic Idealize.ShloMosaic.TcCoe Idealize.SL.Sem

theorem b8 (v : Vec Ideal S256x1 .f32) (r) : k1_pay8 v (ix2 r 0) = qs (v (ix2 r 0)) := by
  pointwise [k1_pay8]; simp only [qs]
theorem b9 (r) : k1_pay9 (F := Ideal) (ix2 r 0) = 0 := by pointwise [k1_pay9]
theorem b10 (v0 : Vec Ideal S256x1 .f32) (v60 v64 : Vec Ideal S256x2048 .f32) (r c) :
    k1_pay10 v0 v60 v64 (ix2 r c) = zc (v60 (ix2 r c) * Ideal.logistic (v60 (ix2 r c)) * v64 (ix2 r c)) (qs (v0 (ix2 r 0))) := by
  unfold k1_pay10; have h := b8 v0 r; revert h; generalize k1_pay8 v0 = z; intro h
  pointwise []; simp only [h, zc]
theorem b11 (v0 : Vec Ideal S256x1 .f32) (v60 v64 : Vec Ideal S256x2048 .f32) (r c) :
    k1_pay11 v0 v60 v64 (ix2 r c) = FloatOps.fptosi (F := Ideal) (φ := FTy.f32) 8 (zc (v60 (ix2 r c) * Ideal.logistic (v60 (ix2 r c)) * v64 (ix2 r c)) (qs (v0 (ix2 r 0)))) := by
  unfold k1_pay11; have h := b10 v0 v60 v64 r c; revert h; generalize k1_pay10 v0 v60 v64 = z; intro h
  pointwise []; simp only [h]
theorem b12 (v0 : Vec Ideal S256x1 .f32) (v60 v64 : Vec Ideal S256x2048 .f32) (r c) :
    k1_pay12 v0 v60 v64 (ix3 0 r c) = zc (v60 (ix2 r c) * Ideal.logistic (v60 (ix2 r c)) * v64 (ix2 r c)) (qs (v0 (ix2 r 0))) := by
  unfold k1_pay12; have h := b10 v0 v60 v64 r c; revert h; generalize k1_pay10 v0 v60 v64 = z; intro h
  pointwise []; simp only [h]
theorem b13 (r c) : k1_pay13 (F := Ideal) (ix2 r c) = 0 := by pointwise [k1_pay13]
theorem b14 (v : Vec Ideal S1x256x2048 .bf16) (r c) : k1_pay14 v (ix2 r c) = v (ix3 0 r c) := by pointwise [k1_pay14]
theorem b15 (v : Vec Ideal S2048x256 .f32) (d c) : k1_pay15 v (ix2 d c) = ((3 / 5 : ℝ) : EReal) * Ideal.tanh (Ideal.ofBits FTy.f32 0x3F000000#32 * v (ix2 d c)) := by
  pointwise [k1_pay15]; simp only [named_c3_5]
theorem b1 (v19 : Vec Ideal S256x256 .f32) (v22 : FVec Ideal S256x2048 .bf16) (v27 : Vec Ideal S2048x256 .i8) (v28 : Vec Ideal S32x256 .f32) (v23 : Vec Ideal S2048x256 .f32) (r c) :
    k1_pay1 v19 v22 v27 v28 (k1_pay15 v23) (ix2 r c) = v19 (ix2 r c) + ∑ d : Fin 2048, v22 (ix2 r d) * wt (v27 (ix2 d c)) (v28 (ix2 (gp d) c)) (v23 (ix2 d c)) := by
  have h := b15 v23; revert h; generalize k1_pay15 v23 = z; intro h
  pointwise [k1_pay1]; simp only [h, hr_half, wt, pre]

section
variable (v7 : FVec Ideal S256x1 .f32) (v60 : Vec Ideal S256x256 .f32) (v63 v67 : Vec Ideal S256x256 .bf16)
theorem b2 (r c) : k1_pay2 v7 v60 v63 (ix2 r c) = v60 (ix2 r c) * v7 (ix2 r 0) - v63 (ix2 r c) := by pointwise [k1_pay2]
theorem b3 (r c) : k1_pay3 v67 (ix2 r c) = v67 (ix2 r c) * v67 (ix2 r c) := by pointwise [k1_pay3]
theorem b4 (v71 : Vec Ideal S256x1 .f32) (r) : k1_pay4 v7 v60 v63 v67 v71 (ix2 r 0) =
    v71 (ix2 r 0) + (∑ c : Fin 256, v67 (ix2 r c) * v67 (ix2 r c) * (v60 (ix2 r c) * v7 (ix2 r 0) - v63 (ix2 r c)) * (v60 (ix2 r c) * v7 (ix2 r 0) - v63 (ix2 r c))) * cInvT := by
  unfold k1_pay4; have h := b2 v7 v60 v63 r; have h' := b3 v67 r; revert h h'; generalize k1_pay2 v7 v60 v63 = z; generalize k1_pay3 v67 = z'; intro h h'
  pointwise []; simp only [h, h']
theorem b5 (r c) : k1_pay5 v7 v60 v63 v67 (ix2 r c) = c2 * (v67 (ix2 r c) * v67 (ix2 r c)) * (v60 (ix2 r c) * v7 (ix2 r 0) - v63 (ix2 r c)) * cInvT := by
  unfold k1_pay5; have h := b2 v7 v60 v63 r c; have h' := b3 v67 r c; revert h h'; generalize k1_pay2 v7 v60 v63 = z; generalize k1_pay3 v67 = z'; intro h h'
  pointwise []; simp only [h, h']
theorem b6 (r c) : k1_pay6 v7 v60 v63 v67 (ix2 r c) = c2 * (v67 (ix2 r c) * v67 (ix2 r c)) * (v60 (ix2 r c) * v7 (ix2 r 0) - v63 (ix2 r c)) * cInvT := by
  unfold k1_pay6; have h := b5 v7 v60 v63 v67 r c; revert h; generalize k1_pay5 v7 v60 v63 v67 = z; intro h
  pointwise []; simp only [h]
theorem b7 (r c) : k1_pay7 v7 v60 v63 v67 (ix2 r c) = c2 * (v67 (ix2 r c) * v67 (ix2 r c)) * (v60 (ix2 r c) * v7 (ix2 r 0) - v63 (ix2 r c)) * cInvT * v7 (ix2 r 0) := by
  unfold k1_pay7; have h := b5 v7 v60 v63 v67 r c; revert h; generalize k1_pay5 v7 v60 v63 v67 = z; intro h
  pointwise []; simp only [h]
end

end Cert.KernelIdeal.Read

end
-- ==== Proof.Value.KerBlk1.lean ====
/- The down stage's input blocks, read off the arrays it finds. -/
module

public import proofs.«01_k».proof.Proof.Value.Spec
public import proofs.«01_k».proof.Proof.KernelIdeal.Dat1
public import Idealize.ShloMosaic.Lib.Pipeline.ValueKit

@[expose] public section

set_option maxRecDepth 16384

noncomputable section

namespace Cert.KernelIdeal.Val

open Cert.KernelIdeal Cert.KernelIdeal.Gen Cert.KernelIdeal.Own Cert.Spec
open Idealize.ShloMosaic Idealize.ShloMosaic.TcCoe Idealize.SL.Sem

/-- A row of the weight, from a row of the block `t` multiplies. -/
abbrev row1 (t : Fin cfg1.N) (d : Fin 2048) : Fin 8192 := ⟨t.val % 4 * 2048 + d.val, by omega⟩
/-- A column of the activations, from a column of the block numbered `n`. -/
abbrev row3 (n : ℕ) (d : Fin 2048) : Fin 8192 := ⟨min n 3 * 2048 + d.val, by omega⟩
/-- A column of the output, from a column of block `t`. -/
abbrev col1 (t : Fin cfg1.N) (k : Fin 256) : Fin 2048 := ⟨t.val / 4 * 256 + k.val, by have h := t.isLt; have e : cfg1.N = 32 := N_1; omega⟩
/-- A group of rows of the weight, from a group of the block `t` multiplies. -/
abbrev grp1 (t : Fin cfg1.N) (g : Fin 32) : Fin 128 := ⟨t.val % 4 * 32 + g.val, by omega⟩

variable (V : Entry Ideal) (c : Dev nD) (I : In)

/-- The stage's input arrays as it finds them. -/
structure Ent1 : Prop where
  gg : ∀ a b, V c main_v1_0 (ix2 a b) = G I a b
  uu : ∀ a b, V c main_v1_1 (ix2 a b) = U I a b
  am : ∀ a, V c main_v1_4 (ix2 a 0) = am I a
  y : ∀ a b, V c main_v2 (ix2 a b) = I.y a b
  g : ∀ a b, V c main_v3 (ix2 a b) = I.g a b
  fd : ∀ a b, V c main_arg9 (ix2 a b) = I.fd a b
  sd : ∀ a b, V c main_arg10 (ix2 a b) = I.sd a b
  vd : ∀ a b, V c main_arg11 (ix2 a b) = I.vd a b

theorem idx1_0 : ∀ t : Fin cfg1.N, win1_0.index t = ![0, min t.val 3] := (by decide +kernel : ∀ t : Fin grid1.N, _)
theorem idx1_1 : ∀ t : Fin cfg1.N, win1_1.index t = ![0, min t.val 3] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, t.val / 4] := (by decide +kernel : ∀ t : Fin grid1.N, _)
theorem idx1_4 : ∀ t : Fin cfg1.N, win1_4.index t = ![0, t.val / 4] := (by decide +kernel : ∀ t : Fin grid1.N, _)
theorem idx1_5 : ∀ t : Fin cfg1.N, win1_5.index t = ![t.val % 4, t.val / 4] := (by decide +kernel : ∀ t : Fin grid1.N, _)
theorem idx1_6 : ∀ t : Fin cfg1.N, win1_6.index t = ![t.val % 4, t.val / 4] := (by decide +kernel : ∀ t : Fin grid1.N, _)
theorem idx1_7 : ∀ t : Fin cfg1.N, win1_7.index t = ![t.val % 4, t.val / 4] := (by decide +kernel : ∀ t : Fin grid1.N, _)
theorem idx1_8 : ∀ t : Fin cfg1.N, win1_8.index t = ![0, min t.val 3] := (by decide +kernel : ∀ t : Fin grid1.N, _)
theorem idx1_9 : ∀ t : Fin cfg1.N, win1_9.index t = ![0, 0] := (by decide +kernel : ∀ t : Fin grid1.N, _)
theorem idx1_10 : ∀ t : Fin cfg1.N, win1_10.index t = ![0, 0] := (by decide +kernel : ∀ t : Fin grid1.N, _)
theorem idx1_11 : ∀ t : Fin cfg1.N, win1_11.index t = ![0, t.val / 4] := (by decide +kernel : ∀ t : Fin grid1.N, _)
theorem idx1_12 : ∀ t : Fin cfg1.N, win1_12.index t = ![0, t.val / 4] := (by decide +kernel : ∀ t : Fin grid1.N, _)

variable {V c I} (h : Ent1 V c I)
include h

theorem cgg (t r d) : blk1 V c 0 t (ix2 r d) = G I r (row3 t.val d) := by
  rw [← h.gg]
  blk_ext [blk1, idx1_0 t]
theorem cuu (t r d) : blk1 V c 1 t (ix2 r d) = U I r (row3 t.val d) := by
  rw [← h.uu]
  blk_ext [blk1, idx1_1 t]
theorem cy (t r d) : blk1 V c 3 t (ix2 r d) = I.y r (col1 t d) := by
  rw [← h.y]
  blk_ext [blk1, idx1_3 t]
theorem cg (t r d) : blk1 V c 4 t (ix2 r d) = I.g r (col1 t d) := by
  rw [← h.g]
  blk_ext [blk1, idx1_4 t]
theorem cfd (t r d) : blk1 V c 5 t (ix2 r d) = I.fd (row1 t r) (col1 t d) := by
  rw [← h.fd]
  blk_ext [blk1, idx1_5 t]
theorem csd (t r d) : blk1 V c 6 t (ix2 r d) = I.sd (grp1 t r) (col1 t d) := by
  rw [← h.sd]
  blk_ext [blk1, idx1_6 t]
theorem cvd (t r d) : blk1 V c 7 t (ix2 r d) = I.vd (row1 t r) (col1 t d) := by
  rw [← h.vd]
  blk_ext [blk1, idx1_7 t]
theorem cam (t r) : blk1 V c 2 t (ix2 r 0) = am I r := by
  rw [← h.am]
  have e : blk1 V c 2 t = V c main_v1_4 := by blk_ext! [blk1, idx1_2 t]
  rw [e]

end Cert.KernelIdeal.Val

end
-- ==== Proof.Value.KerVal1.lean ====
/- The down stage: its sums over the blocks of the hidden dimension and of the output. -/
module

public import proofs.«01_k».proof.Proof.Value.KerRead1
public import proofs.«01_k».proof.Proof.Value.RowMax
public import proofs.«01_k».proof.Proof.Value.KerBlk0
public import proofs.«01_k».proof.Proof.Value.KerBlk1

@[expose] public section

set_option maxRecDepth 16384

noncomputable section

namespace Cert.KernelIdeal.Val

open Cert.KernelIdeal Cert.KernelIdeal.Gen Cert.KernelIdeal.Own Cert.KernelIdeal.Read Cert.Spec
open Idealize.ShloMosaic Idealize.ShloMosaic.TcCoe Idealize.SL.Sem

variable {V : Entry Ideal} {c : Dev nD} {I : In} (h : Ent1 V c I)

theorem pt1_eq (n : ℕ) (hn : n < 32) : (pt1 n).val = n := Nat.mod_eq_of_lt hn

/-- A term of the product, by its number. -/
def term (I : In) (r : Fin 256) (n : Fin 2048) (K : ℕ) : EReal := if hK : K < 8192 then ac I r ⟨K, hK⟩ * wd I ⟨K, hK⟩ n else 0
/-- The terms of block `j`. -/
def part (I : In) (r : Fin 256) (n : Fin 2048) (j : ℕ) : EReal := ∑ d : Fin 2048, term I r n (j * 2048 + d.val)
theorem sum_parts (I : In) (r : Fin 256) (n : Fin 2048) : ∑ j ∈ Finset.range (3 + 1), part I r n j = ∑ K, ac I r K * wd I K n := by
  have e : ∀ K : Fin 8192, ac I r K * wd I K n = term I r n K.val := fun K => by rw [term, dif_pos K.isLt]
  simp only [e, part]
  rw [Finset.sum_range]
  exact (Fin.sum_univ_tiles 4 2048 rfl fun K : Fin 8192 => term I r n K.val).symm

section
include h

theorem sa_pt (t r) : k1_pay8 (blk1 V c 2 t) (ix2 r 0) = sa I r := by rw [b8, cam h]; rfl
theorem sa1_eq (r) : sa1 V c (ix2 r 0) = sa I r := sa_pt h _ r
theorem aq_pt (t r d) : k1_pay11 (blk1 V c 2 t) (blk1 V c 0 t) (blk1 V c 1 t) (ix2 r d) = aq I r (row3 t.val d) := by
  rw [b11, cam h, cgg h, cuu h]; rfl
theorem aq1_eq (n r d) : aq1 V c n (ix2 r d) = aq I r (row3 n d) := by
  rw [aq1, aq_pt h]
  congr 1
  apply Fin.ext
  simp only [pt1_eq (min n 3) (by omega)]
  omega
theorem pb1_eq (n : ℕ) (hn : n < 4) (r d) : pb1 V c n (ix3 0 r d) = ac I r (row3 n d) := by
  rw [pb1, b12, cam h, cgg h, cuu h]
  have e : row3 (pt1 n).val d = row3 n d := by
    apply Fin.ext
    simp only [pt1_eq n (by omega)]
  rw [e]; rfl
theorem wt_pt (t d k) : wt (blk1 V c 5 t (ix2 d k)) (blk1 V c 6 t (ix2 (gp d) k)) (blk1 V c 7 t (ix2 d k)) = wd I (row1 t d) (col1 t k) := by
  rw [cfd h, csd h, cvd h, wd]
  have e : grp1 t (gp d) = gq (row1 t d) := by apply Fin.ext; simp only [grp1, gp, gq]; omega
  rw [e]

/-- One block's share of the product. -/
theorem accStep_eq (t prev r k) : accStep1 V c t prev (ix2 r k) = prev (ix2 r k) + part I r (col1 t k) (t.val % 4) := by
  have key : ∀ d : Fin 2048, k1_pay14 (pb1 V c (t.val % 4)) (ix2 r d) * wt (blk1 V c 5 t (ix2 d k)) (blk1 V c 6 t (ix2 (gp d) k)) (blk1 V c 7 t (ix2 d k)) = term I r (col1 t k) (t.val % 4 * 2048 + d.val) := by
    intro d
    have e : row3 (t.val % 4) d = row1 t d := by apply Fin.ext; simp only [row3, row1]; omega
    rw [wt_pt h, b14, pb1_eq h _ (by omega), e, term, dif_pos (by omega : t.val % 4 * 2048 + d.val < 8192)]
  rw [accStep1, b1]
  simp only [key]
  rw [part]

/-- The product's sum so far, after point `n`. -/
theorem acc_upto (r : Fin 256) (k : Fin 256) (n : ℕ) (hn : n < 32) : acc1 V c n (ix2 r k) = ∑ j ∈ Finset.range (n % 4 + 1), part I r (col1 (pt1 n) k) j := by
  have hs := fun n (hn : n < 32) prev => accStep_eq h (pt1 n) prev r k
  induction n with
  | zero =>
    have e : acc1 V c 0 = accStep1 V c (pt1 0) (k1_pay13 (F := Ideal)) := by rw [acc1]
    rw [e, hs 0 hn, b13, zero_add, show (pt1 0).val % 4 = 0 from rfl, show 0 % 4 + 1 = 1 from rfl, Finset.sum_range_one]
  | succ n ih =>
    have hp := pt1_eq (n + 1) hn
    by_cases h0 : (n + 1) % 4 = 0
    · have a := acc1_first V c (pt1 (n + 1)) (by rw [hp]; exact h0)
      rw [hp] at a
      rw [a, hs (n + 1) hn, b13, zero_add, hp, h0, Finset.sum_range_one]
    · have a := acc1_later V c (pt1 (n + 1)) n hp (by rw [hp]; exact h0)
      rw [hp] at a
      have ih' := ih (by omega)
      have e2 : col1 (pt1 n) k = col1 (pt1 (n + 1)) k := by
        apply Fin.ext
        simp only [col1, hp, pt1_eq n (by omega)]
        omega
      rw [e2, show n % 4 + 1 = (n + 1) % 4 by omega] at ih'
      rw [a, hs (n + 1) hn, ih', hp, Finset.sum_range_succ]

/-- The product's sum after the last block of a column block. -/
theorem acc_eq (t : Fin cfg1.N) (ht : t.val % 4 = 3) (r k) : acc1 V c t.val (ix2 r k) = ∑ K, ac I r K * wd I K (col1 t k) := by
  rw [acc_upto h r k t.val (lt1 t), ht, pt1_val, sum_parts]

theorem dy1_eq (t : Fin cfg1.N) (ht : t.val % 4 = 3) (r k) : dy1 V c t (ix2 r k) = dY I r (col1 t k) := by
  rw [dy1, b6, acc_eq h t ht, sa_pt h, cy h, cg h]; rfl
theorem dys1_eq (t : Fin cfg1.N) (ht : t.val % 4 = 3) (r k) : dys1 V c t (ix2 r k) = dys I r (col1 t k) := by
  rw [dys1, b7, acc_eq h t ht, sa_pt h, cy h, cg h]; rfl

end

/-- A row's loss terms, by column number. -/
def lt0 (I : In) (r : Fin 256) (n : ℕ) : EReal := if hn : n < 2048 then g2 I r ⟨n, hn⟩ * E I r ⟨n, hn⟩ * E I r ⟨n, hn⟩ else 0

include h in
/-- One column block's share of the loss. -/
theorem lossStep (n : ℕ) (hn : n + 1 < 32) (ht : (n + 1) % 4 = 3) (r) :
    loss1 V c (n + 1) (ix2 r 0) = loss1 V c n (ix2 r 0) + (∑ k : Fin 256, lt0 I r ((n + 1) / 4 * 256 + k.val)) * cInvT := by
  have hp := pt1_eq (n + 1) hn
  have hl := loss1_last V c (pt1 (n + 1)) n hp (by rw [hp]; exact ht)
  rw [hp] at hl
  have key : ∀ k : Fin 256, lt0 I r ((n + 1) / 4 * 256 + k.val) = I.g r (col1 (pt1 (n + 1)) k) * I.g r (col1 (pt1 (n + 1)) k)
      * ((∑ K, ac I r K * wd I K (col1 (pt1 (n + 1)) k)) * sa I r - I.y r (col1 (pt1 (n + 1)) k))
      * ((∑ K, ac I r K * wd I K (col1 (pt1 (n + 1)) k)) * sa I r - I.y r (col1 (pt1 (n + 1)) k)) := by
    intro k
    have hc : (n + 1) / 4 * 256 + k.val < 2048 := by omega
    have ec : (⟨(n + 1) / 4 * 256 + k.val, hc⟩ : Fin 2048) = col1 (pt1 (n + 1)) k := by apply Fin.ext; simp only [col1, hp]
    rw [lt0, dif_pos hc, ec]
    rfl
  have ha : ∀ k, acc1 V c (n + 1) (ix2 r k) = ∑ K, ac I r K * wd I K (col1 (pt1 (n + 1)) k) := by
    intro k
    have ha := acc_eq h (pt1 (n + 1)) (by rw [hp]; exact ht) r k
    rw [hp] at ha
    exact ha
  rw [hl, b4]
  simp only [key, ha, sa_pt h, cy h, cg h]

include h in
theorem loss_upto (r : Fin 256) (n : ℕ) (hn : n < 32) : loss1 V c n (ix2 r 0) = (∑ q ∈ Finset.range ((n + 1) / 4), ∑ k : Fin 256, lt0 I r (q * 256 + k.val)) * cInvT := by
  induction n with
  | zero =>
    have e : loss1 V c 0 = k1_pay9 (F := Ideal) := by rw [loss1]
    rw [e, b9, show (0 + 1) / 4 = 0 from rfl, Finset.sum_range_zero, zero_mul]
  | succ n ih =>
    by_cases ht : (n + 1) % 4 = 3
    · rw [lossStep h n hn ht, ih (by omega), show (n + 1 + 1) / 4 = (n + 1) / 4 + 1 by omega, Finset.sum_range_succ, add_cInvT]
    · rw [loss1_kept V c n (n + 1) rfl ht, ih (by omega), show (n + 1 + 1) / 4 = (n + 1) / 4 by omega]

include h in
theorem loss_final (r : Fin 256) : loss1 V c 31 (ix2 r 0) = loss I r := by
  rw [loss_upto h r 31 (by omega), show (31 + 1) / 4 = 8 from rfl, loss]
  congr 1
  have e : ∀ n : Fin 2048, g2 I r n * E I r n * E I r n = lt0 I r n.val := fun n => by rw [lt0, dif_pos n.isLt]
  simp only [e]
  rw [Finset.sum_range]
  exact (Fin.sum_univ_tiles 8 256 rfl fun n : Fin 2048 => lt0 I r n.val).symm

end Cert.KernelIdeal.Val

end
-- ==== Proof.Value.KerArr1.lean ====
/- The arrays the down stage leaves. -/
module

public import proofs.«01_k».proof.Proof.Value.KerVal1

@[expose] public section

set_option maxRecDepth 16384

noncomputable section

namespace Cert.KernelIdeal.Val

open Cert.KernelIdeal Cert.KernelIdeal.Gen Cert.KernelIdeal.Own Cert.KernelIdeal.Read Cert.Spec
open Idealize.ShloMosaic Idealize.ShloMosaic.TcCoe Idealize.SL.Sem

variable {V : Entry Ideal} {c : Dev nD} {I : In} (h : Ent1 V c I)

theorem last1_11 : ∀ t : Fin cfg1.N, (cfg1.win 11).flush t = true → t.val % 4 = 3 := by decide +kernel
theorem last1_12 : ∀ t : Fin cfg1.N, (cfg1.win 12).flush t = true → t.val % 4 = 3 := by decide +kernel

include h

theorem Q8 : (dat1 V c).arrAt 8 cfg1.N = fun i => aq I (i 0) (i 1) := by
  refine (dat1 V c).arrAt_eq_of_covers 8 _ (by decide +kernel) fun t hf y => ?_
  blk_simp
  rw [after1_8]
  have key : ∀ i : S256x2048.Idx, aq1 V c t.val i = arr2 (aq I) ((win1_8.blk t).view.emb i) := by
    intro i
    obtain ⟨r, k, rfl⟩ : ∃ r k, i = ix2 r k := ⟨i 0, i 1, by idx_vars i⟩
    rw [aq1_eq h]
    generalize aq I = f
    show arr2 f (ix2 r (row3 t.val k)) = _
    generalize arr2 f = f'
    blk_ext [idx1_8 t]
  exact key y

theorem Q11 : (dat1 V c).arrAt 11 cfg1.N = fun i => dY I (i 0) (i 1) := by
  refine (dat1 V c).arrAt_eq_of_covers 11 _ (by decide +kernel) fun t hf y => ?_
  blk_simp
  rw [after1_11]
  have key : ∀ i : S256x256.Idx, dy1 V c t i = arr2 (dY I) ((win1_11.blk t).view.emb i) := by
    intro i
    obtain ⟨r, k, rfl⟩ : ∃ r k, i = ix2 r k := ⟨i 0, i 1, by idx_vars i⟩
    rw [dy1_eq h t (last1_11 t hf)]
    generalize dY I = f
    show arr2 f (ix2 r (col1 t k)) = _
    generalize arr2 f = f'
    blk_ext [idx1_11 t]
  exact key y

theorem Q12 : (dat1 V c).arrAt 12 cfg1.N = fun i => dys I (i 0) (i 1) := by
  refine (dat1 V c).arrAt_eq_of_covers 12 _ (by decide +kernel) fun t hf y => ?_
  blk_simp
  rw [after1_12]
  have key : ∀ i : S256x256.Idx, dys1 V c t i = arr2 (dys I) ((win1_12.blk t).view.emb i) := by
    intro i
    obtain ⟨r, k, rfl⟩ : ∃ r k, i = ix2 r k := ⟨i 0, i 1, by idx_vars i⟩
    rw [dys1_eq h t (last1_12 t hf)]
    generalize dys I = f
    show arr2 f (ix2 r (col1 t k)) = _
    generalize arr2 f = f'
    blk_ext [idx1_12 t]
  exact key y

theorem Q9 : (dat1 V c).arrAt 9 cfg1.N = fun i => sa I (i 0) := by
  refine (dat1 V c).arrAt_eq_of_after_last 9 (pt1 31) (by decide +kernel) _ fun j => ?_
  blk_simp
  rw [after1_9]
  have key : ∀ i : S256x1.Idx, sa1 V c i = sa I (i 0) := by
    intro i
    obtain ⟨r, k, rfl⟩ : ∃ r k, i = ix2 r k := ⟨i 0, i 1, by idx_vars i⟩
    obtain rfl : k = 0 := Subsingleton.elim _ _
    exact sa1_eq h r
  exact key j

theorem Q10 : (dat1 V c).arrAt 10 cfg1.N = fun i => loss I (i 0) := by
  refine (dat1 V c).arrAt_eq_of_after_last 10 (pt1 31) (by decide +kernel) _ fun j => ?_
  blk_simp
  rw [after1_10]
  have key : ∀ i : S256x1.Idx, loss1 V c (pt1 31).val i = loss I (i 0) := by
    intro i
    obtain ⟨r, k, rfl⟩ : ∃ r k, i = ix2 r k := ⟨i 0, i 1, by idx_vars i⟩
    obtain rfl : k = 0 := Subsingleton.elim _ _
    exact loss_final h r
  exact key j

end Cert.KernelIdeal.Val

end
-- ==== Proof.Value.Grad.lean ====
/- The gradient of a rounding variable, written through the half-angle tangent and an integer test. -/
module

public import proofs.«01_k».proof.Proof.Value.Scalars

@[expose] public section

noncomputable section

namespace Cert.Spec

open Idealize.ShloMosaic

/-- The tangent of half a rounding variable. -/
abbrev th (v : EReal) : EReal := Ideal.tanh (Ideal.ofBits FTy.f32 0x3F000000#32 * v)

/-- The square of a real hyperbolic tangent, through the exponential form of the sigmoid. -/
theorem tanh_eq (r : ℝ) : Real.tanh (1 / 2 * r) = 2 * (1 + Real.exp (-r))⁻¹ - 1 := by
  rw [logistic_tanh]; ring

theorem sig_pos (r : ℝ) : 0 < (1 + Real.exp (-r))⁻¹ := by positivity

theorem si0 : FloatOps.sitofp (F := Ideal) FTy.f32 (0#32) = 0 := by
  show ((((0#32).toInt : ℤ) : ℝ) : EReal) = 0
  simp
theorem si1 : FloatOps.sitofp (F := Ideal) FTy.f32 (1#32) = 1 := by
  show ((((1#32).toInt : ℤ) : ℝ) : EReal) = 1
  simp

/-- The mask at a real variable is the integer test. -/
theorem mask_real (fl : BitVec 8) (r : ℝ) :
    mask fl (r : EReal) = if (0 < (1 + Real.exp (-r))⁻¹ * (6 / 5) + -1 / 10 ∧ (1 + Real.exp (-r))⁻¹ * (6 / 5) + -1 / 10 < 1 ∧ -8 ≤ fl.toInt ∧ fl.toInt ≤ 6) then 1 else 0 := by
  have hh : hr (r : EReal) = (((1 + Real.exp (-r))⁻¹ * (6 / 5) + -1 / 10 : ℝ) : EReal) := by
    rw [hr, Ideal.logistic_coe, ← EReal.coe_mul, ← EReal.coe_add]
  have hp : pre fl (r : EReal) = (((fl.toInt : ℝ) + min 1 (max 0 ((1 + Real.exp (-r))⁻¹ * (6 / 5) + -1 / 10)) : ℝ) : EReal) := by
    rw [pre, hh]; rfl
  generalize (1 + Real.exp (-r))⁻¹ * (6 / 5) + -1 / 10 = h at hh hp ⊢
  rw [mask, hh, hp, cm8_val, c7_val]
  simp only [EReal.coe_le_coe_iff, EReal.coe_pos, show ((h : EReal) < 1) = ((h : EReal) < ((1 : ℝ) : EReal)) from rfl, EReal.coe_lt_coe_iff]
  by_cases h0 : 0 < h
  · by_cases h1 : h < 1
    · have e : min 1 (max 0 h) = h := by rw [max_eq_right h0.le, min_eq_right h1.le]
      rw [e]
      have l : ((-8 : ℝ) ≤ (fl.toInt : ℝ) + h) ↔ -8 ≤ fl.toInt := by
        constructor
        · intro hx
          have : ((-9 : ℤ) : ℝ) < (fl.toInt : ℝ) := by push_cast; linarith
          have := Int.cast_lt.mp this
          omega
        · intro hx
          have : ((-8 : ℤ) : ℝ) ≤ (fl.toInt : ℝ) := Int.cast_le.mpr hx
          push_cast at this; linarith
      have u : ((fl.toInt : ℝ) + h ≤ 7) ↔ fl.toInt ≤ 6 := by
        constructor
        · intro hx
          have : (fl.toInt : ℝ) < ((7 : ℤ) : ℝ) := by push_cast; linarith
          have := Int.cast_lt.mp this
          omega
        · intro hx
          have : (fl.toInt : ℝ) ≤ ((6 : ℤ) : ℝ) := Int.cast_le.mpr hx
          push_cast at this; linarith
      simp only [l, u, h0, h1, true_and]
      by_cases hl : -8 ≤ fl.toInt <;> by_cases hu : fl.toInt ≤ 6 <;> simp [hl, hu, IntOp.andi, si0, si1]
    · simp [h0, h1, IntOp.andi, si0, si1]
  · simp [h0, IntOp.andi, si0, si1]

/-- The mask is zero where the stretched sigmoid is outside the open unit interval. -/
theorem mask_out (fl : BitVec 8) (v : EReal) (h : ¬ (0 < hr v ∧ hr v < 1)) : mask fl v = 0 := by
  rw [mask]
  by_cases h0 : 0 < hr v
  · have h1 : ¬ hr v < 1 := fun x => h ⟨h0, x⟩
    simp [h1, IntOp.andi, si0, si1]
  · simp [h0, IntOp.andi, si0, si1]

/-- Where the gradient passes, by the half-angle tangent and the code. -/
abbrev okv (fl : BitVec 8) (v : EReal) : Prop := th v * th v < ((25 / 36 : ℝ) : EReal) ∧ -8 ≤ fl.toInt ∧ fl.toInt ≤ 6

/-- The test as the programs compute it. -/
theorem sel_ok (fl : BitVec 8) (v X : EReal) :
    Scalar.select (IntOp.andi (IntOp.andi (BitVec.ofBool (decide (th v * th v < ((25 / 36 : ℝ) : EReal))))
      (IntOp.cmpi CmpIPredicate.sge (BitVec.signExtend 32 fl) 4294967288#32)) (IntOp.cmpi CmpIPredicate.sle (BitVec.signExtend 32 fl) 6#32))
      X 0 = if okv fl v then X else 0 := by
  have hl : IntOp.cmpi CmpIPredicate.sge (BitVec.signExtend 32 fl) 4294967288#32 = BitVec.ofBool (decide (-8 ≤ fl.toInt)) := by
    revert fl; decide
  have hu : IntOp.cmpi CmpIPredicate.sle (BitVec.signExtend 32 fl) 6#32 = BitVec.ofBool (decide (fl.toInt ≤ 6)) := by
    revert fl; decide
  rw [hl, hu]
  unfold okv
  by_cases h0 : th v * th v < ((25 / 36 : ℝ) : EReal) <;> by_cases h1 : -8 ≤ fl.toInt <;> by_cases h2 : fl.toInt ≤ 6 <;>
    simp [h0, h1, h2, IntOp.andi, Scalar.select]

/-- The gradient of a rounding variable by the half-angle tangent. -/
theorem dv_half (q : EReal) (fl : BitVec 8) (s v : EReal) :
    (if okv fl v then q * ((1 - th v * th v) * (s * ((3 / 10 : ℝ) : EReal))) else 0) = dvf q fl s v := by
  have hz : mask fl v = 0 → dvf q fl s v = 0 := fun h => by rw [dvf, h]; simp
  unfold okv th
  rw [half_val]
  induction v with
  | bot =>
    rw [EReal.coe_mul_bot_of_pos (by norm_num), Ideal.tanh_bot, hz]
    · rw [if_neg]
      rintro ⟨h, -⟩
      have e : (-1 : EReal) * (-1) = ((1 : ℝ) : EReal) := by norm_num
      rw [e, EReal.coe_lt_coe_iff] at h; norm_num at h
    · refine mask_out _ _ fun h => ?_
      have e : hr ⊥ = ((-1 / 10 : ℝ) : EReal) := by rw [hr, Ideal.logistic_bot, zero_mul, zero_add]
      rw [e, EReal.coe_pos] at h; norm_num at h
  | top =>
    rw [EReal.coe_mul_top_of_pos (by norm_num), Ideal.tanh_top, hz]
    · rw [if_neg]
      rintro ⟨h, -⟩
      have e : (1 : EReal) * 1 = ((1 : ℝ) : EReal) := by norm_num
      rw [e, EReal.coe_lt_coe_iff] at h; norm_num at h
    · refine mask_out _ _ fun h => ?_
      have e : hr ⊤ = ((11 / 10 : ℝ) : EReal) := by rw [hr, Ideal.logistic_top, one_mul, ← EReal.coe_add]; norm_num
      have h' := h.2
      rw [e, show (1 : EReal) = ((1 : ℝ) : EReal) from rfl, EReal.coe_lt_coe_iff] at h'; norm_num at h'
  | coe r =>
    rw [dvf, mask_real, ← EReal.coe_mul, Ideal.tanh_coe, Ideal.logistic_coe, tanh_eq]
    simp only [← EReal.coe_mul, EReal.coe_lt_coe_iff]
    generalize (1 + Real.exp (-r))⁻¹ = σ
    have e : ((2 * σ - 1) * (2 * σ - 1) < 25 / 36 ∧ -8 ≤ fl.toInt ∧ fl.toInt ≤ 6) ↔
        (0 < σ * (6 / 5) + -1 / 10 ∧ σ * (6 / 5) + -1 / 10 < 1 ∧ -8 ≤ fl.toInt ∧ fl.toInt ≤ 6) := by
      constructor
      · rintro ⟨h, h'⟩
        have hx : |2 * σ - 1| < 5 / 6 := by
          rw [← sq_lt_sq₀ (abs_nonneg _) (by norm_num), sq_abs]; nlinarith
        rw [abs_lt] at hx
        exact ⟨by linarith, by linarith, h'⟩
      · rintro ⟨h1, h2, h'⟩
        exact ⟨by nlinarith, h'⟩
    by_cases hc : (0 < σ * (6 / 5) + -1 / 10 ∧ σ * (6 / 5) + -1 / 10 < 1 ∧ -8 ≤ fl.toInt ∧ fl.toInt ≤ 6)
    · rw [if_pos hc, if_pos (e.mpr hc), mul_left_comm (1 - (((2 * σ - 1) * (2 * σ - 1) : ℝ) : EReal)), ← mul_assoc]
      rw [mul_one, mul_assoc (q * s), mul_assoc (q * s)]
      congr 1
      rw [show ((1 : EReal)) = ((1 : ℝ) : EReal) from rfl]
      simp only [← EReal.coe_mul, ← EReal.coe_sub]
      congr 1; ring
    · rw [if_neg hc, if_neg (fun h => hc (e.mp h))]; simp

end Cert.Spec

end
-- ==== Proof.Value.KerRead2.lean ====
/- The backward stage's payloads, read entry by entry. -/
module

public import proofs.«01_k».proof.Proof.Gen.KernelIdeal.Skeleton
public import proofs.«01_k».proof.Proof.Value.Grad

@[expose] public section

set_option maxRecDepth 16384

noncomputable section

namespace Cert.KernelIdeal.Read

open Cert.KernelIdeal Cert.KernelIdeal.Gen Cert.Spec
open Idealize.ShloMosaic Idealize.ShloMosaic.TcCoe Idealize.SL.Sem

theorem named_c35 : Named.named (F := Ideal) κ "c3_5" (φ := .f32) 1058642330#32 = ((3 / 5 : ℝ) : EReal) :=
  IdealRules.named_const.ideal_named_scalar _ _ _ _ rfl
theorem named_c3_10 : Named.named (F := Ideal) κ "c3_10" (φ := .f32) 0x3E99999A#32 = ((3 / 10 : ℝ) : EReal) :=
  IdealRules.named_const.ideal_named_scalar _ _ _ _ rfl
theorem named_c25_36 : Named.named (F := Ideal) κ "c25_36" (φ := .f32) 0x3F31C71C#32 = ((25 / 36 : ℝ) : EReal) :=
  IdealRules.named_const.ideal_named_scalar _ _ _ _ rfl

/-- The group of a row of a 256-row block. -/
abbrev g4 (d : Fin 256) : Fin 4 := ⟨d.val / 64, by omega⟩

theorem e1 (v : Vec Ideal S256x2048 .i8) (r c) : k2_pay1 (F := Ideal) v (ix2 r c) = ival (v (ix2 c r)) := by
  pointwise [k2_pay1]; rfl
theorem e2 (v : Vec Ideal S256x2048 .f32) (r c) : k2_pay2 v (ix2 r c) = th (v (ix2 r c)) := by pointwise [k2_pay2]
theorem e3 (v3 : Vec Ideal S256x2048 .f32) (v7 : Vec Ideal S256x2048 .bf16) (v9 : Vec Ideal S256x2048 .i8) (v10 : Vec Ideal S1x4x2048 .f32) (r c) :
    k2_pay3 v3 v7 v9 v10 (ix2 r c) = ∑ n : Fin 2048, v7 (ix2 r n) * wt (v9 (ix2 c n)) (v10 (ix3 0 (g4 c) n)) (v3 (ix2 c n)) := by
  unfold k2_pay3; have h := e2 v3; revert h; generalize k2_pay2 v3 = z; intro h
  pointwise []; simp only [h, named_c35, th, hr_half, wt, pre]
theorem e4 (v3 : Vec Ideal S256x2048 .f32) (v36 : Vec Ideal S256x256 .i8) (v39 : Vec Ideal S256x2048 .bf16) (v42 : Vec Ideal S256x2048 .i8) (v43 : Vec Ideal S1x4x2048 .f32) (r c) :
    k2_pay4 (k2_pay2 v3) v36 v39 v42 v43 (ix2 r c) = dvf (∑ t : Fin 256, ival (v36 (ix2 t r)) * v39 (ix2 t c)) (v42 (ix2 r c)) (v43 (ix3 0 (g4 r) c)) (v3 (ix2 r c)) := by
  have h := e2 v3; revert h; generalize k2_pay2 v3 = z; intro h
  pointwise [k2_pay4]; simp only [h, named_c25_36, named_c3_10, ival_bf]
  rw [sel_ok, dv_half]
theorem e5 (v : Vec Ideal S256x1 .f32) (r) : k2_pay5 v (ix2 r 0) = v (ix2 r 0) := by pointwise [k2_pay5]
theorem e6 (v : Vec Ideal S256x256 .f32) (r c) : k2_pay6 v (ix2 r c) = v (ix2 r c) := by pointwise [k2_pay6]
theorem e7 (v : Vec Ideal S256x256 .f32) (r c) : k2_pay7 v (ix2 r c) = Ideal.logistic (v (ix2 r c)) := by
  unfold k2_pay7; have h := e6 v r c; revert h; generalize k2_pay6 v = z; intro h
  pointwise []; simp only [h]
theorem e8 (v35 v71 v72 : FVec Ideal S256x256 .f32) (r c) : k2_pay8 v35 v71 v72 (ix2 r c) = v35 (ix2 r c) * (v71 (ix2 r c) * v72 (ix2 r c)) := by pointwise [k2_pay8]
theorem e9 (v : Vec Ideal S2048x256 .f32) (r c) : k2_pay9 v (ix2 r c) = th (v (ix2 r c)) * th (v (ix2 r c)) := by pointwise [k2_pay9]
theorem e12 (v35 v71 v72 : FVec Ideal S256x256 .f32) (v69 : FVec Ideal S256x1 .f32) (v73 : Vec Ideal S256x256 .f32) (v85 : Vec Ideal S2048x256 .bf16)
    (v90 : Vec Ideal S2048x256 .f32) (v95 : Vec Ideal S32x256 .f32) (v94 : Vec Ideal S2048x256 .i8) (r c) :
    k2_pay12 (k2_pay10 v90 v94) (k2_pay11 v35 v69 v71 v72 v73 v85 v90 v95) (Scalar.ofBits (F := Ideal) .f32 0x00000000#32) (ix2 r c) =
      dvf (∑ t : Fin 256, v85 (ix2 r t) * (v35 (ix2 t c) * v73 (ix2 t c) * v72 (ix2 t c) * (1 + v71 (ix2 t c) * (1 - v72 (ix2 t c))) * v69 (ix2 t 0)))
        (v94 (ix2 r c)) (v95 (ix2 (gp r) c)) (v90 (ix2 r c)) := by
  unfold k2_pay11 k2_pay10; have h := e9 v90; revert h; generalize k2_pay9 v90 = z; intro h
  pointwise [k2_pay12]; simp only [h, named_c25_36, named_c3_10]
  rw [sel_ok, dv_half]
theorem e13 (v84 : FVec Ideal S256x256 .f32) (v69 : FVec Ideal S256x1 .f32) (v119 : Vec Ideal S2048x256 .bf16)
    (v124 : Vec Ideal S2048x256 .f32) (v129 : Vec Ideal S32x256 .f32) (v128 : Vec Ideal S2048x256 .i8) (r c) :
    k2_pay13 v69 v84 v119 v124 v128 v129 (ix2 r c) =
      dvf (∑ t : Fin 256, v119 (ix2 r t) * (v84 (ix2 t c) * v69 (ix2 t 0))) (v128 (ix2 r c)) (v129 (ix2 (gp r) c)) (v124 (ix2 r c)) := by
  pointwise [k2_pay13]; simp only [named_c25_36, named_c3_10]
  rw [sel_ok, dv_half]

end Cert.KernelIdeal.Read

end
-- ==== Proof.Value.KerBlk2.lean ====
/- The backward stage's input blocks, read off the arrays it finds. -/
module

public import proofs.«01_k».proof.Proof.Value.Spec
public import proofs.«01_k».proof.Proof.KernelIdeal.Region2
public import Idealize.ShloMosaic.Lib.Pipeline.ValueKit

@[expose] public section

set_option maxRecDepth 16384

noncomputable section

namespace Cert.KernelIdeal.Val

open Cert.KernelIdeal Cert.KernelIdeal.Gen Cert.KernelIdeal.Own Cert.Spec
open Idealize.ShloMosaic Idealize.ShloMosaic.TcCoe Idealize.SL.Sem

/-- A column of the hidden dimension, from a column of block `t`. -/
abbrev col2 (t : Fin cfg2.N) (k : Fin 256) : Fin 8192 := ⟨t.val * 256 + k.val, by have h := t.isLt; have e : cfg2.N = 32 := N_2; omega⟩
/-- A group of the hidden dimension, from a group of block `t`. -/
abbrev grp2 (t : Fin cfg2.N) (g : Fin 4) : Fin 128 := ⟨t.val * 4 + g.val, by have h := t.isLt; have e : cfg2.N = 32 := N_2; omega⟩

variable (V : Entry Ideal) (c : Dev nD) (I : In)

/-- The stage's input arrays as it finds them. -/
structure Ent2 : Prop where
  xq : ∀ a b, V c main_v1_2 (ix2 a b) = xq I a b
  sx : ∀ a, V c main_v1_3 (ix2 a 0) = sx I a
  gg : ∀ a b, V c main_v1_0 (ix2 a b) = G I a b
  uu : ∀ a b, V c main_v1_1 (ix2 a b) = U I a b
  aq : ∀ a b, V c main_v4_0 (ix2 a b) = aq I a b
  dy : ∀ a b, V c main_v4_3 (ix2 a b) = dY I a b
  dys : ∀ a b, V c main_v4_4 (ix2 a b) = dys I a b
  fg : ∀ a b, V c main_arg3 (ix2 a b) = I.fg a b
  sg : ∀ a b, V c main_arg4 (ix2 a b) = I.sg a b
  vg : ∀ a b, V c main_arg5 (ix2 a b) = I.vg a b
  fu : ∀ a b, V c main_arg6 (ix2 a b) = I.fu a b
  su : ∀ a b, V c main_arg7 (ix2 a b) = I.su a b
  vu : ∀ a b, V c main_arg8 (ix2 a b) = I.vu a b
  fd : ∀ a b, V c main_arg9 (ix2 a b) = I.fd a b
  sd : ∀ (a : Fin 32) (b : Fin 4) (n : Fin 2048), V c main_v5 (ix3 a b n) = I.sd ⟨a.val * 4 + b.val, by omega⟩ n
  vd : ∀ a b, V c main_arg11 (ix2 a b) = I.vd a b

theorem idx2_0 : ∀ t : Fin cfg2.N, win2_0.index t = ![0, 0] := (by decide +kernel : ∀ t : Fin grid2.N, _)
theorem idx2_1 : ∀ t : Fin cfg2.N, win2_1.index t = ![0, 0] := (by decide +kernel : ∀ t : Fin grid2.N, _)
theorem idx2_2 : ∀ t : Fin cfg2.N, win2_2.index t = ![0, t.val] := (by decide +kernel : ∀ t : Fin grid2.N, _)
theorem idx2_3 : ∀ t : Fin cfg2.N, win2_3.index t = ![0, t.val] := (by decide +kernel : ∀ t : Fin grid2.N, _)
theorem idx2_4 : ∀ t : Fin cfg2.N, win2_4.index t = ![0, t.val] := (by decide +kernel : ∀ t : Fin grid2.N, _)
theorem idx2_5 : ∀ t : Fin cfg2.N, win2_5.index t = ![0, 0] := (by decide +kernel : ∀ t : Fin grid2.N, _)
theorem idx2_6 : ∀ t : Fin cfg2.N, win2_6.index t = ![0, 0] := (by decide +kernel : ∀ t : Fin grid2.N, _)
theorem idx2_7 : ∀ t : Fin cfg2.N, win2_7.index t = ![0, t.val] := (by decide +kernel : ∀ t : Fin grid2.N, _)
theorem idx2_8 : ∀ t : Fin cfg2.N, win2_8.index t = ![0, t.val] := (by decide +kernel : ∀ t : Fin grid2.N, _)
theorem idx2_9 : ∀ t : Fin cfg2.N, win2_9.index t = ![0, t.val] := (by decide +kernel : ∀ t : Fin grid2.N, _)
theorem idx2_10 : ∀ t : Fin cfg2.N, win2_10.index t = ![0, t.val] := (by decide +kernel : ∀ t : Fin grid2.N, _)
theorem idx2_11 : ∀ t : Fin cfg2.N, win2_11.index t = ![0, t.val] := (by decide +kernel : ∀ t : Fin grid2.N, _)
theorem idx2_12 : ∀ t : Fin cfg2.N, win2_12.index t = ![0, t.val] := (by decide +kernel : ∀ t : Fin grid2.N, _)
theorem idx2_13 : ∀ t : Fin cfg2.N, win2_13.index t = ![t.val, 0] := (by decide +kernel : ∀ t : Fin grid2.N, _)
theorem idx2_14 : ∀ t : Fin cfg2.N, win2_14.index t = ![t.val, 0, 0] := (by decide +kernel : ∀ t : Fin grid2.N, _)
theorem idx2_15 : ∀ t : Fin cfg2.N, win2_15.index t = ![t.val, 0] := (by decide +kernel : ∀ t : Fin grid2.N, _)
theorem idx2_16 : ∀ t : Fin cfg2.N, win2_16.index t = ![0, t.val] := (by decide +kernel : ∀ t : Fin grid2.N, _)
theorem idx2_17 : ∀ t : Fin cfg2.N, win2_17.index t = ![0, t.val] := (by decide +kernel : ∀ t : Fin grid2.N, _)
theorem idx2_18 : ∀ t : Fin cfg2.N, win2_18.index t = ![t.val, 0] := (by decide +kernel : ∀ t : Fin grid2.N, _)

variable {V c I} (h : Ent2 V c I)
include h

theorem dxq (t r d) : blk2 V c 0 t (ix2 r d) = xq I r d := by
  have e : blk2 V c 0 t = V c main_v1_2 := by blk_ext! [blk2, idx2_0 t]
  rw [e, h.xq]
theorem ddy (t r d) : blk2 V c 5 t (ix2 r d) = dY I r d := by
  have e : blk2 V c 5 t = V c main_v4_3 := by blk_ext! [blk2, idx2_5 t]
  rw [e, h.dy]
theorem ddys (t r d) : blk2 V c 6 t (ix2 r d) = dys I r d := by
  have e : blk2 V c 6 t = V c main_v4_4 := by blk_ext! [blk2, idx2_6 t]
  rw [e, h.dys]
theorem dsx (t r) : blk2 V c 1 t (ix2 r 0) = sx I r := by
  have e : blk2 V c 1 t = V c main_v1_3 := by blk_ext! [blk2, idx2_1 t]
  rw [e, h.sx]
theorem dgg_blk (t r d) : blk2 V c 2 t (ix2 r d) = G I r (col2 t d) := by
  rw [← h.gg]
  blk_ext [blk2, idx2_2 t]
theorem duu_blk (t r d) : blk2 V c 3 t (ix2 r d) = U I r (col2 t d) := by
  rw [← h.uu]
  blk_ext [blk2, idx2_3 t]
theorem daq_blk (t r d) : blk2 V c 4 t (ix2 r d) = aq I r (col2 t d) := by
  rw [← h.aq]
  blk_ext [blk2, idx2_4 t]
theorem dfg_blk (t r d) : blk2 V c 7 t (ix2 r d) = I.fg r (col2 t d) := by
  rw [← h.fg]
  blk_ext [blk2, idx2_7 t]
theorem dsg_blk (t r d) : blk2 V c 8 t (ix2 r d) = I.sg r (col2 t d) := by
  rw [← h.sg]
  blk_ext [blk2, idx2_8 t]
theorem dvg_blk (t r d) : blk2 V c 9 t (ix2 r d) = I.vg r (col2 t d) := by
  rw [← h.vg]
  blk_ext [blk2, idx2_9 t]
theorem dfu_blk (t r d) : blk2 V c 10 t (ix2 r d) = I.fu r (col2 t d) := by
  rw [← h.fu]
  blk_ext [blk2, idx2_10 t]
theorem dsu_blk (t r d) : blk2 V c 11 t (ix2 r d) = I.su r (col2 t d) := by
  rw [← h.su]
  blk_ext [blk2, idx2_11 t]
theorem dvu_blk (t r d) : blk2 V c 12 t (ix2 r d) = I.vu r (col2 t d) := by
  rw [← h.vu]
  blk_ext [blk2, idx2_12 t]
theorem dfd_blk (t r d) : blk2 V c 13 t (ix2 r d) = I.fd (col2 t r) d := by
  rw [← h.fd]
  blk_ext [blk2, idx2_13 t]
theorem dvd_blk (t r d) : blk2 V c 15 t (ix2 r d) = I.vd (col2 t r) d := by
  rw [← h.vd]
  blk_ext [blk2, idx2_15 t]
theorem dsd_blk (t) (b : Fin 4) (n : Fin 2048) : blk2 V c 14 t (ix3 0 b n) = I.sd (grp2 t b) n := by
  have hN : t.val < 32 := lt_of_lt_of_eq t.isLt (show cfg2.N = 32 from N_2)
  have e : blk2 V c 14 t (ix3 0 b n) = V c main_v5 (ix3 ⟨t.val, hN⟩ b n) := by blk_ext [blk2, idx2_14 t]
  rw [e, h.sd]

end Cert.KernelIdeal.Val

end
-- ==== Proof.Value.KerVal2.lean ====
/- The backward stage's gradient blocks. -/
module

public import proofs.«01_k».proof.Proof.Value.KerRead2
public import proofs.«01_k».proof.Proof.Value.KerBlk0
public import proofs.«01_k».proof.Proof.Value.KerBlk2

@[expose] public section

set_option maxRecDepth 16384

noncomputable section

namespace Cert.KernelIdeal.Val

open Cert.KernelIdeal Cert.KernelIdeal.Gen Cert.KernelIdeal.Own Cert.KernelIdeal.Read Cert.Spec
open Idealize.ShloMosaic Idealize.ShloMosaic.TcCoe Idealize.SL.Sem

variable {V : Entry Ideal} {c : Dev nD} {I : In} (h : Ent2 V c I)
include h

theorem ival_xq (r d) : ival (xq I r d) = xc I r d := by rw [xq, xc, code_trip]
theorem ival_aq (r d) : ival (aq I r d) = ac I r d := by rw [aq, ac, code_trip]
theorem xbt2_eq (d r) : xbt2 V c (ix2 d r) = xc I r d := by rw [xbt2, e1, dxq h, ival_xq h]

/-- The gradient of the activations. -/
theorem dA_eq (t r k) : k2_pay3 (blk2 V c 15 t) (blk2 V c 5 t) (blk2 V c 13 t) (blk2 V c 14 t) (ix2 r k) = dA I r (col2 t k) := by
  have key : ∀ n : Fin 2048, wt (I.fd (col2 t k) n) (I.sd (grp2 t (g4 k)) n) (I.vd (col2 t k) n) = wd I (col2 t k) n := by
    intro n
    have e : grp2 t (g4 k) = gq (col2 t k) := by apply Fin.ext; simp only [grp2, g4, gq]; omega
    rw [wd, e]
  rw [e3]
  simp only [ddy h, dfd_blk h, dsd_blk h, dvd_blk h, key]
  rw [dA]

theorem dvd2_eq (t r k) : dvd2 V c t (ix2 r k) = dvd I (col2 t r) k := by
  have e : grp2 t (g4 r) = gq (col2 t r) := by apply Fin.ext; simp only [grp2, g4, gq]; omega
  rw [dvd2, e4]
  simp only [daq_blk h, ddys h, dfd_blk h, dsd_blk h, dvd_blk h, ival_aq h, e]
  rw [dvd]

theorem dvg2_eq (t r k) : dvg2 V c t (ix2 r k) = dvg I r (col2 t k) := by
  have key : ∀ q : Fin 256, dGs I q (col2 t k) = dA I q (col2 t k) * U I q (col2 t k) * Ideal.logistic (G I q (col2 t k)) * (1 + G I q (col2 t k) * (1 - Ideal.logistic (G I q (col2 t k)))) * sx I q := fun q => by rw [dGs]
  rw [dvg2, e12]
  simp only [e5, e6, e7, xbt2_eq h, dA_eq h, duu_blk h, dgg_blk h, dsx h, dfg_blk h, dsg_blk h, dvg_blk h]
  simp only [← key]
  rw [dvg]

theorem dvu2_eq (t r k) : dvu2 V c t (ix2 r k) = dvu I r (col2 t k) := by
  have key : ∀ q : Fin 256, dUs I q (col2 t k) = dA I q (col2 t k) * (G I q (col2 t k) * Ideal.logistic (G I q (col2 t k))) * sx I q := fun q => by rw [dUs]
  rw [dvu2, e13]
  simp only [e5, e6, e7, e8, xbt2_eq h, dA_eq h, dgg_blk h, dsx h, dfu_blk h, dsu_blk h, dvu_blk h]
  simp only [← key]
  rw [dvu]

end Cert.KernelIdeal.Val

end
-- ==== Proof.Value.KerArr2.lean ====
/- The arrays the backward stage leaves. -/
module

public import proofs.«01_k».proof.Proof.Value.KerVal2

@[expose] public section

set_option maxRecDepth 16384

noncomputable section

namespace Cert.KernelIdeal.Val

open Cert.KernelIdeal Cert.KernelIdeal.Gen Cert.KernelIdeal.Own Cert.KernelIdeal.Read Cert.Spec
open Idealize.ShloMosaic Idealize.ShloMosaic.TcCoe Idealize.SL.Sem

variable {V : Entry Ideal} {c : Dev nD} {I : In} (h : Ent2 V c I)
include h

theorem T16 : (dat2 V c).arrAt 16 cfg2.N = fun i => dvg I (i 0) (i 1) := by
  refine (dat2 V c).arrAt_eq_of_covers 16 _ (by decide +kernel) fun t hf y => ?_
  blk_simp
  rw [after2_16]
  have key : ∀ i : S2048x256.Idx, dvg2 V c t i = arr2 (dvg I) ((win2_16.blk t).view.emb i) := by
    intro i
    obtain ⟨r, k, rfl⟩ : ∃ r k, i = ix2 r k := ⟨i 0, i 1, by idx_vars i⟩
    rw [dvg2_eq h]
    generalize dvg I = f
    show arr2 f (ix2 r (col2 t k)) = _
    generalize arr2 f = f'
    blk_ext [idx2_16 t]
  exact key y

theorem T17 : (dat2 V c).arrAt 17 cfg2.N = fun i => dvu I (i 0) (i 1) := by
  refine (dat2 V c).arrAt_eq_of_covers 17 _ (by decide +kernel) fun t hf y => ?_
  blk_simp
  rw [after2_17]
  have key : ∀ i : S2048x256.Idx, dvu2 V c t i = arr2 (dvu I) ((win2_17.blk t).view.emb i) := by
    intro i
    obtain ⟨r, k, rfl⟩ : ∃ r k, i = ix2 r k := ⟨i 0, i 1, by idx_vars i⟩
    rw [dvu2_eq h]
    generalize dvu I = f
    show arr2 f (ix2 r (col2 t k)) = _
    generalize arr2 f = f'
    blk_ext [idx2_17 t]
  exact key y

theorem T18 : (dat2 V c).arrAt 18 cfg2.N = fun i => dvd I (i 0) (i 1) := by
  refine (dat2 V c).arrAt_eq_of_covers 18 _ (by decide +kernel) fun t hf y => ?_
  blk_simp
  rw [after2_18]
  have key : ∀ i : S256x2048.Idx, dvd2 V c t i = arr2 (dvd I) ((win2_18.blk t).view.emb i) := by
    intro i
    obtain ⟨r, k, rfl⟩ : ∃ r k, i = ix2 r k := ⟨i 0, i 1, by idx_vars i⟩
    rw [dvd2_eq h]
    generalize dvd I = f
    show arr2 f (ix2 (col2 t r) k) = _
    generalize arr2 f = f'
    blk_ext [idx2_18 t]
  exact key y

end Cert.KernelIdeal.Val

end
-- ==== Proof.Value.KerChain.lean ====
/- What each stage finds in its input arrays, from the arguments through the stages before it. -/
module

public import proofs.«01_k».proof.Proof.KernelIdeal.Frame
public import proofs.«01_k».proof.Proof.Value.KerArr0
public import proofs.«01_k».proof.Proof.Value.KerArr1
public import proofs.«01_k».proof.Proof.Value.KerArr2

@[expose] public section

set_option maxRecDepth 16384

noncomputable section

namespace Cert.KernelIdeal.Val

open Cert.KernelIdeal Cert.KernelIdeal.Gen Cert.KernelIdeal.Own Cert.Spec
open Idealize.ShloMosaic Idealize.ShloMosaic.TcCoe Idealize.SL.Sem
open Idealize.ShloMosaic.Pipeline (afterRegion)

variable (m : (ℓ : Loc nD τ sig) → Buf (Elt Ideal) ℓ) (c : Dev nD)

/-- The arguments a device holds. -/
def inp : In where
  x a b := m ((c.tc : Thread nD τ).loc main_arg0) (ix3 0 a b)
  y a b := m ((c.tc : Thread nD τ).loc main_arg1) (ix3 0 a b)
  g a b := m ((c.tc : Thread nD τ).loc main_arg2) (ix3 0 a b)
  fg a b := m ((c.tc : Thread nD τ).loc main_arg3) (ix2 a b)
  sg a b := m ((c.tc : Thread nD τ).loc main_arg4) (ix2 a b)
  vg a b := m ((c.tc : Thread nD τ).loc main_arg5) (ix2 a b)
  fu a b := m ((c.tc : Thread nD τ).loc main_arg6) (ix2 a b)
  su a b := m ((c.tc : Thread nD τ).loc main_arg7) (ix2 a b)
  vu a b := m ((c.tc : Thread nD τ).loc main_arg8) (ix2 a b)
  fd a b := m ((c.tc : Thread nD τ).loc main_arg9) (ix2 a b)
  sd a b := m ((c.tc : Thread nD τ).loc main_arg10) (ix2 a b)
  vd a b := m ((c.tc : Thread nD τ).loc main_arg11) (ix2 a b)

/-! ## The arguments at each stage -/

theorem a0_1 : W1 m c (Proc.devRef .tc main_arg0) = m ((c : Thread nD τ).loc main_arg0) := W1_of m c main_arg0 (by decide)
theorem a0_2 : W2 m c (Proc.devRef .tc main_arg0) = m ((c : Thread nD τ).loc main_arg0) := (W2_of m c main_arg0 (by decide)).trans (a0_1 m c)
theorem a0_3 : W3 m c (Proc.devRef .tc main_arg0) = m ((c : Thread nD τ).loc main_arg0) := (W3_of m c main_arg0 (by decide)).trans (a0_2 m c)
theorem a0_4 : W4 m c (Proc.devRef .tc main_arg0) = m ((c : Thread nD τ).loc main_arg0) := (W4_of m c main_arg0 (by decide)).trans (a0_3 m c)
theorem a0_5 : W5 m c (Proc.devRef .tc main_arg0) = m ((c : Thread nD τ).loc main_arg0) := (W5_of m c main_arg0 (by decide)).trans (a0_4 m c)
theorem a1_1 : W1 m c (Proc.devRef .tc main_arg1) = m ((c : Thread nD τ).loc main_arg1) := W1_of m c main_arg1 (by decide)
theorem a1_2 : W2 m c (Proc.devRef .tc main_arg1) = m ((c : Thread nD τ).loc main_arg1) := (W2_of m c main_arg1 (by decide)).trans (a1_1 m c)
theorem a1_3 : W3 m c (Proc.devRef .tc main_arg1) = m ((c : Thread nD τ).loc main_arg1) := (W3_of m c main_arg1 (by decide)).trans (a1_2 m c)
theorem a1_4 : W4 m c (Proc.devRef .tc main_arg1) = m ((c : Thread nD τ).loc main_arg1) := (W4_of m c main_arg1 (by decide)).trans (a1_3 m c)
theorem a1_5 : W5 m c (Proc.devRef .tc main_arg1) = m ((c : Thread nD τ).loc main_arg1) := (W5_of m c main_arg1 (by decide)).trans (a1_4 m c)
theorem a2_1 : W1 m c (Proc.devRef .tc main_arg2) = m ((c : Thread nD τ).loc main_arg2) := W1_of m c main_arg2 (by decide)
theorem a2_2 : W2 m c (Proc.devRef .tc main_arg2) = m ((c : Thread nD τ).loc main_arg2) := (W2_of m c main_arg2 (by decide)).trans (a2_1 m c)
theorem a2_3 : W3 m c (Proc.devRef .tc main_arg2) = m ((c : Thread nD τ).loc main_arg2) := (W3_of m c main_arg2 (by decide)).trans (a2_2 m c)
theorem a2_4 : W4 m c (Proc.devRef .tc main_arg2) = m ((c : Thread nD τ).loc main_arg2) := (W4_of m c main_arg2 (by decide)).trans (a2_3 m c)
theorem a2_5 : W5 m c (Proc.devRef .tc main_arg2) = m ((c : Thread nD τ).loc main_arg2) := (W5_of m c main_arg2 (by decide)).trans (a2_4 m c)
theorem a3_1 : W1 m c (Proc.devRef .tc main_arg3) = m ((c : Thread nD τ).loc main_arg3) := W1_of m c main_arg3 (by decide)
theorem a3_2 : W2 m c (Proc.devRef .tc main_arg3) = m ((c : Thread nD τ).loc main_arg3) := (W2_of m c main_arg3 (by decide)).trans (a3_1 m c)
theorem a3_3 : W3 m c (Proc.devRef .tc main_arg3) = m ((c : Thread nD τ).loc main_arg3) := (W3_of m c main_arg3 (by decide)).trans (a3_2 m c)
theorem a3_4 : W4 m c (Proc.devRef .tc main_arg3) = m ((c : Thread nD τ).loc main_arg3) := (W4_of m c main_arg3 (by decide)).trans (a3_3 m c)
theorem a3_5 : W5 m c (Proc.devRef .tc main_arg3) = m ((c : Thread nD τ).loc main_arg3) := (W5_of m c main_arg3 (by decide)).trans (a3_4 m c)
theorem a4_1 : W1 m c (Proc.devRef .tc main_arg4) = m ((c : Thread nD τ).loc main_arg4) := W1_of m c main_arg4 (by decide)
theorem a4_2 : W2 m c (Proc.devRef .tc main_arg4) = m ((c : Thread nD τ).loc main_arg4) := (W2_of m c main_arg4 (by decide)).trans (a4_1 m c)
theorem a4_3 : W3 m c (Proc.devRef .tc main_arg4) = m ((c : Thread nD τ).loc main_arg4) := (W3_of m c main_arg4 (by decide)).trans (a4_2 m c)
theorem a4_4 : W4 m c (Proc.devRef .tc main_arg4) = m ((c : Thread nD τ).loc main_arg4) := (W4_of m c main_arg4 (by decide)).trans (a4_3 m c)
theorem a4_5 : W5 m c (Proc.devRef .tc main_arg4) = m ((c : Thread nD τ).loc main_arg4) := (W5_of m c main_arg4 (by decide)).trans (a4_4 m c)
theorem a5_1 : W1 m c (Proc.devRef .tc main_arg5) = m ((c : Thread nD τ).loc main_arg5) := W1_of m c main_arg5 (by decide)
theorem a5_2 : W2 m c (Proc.devRef .tc main_arg5) = m ((c : Thread nD τ).loc main_arg5) := (W2_of m c main_arg5 (by decide)).trans (a5_1 m c)
theorem a5_3 : W3 m c (Proc.devRef .tc main_arg5) = m ((c : Thread nD τ).loc main_arg5) := (W3_of m c main_arg5 (by decide)).trans (a5_2 m c)
theorem a5_4 : W4 m c (Proc.devRef .tc main_arg5) = m ((c : Thread nD τ).loc main_arg5) := (W4_of m c main_arg5 (by decide)).trans (a5_3 m c)
theorem a5_5 : W5 m c (Proc.devRef .tc main_arg5) = m ((c : Thread nD τ).loc main_arg5) := (W5_of m c main_arg5 (by decide)).trans (a5_4 m c)
theorem a6_1 : W1 m c (Proc.devRef .tc main_arg6) = m ((c : Thread nD τ).loc main_arg6) := W1_of m c main_arg6 (by decide)
theorem a6_2 : W2 m c (Proc.devRef .tc main_arg6) = m ((c : Thread nD τ).loc main_arg6) := (W2_of m c main_arg6 (by decide)).trans (a6_1 m c)
theorem a6_3 : W3 m c (Proc.devRef .tc main_arg6) = m ((c : Thread nD τ).loc main_arg6) := (W3_of m c main_arg6 (by decide)).trans (a6_2 m c)
theorem a6_4 : W4 m c (Proc.devRef .tc main_arg6) = m ((c : Thread nD τ).loc main_arg6) := (W4_of m c main_arg6 (by decide)).trans (a6_3 m c)
theorem a6_5 : W5 m c (Proc.devRef .tc main_arg6) = m ((c : Thread nD τ).loc main_arg6) := (W5_of m c main_arg6 (by decide)).trans (a6_4 m c)
theorem a7_1 : W1 m c (Proc.devRef .tc main_arg7) = m ((c : Thread nD τ).loc main_arg7) := W1_of m c main_arg7 (by decide)
theorem a7_2 : W2 m c (Proc.devRef .tc main_arg7) = m ((c : Thread nD τ).loc main_arg7) := (W2_of m c main_arg7 (by decide)).trans (a7_1 m c)
theorem a7_3 : W3 m c (Proc.devRef .tc main_arg7) = m ((c : Thread nD τ).loc main_arg7) := (W3_of m c main_arg7 (by decide)).trans (a7_2 m c)
theorem a7_4 : W4 m c (Proc.devRef .tc main_arg7) = m ((c : Thread nD τ).loc main_arg7) := (W4_of m c main_arg7 (by decide)).trans (a7_3 m c)
theorem a7_5 : W5 m c (Proc.devRef .tc main_arg7) = m ((c : Thread nD τ).loc main_arg7) := (W5_of m c main_arg7 (by decide)).trans (a7_4 m c)
theorem a8_1 : W1 m c (Proc.devRef .tc main_arg8) = m ((c : Thread nD τ).loc main_arg8) := W1_of m c main_arg8 (by decide)
theorem a8_2 : W2 m c (Proc.devRef .tc main_arg8) = m ((c : Thread nD τ).loc main_arg8) := (W2_of m c main_arg8 (by decide)).trans (a8_1 m c)
theorem a8_3 : W3 m c (Proc.devRef .tc main_arg8) = m ((c : Thread nD τ).loc main_arg8) := (W3_of m c main_arg8 (by decide)).trans (a8_2 m c)
theorem a8_4 : W4 m c (Proc.devRef .tc main_arg8) = m ((c : Thread nD τ).loc main_arg8) := (W4_of m c main_arg8 (by decide)).trans (a8_3 m c)
theorem a8_5 : W5 m c (Proc.devRef .tc main_arg8) = m ((c : Thread nD τ).loc main_arg8) := (W5_of m c main_arg8 (by decide)).trans (a8_4 m c)
theorem a9_1 : W1 m c (Proc.devRef .tc main_arg9) = m ((c : Thread nD τ).loc main_arg9) := W1_of m c main_arg9 (by decide)
theorem a9_2 : W2 m c (Proc.devRef .tc main_arg9) = m ((c : Thread nD τ).loc main_arg9) := (W2_of m c main_arg9 (by decide)).trans (a9_1 m c)
theorem a9_3 : W3 m c (Proc.devRef .tc main_arg9) = m ((c : Thread nD τ).loc main_arg9) := (W3_of m c main_arg9 (by decide)).trans (a9_2 m c)
theorem a9_4 : W4 m c (Proc.devRef .tc main_arg9) = m ((c : Thread nD τ).loc main_arg9) := (W4_of m c main_arg9 (by decide)).trans (a9_3 m c)
theorem a9_5 : W5 m c (Proc.devRef .tc main_arg9) = m ((c : Thread nD τ).loc main_arg9) := (W5_of m c main_arg9 (by decide)).trans (a9_4 m c)
theorem a10_1 : W1 m c (Proc.devRef .tc main_arg10) = m ((c : Thread nD τ).loc main_arg10) := W1_of m c main_arg10 (by decide)
theorem a10_2 : W2 m c (Proc.devRef .tc main_arg10) = m ((c : Thread nD τ).loc main_arg10) := (W2_of m c main_arg10 (by decide)).trans (a10_1 m c)
theorem a10_3 : W3 m c (Proc.devRef .tc main_arg10) = m ((c : Thread nD τ).loc main_arg10) := (W3_of m c main_arg10 (by decide)).trans (a10_2 m c)
theorem a10_4 : W4 m c (Proc.devRef .tc main_arg10) = m ((c : Thread nD τ).loc main_arg10) := (W4_of m c main_arg10 (by decide)).trans (a10_3 m c)
theorem a10_5 : W5 m c (Proc.devRef .tc main_arg10) = m ((c : Thread nD τ).loc main_arg10) := (W5_of m c main_arg10 (by decide)).trans (a10_4 m c)
theorem a11_1 : W1 m c (Proc.devRef .tc main_arg11) = m ((c : Thread nD τ).loc main_arg11) := W1_of m c main_arg11 (by decide)
theorem a11_2 : W2 m c (Proc.devRef .tc main_arg11) = m ((c : Thread nD τ).loc main_arg11) := (W2_of m c main_arg11 (by decide)).trans (a11_1 m c)
theorem a11_3 : W3 m c (Proc.devRef .tc main_arg11) = m ((c : Thread nD τ).loc main_arg11) := (W3_of m c main_arg11 (by decide)).trans (a11_2 m c)
theorem a11_4 : W4 m c (Proc.devRef .tc main_arg11) = m ((c : Thread nD τ).loc main_arg11) := (W4_of m c main_arg11 (by decide)).trans (a11_3 m c)
theorem a11_5 : W5 m c (Proc.devRef .tc main_arg11) = m ((c : Thread nD τ).loc main_arg11) := (W5_of m c main_arg11 (by decide)).trans (a11_4 m c)

/-! ## The gate/up stage -/

theorem in_x (a b) : W1 m c (Proc.devRef .tc main_v0) (ix2 a b) = (inp m c).x a b := by
  unfold W1
  simp only [hostOps0, List.flatten_cons, List.flatten_nil, List.append_nil, StableHlo.after_cons, StableHlo.after_nil]
  repeat first | rw [StableHlo.reshape_result] | (rw [StableHlo.reshape_result_ne]; rotate_left; decide)
  pointwise []; rfl
theorem found0 : Ent0 (ent (W1 m)) c (inp m c) where
  x := in_x m c
  fg a b := congrFun (a3_1 m c) (ix2 a b)
  sg a b := congrFun (a4_1 m c) (ix2 a b)
  vg a b := congrFun (a5_1 m c) (ix2 a b)
  fu a b := congrFun (a6_1 m c) (ix2 a b)
  su a b := congrFun (a7_1 m c) (ix2 a b)
  vu a b := congrFun (a8_1 m c) (ix2 a b)
theorem s2_v1_0 : W2 m c (Proc.devRef .tc main_v1_0) = fun i => G (inp m c) (i 0) (i 1) :=
  (Pipeline.afterRegion_arr (dat0 (ent (W1 m)) c) (W1 m c) launch0.win.arr_inj 7).trans (R7 (found0 m c))
theorem s2_v1_1 : W2 m c (Proc.devRef .tc main_v1_1) = fun i => U (inp m c) (i 0) (i 1) :=
  (Pipeline.afterRegion_arr (dat0 (ent (W1 m)) c) (W1 m c) launch0.win.arr_inj 8).trans (R8 (found0 m c))
theorem s2_v1_2 : W2 m c (Proc.devRef .tc main_v1_2) = fun i => xq (inp m c) (i 0) (i 1) :=
  (Pipeline.afterRegion_arr (dat0 (ent (W1 m)) c) (W1 m c) launch0.win.arr_inj 9).trans (R9 (found0 m c))
theorem s2_v1_3 : W2 m c (Proc.devRef .tc main_v1_3) = fun i => sx (inp m c) (i 0) :=
  (Pipeline.afterRegion_arr (dat0 (ent (W1 m)) c) (W1 m c) launch0.win.arr_inj 10).trans (R10 (found0 m c))
theorem s2_v1_4 : W2 m c (Proc.devRef .tc main_v1_4) = fun i => am (inp m c) (i 0) :=
  (Pipeline.afterRegion_arr (dat0 (ent (W1 m)) c) (W1 m c) launch0.win.arr_inj 11).trans (R11 (found0 m c))
theorem s3_v1_0 : W3 m c (Proc.devRef .tc main_v1_0) = fun i => G (inp m c) (i 0) (i 1) := (W3_of m c main_v1_0 (by decide)).trans (s2_v1_0 m c)
theorem s3_v1_1 : W3 m c (Proc.devRef .tc main_v1_1) = fun i => U (inp m c) (i 0) (i 1) := (W3_of m c main_v1_1 (by decide)).trans (s2_v1_1 m c)
theorem s3_v1_2 : W3 m c (Proc.devRef .tc main_v1_2) = fun i => xq (inp m c) (i 0) (i 1) := (W3_of m c main_v1_2 (by decide)).trans (s2_v1_2 m c)
theorem s3_v1_3 : W3 m c (Proc.devRef .tc main_v1_3) = fun i => sx (inp m c) (i 0) := (W3_of m c main_v1_3 (by decide)).trans (s2_v1_3 m c)
theorem s3_v1_4 : W3 m c (Proc.devRef .tc main_v1_4) = fun i => am (inp m c) (i 0) := (W3_of m c main_v1_4 (by decide)).trans (s2_v1_4 m c)

/-! ## The down stage -/

theorem in_y (a b) : W3 m c (Proc.devRef .tc main_v2) (ix2 a b) = (inp m c).y a b := by
  unfold W3
  simp only [hostOps1, List.flatten_cons, List.flatten_nil, List.append_nil, StableHlo.after_cons, StableHlo.after_nil]
  repeat first | rw [StableHlo.reshape_result] | (rw [StableHlo.reshape_result_ne]; rotate_left; decide)
  rw [a1_2]
  pointwise []; rfl
theorem in_g (a b) : W3 m c (Proc.devRef .tc main_v3) (ix2 a b) = (inp m c).g a b := by
  unfold W3
  simp only [hostOps1, List.flatten_cons, List.flatten_nil, List.append_nil, StableHlo.after_cons, StableHlo.after_nil]
  repeat first | rw [StableHlo.reshape_result] | (rw [StableHlo.reshape_result_ne]; rotate_left; decide)
  rw [a2_2]
  pointwise []; rfl
theorem found1 : Ent1 (ent (W3 m)) c (inp m c) where
  gg a b := congrFun (s3_v1_0 m c) (ix2 a b)
  uu a b := congrFun (s3_v1_1 m c) (ix2 a b)
  am a := congrFun (s3_v1_4 m c) (ix2 a 0)
  y := in_y m c
  g := in_g m c
  fd a b := congrFun (a9_3 m c) (ix2 a b)
  sd a b := congrFun (a10_3 m c) (ix2 a b)
  vd a b := congrFun (a11_3 m c) (ix2 a b)
theorem s4_v4_0 : W4 m c (Proc.devRef .tc main_v4_0) = fun i => aq (inp m c) (i 0) (i 1) :=
  (Pipeline.afterRegion_arr (dat1 (ent (W3 m)) c) (W3 m c) launch1.win.arr_inj 8).trans (Q8 (found1 m c))
theorem s4_v4_1 : W4 m c (Proc.devRef .tc main_v4_1) = fun i => sa (inp m c) (i 0) :=
  (Pipeline.afterRegion_arr (dat1 (ent (W3 m)) c) (W3 m c) launch1.win.arr_inj 9).trans (Q9 (found1 m c))
theorem s4_v4_2 : W4 m c (Proc.devRef .tc main_v4_2) = fun i => loss (inp m c) (i 0) :=
  (Pipeline.afterRegion_arr (dat1 (ent (W3 m)) c) (W3 m c) launch1.win.arr_inj 10).trans (Q10 (found1 m c))
theorem s4_v4_3 : W4 m c (Proc.devRef .tc main_v4_3) = fun i => dY (inp m c) (i 0) (i 1) :=
  (Pipeline.afterRegion_arr (dat1 (ent (W3 m)) c) (W3 m c) launch1.win.arr_inj 11).trans (Q11 (found1 m c))
theorem s4_v4_4 : W4 m c (Proc.devRef .tc main_v4_4) = fun i => dys (inp m c) (i 0) (i 1) :=
  (Pipeline.afterRegion_arr (dat1 (ent (W3 m)) c) (W3 m c) launch1.win.arr_inj 12).trans (Q12 (found1 m c))
theorem s5_v1_0 : W5 m c (Proc.devRef .tc main_v1_0) = fun i => G (inp m c) (i 0) (i 1) := (W5_of m c main_v1_0 (by decide)).trans ((W4_of m c main_v1_0 (by decide)).trans (s3_v1_0 m c))
theorem s5_v1_1 : W5 m c (Proc.devRef .tc main_v1_1) = fun i => U (inp m c) (i 0) (i 1) := (W5_of m c main_v1_1 (by decide)).trans ((W4_of m c main_v1_1 (by decide)).trans (s3_v1_1 m c))
theorem s5_v1_2 : W5 m c (Proc.devRef .tc main_v1_2) = fun i => xq (inp m c) (i 0) (i 1) := (W5_of m c main_v1_2 (by decide)).trans ((W4_of m c main_v1_2 (by decide)).trans (s3_v1_2 m c))
theorem s5_v1_3 : W5 m c (Proc.devRef .tc main_v1_3) = fun i => sx (inp m c) (i 0) := (W5_of m c main_v1_3 (by decide)).trans ((W4_of m c main_v1_3 (by decide)).trans (s3_v1_3 m c))
theorem s5_v1_4 : W5 m c (Proc.devRef .tc main_v1_4) = fun i => am (inp m c) (i 0) := (W5_of m c main_v1_4 (by decide)).trans ((W4_of m c main_v1_4 (by decide)).trans (s3_v1_4 m c))
theorem s5_v4_0 : W5 m c (Proc.devRef .tc main_v4_0) = fun i => aq (inp m c) (i 0) (i 1) := (W5_of m c main_v4_0 (by decide)).trans (s4_v4_0 m c)
theorem s5_v4_1 : W5 m c (Proc.devRef .tc main_v4_1) = fun i => sa (inp m c) (i 0) := (W5_of m c main_v4_1 (by decide)).trans (s4_v4_1 m c)
theorem s5_v4_2 : W5 m c (Proc.devRef .tc main_v4_2) = fun i => loss (inp m c) (i 0) := (W5_of m c main_v4_2 (by decide)).trans (s4_v4_2 m c)
theorem s5_v4_3 : W5 m c (Proc.devRef .tc main_v4_3) = fun i => dY (inp m c) (i 0) (i 1) := (W5_of m c main_v4_3 (by decide)).trans (s4_v4_3 m c)
theorem s5_v4_4 : W5 m c (Proc.devRef .tc main_v4_4) = fun i => dys (inp m c) (i 0) (i 1) := (W5_of m c main_v4_4 (by decide)).trans (s4_v4_4 m c)

/-! ## The backward stage -/

theorem in_sd (a : Fin 32) (b : Fin 4) (n : Fin 2048) : W5 m c (Proc.devRef .tc main_v5) (ix3 a b n) = (inp m c).sd ⟨a.val * 4 + b.val, by omega⟩ n := by
  unfold W5
  simp only [hostOps2, List.flatten_cons, List.flatten_nil, List.append_nil, StableHlo.after_cons, StableHlo.after_nil]
  repeat first | rw [StableHlo.reshape_result] | (rw [StableHlo.reshape_result_ne]; rotate_left; decide)
  rw [a10_4]
  pointwise []; rfl
theorem found2 : Ent2 (ent (W5 m)) c (inp m c) where
  xq a b := congrFun (s5_v1_2 m c) (ix2 a b)
  sx a := congrFun (s5_v1_3 m c) (ix2 a 0)
  gg a b := congrFun (s5_v1_0 m c) (ix2 a b)
  uu a b := congrFun (s5_v1_1 m c) (ix2 a b)
  aq a b := congrFun (s5_v4_0 m c) (ix2 a b)
  dy a b := congrFun (s5_v4_3 m c) (ix2 a b)
  dys a b := congrFun (s5_v4_4 m c) (ix2 a b)
  fg a b := congrFun (a3_5 m c) (ix2 a b)
  sg a b := congrFun (a4_5 m c) (ix2 a b)
  vg a b := congrFun (a5_5 m c) (ix2 a b)
  fu a b := congrFun (a6_5 m c) (ix2 a b)
  su a b := congrFun (a7_5 m c) (ix2 a b)
  vu a b := congrFun (a8_5 m c) (ix2 a b)
  fd a b := congrFun (a9_5 m c) (ix2 a b)
  sd := in_sd m c
  vd a b := congrFun (a11_5 m c) (ix2 a b)
theorem s6_v6_0 : W6 m c (Proc.devRef .tc main_v6_0) = fun i => dvg (inp m c) (i 0) (i 1) :=
  (Pipeline.afterRegion_arr (dat2 (ent (W5 m)) c) (W5 m c) launch2.win.arr_inj 16).trans (T16 (found2 m c))
theorem s6_v6_1 : W6 m c (Proc.devRef .tc main_v6_1) = fun i => dvu (inp m c) (i 0) (i 1) :=
  (Pipeline.afterRegion_arr (dat2 (ent (W5 m)) c) (W5 m c) launch2.win.arr_inj 17).trans (T17 (found2 m c))
theorem s6_v6_2 : W6 m c (Proc.devRef .tc main_v6_2) = fun i => dvd (inp m c) (i 0) (i 1) :=
  (Pipeline.afterRegion_arr (dat2 (ent (W5 m)) c) (W5 m c) launch2.win.arr_inj 18).trans (T18 (found2 m c))
theorem s6_v1_2 : W6 m c (Proc.devRef .tc main_v1_2) = fun i => xq (inp m c) (i 0) (i 1) := (W6_of m c main_v1_2 (by decide)).trans (s5_v1_2 m c)
theorem s6_v1_3 : W6 m c (Proc.devRef .tc main_v1_3) = fun i => sx (inp m c) (i 0) := (W6_of m c main_v1_3 (by decide)).trans (s5_v1_3 m c)
theorem s6_v4_0 : W6 m c (Proc.devRef .tc main_v4_0) = fun i => aq (inp m c) (i 0) (i 1) := (W6_of m c main_v4_0 (by decide)).trans (s5_v4_0 m c)
theorem s6_v4_1 : W6 m c (Proc.devRef .tc main_v4_1) = fun i => sa (inp m c) (i 0) := (W6_of m c main_v4_1 (by decide)).trans (s5_v4_1 m c)
theorem s6_v4_2 : W6 m c (Proc.devRef .tc main_v4_2) = fun i => loss (inp m c) (i 0) := (W6_of m c main_v4_2 (by decide)).trans (s5_v4_2 m c)

end Cert.KernelIdeal.Val

end
-- ==== Proof.Value.KerRun.lean ====
/- The kernel's run, read at the result buffers. -/
module

public import proofs.«01_k».proof.Proof.Value.KerChain

@[expose] public section

set_option maxRecDepth 16384

noncomputable section

namespace Cert.KernelIdeal.Val

open Cert.KernelIdeal Cert.KernelIdeal.Gen Cert.KernelIdeal.Own Cert.Spec
open Idealize.ShloMosaic Idealize.ShloMosaic.TcCoe Idealize.SL.Sem
open Idealize.ShloMosaic.Pipeline (afterRegion)

variable (m : (ℓ : Loc nD τ sig) → Buf (Elt Ideal) ℓ) (c : Dev nD)

theorem res_v7 : W7 m c (Proc.devRef .tc main_v7) = fun i => loss (inp m c) (i 1) := by
  unfold W7
  simp only [hostOps3, List.flatten_cons, List.flatten_nil, List.append_nil, StableHlo.after_cons, StableHlo.after_nil]
  repeat first | rw [StableHlo.reshape_result] | (rw [StableHlo.reshape_result_ne]; rotate_left; decide)
  rw [s6_v4_2]
  funext i
  obtain ⟨a, b, rfl⟩ : ∃ a b, i = ix2 a b := ⟨i 0, i 1, by idx_vars i⟩
  obtain rfl : a = 0 := Subsingleton.elim _ _
  pointwise []
theorem res_v8 : W7 m c (Proc.devRef .tc main_v8) = fun i => xq (inp m c) (i 1) (i 2) := by
  unfold W7
  simp only [hostOps3, List.flatten_cons, List.flatten_nil, List.append_nil, StableHlo.after_cons, StableHlo.after_nil]
  repeat first | rw [StableHlo.reshape_result] | (rw [StableHlo.reshape_result_ne]; rotate_left; decide)
  rw [s6_v1_2]
  funext i
  obtain ⟨a, b, d, rfl⟩ : ∃ a b d, i = ix3 a b d := ⟨i 0, i 1, i 2, by idx_vars i⟩
  obtain rfl : a = 0 := Subsingleton.elim _ _
  pointwise []
theorem res_v9 : W7 m c (Proc.devRef .tc main_v9) = fun i => sx (inp m c) (i 1) := by
  unfold W7
  simp only [hostOps3, List.flatten_cons, List.flatten_nil, List.append_nil, StableHlo.after_cons, StableHlo.after_nil]
  repeat first | rw [StableHlo.reshape_result] | (rw [StableHlo.reshape_result_ne]; rotate_left; decide)
  rw [s6_v1_3]
  funext i
  obtain ⟨a, b, rfl⟩ : ∃ a b, i = ix2 a b := ⟨i 0, i 1, by idx_vars i⟩
  obtain rfl : a = 0 := Subsingleton.elim _ _
  pointwise []
theorem res_v10 : W7 m c (Proc.devRef .tc main_v10) = fun i => aq (inp m c) (i 1) (i 2) := by
  unfold W7
  simp only [hostOps3, List.flatten_cons, List.flatten_nil, List.append_nil, StableHlo.after_cons, StableHlo.after_nil]
  repeat first | rw [StableHlo.reshape_result] | (rw [StableHlo.reshape_result_ne]; rotate_left; decide)
  rw [s6_v4_0]
  funext i
  obtain ⟨a, b, d, rfl⟩ : ∃ a b d, i = ix3 a b d := ⟨i 0, i 1, i 2, by idx_vars i⟩
  obtain rfl : a = 0 := Subsingleton.elim _ _
  pointwise []
theorem res_v11 : W7 m c (Proc.devRef .tc main_v11) = fun i => sa (inp m c) (i 1) := by
  unfold W7
  simp only [hostOps3, List.flatten_cons, List.flatten_nil, List.append_nil, StableHlo.after_cons, StableHlo.after_nil]
  repeat first | rw [StableHlo.reshape_result] | (rw [StableHlo.reshape_result_ne]; rotate_left; decide)
  rw [s6_v4_1]
  funext i
  obtain ⟨a, b, rfl⟩ : ∃ a b, i = ix2 a b := ⟨i 0, i 1, by idx_vars i⟩
  obtain rfl : a = 0 := Subsingleton.elim _ _
  pointwise []
theorem res_v6_0 : W7 m c (Proc.devRef .tc main_v6_0) = fun i => dvg (inp m c) (i 0) (i 1) := (W7_of m c main_v6_0 (by decide)).trans (s6_v6_0 m c)
theorem res_v6_1 : W7 m c (Proc.devRef .tc main_v6_1) = fun i => dvu (inp m c) (i 0) (i 1) := (W7_of m c main_v6_1 (by decide)).trans (s6_v6_1 m c)
theorem res_v6_2 : W7 m c (Proc.devRef .tc main_v6_2) = fun i => dvd (inp m c) (i 0) (i 1) := (W7_of m c main_v6_2 (by decide)).trans (s6_v6_2 m c)

/-- Every execution ends with the result buffers at the mathematics' arrays and the arguments as at launch. -/
theorem results (ρ : Dev nD → PrngReg) : θ_run defs (onTc (τ := τ) (main (F := Ideal))) ⟨m, fun _ => 0, ρ⟩ (fun r => ∀ c : Dev nD,
      r.2.mem ((c.tc : Thread nD τ).loc main_v7) = (fun i => loss (inp m c) (i 1))
      ∧ r.2.mem ((c.tc : Thread nD τ).loc main_v6_0) = (fun i => dvg (inp m c) (i 0) (i 1))
      ∧ r.2.mem ((c.tc : Thread nD τ).loc main_v6_1) = (fun i => dvu (inp m c) (i 0) (i 1))
      ∧ r.2.mem ((c.tc : Thread nD τ).loc main_v6_2) = (fun i => dvd (inp m c) (i 0) (i 1))
      ∧ r.2.mem ((c.tc : Thread nD τ).loc main_v8) = (fun i => xq (inp m c) (i 1) (i 2))
      ∧ r.2.mem ((c.tc : Thread nD τ).loc main_v9) = (fun i => sx (inp m c) (i 1))
      ∧ r.2.mem ((c.tc : Thread nD τ).loc main_v10) = (fun i => aq (inp m c) (i 1) (i 2))
      ∧ r.2.mem ((c.tc : Thread nD τ).loc main_v11) = (fun i => sa (inp m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h.1 c main_v7 rfl).trans (res_v7 m c),
      (h.1 c main_v6_0 rfl).trans (res_v6_0 m c),
      (h.1 c main_v6_1 rfl).trans (res_v6_1 m c),
      (h.1 c main_v6_2 rfl).trans (res_v6_2 m c),
      (h.1 c main_v8 rfl).trans (res_v8 m c),
      (h.1 c main_v9 rfl).trans (res_v9 m c),
      (h.1 c main_v10 rfl).trans (res_v10 m c),
      (h.1 c main_v11 rfl).trans (res_v11 m c),
      (h.1 c main_arg0 rfl).trans (W7_arg0 m c),
      (h.1 c main_arg1 rfl).trans (W7_arg1 m c),
      (h.1 c main_arg2 rfl).trans (W7_arg2 m c),
      (h.1 c main_arg3 rfl).trans (W7_arg3 m c),
      (h.1 c main_arg4 rfl).trans (W7_arg4 m c),
      (h.1 c main_arg5 rfl).trans (W7_arg5 m c),
      (h.1 c main_arg6 rfl).trans (W7_arg6 m c),
      (h.1 c main_arg7 rfl).trans (W7_arg7 m c),
      (h.1 c main_arg8 rfl).trans (W7_arg8 m c),
      (h.1 c main_arg9 rfl).trans (W7_arg9 m c),
      (h.1 c main_arg10 rfl).trans (W7_arg10 m c),
      (h.1 c main_arg11 rfl).trans (W7_arg11 m c)⟩) (run_whole m ρ)

end Cert.KernelIdeal.Val

end
-- ==== Proof.Value.RefRead.lean ====
/- The reference's payloads, read entry by entry: the weights and the forward half. -/
module

public import proofs.«01_k».proof.Proof.Gen.ReferenceIdeal.Skeleton
public import proofs.«01_k».proof.Proof.Value.Scalars

@[expose] public section

set_option maxRecDepth 16384

noncomputable section

namespace Cert.ReferenceIdeal.Read

open Cert.ReferenceIdeal Cert.ReferenceIdeal.Gen Cert.Spec
open Idealize.ShloMosaic Idealize.ShloMosaic.TcCoe Idealize.SL.Sem

theorem named_zeta : Named.named (F := Ideal) κ "zeta_minus_gamma" (φ := .f32) 1067030938#32 = ((6 / 5 : ℝ) : EReal) :=
  IdealRules.named_const.ideal_named_scalar _ _ _ _ rfl
theorem named_gamma : Named.named (F := Ideal) κ "gamma" (φ := .f32) 0xBDCCCCCD#32 = ((-1 / 10 : ℝ) : EReal) :=
  IdealRules.named_const.ideal_named_scalar _ _ _ _ rfl

/-! ## Weights -/

theorem sg1 (v1 : Vec Ideal S2048x8192 .f32) (r c) : k0_pay1 v1 (ix2 r c) = Ideal.logistic (v1 (ix2 r c)) := by
  pointwise [k0_pay1]
theorem hr2 (v1 : Vec Ideal S2048x8192 .f32) (r c) : k0_pay2 v1 (ix2 r c) = hr (v1 (ix2 r c)) := by
  unfold k0_pay2; have h := sg1 v1 r c; revert h; generalize k0_pay1 v1 = z; intro h
  pointwise []; simp only [named_zeta, named_gamma, h, hr]
theorem pre3 (v0 : Vec Ideal S2048x8192 .i8) (v1) (r c) : k0_pay3 v0 v1 (ix2 r c) = pre (v0 (ix2 r c)) (v1 (ix2 r c)) := by
  unfold k0_pay3; have h := hr2 v1 r c; revert h; generalize k0_pay2 v1 = z; intro h
  pointwise []; simp only [h, pre]
theorem we4 (v0 : Vec Ideal S2048x8192 .i8) (v1 v2) (r c) : k0_pay4 v0 v1 v2 (ix2 r c) = wt (v0 (ix2 r c)) (v2 (ix2 (gp r) c)) (v1 (ix2 r c)) := by
  unfold k0_pay4; have h := pre3 v0 v1 r c; revert h; generalize k0_pay3 v0 v1 = z; intro h
  pointwise []; simp only [h, wt]
theorem sg5 (v1 : Vec Ideal S2048x8192 .f32) (r c) : k0_pay5 v1 (ix2 r c) = Ideal.logistic (v1 (ix2 r c)) := by
  pointwise [k0_pay5]
theorem hr6 (v1 : Vec Ideal S2048x8192 .f32) (r c) : k0_pay6 v1 (ix2 r c) = hr (v1 (ix2 r c)) := by
  unfold k0_pay6; have h := sg5 v1 r c; revert h; generalize k0_pay5 v1 = z; intro h
  pointwise []; simp only [named_zeta, named_gamma, h, hr]
theorem iv7 (v0 : Vec Ideal S2048x8192 .i8) (r c) : k0_pay7 (F := Ideal) v0 (ix2 r c) = ival (v0 (ix2 r c)) := by
  pointwise [k0_pay7]
theorem cl8 (v1 : Vec Ideal S2048x8192 .f32) (r c) : k0_pay8 v1 (ix2 r c) = min 1 (max 0 (hr (v1 (ix2 r c)))) := by
  unfold k0_pay8; have h := hr6 v1 r c; revert h; generalize k0_pay6 v1 = z; intro h
  pointwise []; simp only [h]
theorem pre9 (v0 : Vec Ideal S2048x8192 .i8) (v1) (r c) : k0_pay9 (k0_pay7 v0) (k0_pay8 v1) (ix2 r c) = pre (v0 (ix2 r c)) (v1 (ix2 r c)) := by
  have h := iv7 v0 r c; have h' := cl8 v1 r c; revert h h'; generalize k0_pay7 v0 = z; generalize k0_pay8 v1 = z'; intro h h'
  pointwise [k0_pay9]; simp only [h, h', pre]
theorem we10 (v0 : Vec Ideal S2048x8192 .i8) (v1 v2) (r c) : k0_pay10 v2 (k0_pay7 v0) (k0_pay8 v1) (ix2 r c) = wt (v0 (ix2 r c)) (v2 (ix2 (gp r) c)) (v1 (ix2 r c)) := by
  unfold k0_pay10; have h := pre9 v0 v1 r c; revert h; generalize k0_pay9 (k0_pay7 v0) (k0_pay8 v1) = z; intro h
  pointwise []; simp only [h, wt]
theorem sg11 (v1 : Vec Ideal S8192x2048 .f32) (r c) : k0_pay11 v1 (ix2 r c) = Ideal.logistic (v1 (ix2 r c)) := by
  pointwise [k0_pay11]
theorem hr12 (v1 : Vec Ideal S8192x2048 .f32) (r c) : k0_pay12 v1 (ix2 r c) = hr (v1 (ix2 r c)) := by
  unfold k0_pay12; have h := sg11 v1 r c; revert h; generalize k0_pay11 v1 = z; intro h
  pointwise []; simp only [named_zeta, named_gamma, h, hr]
theorem pre13 (v0 : Vec Ideal S8192x2048 .i8) (v1) (r c) : k0_pay13 v0 v1 (ix2 r c) = pre (v0 (ix2 r c)) (v1 (ix2 r c)) := by
  unfold k0_pay13; have h := hr12 v1 r c; revert h; generalize k0_pay12 v1 = z; intro h
  pointwise []; simp only [h, pre]
theorem we14 (v0 : Vec Ideal S8192x2048 .i8) (v1 v2) (r c) : k0_pay14 v0 v1 v2 (ix2 r c) = wt (v0 (ix2 r c)) (v2 (ix2 (gq r) c)) (v1 (ix2 r c)) := by
  unfold k0_pay14; have h := pre13 v0 v1 r c; revert h; generalize k0_pay13 v0 v1 = z; intro h
  pointwise []; simp only [h, wt]

end Cert.ReferenceIdeal.Read

end
-- ==== Proof.Value.RefBwd.lean ====
/- The reference's payloads on the mathematics' arrays: the loss and the gradients. -/
module

public import proofs.«01_k».proof.Proof.Value.RefRead

@[expose] public section

set_option maxRecDepth 16384

noncomputable section

namespace Cert.ReferenceIdeal.Read

open Cert.ReferenceIdeal Cert.ReferenceIdeal.Gen Cert.Spec
open Idealize.ShloMosaic Idealize.ShloMosaic.TcCoe Idealize.SL.Sem

variable (I : In)

/-! ## Loss -/

section
variable (v125 : FVec Ideal S256x2048 .f32) (v126 v130 : Vec Ideal S256x2048 .bf16)
variable (h125 : ∀ r n, v125 (ix2 r n) = Y I r n) (h126 : ∀ r n, v126 (ix2 r n) = I.y r n) (h130 : ∀ r n, v130 (ix2 r n) = I.g r n)
include h130 in
theorem g2_eq (r n) : k0_pay30 v130 (ix2 r n) = g2 I r n := by
  pointwise [k0_pay30]; simp only [h130, g2]
include h125 h126
theorem E_eq (r n) : k0_pay29 v125 v126 (ix2 r n) = E I r n := by
  pointwise [k0_pay29]; simp only [h125, h126, E]
include h130
theorem loss_eq (r) : k0_pay31 v125 v126 v130 (ix2 r 0) = loss I r := by
  unfold k0_pay31; have h1 := g2_eq I v130 h130; have h2 := E_eq I v125 v126 h125 h126; revert h1 h2
  generalize k0_pay30 v130 = z; generalize k0_pay29 v125 v126 = w; intro h1 h2
  pointwise []; simp only [h1, h2, loss]
theorem dY_eq (r n) : k0_pay32 v125 v126 v130 (ix2 r n) = dY I r n := by
  unfold k0_pay32; have h1 := g2_eq I v130 h130; have h2 := E_eq I v125 v126 h125 h126; revert h1 h2
  generalize k0_pay30 v130 = z; generalize k0_pay29 v125 v126 = w; intro h1 h2
  pointwise []; simp only [h1, h2, dY]

/-! ## Backward -/

theorem qd_eq (v113 : FVec Ideal S256x1 .f32) (v122 : FVec Ideal S256x8192 .bf16) (v150 : Vec Ideal S128x2048 .f32)
    (h113 : ∀ r, v113 (ix2 r 0) = sa I r) (h122 : ∀ r c, v122 (ix2 r c) = ac I r c) (h150 : ∀ r c, v150 (ix2 r c) = I.sd r c) (k n) :
    k0_pay33 v113 v122 v125 v126 v130 v150 (ix2 k n) = (∑ t, ac I t k * dys I t n) * I.sd (gq k) n := by
  unfold k0_pay33; have h1 := dY_eq I v125 v126 v130 h125 h126 h130; revert h1
  generalize k0_pay32 v125 v126 v130 = z; intro h1
  pointwise []; simp only [h1, h113, h122, h150, dys]
theorem dA_eq (v74 : FVec Ideal S8192x2048 .bf16) (h74 : ∀ d f, v74 (ix2 d f) = wd I d f) (r k) :
    k0_pay34 v74 v125 v126 v130 (ix2 r k) = dA I r k := by
  unfold k0_pay34; have h1 := dY_eq I v125 v126 v130 h125 h126 h130; revert h1
  generalize k0_pay32 v125 v126 v130 = z; intro h1
  pointwise []; simp only [h1, h74, dA]
theorem dU_eq (v74 : FVec Ideal S8192x2048 .bf16) (v103 : FVec Ideal S256x8192 .f32) (h74 : ∀ d f, v74 (ix2 d f) = wd I d f)
    (h103 : ∀ r f, v103 (ix2 r f) = G I r f * Ideal.logistic (G I r f)) (r k) :
    k0_pay35 v74 v103 v125 v126 v130 (ix2 r k) = dA I r k * (G I r k * Ideal.logistic (G I r k)) := by
  unfold k0_pay35; have h1 := dA_eq I v125 v126 v130 h125 h126 h130 v74 h74; revert h1
  generalize k0_pay34 v74 v125 v126 v130 = z; intro h1
  pointwise []; simp only [h1, h103]
theorem dGs_eq (v74 : FVec Ideal S8192x2048 .bf16) (v86 : FVec Ideal S256x1 .f32) (v98 v101 v102 : FVec Ideal S256x8192 .f32) (h74 : ∀ d f, v74 (ix2 d f) = wd I d f)
    (h86 : ∀ r, v86 (ix2 r 0) = sx I r) (h98 : ∀ r f, v98 (ix2 r f) = G I r f) (h101 : ∀ r f, v101 (ix2 r f) = U I r f)
    (h102 : ∀ r f, v102 (ix2 r f) = Ideal.logistic (G I r f)) (r k) :
    k0_pay36 v74 v86 v98 v101 v102 v125 v126 v130 (ix2 r k) = dGs I r k := by
  unfold k0_pay36; have h1 := dA_eq I v125 v126 v130 h125 h126 h130 v74 h74; revert h1
  generalize k0_pay34 v74 v125 v126 v130 = z; intro h1
  pointwise []; simp only [h1, h86, h98, h101, h102, dGs]
end

theorem qu_eq (v86 : FVec Ideal S256x1 .f32) (v95 : FVec Ideal S256x2048 .bf16) (v166 : FVec Ideal S256x8192 .f32) (v181 : Vec Ideal S32x8192 .f32)
    (h86 : ∀ r, v86 (ix2 r 0) = sx I r) (h95 : ∀ r d, v95 (ix2 r d) = xc I r d)
    (h166 : ∀ r f, v166 (ix2 r f) = dA I r f * (G I r f * Ideal.logistic (G I r f))) (h181 : ∀ a f, v181 (ix2 a f) = I.su a f) (d f) :
    k0_pay37 v86 v95 v166 v181 (ix2 d f) = (∑ t, xc I t d * dUs I t f) * I.su (gp d) f := by
  pointwise [k0_pay37]; simp only [h86, h95, h166, h181, dUs]
theorem dvg_eq (v3 v7 v13 : FVec Ideal S2048x8192 .f32) (v95 : FVec Ideal S256x2048 .bf16) (v169 : FVec Ideal S256x8192 .bf16) (v171 : Vec Ideal S32x8192 .f32)
    (h3 : ∀ d f, v3 (ix2 d f) = Ideal.logistic (I.vg d f)) (h7 : ∀ d f, v7 (ix2 d f) = hr (I.vg d f)) (h13 : ∀ d f, v13 (ix2 d f) = pre (I.fg d f) (I.vg d f))
    (h95 : ∀ r d, v95 (ix2 r d) = xc I r d) (h169 : ∀ r f, v169 (ix2 r f) = dGs I r f) (h171 : ∀ a f, v171 (ix2 a f) = I.sg a f) (d f) :
    k0_pay38 v3 v7 v13 v95 v169 v171 (ix2 d f) = dvg I d f := by
  pointwise [k0_pay38]; simp only [named_zeta, h3, h7, h13, h95, h169, h171, dvg, dvf, mask]
theorem dvu_eq (v28 v32 v38 v186 : FVec Ideal S2048x8192 .f32)
    (h3 : ∀ d f, v28 (ix2 d f) = Ideal.logistic (I.vu d f)) (h7 : ∀ d f, v32 (ix2 d f) = hr (I.vu d f)) (h13 : ∀ d f, v38 (ix2 d f) = pre (I.fu d f) (I.vu d f))
    (h186 : ∀ d f, v186 (ix2 d f) = (∑ t, xc I t d * dUs I t f) * I.su (gp d) f) (d f) :
    k0_pay40 v28 v32 v186 (k0_pay39 v38) (ix2 d f) = dvu I d f := by
  pointwise [k0_pay39, k0_pay40]; simp only [named_zeta, h3, h7, h13, h186, dvu, dvf, mask]
theorem dvd_eq (v53 v57 v63 v155 : FVec Ideal S8192x2048 .f32)
    (h3 : ∀ d f, v53 (ix2 d f) = Ideal.logistic (I.vd d f)) (h7 : ∀ d f, v57 (ix2 d f) = hr (I.vd d f)) (h13 : ∀ d f, v63 (ix2 d f) = pre (I.fd d f) (I.vd d f))
    (h155 : ∀ k n, v155 (ix2 k n) = (∑ t, ac I t k * dys I t n) * I.sd (gq k) n) (d f) :
    k0_pay41 v53 v57 v63 v155 (ix2 d f) = dvd I d f := by
  pointwise [k0_pay41]; simp only [named_zeta, h3, h7, h13, h155, dvd, dvf, mask]

end Cert.ReferenceIdeal.Read

end
-- ==== Proof.Value.RefFwd.lean ====
/- The reference's payloads on the mathematics' arrays: each gives the mathematics' next array. -/
module

public import proofs.«01_k».proof.Proof.Value.RefRead

@[expose] public section

set_option maxRecDepth 16384

noncomputable section

namespace Cert.ReferenceIdeal.Read

open Cert.ReferenceIdeal Cert.ReferenceIdeal.Gen Cert.Spec
open Idealize.ShloMosaic Idealize.ShloMosaic.TcCoe Idealize.SL.Sem

variable (I : In)

/-! ## Forward -/

theorem p15 (v : Vec Ideal S256x2048 .bf16) (r c) : k0_pay15 v (ix2 r c) = v (ix2 r c) := by pointwise [k0_pay15]
theorem p16 (v : Vec Ideal S256x2048 .bf16) (h : ∀ r c, v (ix2 r c) = I.x r c) (r) : k0_pay16 v (ix2 r 0) = rowmax (I.x r) := by
  unfold k0_pay16; have h' : ∀ c, k0_pay15 v (ix2 r c) = I.x r c := fun c => (p15 v r c).trans (h r c)
  revert h'; generalize k0_pay15 v = z; intro h'
  pointwise []; simp only [h', rowmax]
theorem p17 (v : FVec Ideal S256x1 .f32) (r a) (h : v (ix2 r 0) = a) : k0_pay17 v (ix2 r 0) = qs a := by
  pointwise [k0_pay17]; simp only [h, qs]
theorem p18 (v : FVec Ideal S256x2048 .f32) (w : FVec Ideal S256x1 .f32) (r c a) (h : w (ix2 r 0) = a) :
    k0_pay18 v w (ix2 r c) = FloatOps.fptosi (F := Ideal) (φ := FTy.f32) 8 (zc (v (ix2 r c)) (qs a)) := by
  unfold k0_pay18; have h' := p17 w r a h; revert h'; generalize k0_pay17 w = z; intro h'
  pointwise []; simp only [h', zc]
theorem p19 (v : FVec Ideal S256x2048 .f32) (w : FVec Ideal S256x1 .f32) (r c a) (h : w (ix2 r 0) = a) :
    k0_pay19 v w (ix2 r c) = zc (v (ix2 r c)) (qs a) := by
  unfold k0_pay19; have h' := p18 v w r c a h; revert h'; generalize k0_pay18 v w = z; intro h'
  pointwise []; simp only [h', ival_bf, code_trip]

/-- The clipped, rounded quotient of an array by its row scales. -/
theorem clip_core (z : FVec Ideal S256x8192 .f32) (w : FVec Ideal S256x1 .f32) (r c) :
    minimumf (broadcast S256x8192 (Scalar.ofBits (F := Ideal) .f32 0x42FE0000#32)) (maximumf (broadcast S256x8192 (Scalar.ofBits (F := Ideal) .f32 0xC2FE0000#32))
      (roundeven (divf z (broadcastTo S256x8192 w broadcasts_S256x1_S256x8192)))) (ix2 r c) = zc (z (ix2 r c)) (w (ix2 r 0)) := by
  pointwise []; simp only [zc]

section
variable (v24 v49 : FVec Ideal S2048x8192 .bf16) (v74 : FVec Ideal S8192x2048 .bf16) (v77 : FVec Ideal S256x2048 .f32) (v80 : FVec Ideal S256x1 .f32)
variable (h24 : ∀ d f, v24 (ix2 d f) = wg I d f) (h49 : ∀ d f, v49 (ix2 d f) = wu I d f) (h74 : ∀ d f, v74 (ix2 d f) = wd I d f)
variable (h77 : ∀ d f, v77 (ix2 d f) = I.x d f) (h80 : ∀ r, v80 (ix2 r 0) = rowmax (I.x r))
include h77 h80

theorem xb_eq (r c) : k0_pay19 v77 v80 (ix2 r c) = xc I r c := by
  rw [p19 v77 v80 r c _ (h80 r), h77]; rfl
theorem xq_eq (r c) : k0_pay18 v77 v80 (ix2 r c) = xq I r c := by
  rw [p18 v77 v80 r c _ (h80 r), h77]; rfl
theorem sx_eq (r) : k0_pay17 v80 (ix2 r 0) = sx I r := p17 v80 r _ (h80 r)

include h24 in
theorem G_eq (r c) : k0_pay20 v24 v77 v80 (ix2 r c) = G I r c := by
  unfold k0_pay20; have h1 := xb_eq I v77 v80 h77 h80; have h2 := sx_eq I v77 v80 h77 h80; revert h1 h2
  generalize k0_pay19 v77 v80 = z; generalize k0_pay17 v80 = w; intro h1 h2
  pointwise []; simp only [h1, h2, h24, G]
include h49 in
theorem U_eq (r c) : k0_pay21 v49 v77 v80 (ix2 r c) = U I r c := by
  unfold k0_pay21; have h1 := xb_eq I v77 v80 h77 h80; have h2 := sx_eq I v77 v80 h77 h80; revert h1 h2
  generalize k0_pay19 v77 v80 = z; generalize k0_pay17 v80 = w; intro h1 h2
  pointwise []; simp only [h1, h2, h49, U]
include h24 in
theorem S_eq (r c) : k0_pay22 v24 v77 v80 (ix2 r c) = Ideal.logistic (G I r c) := by
  unfold k0_pay22; have h1 := G_eq I v24 v77 v80 h24 h77 h80; revert h1
  generalize k0_pay20 v24 v77 v80 = z; intro h1
  pointwise []; simp only [h1]
include h24 in
theorem L_eq (r c) : k0_pay23 v24 v77 v80 (ix2 r c) = G I r c * Ideal.logistic (G I r c) := by
  unfold k0_pay23; have h1 := G_eq I v24 v77 v80 h24 h77 h80; have h2 := S_eq I v24 v77 v80 h24 h77 h80; revert h1 h2
  generalize k0_pay20 v24 v77 v80 = z; generalize k0_pay22 v24 v77 v80 = w; intro h1 h2
  pointwise []; simp only [h1, h2]
include h24 h49
theorem A_eq (r c) : k0_pay24 v24 v49 v77 v80 (ix2 r c) = A I r c := by
  unfold k0_pay24; have h1 := L_eq I v24 v77 v80 h24 h77 h80; have h2 := U_eq I v49 v77 v80 h49 h77 h80; revert h1 h2
  generalize k0_pay23 v24 v77 v80 = z; generalize k0_pay21 v49 v77 v80 = w; intro h1 h2
  pointwise []; simp only [h1, h2, A]
theorem sa_eq (r) : k0_pay25 v24 v49 v77 v80 (ix2 r 0) = sa I r := by
  unfold k0_pay25; have h1 := A_eq I v24 v49 v77 v80 h24 h49 h77 h80; revert h1
  generalize k0_pay24 v24 v49 v77 v80 = z; intro h1
  have e : shapeCast S256x1 (multiReduction .maximumf [1] S256 (absf z) 0xFF800000#32 reduces_S256x8192_S256 (.inl rfl) rfl) shapeCasts_S256_S256x1 (ix2 r 0) = am I r := by
    pointwise []; simp only [h1, am, rowmax]
  exact p17 _ r _ e
theorem aq_eq (r c) : k0_pay26 v24 v49 v77 v80 (ix2 r c) = aq I r c := by
  rw [aq, ac, ← A_eq I v24 v49 v77 v80 h24 h49 h77 h80, ← sa_eq I v24 v49 v77 v80 h24 h49 h77 h80, ← clip_core]
  rfl
theorem ab_eq (r c) : k0_pay27 v24 v49 v77 v80 (ix2 r c) = ac I r c := by
  refine Eq.trans (b := FloatOps.sitofp (F := Ideal) FTy.bf16 (k0_pay26 v24 v49 v77 v80 (ix2 r c))) rfl ?_
  rw [aq_eq I v24 v49 v77 v80 h24 h49 h77 h80, ival_bf, aq, ac, code_trip]
include h74
theorem Y_eq (r c) : k0_pay28 v24 v49 v74 v77 v80 (ix2 r c) = Y I r c := by
  unfold k0_pay28; have h1 := ab_eq I v24 v49 v77 v80 h24 h49 h77 h80; have h2 := sa_eq I v24 v49 v77 v80 h24 h49 h77 h80; revert h1 h2
  generalize k0_pay27 v24 v49 v77 v80 = z; generalize k0_pay25 v24 v49 v77 v80 = w; intro h1 h2
  pointwise []; simp only [h1, h2, h74, Y]
end

end Cert.ReferenceIdeal.Read

end
-- ==== Proof.Value.RefOut.lean ====
/- What the reference's body leaves in each output buffer, entry by entry: the mathematics' arrays. -/
module

public import proofs.«01_k».proof.Proof.Value.RefBwd
public import proofs.«01_k».proof.Proof.Value.RefFwd
public import proofs.«01_k».proof.Proof.Gen.ReferenceIdeal.Frame
public import Idealize.ShloMosaic.Lib.Pipeline.ValueKit

@[expose] public section

set_option maxRecDepth 16384

noncomputable section

namespace Cert.ReferenceIdeal.Read

open Cert.ReferenceIdeal Cert.ReferenceIdeal.Gen Cert.Spec
open Idealize.ShloMosaic Idealize.ShloMosaic.TcCoe Idealize.SL.Sem

variable (I : In)
variable (x0 : Vec Ideal S256x2048 .bf16)
variable (x1 : Vec Ideal S256x2048 .bf16)
variable (x2 : Vec Ideal S256x2048 .bf16)
variable (x3 : Vec Ideal S2048x8192 .i8)
variable (x4 : Vec Ideal S32x8192 .f32)
variable (x5 : Vec Ideal S2048x8192 .f32)
variable (x6 : Vec Ideal S2048x8192 .i8)
variable (x7 : Vec Ideal S32x8192 .f32)
variable (x8 : Vec Ideal S2048x8192 .f32)
variable (x9 : Vec Ideal S8192x2048 .i8)
variable (x10 : Vec Ideal S128x2048 .f32)
variable (x11 : Vec Ideal S8192x2048 .f32)
variable (h0 : ∀ a b, x0 (ix2 a b) = I.x a b)
variable (h1 : ∀ a b, x1 (ix2 a b) = I.y a b)
variable (h2 : ∀ a b, x2 (ix2 a b) = I.g a b)
variable (h3 : ∀ a b, x3 (ix2 a b) = I.fg a b)
variable (h4 : ∀ a b, x4 (ix2 a b) = I.sg a b)
variable (h5 : ∀ a b, x5 (ix2 a b) = I.vg a b)
variable (h6 : ∀ a b, x6 (ix2 a b) = I.fu a b)
variable (h7 : ∀ a b, x7 (ix2 a b) = I.su a b)
variable (h8 : ∀ a b, x8 (ix2 a b) = I.vu a b)
variable (h9 : ∀ a b, x9 (ix2 a b) = I.fd a b)
variable (h10 : ∀ a b, x10 (ix2 a b) = I.sd a b)
variable (h11 : ∀ a b, x11 (ix2 a b) = I.vd a b)

section
include h3 h4 h5 in
theorem Wg (d f) : k0_pay4 x3 x5 x4 (ix2 d f) = wg I d f := by rw [we4, h3, h4, h5, wg]
include h3 h4 h5 in
theorem Pg (d f) : k0_pay3 x3 x5 (ix2 d f) = pre (I.fg d f) (I.vg d f) := by rw [pre3, h3, h5]
include h6 h7 h8 in
theorem Wu (d f) : k0_pay10 x7 (k0_pay7 x6) (k0_pay8 x8) (ix2 d f) = wu I d f := by rw [we10, h6, h7, h8, wu]
include h6 h8 in
theorem Pu (d f) : k0_pay9 (k0_pay7 x6) (k0_pay8 x8) (ix2 d f) = pre (I.fu d f) (I.vu d f) := by rw [pre9, h6, h8]
include h9 h10 h11 in
theorem Wd (d f) : k0_pay14 x9 x11 x10 (ix2 d f) = wd I d f := by rw [we14, h9, h10, h11, wd]
include h9 h11 in
theorem Pd (d f) : k0_pay13 x9 x11 (ix2 d f) = pre (I.fd d f) (I.vd d f) := by rw [pre13, h9, h11]
include h0 in
theorem X15 (r d) : k0_pay15 x0 (ix2 r d) = I.x r d := by rw [p15, h0]
end

include h0 h1 h2 h3 h4 h5 h6 h7 h8 h9 h10 h11
theorem out12 (r) : out0_12 x0 x1 x2 x3 x4 x5 x6 x7 x8 x9 x10 x11 (ix2 r 0) = loss I r := by
  unfold_out out0_12
  frame_out
  exact loss_eq I _ _ _ (Y_eq I _ _ _ _ _ (Wg I x3 x4 x5 h3 h4 h5) (Wu I x6 x7 x8 h6 h7 h8) (Wd I x9 x10 x11 h9 h10 h11) (X15 I x0 h0) (p16 I x0 h0)) h1 h2 r
theorem out13 (d f) : out0_13 x0 x1 x2 x3 x4 x5 x6 x7 x8 x9 x10 x11 (ix2 d f) = dvg I d f := by
  unfold_out out0_13
  frame_out
  exact dvg_eq I _ _ _ _ _ _ (fun d f => (sg1 x5 d f).trans (by rw [h5])) (fun d f => (hr2 x5 d f).trans (by rw [h5])) (Pg I x3 x4 x5 h3 h4 h5) (xb_eq I _ _ (X15 I x0 h0) (p16 I x0 h0)) (dGs_eq I _ _ _ (Y_eq I _ _ _ _ _ (Wg I x3 x4 x5 h3 h4 h5) (Wu I x6 x7 x8 h6 h7 h8) (Wd I x9 x10 x11 h9 h10 h11) (X15 I x0 h0) (p16 I x0 h0)) h1 h2 _ _ _ _ _ (Wd I x9 x10 x11 h9 h10 h11) (sx_eq I _ _ (X15 I x0 h0) (p16 I x0 h0)) (G_eq I _ _ _ (Wg I x3 x4 x5 h3 h4 h5) (X15 I x0 h0) (p16 I x0 h0)) (U_eq I _ _ _ (Wu I x6 x7 x8 h6 h7 h8) (X15 I x0 h0) (p16 I x0 h0)) (S_eq I _ _ _ (Wg I x3 x4 x5 h3 h4 h5) (X15 I x0 h0) (p16 I x0 h0))) h4 d f
theorem out14 (d f) : out0_14 x0 x1 x2 x3 x4 x5 x6 x7 x8 x9 x10 x11 (ix2 d f) = dvu I d f := by
  unfold_out out0_14
  frame_out
  exact dvu_eq I _ _ _ _ (fun d f => (sg5 x8 d f).trans (by rw [h8])) (fun d f => (hr6 x8 d f).trans (by rw [h8])) (Pu I x6 x8 h6 h8) (qu_eq I _ _ _ _ (sx_eq I _ _ (X15 I x0 h0) (p16 I x0 h0)) (xb_eq I _ _ (X15 I x0 h0) (p16 I x0 h0)) (dU_eq I _ _ _ (Y_eq I _ _ _ _ _ (Wg I x3 x4 x5 h3 h4 h5) (Wu I x6 x7 x8 h6 h7 h8) (Wd I x9 x10 x11 h9 h10 h11) (X15 I x0 h0) (p16 I x0 h0)) h1 h2 _ _ (Wd I x9 x10 x11 h9 h10 h11) (L_eq I _ _ _ (Wg I x3 x4 x5 h3 h4 h5) (X15 I x0 h0) (p16 I x0 h0))) h7) d f
theorem out15 (k n) : out0_15 x0 x1 x2 x3 x4 x5 x6 x7 x8 x9 x10 x11 (ix2 k n) = dvd I k n := by
  unfold_out out0_15
  frame_out
  exact dvd_eq I _ _ _ _ (fun d f => (sg11 x11 d f).trans (by rw [h11])) (fun d f => (hr12 x11 d f).trans (by rw [h11])) (Pd I x9 x11 h9 h11) (qd_eq I _ _ _ (Y_eq I _ _ _ _ _ (Wg I x3 x4 x5 h3 h4 h5) (Wu I x6 x7 x8 h6 h7 h8) (Wd I x9 x10 x11 h9 h10 h11) (X15 I x0 h0) (p16 I x0 h0)) h1 h2 _ _ _ (sa_eq I _ _ _ _ (Wg I x3 x4 x5 h3 h4 h5) (Wu I x6 x7 x8 h6 h7 h8) (X15 I x0 h0) (p16 I x0 h0)) (ab_eq I _ _ _ _ (Wg I x3 x4 x5 h3 h4 h5) (Wu I x6 x7 x8 h6 h7 h8) (X15 I x0 h0) (p16 I x0 h0)) h10) k n
theorem out16 (r d) : out0_16 x0 x1 x2 x3 x4 x5 x6 x7 x8 x9 x10 x11 (ix2 r d) = xq I r d := by
  unfold_out out0_16
  frame_out
  exact xq_eq I _ _ (X15 I x0 h0) (p16 I x0 h0) r d
theorem out17 (r) : out0_17 x0 x1 x2 x3 x4 x5 x6 x7 x8 x9 x10 x11 (ix2 r 0) = sx I r := by
  unfold_out out0_17
  frame_out
  exact sx_eq I _ _ (X15 I x0 h0) (p16 I x0 h0) r
theorem out18 (r f) : out0_18 x0 x1 x2 x3 x4 x5 x6 x7 x8 x9 x10 x11 (ix2 r f) = aq I r f := by
  unfold_out out0_18
  frame_out
  exact aq_eq I _ _ _ _ (Wg I x3 x4 x5 h3 h4 h5) (Wu I x6 x7 x8 h6 h7 h8) (X15 I x0 h0) (p16 I x0 h0) r f
theorem out19 (r) : out0_19 x0 x1 x2 x3 x4 x5 x6 x7 x8 x9 x10 x11 (ix2 r 0) = sa I r := by
  unfold_out out0_19
  frame_out
  exact sa_eq I _ _ _ _ (Wg I x3 x4 x5 h3 h4 h5) (Wu I x6 x7 x8 h6 h7 h8) (X15 I x0 h0) (p16 I x0 h0) r

end Cert.ReferenceIdeal.Read

end
-- ==== Proof.Value.RefValue.lean ====
/- The reference's run: every result buffer holds the mathematics' array of the arguments. -/
module

public import proofs.«01_k».proof.Proof.Value.RefOut
public import Idealize.ShloMosaic.Lib.Claim

@[expose] public section

set_option maxRecDepth 16384

noncomputable section

namespace Cert.ReferenceIdeal.Read

open Cert.ReferenceIdeal Cert.ReferenceIdeal.Gen Cert.Spec
open Idealize.ShloMosaic Idealize.ShloMosaic.TcCoe Idealize.SL.Sem

variable (m : (ℓ : Loc nD τ sig) → Buf (Elt Ideal) ℓ) (ρ : Dev nD → PrngReg)

/-- The arguments a device holds. -/
def inp (c : Dev nD) : In where
  x a b := m ((c.tc : Thread nD τ).loc main_arg0) (ix3 0 a b)
  y a b := m ((c.tc : Thread nD τ).loc main_arg1) (ix3 0 a b)
  g a b := m ((c.tc : Thread nD τ).loc main_arg2) (ix3 0 a b)
  fg a b := m ((c.tc : Thread nD τ).loc main_arg3) (ix2 a b)
  sg a b := m ((c.tc : Thread nD τ).loc main_arg4) (ix2 a b)
  vg a b := m ((c.tc : Thread nD τ).loc main_arg5) (ix2 a b)
  fu a b := m ((c.tc : Thread nD τ).loc main_arg6) (ix2 a b)
  su a b := m ((c.tc : Thread nD τ).loc main_arg7) (ix2 a b)
  vu a b := m ((c.tc : Thread nD τ).loc main_arg8) (ix2 a b)
  fd a b := m ((c.tc : Thread nD τ).loc main_arg9) (ix2 a b)
  sd a b := m ((c.tc : Thread nD τ).loc main_arg10) (ix2 a b)
  vd a b := m ((c.tc : Thread nD τ).loc main_arg11) (ix2 a b)

variable (c : Dev nD)
theorem idx0_0 : ∀ t : Fin cfg0.N, win0_0.index t = ![0, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![0, 0] := (by decide +kernel : ∀ t : Fin grid0.N, _)
theorem idx0_7 : ∀ t : Fin cfg0.N, win0_7.index t = ![0, 0] := (by decide +kernel : ∀ t : Fin grid0.N, _)
theorem idx0_8 : ∀ t : Fin cfg0.N, win0_8.index t = ![0, 0] := (by decide +kernel : ∀ t : Fin grid0.N, _)
theorem idx0_9 : ∀ t : Fin cfg0.N, win0_9.index t = ![0, 0] := (by decide +kernel : ∀ t : Fin grid0.N, _)
theorem idx0_10 : ∀ t : Fin cfg0.N, win0_10.index t = ![0, 0] := (by decide +kernel : ∀ t : Fin grid0.N, _)
theorem idx0_11 : ∀ t : Fin cfg0.N, win0_11.index t = ![0, 0] := (by decide +kernel : ∀ t : Fin grid0.N, _)
theorem idx0_12 : ∀ t : Fin cfg0.N, win0_12.index t = ![0, 0] := (by decide +kernel : ∀ t : Fin grid0.N, _)
theorem idx0_13 : ∀ t : Fin cfg0.N, win0_13.index t = ![0, 0] := (by decide +kernel : ∀ t : Fin grid0.N, _)
theorem idx0_14 : ∀ t : Fin cfg0.N, win0_14.index t = ![0, 0] := (by decide +kernel : ∀ t : Fin grid0.N, _)
theorem idx0_15 : ∀ t : Fin cfg0.N, win0_15.index t = ![0, 0] := (by decide +kernel : ∀ t : Fin grid0.N, _)
theorem idx0_16 : ∀ t : Fin cfg0.N, win0_16.index t = ![0, 0] := (by decide +kernel : ∀ t : Fin grid0.N, _)
theorem idx0_17 : ∀ t : Fin cfg0.N, win0_17.index t = ![0, 0] := (by decide +kernel : ∀ t : Fin grid0.N, _)
theorem idx0_18 : ∀ t : Fin cfg0.N, win0_18.index t = ![0, 0] := (by decide +kernel : ∀ t : Fin grid0.N, _)
theorem idx0_19 : ∀ t : Fin cfg0.N, win0_19.index t = ![0, 0] := (by decide +kernel : ∀ t : Fin grid0.N, _)

theorem V_x (a b) : V m c main_v0 (ix2 a b) = (inp m c).x a b := by
  unfold V V0
  simp only [hostOps0, List.flatten_cons, List.flatten_nil, List.append_nil, StableHlo.after_cons, StableHlo.after_nil]
  repeat first | rw [StableHlo.reshape_result] | (rw [StableHlo.reshape_result_ne]; rotate_left; decide)
  pointwise []; rfl
theorem B0 (a b) : iblk m c 0 t0_0 (ix2 a b) = (inp m c).x a b := by
  rw [← V_x]
  have e : iblk m c 0 t0_0 = V m c main_v0 := by blk_ext! [iblk, V, idx0_0 t0_0]
  rw [e]

theorem V_y (a b) : V m c main_v1 (ix2 a b) = (inp m c).y a b := by
  unfold V V0
  simp only [hostOps0, List.flatten_cons, List.flatten_nil, List.append_nil, StableHlo.after_cons, StableHlo.after_nil]
  repeat first | rw [StableHlo.reshape_result] | (rw [StableHlo.reshape_result_ne]; rotate_left; decide)
  pointwise []; rfl
theorem B1 (a b) : iblk m c 1 t0_0 (ix2 a b) = (inp m c).y a b := by
  rw [← V_y]
  have e : iblk m c 1 t0_0 = V m c main_v1 := by blk_ext! [iblk, V, idx0_1 t0_0]
  rw [e]

theorem V_g (a b) : V m c main_v2 (ix2 a b) = (inp m c).g a b := by
  unfold V V0
  simp only [hostOps0, List.flatten_cons, List.flatten_nil, List.append_nil, StableHlo.after_cons, StableHlo.after_nil]
  repeat first | rw [StableHlo.reshape_result] | (rw [StableHlo.reshape_result_ne]; rotate_left; decide)
  pointwise []; rfl
theorem B2 (a b) : iblk m c 2 t0_0 (ix2 a b) = (inp m c).g a b := by
  rw [← V_g]
  have e : iblk m c 2 t0_0 = V m c main_v2 := by blk_ext! [iblk, V, idx0_2 t0_0]
  rw [e]

theorem B3 (a b) : iblk m c 3 t0_0 (ix2 a b) = (inp m c).fg a b := by
  have e : iblk m c 3 t0_0 = m ((c.tc : Thread nD τ).loc main_arg3) := by blk_ext! [iblk, V, idx0_3 t0_0]
  rw [e]; rfl

theorem B4 (a b) : iblk m c 4 t0_0 (ix2 a b) = (inp m c).sg a b := by
  have e : iblk m c 4 t0_0 = m ((c.tc : Thread nD τ).loc main_arg4) := by blk_ext! [iblk, V, idx0_4 t0_0]
  rw [e]; rfl

theorem B5 (a b) : iblk m c 5 t0_0 (ix2 a b) = (inp m c).vg a b := by
  have e : iblk m c 5 t0_0 = m ((c.tc : Thread nD τ).loc main_arg5) := by blk_ext! [iblk, V, idx0_5 t0_0]
  rw [e]; rfl

theorem B6 (a b) : iblk m c 6 t0_0 (ix2 a b) = (inp m c).fu a b := by
  have e : iblk m c 6 t0_0 = m ((c.tc : Thread nD τ).loc main_arg6) := by blk_ext! [iblk, V, idx0_6 t0_0]
  rw [e]; rfl

theorem B7 (a b) : iblk m c 7 t0_0 (ix2 a b) = (inp m c).su a b := by
  have e : iblk m c 7 t0_0 = m ((c.tc : Thread nD τ).loc main_arg7) := by blk_ext! [iblk, V, idx0_7 t0_0]
  rw [e]; rfl

theorem B8 (a b) : iblk m c 8 t0_0 (ix2 a b) = (inp m c).vu a b := by
  have e : iblk m c 8 t0_0 = m ((c.tc : Thread nD τ).loc main_arg8) := by blk_ext! [iblk, V, idx0_8 t0_0]
  rw [e]; rfl

theorem B9 (a b) : iblk m c 9 t0_0 (ix2 a b) = (inp m c).fd a b := by
  have e : iblk m c 9 t0_0 = m ((c.tc : Thread nD τ).loc main_arg9) := by blk_ext! [iblk, V, idx0_9 t0_0]
  rw [e]; rfl

theorem B10 (a b) : iblk m c 10 t0_0 (ix2 a b) = (inp m c).sd a b := by
  have e : iblk m c 10 t0_0 = m ((c.tc : Thread nD τ).loc main_arg10) := by blk_ext! [iblk, V, idx0_10 t0_0]
  rw [e]; rfl

theorem B11 (a b) : iblk m c 11 t0_0 (ix2 a b) = (inp m c).vd a b := by
  have e : iblk m c 11 t0_0 = m ((c.tc : Thread nD τ).loc main_arg11) := by blk_ext! [iblk, V, idx0_11 t0_0]
  rw [e]; rfl

theorem R12 : (dats m 0 c).arrAt 12 cfg0.N = fun i => loss (inp m c) (i 0) := by
  refine (dats m 0 c).arrAt_eq_of_after_last 12 t0_0 (by decide +kernel) _ fun j => ?_
  blk_simp
  rw [after0_12]
  have key : ∀ i : S256x1.Idx, out0_12 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) i = loss (inp m c) (i 0) := by
    intro i
    obtain ⟨r, k, rfl⟩ : ∃ r k, i = ix2 r k := ⟨i 0, i 1, by idx_vars i⟩
    obtain rfl : k = 0 := Subsingleton.elim _ _
    exact out12 (inp m c) _ _ _ _ _ _ _ _ _ _ _ _ (B0 m c) (B1 m c) (B2 m c) (B3 m c) (B4 m c) (B5 m c) (B6 m c) (B7 m c) (B8 m c) (B9 m c) (B10 m c) (B11 m c) r
  exact key j

theorem R13 : (dats m 0 c).arrAt 13 cfg0.N = fun i => dvg (inp m c) (i 0) (i 1) := by
  refine (dats m 0 c).arrAt_eq_of_after_last 13 t0_0 (by decide +kernel) _ fun j => ?_
  blk_simp
  rw [after0_13]
  have key : ∀ i : S2048x8192.Idx, out0_13 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) i = dvg (inp m c) (i 0) (i 1) := by
    intro i
    obtain ⟨r, k, rfl⟩ : ∃ r k, i = ix2 r k := ⟨i 0, i 1, by idx_vars i⟩
    exact out13 (inp m c) _ _ _ _ _ _ _ _ _ _ _ _ (B0 m c) (B1 m c) (B2 m c) (B3 m c) (B4 m c) (B5 m c) (B6 m c) (B7 m c) (B8 m c) (B9 m c) (B10 m c) (B11 m c) r k
  exact key j

theorem R14 : (dats m 0 c).arrAt 14 cfg0.N = fun i => dvu (inp m c) (i 0) (i 1) := by
  refine (dats m 0 c).arrAt_eq_of_after_last 14 t0_0 (by decide +kernel) _ fun j => ?_
  blk_simp
  rw [after0_14]
  have key : ∀ i : S2048x8192.Idx, out0_14 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) i = dvu (inp m c) (i 0) (i 1) := by
    intro i
    obtain ⟨r, k, rfl⟩ : ∃ r k, i = ix2 r k := ⟨i 0, i 1, by idx_vars i⟩
    exact out14 (inp m c) _ _ _ _ _ _ _ _ _ _ _ _ (B0 m c) (B1 m c) (B2 m c) (B3 m c) (B4 m c) (B5 m c) (B6 m c) (B7 m c) (B8 m c) (B9 m c) (B10 m c) (B11 m c) r k
  exact key j

theorem R15 : (dats m 0 c).arrAt 15 cfg0.N = fun i => dvd (inp m c) (i 0) (i 1) := by
  refine (dats m 0 c).arrAt_eq_of_after_last 15 t0_0 (by decide +kernel) _ fun j => ?_
  blk_simp
  rw [after0_15]
  have key : ∀ i : S8192x2048.Idx, out0_15 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) i = dvd (inp m c) (i 0) (i 1) := by
    intro i
    obtain ⟨r, k, rfl⟩ : ∃ r k, i = ix2 r k := ⟨i 0, i 1, by idx_vars i⟩
    exact out15 (inp m c) _ _ _ _ _ _ _ _ _ _ _ _ (B0 m c) (B1 m c) (B2 m c) (B3 m c) (B4 m c) (B5 m c) (B6 m c) (B7 m c) (B8 m c) (B9 m c) (B10 m c) (B11 m c) r k
  exact key j

theorem R16 : (dats m 0 c).arrAt 16 cfg0.N = fun i => xq (inp m c) (i 0) (i 1) := by
  refine (dats m 0 c).arrAt_eq_of_after_last 16 t0_0 (by decide +kernel) _ fun j => ?_
  blk_simp
  rw [after0_16]
  have key : ∀ i : S256x2048.Idx, out0_16 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) i = xq (inp m c) (i 0) (i 1) := by
    intro i
    obtain ⟨r, k, rfl⟩ : ∃ r k, i = ix2 r k := ⟨i 0, i 1, by idx_vars i⟩
    exact out16 (inp m c) _ _ _ _ _ _ _ _ _ _ _ _ (B0 m c) (B1 m c) (B2 m c) (B3 m c) (B4 m c) (B5 m c) (B6 m c) (B7 m c) (B8 m c) (B9 m c) (B10 m c) (B11 m c) r k
  exact key j

theorem R17 : (dats m 0 c).arrAt 17 cfg0.N = fun i => sx (inp m c) (i 0) := by
  refine (dats m 0 c).arrAt_eq_of_after_last 17 t0_0 (by decide +kernel) _ fun j => ?_
  blk_simp
  rw [after0_17]
  have key : ∀ i : S256x1.Idx, out0_17 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) i = sx (inp m c) (i 0) := by
    intro i
    obtain ⟨r, k, rfl⟩ : ∃ r k, i = ix2 r k := ⟨i 0, i 1, by idx_vars i⟩
    obtain rfl : k = 0 := Subsingleton.elim _ _
    exact out17 (inp m c) _ _ _ _ _ _ _ _ _ _ _ _ (B0 m c) (B1 m c) (B2 m c) (B3 m c) (B4 m c) (B5 m c) (B6 m c) (B7 m c) (B8 m c) (B9 m c) (B10 m c) (B11 m c) r
  exact key j

theorem R18 : (dats m 0 c).arrAt 18 cfg0.N = fun i => aq (inp m c) (i 0) (i 1) := by
  refine (dats m 0 c).arrAt_eq_of_after_last 18 t0_0 (by decide +kernel) _ fun j => ?_
  blk_simp
  rw [after0_18]
  have key : ∀ i : S256x8192.Idx, out0_18 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) i = aq (inp m c) (i 0) (i 1) := by
    intro i
    obtain ⟨r, k, rfl⟩ : ∃ r k, i = ix2 r k := ⟨i 0, i 1, by idx_vars i⟩
    exact out18 (inp m c) _ _ _ _ _ _ _ _ _ _ _ _ (B0 m c) (B1 m c) (B2 m c) (B3 m c) (B4 m c) (B5 m c) (B6 m c) (B7 m c) (B8 m c) (B9 m c) (B10 m c) (B11 m c) r k
  exact key j

theorem R19 : (dats m 0 c).arrAt 19 cfg0.N = fun i => sa (inp m c) (i 0) := by
  refine (dats m 0 c).arrAt_eq_of_after_last 19 t0_0 (by decide +kernel) _ fun j => ?_
  blk_simp
  rw [after0_19]
  have key : ∀ i : S256x1.Idx, out0_19 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) i = sa (inp m c) (i 0) := by
    intro i
    obtain ⟨r, k, rfl⟩ : ∃ r k, i = ix2 r k := ⟨i 0, i 1, by idx_vars i⟩
    obtain rfl : k = 0 := Subsingleton.elim _ _
    exact out19 (inp m c) _ _ _ _ _ _ _ _ _ _ _ _ (B0 m c) (B1 m c) (B2 m c) (B3 m c) (B4 m c) (B5 m c) (B6 m c) (B7 m c) (B8 m c) (B9 m c) (B10 m c) (B11 m c) r
  exact key j

end Cert.ReferenceIdeal.Read

end
-- ==== Proof.Value.RefRun.lean ====
/- The reference's run, read at the result buffers. -/
module

public import proofs.«01_k».proof.Proof.Value.RefValue

@[expose] public section

set_option maxRecDepth 16384

noncomputable section

namespace Cert.ReferenceIdeal.Read

open Cert.ReferenceIdeal Cert.ReferenceIdeal.Gen Cert.Spec
open Idealize.ShloMosaic Idealize.ShloMosaic.TcCoe Idealize.SL.Sem

variable (m : (ℓ : Loc nD τ sig) → Buf (Elt Ideal) ℓ) (ρ : Dev nD → PrngReg) (c : Dev nD)

theorem arr_inj : Function.Injective (Pipeline.arrRef spec0) := by decide +kernel

theorem T4 : Pipeline.afterTail₀ cfgs (dats m) 0 (V0 m) [hostOps1] c main_v4 = fun i => loss (inp m c) (i 1) := by
  unfold Pipeline.afterTail₀
  simp only [hostOps1, List.flatten_cons, List.flatten_nil, List.append_nil, StableHlo.after_cons, StableHlo.after_nil]
  repeat first | rw [StableHlo.reshape_result] | (rw [StableHlo.reshape_result_ne]; rotate_left; decide)
  rw [show Pipeline.withArrays (cfgs 0).spec c (V0 m c) (fun w => (dats m 0 c).arrAt w (cfgs 0).N) (Proc.devRef .tc main_v3_0) = _ from
    Pipeline.withArrays_arr spec0 arr_inj c (V0 m c) _ 12, show (cfgs 0).N = cfg0.N from rfl, R12]
  funext i
  obtain ⟨a, b, rfl⟩ : ∃ a b, i = ix2 a b := ⟨i 0, i 1, by idx_vars i⟩
  obtain rfl : a = 0 := Subsingleton.elim _ _
  pointwise []

theorem T5 : Pipeline.afterTail₀ cfgs (dats m) 0 (V0 m) [hostOps1] c main_v5 = fun i => xq (inp m c) (i 1) (i 2) := by
  unfold Pipeline.afterTail₀
  simp only [hostOps1, List.flatten_cons, List.flatten_nil, List.append_nil, StableHlo.after_cons, StableHlo.after_nil]
  repeat first | rw [StableHlo.reshape_result] | (rw [StableHlo.reshape_result_ne]; rotate_left; decide)
  rw [show Pipeline.withArrays (cfgs 0).spec c (V0 m c) (fun w => (dats m 0 c).arrAt w (cfgs 0).N) (Proc.devRef .tc main_v3_4) = _ from
    Pipeline.withArrays_arr spec0 arr_inj c (V0 m c) _ 16, show (cfgs 0).N = cfg0.N from rfl, R16]
  funext i
  obtain ⟨a, b, d, rfl⟩ : ∃ a b d, i = ix3 a b d := ⟨i 0, i 1, i 2, by idx_vars i⟩
  obtain rfl : a = 0 := Subsingleton.elim _ _
  pointwise []

theorem T6 : Pipeline.afterTail₀ cfgs (dats m) 0 (V0 m) [hostOps1] c main_v6 = fun i => sx (inp m c) (i 1) := by
  unfold Pipeline.afterTail₀
  simp only [hostOps1, List.flatten_cons, List.flatten_nil, List.append_nil, StableHlo.after_cons, StableHlo.after_nil]
  repeat first | rw [StableHlo.reshape_result] | (rw [StableHlo.reshape_result_ne]; rotate_left; decide)
  rw [show Pipeline.withArrays (cfgs 0).spec c (V0 m c) (fun w => (dats m 0 c).arrAt w (cfgs 0).N) (Proc.devRef .tc main_v3_5) = _ from
    Pipeline.withArrays_arr spec0 arr_inj c (V0 m c) _ 17, show (cfgs 0).N = cfg0.N from rfl, R17]
  funext i
  obtain ⟨a, b, rfl⟩ : ∃ a b, i = ix2 a b := ⟨i 0, i 1, by idx_vars i⟩
  obtain rfl : a = 0 := Subsingleton.elim _ _
  pointwise []

theorem T7 : Pipeline.afterTail₀ cfgs (dats m) 0 (V0 m) [hostOps1] c main_v7 = fun i => aq (inp m c) (i 1) (i 2) := by
  unfold Pipeline.afterTail₀
  simp only [hostOps1, List.flatten_cons, List.flatten_nil, List.append_nil, StableHlo.after_cons, StableHlo.after_nil]
  repeat first | rw [StableHlo.reshape_result] | (rw [StableHlo.reshape_result_ne]; rotate_left; decide)
  rw [show Pipeline.withArrays (cfgs 0).spec c (V0 m c) (fun w => (dats m 0 c).arrAt w (cfgs 0).N) (Proc.devRef .tc main_v3_6) = _ from
    Pipeline.withArrays_arr spec0 arr_inj c (V0 m c) _ 18, show (cfgs 0).N = cfg0.N from rfl, R18]
  funext i
  obtain ⟨a, b, d, rfl⟩ : ∃ a b d, i = ix3 a b d := ⟨i 0, i 1, i 2, by idx_vars i⟩
  obtain rfl : a = 0 := Subsingleton.elim _ _
  pointwise []

theorem T8 : Pipeline.afterTail₀ cfgs (dats m) 0 (V0 m) [hostOps1] c main_v8 = fun i => sa (inp m c) (i 1) := by
  unfold Pipeline.afterTail₀
  simp only [hostOps1, List.flatten_cons, List.flatten_nil, List.append_nil, StableHlo.after_cons, StableHlo.after_nil]
  repeat first | rw [StableHlo.reshape_result] | (rw [StableHlo.reshape_result_ne]; rotate_left; decide)
  rw [show Pipeline.withArrays (cfgs 0).spec c (V0 m c) (fun w => (dats m 0 c).arrAt w (cfgs 0).N) (Proc.devRef .tc main_v3_7) = _ from
    Pipeline.withArrays_arr spec0 arr_inj c (V0 m c) _ 19, show (cfgs 0).N = cfg0.N from rfl, R19]
  funext i
  obtain ⟨a, b, rfl⟩ : ∃ a b, i = ix2 a b := ⟨i 0, i 1, by idx_vars i⟩
  obtain rfl : a = 0 := Subsingleton.elim _ _
  pointwise []

/-- Every weakly fair execution ends with the result buffers at the mathematics' arrays. -/
theorem results : θ_run defs (onTc (τ := τ) (main (F := Ideal))) ⟨m, fun _ => 0, ρ⟩ (fun r => ∀ c : Dev nD,
r.2.mem ((c.tc : Thread nD τ).loc main_v4) = (fun i => loss (inp m c) (i 1))
      ∧ r.2.mem ((c.tc : Thread nD τ).loc main_v3_1) = (fun i => dvg (inp m c) (i 0) (i 1))
      ∧ r.2.mem ((c.tc : Thread nD τ).loc main_v3_2) = (fun i => dvu (inp m c) (i 0) (i 1))
      ∧ r.2.mem ((c.tc : Thread nD τ).loc main_v3_3) = (fun i => dvd (inp m c) (i 0) (i 1))
      ∧ r.2.mem ((c.tc : Thread nD τ).loc main_v5) = (fun i => xq (inp m c) (i 1) (i 2))
      ∧ r.2.mem ((c.tc : Thread nD τ).loc main_v6) = (fun i => sx (inp m c) (i 1))
      ∧ r.2.mem ((c.tc : Thread nD τ).loc main_v7) = (fun i => aq (inp m c) (i 1) (i 2))
      ∧ r.2.mem ((c.tc : Thread nD τ).loc main_v8) = (fun i => sa (inp m c) (i 1))) :=
  (θ_run defs _ _).mono (fun r h c =>
    ⟨((h c).2 main_v4 (Pipeline.mem_restRefs_of main_v4 (by decide) (by decide))).trans (T4 m c),
     ((h c).1 13).trans (R13 m c),
     ((h c).1 14).trans (R14 m c),
     ((h c).1 15).trans (R15 m c),
     ((h c).2 main_v5 (Pipeline.mem_restRefs_of main_v5 (by decide) (by decide))).trans (T5 m c),
     ((h c).2 main_v6 (Pipeline.mem_restRefs_of main_v6 (by decide) (by decide))).trans (T6 m c),
     ((h c).2 main_v7 (Pipeline.mem_restRefs_of main_v7 (by decide) (by decide))).trans (T7 m c),
     ((h c).2 main_v8 (Pipeline.mem_restRefs_of main_v8 (by decide) (by decide))).trans (T8 m c)⟩) (run_main m ρ)

end Cert.ReferenceIdeal.Read

end
-- ==== Proof.Algebraic.lean ====
/- The kernel and the reference compute the same results over the extended reals: each one's results are the same arrays of the same arguments. -/
module

public import proofs.«01_k».proof.Defs
public import proofs.«01_k».proof.Proof.Value.KerRun
public import proofs.«01_k».proof.Proof.Value.RefRun
public import Idealize.ShloMosaic.Lib.Claim

@[expose] public section

set_option maxRecDepth 16384

noncomputable section

namespace Cert.Proof

open Idealize.ShloMosaic Idealize.ShloMosaic.TcCoe Idealize.SL.Sem Cert.Spec

/-- Equal arguments give the same inputs. -/
theorem inp_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Read.inp m' c = Cert.KernelIdeal.Val.inp m c := by
  unfold Cert.ReferenceIdeal.Read.inp Cert.KernelIdeal.Val.inp
  have e0 := fun a b => congrFun h0 (ix3 0 a b)
  have e1 := fun a b => congrFun h1 (ix3 0 a b)
  have e2 := fun a b => congrFun h2 (ix3 0 a b)
  have e3 := fun a b => congrFun h3 (ix2 a b)
  have e4 := fun a b => congrFun h4 (ix2 a b)
  have e5 := fun a b => congrFun h5 (ix2 a b)
  have e6 := fun a b => congrFun h6 (ix2 a b)
  have e7 := fun a b => congrFun h7 (ix2 a b)
  have e8 := fun a b => congrFun h8 (ix2 a b)
  have e9 := fun a b => congrFun h9 (ix2 a b)
  have e10 := fun a b => congrFun h10 (ix2 a b)
  have e11 := fun a b => congrFun h11 (ix2 a b)
  rw [In.mk.injEq]
  exact ⟨funext fun a => funext fun b => e0 a b, funext fun a => funext fun b => e1 a b, funext fun a => funext fun b => e2 a b, funext fun a => funext fun b => e3 a b, funext fun a => funext fun b => e4 a b, funext fun a => funext fun b => e5 a b, funext fun a => funext fun b => e6 a b, funext fun a => funext fun b => e7 a b, funext fun a => funext fun b => e8 a b, funext fun a => funext fun b => e9 a b, funext fun a => funext fun b => e10 a b, funext fun a => funext fun b => e11 a b⟩

theorem algebraic [hKernelIdeal : Cert.KernelIdeal.Facts] [hReferenceIdeal : Cert.ReferenceIdeal.Facts] :
    algebraic_KernelIdeal_ReferenceIdeal (hKernelIdeal := hKernelIdeal) (hReferenceIdeal := hReferenceIdeal) := by
  intro m g m' g' _ ha
  refine ⟨fun c i => loss (Cert.KernelIdeal.Val.inp m c) (i 1), fun c i => dvg (Cert.KernelIdeal.Val.inp m c) (i 0) (i 1),
    fun c i => dvu (Cert.KernelIdeal.Val.inp m c) (i 0) (i 1), fun c i => dvd (Cert.KernelIdeal.Val.inp m c) (i 0) (i 1),
    fun c i => xq (Cert.KernelIdeal.Val.inp m c) (i 1) (i 2), fun c i => sx (Cert.KernelIdeal.Val.inp m c) (i 1),
    fun c i => aq (Cert.KernelIdeal.Val.inp m c) (i 1) (i 2), fun c i => sa (Cert.KernelIdeal.Val.inp m c) (i 1),
    Cert.KernelIdeal.Val.results m g, ?_⟩
  have hi : ∀ c, Cert.ReferenceIdeal.Read.inp m' c = Cert.KernelIdeal.Val.inp m c := fun c => by
    obtain ⟨h0, h1, h2, h3, h4, h5, h6, h7, h8, h9, h10, h11⟩ := ha c
    exact inp_eq m m' c h0 h1 h2 h3 h4 h5 h6 h7 h8 h9 h10 h11
  have hr := Cert.ReferenceIdeal.Read.results m' g'
  simp only [hi] at hr
  refine (θ_run _ _ _).mono (fun r h c => ?_) (θ_run_and hr (Cert.ReferenceIdeal.Gen.unchanged m' g'))
  obtain ⟨r0, r1, r2, r3, r4, r5, r6, r7⟩ := h.1 c
  exact ⟨r0, r1, r2, r3, r4, r5, r6, r7, h.2 c⟩

end Cert.Proof

end
-- ==== Proof.lean ====
/- The certificate: each program leaves its arguments as they were and its counters at zero, the ideal kernel is the
   kernel with its decimals read as rationals, and the ideal kernel computes what the ideal reference computes. -/
module

public import proofs.«01_k».proof.Defs
public import proofs.«01_k».proof.Proof.Gen.ReferenceIdeal.Frame
public import proofs.«01_k».proof.Proof.Kernel.Frame
public import proofs.«01_k».proof.Proof.KernelIdeal.Frame
public import proofs.«01_k».proof.Proof.Preserves
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    fun m g _ => Cert.Kernel.Own.frame m g, fun m g _ => Cert.KernelIdeal.Own.frame m g,
    fun m g _ => Cert.ReferenceIdeal.Gen.frame m g, Cert.Proof.preserves, Cert.Proof.algebraic⟩

end Cert.Proof

end
